-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v87) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .bf16) (main_arg1 : FVec F S512x256 .bf16) (main_arg2 : FVec F S512x256 .bf16) (main_arg3 : FVec F S512x256 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S512x256 .f32 := (extf .f32 · bitsLt_bf16_f32) main_arg2
  let main_v12 : FVec F S512x256 .f32 := Host.absf main_v11
  let main_cst_2 : FVec F S_ .f32 := constant S_ .f32 0x7F800000#32
  let main_v13 : FVec F S512x256 .f32 := broadcastInDim S512x256 ![] bcast_S_S512x256 main_cst_2
  let main_v14 : IVec S512x256 1 := cmpf .olt main_v12 main_v13
  let main_c_3 : IVec S_ 1 := constantI S_ 1 1#1
  let main_v15 : IVec S_ 1 := (fun x v => Host.reduce IntOp.andi x v reducesTo_S512x256_S_d0_1 h_S_) main_v14 main_c_3
  let main_v16 : IVec S_ 1 := andi main_v10 main_v15
  main_v16
-- ==== Pre_finite_ReferenceIdeal.lean ====
abbrev S2x2048x512 : Shape := ⟨3, ![2, 2048, 512]⟩
abbrev S512x4096 : Shape := ⟨2, ![512, 4096]⟩
abbrev S4096x512 : Shape := ⟨2, ![4096, 512]⟩
abbrev S_ : Shape := ⟨0, ![]⟩

class Facts : Prop where
  bitsLt_bf16_f32 : FTy.bits .bf16 < FTy.bits .f32
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S2x2048x512 .bf16) (main_arg1 : FVec F S512x4096 .bf16) (main_arg2 : FVec F S512x4096 .bf16) (main_arg3 : FVec F S512x4096 .bf16) (main_arg4 : FVec F S4096x512 .bf16) : IVec S_ 1 :=
  let main_v0 : FVec F S2x2048x512 .f32 := (extf .f32 · bitsLt_bf16_f32) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_c : IVec S_ 1 := constantI S_ 1 1#1
  let main_v4 : IVec S_ 1 := (fun x v => Host.reduce IntOp.andi x v reducesTo_S2x2048x512_S_d0_1_2 h_S_) main_v3 main_c
  let main_v5 : FVec F S512x4096 .f32 := (extf .f32 · bitsLt_bf16_f32) main_arg1
  let main_v6 : FVec F S512x4096 .f32 := Host.absf main_v5
  let main_cst_0 : FVec F S_ .f32 := constant S_ .f32 0x7F800000#32
  let main_v7 : FVec F S512x4096 .f32 := broadcastInDim S512x4096 ![] bcast_S_S512x4096 main_cst_0
  let main_v8 : IVec S512x4096 1 := cmpf .olt main_v6 main_v7
  let main_c_1 : IVec S_ 1 := constantI S_ 1 1#1
  let main_v9 : IVec S_ 1 := (fun x v => Host.reduce IntOp.andi x v reducesTo_S512x4096_S_d0_1 h_S_) main_v8 main_c_1
  let main_v10 : IVec S_ 1 := andi main_v4 main_v9
  let main_v11 : FVec F S512x4096 .f32 := (extf .f32 · bitsLt_bf16_f32) main_arg2
  let main_v12 : FVec F S512x4096 .f32 := Host.absf main_v11
  let main_cst_2 : FVec F S_ .f32 := constant S_ .f32 0x7F800000#32
  let main_v13 : FVec F S512x4096 .f32 := broadcastInDim S512x4096 ![] bcast_S_S512x4096 main_cst_2
  let main_v14 : IVec S512x4096 1 := cmpf .olt main_v12 main_v13
  let main_c_3 : IVec S_ 1 := constantI S_ 1 1#1
  let main_v15 : IVec S_ 1 := (fun x v => Host.reduce IntOp.andi x v reducesTo_S512x4096_S_d0_1 h_S_) main_v14 main_c_3
  let main_v16 : IVec S_ 1 := andi main_v10 main_v15
  main_v16
-- ==== Kernel.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S1 : Shape := ⟨1, ![1]⟩
abbrev S4096x64 : Shape := ⟨2, ![4096, 64]⟩
abbrev S2x16x128x512 : Shape := ⟨4, ![2, 16, 128, 512]⟩
abbrev S4096x256 : Shape := ⟨2, ![4096, 256]⟩
abbrev S15 : Shape := ⟨1, ![15]⟩
abbrev S2x1x128x512 : Shape := ⟨4, ![2, 1, 128, 512]⟩
abbrev S4096x512 : Shape := ⟨2, ![4096, 512]⟩
abbrev S4096x255 : Shape := ⟨2, ![4096, 255]⟩
abbrev S4096x1 : Shape := ⟨2, ![4096, 1]⟩
abbrev S128x64 : Shape := ⟨2, ![128, 64]⟩
abbrev S128x2048 : Shape := ⟨2, ![128, 2048]⟩
abbrev S128 : Shape := ⟨1, ![128]⟩
abbrev S128x1 : Shape := ⟨2, ![128, 1]⟩
abbrev S128x256 : Shape := ⟨2, ![128, 256]⟩
abbrev S256x256 : Shape := ⟨2, ![256, 256]⟩

abbrev nBuf : Space → Nat
  | .hbm => 108
  | .vmem => 14
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S2048x1, .f32⟩
  | .hbm, ⟨29, _⟩ => ⟨S1x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x32x2, .f32⟩
  | .hbm, ⟨35, _⟩ => ⟨S2048x64, .f32⟩
  | .hbm, ⟨36, _⟩ => ⟨S2048x32, .f32⟩
  | .hbm, ⟨37, _⟩ => ⟨S2048x32x2, .f32⟩
  | .hbm, ⟨38, _⟩ => ⟨S2048x64, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1, .i32⟩
  | .hbm, ⟨43, _⟩ => ⟨S1, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i1⟩
  | .hbm, ⟨59, _⟩ => ⟨S_, .i1⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S4096x64, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S2048x64, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1, .i32⟩
  | .hbm, ⟨77, _⟩ => ⟨S1, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i1⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i1⟩
  | .hbm, ⟨93, _⟩ => ⟨S_, .i1⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S4096x64, .f32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i1⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S2048x64, .f32⟩
  | .hbm, ⟨107, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S2048x64, .f32⟩
  | .local _ .vmem, ⟨6, _⟩ => ⟨S2048x64, .f32⟩
  | .local _ .vmem, ⟨7, _⟩ => ⟨S2x128x512, .f32⟩
  | .local _ .vmem, ⟨8, _⟩ => ⟨S2x16x128x512, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S2x16x128x512, .bf16⟩
  | .local _ .vmem, ⟨13, _⟩ => ⟨S2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 2 → Bool
  | ⟨0, _⟩ => true
  | ⟨1, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 2 68 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_c : Ref sig .tc := ⟨.hbm, 45, rfl⟩
abbrev main_call0_c_0 : Ref sig .tc := ⟨.hbm, 46, rfl⟩
abbrev main_call0_v3 : Ref sig .tc := ⟨.hbm, 47, rfl⟩
abbrev main_call0_call0_c : Ref sig .tc := ⟨.hbm, 48, rfl⟩
abbrev main_call0_call0_v0 : Ref sig .tc := ⟨.hbm, 49, rfl⟩
abbrev main_call0_call0_c_0 : Ref sig .tc := ⟨.hbm, 50, rfl⟩
abbrev main_call0_call0_v1 : Ref sig .tc := ⟨.hbm, 51, rfl⟩
abbrev main_call0_call0_v2 : Ref sig .tc := ⟨.hbm, 52, rfl⟩
abbrev main_call0_call0_c_1 : Ref sig .tc := ⟨.hbm, 53, rfl⟩
abbrev main_call0_call0_v3 : Ref sig .tc := ⟨.hbm, 54, rfl⟩
abbrev main_call0_call0_c_2 : Ref sig .tc := ⟨.hbm, 55, rfl⟩
abbrev main_call0_call0_v4 : Ref sig .tc := ⟨.hbm, 56, rfl⟩
abbrev main_call0_call0_c_3 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_v6 : Ref sig .tc := ⟨.hbm, 65, rfl⟩
abbrev main_call0_c_2 : Ref sig .tc := ⟨.hbm, 66, rfl⟩
abbrev main_call0_v7 : Ref sig .tc := ⟨.hbm, 67, rfl⟩
abbrev main_call0_c_3 : Ref sig .tc := ⟨.hbm, 68, rfl⟩
abbrev main_call0_v8 : Ref sig .tc := ⟨.hbm, 69, rfl⟩
abbrev main_call0_v9 : Ref sig .tc := ⟨.hbm, 70, rfl⟩
abbrev main_call0_c_4 : Ref sig .tc := ⟨.hbm, 71, rfl⟩
abbrev main_v30 : Ref sig .tc := ⟨.hbm, 72, rfl⟩
abbrev main_v31 : Ref sig .tc := ⟨.hbm, 73, rfl⟩
abbrev main_c_6 : Ref sig .tc := ⟨.hbm, 74, rfl⟩
abbrev main_v32 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_c : Ref sig .tc := ⟨.hbm, 79, rfl⟩
abbrev main_call1_c_0 : Ref sig .tc := ⟨.hbm, 80, rfl⟩
abbrev main_call1_v3 : Ref sig .tc := ⟨.hbm, 81, rfl⟩
abbrev main_call1_call0_c : Ref sig .tc := ⟨.hbm, 82, rfl⟩
abbrev main_call1_call0_v0 : Ref sig .tc := ⟨.hbm, 83, rfl⟩
abbrev main_call1_call0_c_0 : Ref sig .tc := ⟨.hbm, 84, rfl⟩
abbrev main_call1_call0_v1 : Ref sig .tc := ⟨.hbm, 85, rfl⟩
abbrev main_call1_call0_v2 : Ref sig .tc := ⟨.hbm, 86, rfl⟩
abbrev main_call1_call0_c_1 : Ref sig .tc := ⟨.hbm, 87, rfl⟩
abbrev main_call1_call0_v3 : Ref sig .tc := ⟨.hbm, 88, rfl⟩
abbrev main_call1_call0_c_2 : Ref sig .tc := ⟨.hbm, 89, rfl⟩
abbrev main_call1_call0_v4 : Ref sig .tc := ⟨.hbm, 90, rfl⟩
abbrev main_call1_call0_c_3 : Ref sig .tc := ⟨.hbm, 91, rfl⟩
abbrev main_call1_call0_v5 : Ref sig .tc := ⟨.hbm, 92, rfl⟩
abbrev main_call1_call0_v6 : Ref sig .tc := ⟨.hbm, 93, rfl⟩
abbrev main_call1_call0_v7 : Ref sig .tc := ⟨.hbm, 94, rfl⟩
abbrev main_call1_call0_v8 : Ref sig .tc := ⟨.hbm, 95, rfl⟩
abbrev main_call1_v4 : Ref sig .tc := ⟨.hbm, 96, rfl⟩
abbrev main_call1_v5 : Ref sig .tc := ⟨.hbm, 97, rfl⟩
abbrev main_call1_c_1 : Ref sig .tc := ⟨.hbm, 98, rfl⟩
abbrev main_call1_v6 : Ref sig .tc := ⟨.hbm, 99, rfl⟩
abbrev main_call1_c_2 : Ref sig .tc := ⟨.hbm, 100, rfl⟩
abbrev main_call1_v7 : Ref sig .tc := ⟨.hbm, 101, rfl⟩
abbrev main_call1_c_3 : Ref sig .tc := ⟨.hbm, 102, rfl⟩
abbrev main_call1_v8 : Ref sig .tc := ⟨.hbm, 103, rfl⟩
abbrev main_call1_v9 : Ref sig .tc := ⟨.hbm, 104, rfl⟩
abbrev main_call1_c_4 : Ref sig .tc := ⟨.hbm, 105, rfl⟩
abbrev main_v33 : Ref sig .tc := ⟨.hbm, 106, rfl⟩
abbrev main_v34 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_29 : BitVec 32 := 1#32
  let v36 : BitVec 32 := Scalar.muli v25 c1_i32_29
  let v37 : BitVec 32 := Scalar.addi c0_i32_30 v36
  v37.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_40 : BitVec 32 := 1#32
  let v46 : BitVec 32 := Scalar.muli v14 c1_i32_40
  let v47 : BitVec 32 := Scalar.addi c0_i32_41 v46
  v47.toNat
def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_97 : BitVec 32 := 1#32
  let v84 : BitVec 32 := Scalar.muli v25 c1_i32_97
  let v85 : BitVec 32 := Scalar.addi c0_i32_98 v84
  v85.toNat
def k0_dev6 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_108 : BitVec 32 := 1#32
  let v94 : BitVec 32 := Scalar.muli v14 c1_i32_108
  let v95 : BitVec 32 := Scalar.addi c0_i32_109 v94
  v95.toNat
def k0_dev7 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_165 : BitVec 32 := 1#32
  let v132 : BitVec 32 := Scalar.muli v25 c1_i32_165
  let v133 : BitVec 32 := Scalar.addi c0_i32_166 v132
  v133.toNat
def k0_dev8 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_175 : BitVec 32 := 1#32
  let v142 : BitVec 32 := Scalar.muli v14 c1_i32_175
  let v143 : BitVec 32 := Scalar.addi c0_i32_176 v142
  v143.toNat
def k0_dev9 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_232 : BitVec 32 := 1#32
  let v180 : BitVec 32 := Scalar.muli v25 c1_i32_232
  let v181 : BitVec 32 := Scalar.addi c0_i32_233 v180
  v181.toNat
def k0_dev10 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_242 : BitVec 32 := 1#32
  let v190 : BitVec 32 := Scalar.muli v14 c1_i32_242
  let v191 : BitVec 32 := Scalar.addi c0_i32_243 v190
  v191.toNat
def k0_dev11 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_300 : BitVec 32 := 1#32
  let v228 : BitVec 32 := Scalar.muli v25 c1_i32_300
  let v229 : BitVec 32 := Scalar.addi c0_i32_301 v228
  v229.toNat
def k0_dev12 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_311 : BitVec 32 := 1#32
  let v238 : BitVec 32 := Scalar.muli v14 c1_i32_311
  let v239 : BitVec 32 := Scalar.addi c0_i32_312 v238
  v239.toNat
def k0_dev13 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_369 : BitVec 32 := 1#32
  let v276 : BitVec 32 := Scalar.muli v25 c1_i32_369
  let v277 : BitVec 32 := Scalar.addi c0_i32_370 v276
  v277.toNat
def k0_dev14 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_380 : BitVec 32 := 1#32
  let v286 : BitVec 32 := Scalar.muli v14 c1_i32_380
  let v287 : BitVec 32 := Scalar.addi c0_i32_381 v286
  v287.toNat
def k0_dev15 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_438 : BitVec 32 := 1#32
  let v324 : BitVec 32 := Scalar.muli v25 c1_i32_438
  let v325 : BitVec 32 := Scalar.addi c0_i32_439 v324
  v325.toNat
def k0_dev16 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_449 : BitVec 32 := 1#32
  let v334 : BitVec 32 := Scalar.muli v14 c1_i32_449
  let v335 : BitVec 32 := Scalar.addi c0_i32_450 v334
  v335.toNat
def k0_dev17 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_507 : BitVec 32 := 1#32
  let v372 : BitVec 32 := Scalar.muli v25 c1_i32_507
  let v373 : BitVec 32 := Scalar.addi c0_i32_508 v372
  v373.toNat
def k0_dev18 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_660 : BitVec 32 := 1#32
  let v602 : BitVec 32 := Scalar.muli v25 c1_i32_660
  let v603 : BitVec 32 := Scalar.addi c0_i32_661 v602
  v603.toNat
def k0_dev19 (d0 : Dev nD) : Nat :=
  let c0_i32_783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_782 : BitVec 32 := 1#32
  let v757 : BitVec 32 := Scalar.muli v14 c1_i32_782
  let v758 : BitVec 32 := Scalar.addi c0_i32_783 v757
  v758.toNat
def k0_dev20 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_789 : BitVec 32 := 1#32
  let v759 : BitVec 32 := Scalar.muli v25 c1_i32_789
  let v760 : BitVec 32 := Scalar.addi c0_i32_790 v759
  v760.toNat
def k0_dev21 (d0 : Dev nD) : Nat :=
  let c0_i32_912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_911 : BitVec 32 := 1#32
  let v914 : BitVec 32 := Scalar.muli v14 c1_i32_911
  let v915 : BitVec 32 := Scalar.addi c0_i32_912 v914
  v915.toNat
def k0_dev22 (d0 : Dev nD) : Nat :=
  let c0_i32_919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_918 : BitVec 32 := 1#32
  let v916 : BitVec 32 := Scalar.muli v25 c1_i32_918
  let v917 : BitVec 32 := Scalar.addi c0_i32_919 v916
  v917.toNat
def k0_dev23 (d0 : Dev nD) : Nat :=
  let c0_i32_1041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1040 : BitVec 32 := 1#32
  let v1071 : BitVec 32 := Scalar.muli v14 c1_i32_1040
  let v1072 : BitVec 32 := Scalar.addi c0_i32_1041 v1071
  v1072.toNat
def k0_dev24 (d0 : Dev nD) : Nat :=
  let c0_i32_1048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1047 : BitVec 32 := 1#32
  let v1073 : BitVec 32 := Scalar.muli v25 c1_i32_1047
  let v1074 : BitVec 32 := Scalar.addi c0_i32_1048 v1073
  v1074.toNat
def k0_dev25 (d0 : Dev nD) : Nat :=
  let c0_i32_1170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1169 : BitVec 32 := 1#32
  let v1228 : BitVec 32 := Scalar.muli v14 c1_i32_1169
  let v1229 : BitVec 32 := Scalar.addi c0_i32_1170 v1228
  v1229.toNat
def k0_dev26 (d0 : Dev nD) : Nat :=
  let c0_i32_1177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1176 : BitVec 32 := 1#32
  let v1230 : BitVec 32 := Scalar.muli v25 c1_i32_1176
  let v1231 : BitVec 32 := Scalar.addi c0_i32_1177 v1230
  v1231.toNat
def k0_dev27 (d0 : Dev nD) : Nat :=
  let c0_i32_1299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1298 : BitVec 32 := 1#32
  let v1385 : BitVec 32 := Scalar.muli v14 c1_i32_1298
  let v1386 : BitVec 32 := Scalar.addi c0_i32_1299 v1385
  v1386.toNat
def k0_dev28 (d0 : Dev nD) : Nat :=
  let c0_i32_1306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1305 : BitVec 32 := 1#32
  let v1387 : BitVec 32 := Scalar.muli v25 c1_i32_1305
  let v1388 : BitVec 32 := Scalar.addi c0_i32_1306 v1387
  v1388.toNat
def k0_dev29 (d0 : Dev nD) : Nat :=
  let c0_i32_1428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1427 : BitVec 32 := 1#32
  let v1542 : BitVec 32 := Scalar.muli v14 c1_i32_1427
  let v1543 : BitVec 32 := Scalar.addi c0_i32_1428 v1542
  v1543.toNat
def k0_dev30 (d0 : Dev nD) : Nat :=
  let c0_i32_1435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1434 : BitVec 32 := 1#32
  let v1544 : BitVec 32 := Scalar.muli v25 c1_i32_1434
  let v1545 : BitVec 32 := Scalar.addi c0_i32_1435 v1544
  v1545.toNat
def k0_dev31 (d0 : Dev nD) : Nat :=
  let c0_i32_1557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1556 : BitVec 32 := 1#32
  let v1699 : BitVec 32 := Scalar.muli v14 c1_i32_1556
  let v1700 : BitVec 32 := Scalar.addi c0_i32_1557 v1699
  v1700.toNat
def k0_dev32 (d0 : Dev nD) : Nat :=
  let c0_i32_1564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1563 : BitVec 32 := 1#32
  let v1701 : BitVec 32 := Scalar.muli v25 c1_i32_1563
  let v1702 : BitVec 32 := Scalar.addi c0_i32_1564 v1701
  v1702.toNat
def k0_dev33 (d0 : Dev nD) : Nat :=
  let c0_i32_1686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1685 : BitVec 32 := 1#32
  let v1856 : BitVec 32 := Scalar.muli v14 c1_i32_1685
  let v1857 : BitVec 32 := Scalar.addi c0_i32_1686 v1856
  v1857.toNat
def k0_dev34 (d0 : Dev nD) : Nat :=
  let c0_i32_1693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1692 : BitVec 32 := 1#32
  let v1858 : BitVec 32 := Scalar.muli v25 c1_i32_1692
  let v1859 : BitVec 32 := Scalar.addi c0_i32_1693 v1858
  v1859.toNat
def k0_dev35 (d0 : Dev nD) : Nat :=
  let c0_i32_1815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1814 : BitVec 32 := 1#32
  let v2013 : BitVec 32 := Scalar.muli v14 c1_i32_1814
  let v2014 : BitVec 32 := Scalar.addi c0_i32_1815 v2013
  v2014.toNat
def k0_dev36 (d0 : Dev nD) : Nat :=
  let c0_i32_1822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1821 : BitVec 32 := 1#32
  let v2015 : BitVec 32 := Scalar.muli v25 c1_i32_1821
  let v2016 : BitVec 32 := Scalar.addi c0_i32_1822 v2015
  v2016.toNat
def k0_dev37 (d0 : Dev nD) : Nat :=
  let c0_i32_1944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1943 : BitVec 32 := 1#32
  let v2170 : BitVec 32 := Scalar.muli v14 c1_i32_1943
  let v2171 : BitVec 32 := Scalar.addi c0_i32_1944 v2170
  v2171.toNat
def k0_dev38 (d0 : Dev nD) : Nat :=
  let c0_i32_1951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1950 : BitVec 32 := 1#32
  let v2172 : BitVec 32 := Scalar.muli v25 c1_i32_1950
  let v2173 : BitVec 32 := Scalar.addi c0_i32_1951 v2172
  v2173.toNat
def k0_dev39 (d0 : Dev nD) : Nat :=
  let c0_i32_2073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2072 : BitVec 32 := 1#32
  let v2327 : BitVec 32 := Scalar.muli v14 c1_i32_2072
  let v2328 : BitVec 32 := Scalar.addi c0_i32_2073 v2327
  v2328.toNat
def k0_dev40 (d0 : Dev nD) : Nat :=
  let c0_i32_2080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2079 : BitVec 32 := 1#32
  let v2329 : BitVec 32 := Scalar.muli v25 c1_i32_2079
  let v2330 : BitVec 32 := Scalar.addi c0_i32_2080 v2329
  v2330.toNat
def k0_dev41 (d0 : Dev nD) : Nat :=
  let c0_i32_2202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2201 : BitVec 32 := 1#32
  let v2484 : BitVec 32 := Scalar.muli v14 c1_i32_2201
  let v2485 : BitVec 32 := Scalar.addi c0_i32_2202 v2484
  v2485.toNat
def k0_dev42 (d0 : Dev nD) : Nat :=
  let c0_i32_2209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2208 : BitVec 32 := 1#32
  let v2486 : BitVec 32 := Scalar.muli v25 c1_i32_2208
  let v2487 : BitVec 32 := Scalar.addi c0_i32_2209 v2486
  v2487.toNat
def k0_dev43 (d0 : Dev nD) : Nat :=
  let c0_i32_2331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2330 : BitVec 32 := 1#32
  let v2641 : BitVec 32 := Scalar.muli v14 c1_i32_2330
  let v2642 : BitVec 32 := Scalar.addi c0_i32_2331 v2641
  v2642.toNat
def k0_dev44 (d0 : Dev nD) : Nat :=
  let c0_i32_2338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2337 : BitVec 32 := 1#32
  let v2643 : BitVec 32 := Scalar.muli v25 c1_i32_2337
  let v2644 : BitVec 32 := Scalar.addi c0_i32_2338 v2643
  v2644.toNat
def k0_dev45 (d0 : Dev nD) : Nat :=
  let c0_i32_2461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2460 : BitVec 32 := 1#32
  let v2798 : BitVec 32 := Scalar.muli v14 c1_i32_2460
  let v2799 : BitVec 32 := Scalar.addi c0_i32_2461 v2798
  v2799.toNat
def k0_dev46 (d0 : Dev nD) : Nat :=
  let c0_i32_2468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2467 : BitVec 32 := 1#32
  let v2800 : BitVec 32 := Scalar.muli v25 c1_i32_2467
  let v2801 : BitVec 32 := Scalar.addi c0_i32_2468 v2800
  v2801.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x2048x512 : Shape := ⟨3, ![2, 2048, 512]⟩
abbrev S512x4096 : Shape := ⟨2, ![512, 4096]⟩
abbrev S4096x512 : Shape := ⟨2, ![4096, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S2x2048x4096 : Shape := ⟨3, ![2, 2048, 4096]⟩
abbrev S2x2048x64x64 : Shape := ⟨4, ![2, 2048, 64, 64]⟩
abbrev S2x2048x64x32x2 : Shape := ⟨5, ![2, 2048, 64, 32, 2]⟩
abbrev S2x2048x64x32x1 : Shape := ⟨5, ![2, 2048, 64, 32, 1]⟩
abbrev S2x2048x64x32 : Shape := ⟨4, ![2, 2048, 64, 32]⟩
abbrev S1x2048x1x64 : Shape := ⟨4, ![1, 2048, 1, 64]⟩
abbrev S2x64x2048x2048 : Shape := ⟨4, ![2, 64, 2048, 2048]⟩
abbrev S2x64x2048 : Shape := ⟨3, ![2, 64, 2048]⟩
abbrev S2x64x2048x1 : Shape := ⟨4, ![2, 64, 2048, 1]⟩
abbrev S2x64x64x2048 : Shape := ⟨4, ![2, 64, 64, 2048]⟩

abbrev nBuf : Space → Nat
  | .hbm => 101
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S512x4096, .bf16⟩
  | .hbm, ⟨2, _⟩ => ⟨S512x4096, .bf16⟩
  | .hbm, ⟨3, _⟩ => ⟨S512x4096, .bf16⟩
  | .hbm, ⟨4, _⟩ => ⟨S4096x512, .bf16⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048, .i32⟩
  | .hbm, ⟨23, _⟩ => ⟨S2048x1, .i32⟩
  | .hbm, ⟨24, _⟩ => ⟨S1x32, .f32⟩
  | .hbm, ⟨25, _⟩ => ⟨S2048x1, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32x2, .f32⟩
  | .hbm, ⟨31, _⟩ => ⟨S2048x64, .f32⟩
  | .hbm, ⟨32, _⟩ => ⟨S2048x32, .f32⟩
  | .hbm, ⟨33, _⟩ => ⟨S2048x32x2, .f32⟩
  | .hbm, ⟨34, _⟩ => ⟨S2048x64, .f32⟩
  | .hbm, ⟨35, _⟩ => ⟨S2x2048x4096, .f32⟩
  | .hbm, ⟨36, _⟩ => ⟨S2x2048x4096, .bf16⟩
  | .hbm, ⟨37, _⟩ => ⟨S2x2048x64x64, .bf16⟩
  | .hbm, ⟨38, _⟩ => ⟨S2x2048x64x32x2, .bf16⟩
  | .hbm, ⟨39, _⟩ => ⟨S2x2048x64x32x1, .bf16⟩
  | .hbm, ⟨40, _⟩ => ⟨S2x2048x64x32, .bf16⟩
  | .hbm, ⟨41, _⟩ => ⟨S2x2048x64x32, .bf16⟩
  | .hbm, ⟨42, _⟩ => ⟨S2x2048x64x32x1, .bf16⟩
  | .hbm, ⟨43, _⟩ => ⟨S2x2048x64x32, .bf16⟩
  | .hbm, ⟨44, _⟩ => ⟨S2x2048x64x32x1, .bf16⟩
  | .hbm, ⟨45, _⟩ => ⟨S2x2048x64x32x1, .bf16⟩
  | .hbm, ⟨46, _⟩ => ⟨S2x2048x64x32x2, .bf16⟩
  | .hbm, ⟨47, _⟩ => ⟨S2x2048x64x64, .bf16⟩
  | .hbm, ⟨48, _⟩ => ⟨S1x2048x1x64, .f32⟩
  | .hbm, ⟨49, _⟩ => ⟨S2x2048x64x64, .f32⟩
  | .hbm, ⟨50, _⟩ => ⟨S2x2048x64x64, .f32⟩
  | .hbm, ⟨51, _⟩ => ⟨S2x2048x64x64, .f32⟩
  | .hbm, ⟨52, _⟩ => ⟨S1x2048x1x64, .f32⟩
  | .hbm, ⟨53, _⟩ => ⟨S2x2048x64x64, .f32⟩
  | .hbm, ⟨54, _⟩ => ⟨S2x2048x64x64, .f32⟩
  | .hbm, ⟨55, _⟩ => ⟨S2x2048x64x64, .f32⟩
  | .hbm, ⟨56, _⟩ => ⟨S2x2048x64x64, .f32⟩
  | .hbm, ⟨57, _⟩ => ⟨S2x2048x4096, .f32⟩
  | .hbm, ⟨58, _⟩ => ⟨S2x2048x4096, .bf16⟩
  | .hbm, ⟨59, _⟩ => ⟨S2x2048x64x64, .bf16⟩
  | .hbm, ⟨60, _⟩ => ⟨S2x2048x64x32x2, .bf16⟩
  | .hbm, ⟨61, _⟩ => ⟨S2x2048x64x32x1, .bf16⟩
  | .hbm, ⟨62, _⟩ => ⟨S2x2048x64x32, .bf16⟩
  | .hbm, ⟨63, _⟩ => ⟨S2x2048x64x32, .bf16⟩
  | .hbm, ⟨64, _⟩ => ⟨S2x2048x64x32x1, .bf16⟩
  | .hbm, ⟨65, _⟩ => ⟨S2x2048x64x32, .bf16⟩
  | .hbm, ⟨66, _⟩ => ⟨S2x2048x64x32x1, .bf16⟩
  | .hbm, ⟨67, _⟩ => ⟨S2x2048x64x32x1, .bf16⟩
  | .hbm, ⟨68, _⟩ => ⟨S2x2048x64x32x2, .bf16⟩
  | .hbm, ⟨69, _⟩ => ⟨S2x2048x64x64, .bf16⟩
  | .hbm, ⟨70, _⟩ => ⟨S1x2048x1x64, .f32⟩
  | .hbm, ⟨71, _⟩ => ⟨S2x2048x64x64, .f32⟩
  | .hbm, ⟨72, _⟩ => ⟨S2x2048x64x64, .f32⟩
  | .hbm, ⟨73, _⟩ => ⟨S2x2048x64x64, .f32⟩
  | .hbm, ⟨74, _⟩ => ⟨S1x2048x1x64, .f32⟩
  | .hbm, ⟨75, _⟩ => ⟨S2x2048x64x64, .f32⟩
  | .hbm, ⟨76, _⟩ => ⟨S2x2048x64x64, .f32⟩
  | .hbm, ⟨77, _⟩ => ⟨S2x2048x64x64, .f32⟩
  | .hbm, ⟨78, _⟩ => ⟨S2x2048x64x64, .f32⟩
  | .hbm, ⟨79, _⟩ => ⟨S2x2048x4096, .f32⟩
  | .hbm, ⟨80, _⟩ => ⟨S2x2048x4096, .bf16⟩
  | .hbm, ⟨81, _⟩ => ⟨S2x2048x64x64, .bf16⟩
  | .hbm, ⟨82, _⟩ => ⟨S2x64x2048x2048, .f32⟩
  | .hbm, ⟨83, _⟩ => ⟨S_, .f32⟩
  | .hbm, ⟨84, _⟩ => ⟨S2x64x2048x2048, .f32⟩
  | .hbm, ⟨85, _⟩ => ⟨S2x64x2048x2048, .f32⟩
  | .hbm, ⟨86, _⟩ => ⟨S_, .f32⟩
  | .hbm, ⟨87, _⟩ => ⟨S2x64x2048, .f32⟩
  | .hbm, ⟨88, _⟩ => ⟨S2x64x2048x1, .f32⟩
  | .hbm, ⟨89, _⟩ => ⟨S2x64x2048x2048, .f32⟩
  | .hbm, ⟨90, _⟩ => ⟨S2x64x2048x2048, .f32⟩
  | .hbm, ⟨91, _⟩ => ⟨S2x64x2048x2048, .f32⟩
  | .hbm, ⟨92, _⟩ => ⟨S_, .f32⟩
  | .hbm, ⟨93, _⟩ => ⟨S2x64x2048, .f32⟩
  | .hbm, ⟨94, _⟩ => ⟨S2x64x2048x1, .f32⟩
  | .hbm, ⟨95, _⟩ => ⟨S2x64x2048x2048, .f32⟩
  | .hbm, ⟨96, _⟩ => ⟨S2x64x2048x2048, .f32⟩
  | .hbm, ⟨97, _⟩ => ⟨S2x64x64x2048, .f32⟩
  | .hbm, ⟨98, _⟩ => ⟨S2x2048x64x64, .f32⟩
  | .hbm, ⟨99, _⟩ => ⟨S2x2048x4096, .f32⟩
  | .hbm, ⟨100, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_3 : Ref sig .tc := ⟨.hbm, 83, rfl⟩
abbrev main_v73 : Ref sig .tc := ⟨.hbm, 84, rfl⟩
abbrev main_v74 : Ref sig .tc := ⟨.hbm, 85, rfl⟩
abbrev main_cst_4 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_5 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩

abbrev nD : Nat := 1
abbrev τ : Topo := Topo.v7x

variable {F : FTy → Type} [FloatOps F]
-- ==== Proof.Same.lean ====
/-
The printed program and its reading over the reals are the same text, so what is proved of one run holds of the other.
-/
module
public import proofs.«01_k».proof.KernelIdeal
public import proofs.«01_k».proof.Kernel
public import proofs.«01_k».proof.Proof.Gen.Kernel
public import proofs.«01_k».proof.Proof.Gen.KernelIdeal
@[expose] public section

namespace Cert.Same

open Idealize.ShloMosaic Idealize.SL.Sem Idealize.ShloMosaic.TcCoe

variable {F : FTy → Type} [FloatOps F]

set_option maxHeartbeats 0 in
set_option maxRecDepth 100000 in
/-- The kernel's bodies agree. -/
theorem defs0_eq : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, (t, s) => rfl
  | ⟨n + 1, h⟩, _ => exact absurd h (Nat.not_lt.2 (Nat.le_add_left _ _))
set_option maxHeartbeats 0 in
set_option maxRecDepth 100000 in
theorem defs_eq : Cert.Kernel.defs (F := F) = Cert.KernelIdeal.defs (F := F) := by
  unfold Cert.Kernel.defs Cert.KernelIdeal.defs
  rw [defs0_eq]
  rfl
set_option maxHeartbeats 0 in
set_option maxRecDepth 100000 in
theorem main_eq : Cert.Kernel.main (F := F) = Cert.KernelIdeal.main (F := F) := rfl
/-- A run of the one is a run of the other. -/
theorem same (m : (ℓ : Loc Cert.Kernel.nD Cert.Kernel.τ Cert.Kernel.sig) → Buf (Elt F) ℓ) (g : Dev Cert.Kernel.nD → PrngReg)
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [defs_eq, main_eq]; exact h

end Cert.Same
-- ==== Proof.KernelIdeal.Proto.lean ====
/-
  What the devices of the ring say to each other: the semaphore cells, what each of them is paid with,
  what every device owes in program order, and the values that travel.

  Device c has a left and a right neighbour on a ring of sixteen.  First both neighbours are greeted on
  the barrier cell; the greeting hands over the places the neighbour is going to write.  Then the input
  blocks travel both ways round the ring until every device has all sixteen, and last the partial
  results travel to the right, fifteen times, each device adding its own share.
-/
module

public import Idealize.ShloMosaic.Lib.Pipeline.Regions
public import Idealize.ShloMosaic.Lib.Pipeline.Kit
public import Idealize.ShloMosaic.Lib.Pipeline.Value
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The ring -/

/-- The device `j` places to the right of `c`. -/
def rot (c : Dev nD) (j : ℕ) : Dev nD := ⟨(c.val + j) % 16, Nat.mod_lt _ (by decide)⟩
/-- The right neighbour. -/
def nxt (c : Dev nD) : Dev nD := rot c 1
/-- The left neighbour. -/
def prv (c : Dev nD) : Dev nD := rot c 15

theorem rot_rot (c : Dev nD) (i j : ℕ) : rot (rot c i) j = rot c (i + j) := by
  apply Fin.ext; show ((c.val + i) % 16 + j) % 16 = (c.val + (i + j)) % 16; omega
theorem rot_mod (c : Dev nD) (i j : ℕ) (h : i % 16 = j % 16) : rot c i = rot c j := by
  apply Fin.ext; show (c.val + i) % 16 = (c.val + j) % 16; omega
theorem rot_zero (c : Dev nD) : rot c 0 = c := by
  apply Fin.ext; show (c.val + 0) % 16 = c.val
  exact Nat.mod_eq_of_lt c.isLt
theorem nxt_prv (c : Dev nD) : nxt (prv c) = c := by
  unfold nxt prv; rw [rot_rot, rot_mod c (15 + 1) 0 rfl, rot_zero]
theorem prv_nxt (c : Dev nD) : prv (nxt c) = c := by
  unfold nxt prv; rw [rot_rot, rot_mod c (1 + 15) 0 rfl, rot_zero]
theorem rot_nxt (c : Dev nD) (j : ℕ) : rot (nxt c) j = rot c (j + 1) := by
  unfold nxt; rw [rot_rot, Nat.add_comm]
theorem rot_prv (c : Dev nD) (j : ℕ) : rot (prv c) (j + 1) = rot c j := by
  unfold prv; rw [rot_rot]; exact rot_mod c _ _ (by omega)

/-! ## The buffers -/

abbrev xfM : Memref sig .tc .vmem S2x16x128x512 .bf16 := Memref.whole cc0_scratch0
abbrev qM : Memref sig .tc .vmem S4096x256 .bf16 := Memref.whole cc0_scratch1
abbrev kM : Memref sig .tc .vmem S4096x256 .bf16 := Memref.whole cc0_scratch2
abbrev vM : Memref sig .tc .vmem S4096x256 .bf16 := Memref.whole cc0_scratch3
abbrev accM : Memref sig .tc .vmem S2x16x128x512 .bf16 := Memref.whole cc0_scratch4
abbrev rsM : Memref sig .tc .vmem S2x128x512 .bf16 := Memref.whole cc0_scratch5

/-! ## The values that travel -/

/-- What one device is given: its block of the input and of the four weights, and its cosine and sine tables. -/
structure In (F : FTy → Type) where
  x : FVec F S2x128x512 .bf16
  wq : FVec F S512x256 .bf16
  wk : FVec F S512x256 .bf16
  wv : FVec F S512x256 .bf16
  wo : FVec F S256x512 .bf16
  cs : FVec F S2048x64 .f32
  sn : FVec F S2048x64 .f32

variable (I : Dev nD → In F)

/-- What slot `j` of the gathered input holds on device `c`: the block of the device `j` places to the right. -/
def xAt (c : Dev nD) (j : ℕ) : FVec F S2x128x512 .bf16 := (I (rot c j)).x

/-- The position inside its slot of a position in a buffer of slots. -/
def inSlot (i : S2x16x128x512.Idx) : S2x128x512.Idx
  | ⟨0, _⟩ => i 0
  | ⟨1, _⟩ => i 2
  | ⟨2, _⟩ => i 3

/-- The gathered input on device `c`. -/
def xAll (c : Dev nD) : FVec F S2x16x128x512 .bf16 := fun i => xAt I c (i 1).val (inSlot i)

/-- Queries, keys and values of device `c`'s heads. -/
def qv (c : Dev nD) : FVec F S4096x256 .bf16 :=
  k0_pay9 (k0_pay2 (xAll I c)) (k0_pay3 (I c).sn) (k0_pay4 (I c).cs) (I c).wq
def kv (c : Dev nD) : FVec F S4096x256 .bf16 :=
  k0_pay10 (k0_pay2 (xAll I c)) (k0_pay4 (I c).cs) (k0_pay5 (k0_pay3 (I c).sn)) k0_pay6 (k0_pay7 (I c).wk)
def vv (c : Dev nD) : FVec F S4096x256 .bf16 := k0_pay11 (k0_pay2 (xAll I c)) (k0_pay8 (I c).wv)
def wov (c : Dev nD) : FVec F S256x512 .bf16 := k0_pay12 (I c).wo

theorem inb_q (k : ℕ) (hk : k < 16) (b : ℕ) (hb : b < 2) (h : ℕ) (hh : h < 4) :
    ∀ a, (![2048 * b + 128 * k, 64 * h] : Fin 2 → ℕ) a + S128x64.size a ≤ S4096x256.size a := by
  intro a; fin_cases a
  · show 2048 * b + 128 * k + 128 ≤ 4096; omega
  · show 64 * h + 64 ≤ 256; omega
theorem inb_kv (b : ℕ) (hb : b < 2) (h : ℕ) (hh : h < 4) :
    ∀ a, (![2048 * b, 64 * h] : Fin 2 → ℕ) a + S2048x64.size a ≤ S4096x256.size a := by
  intro a; fin_cases a
  · show 2048 * b + 2048 ≤ 4096; omega
  · show 64 * h + 64 ≤ 256; omega

/-- The 128 query rows of chunk `k`, batch `b`, head `h`. -/
def qp (Q : FVec F S4096x256 .bf16) (k : ℕ) (hk : k < 16) (b : ℕ) (hb : b < 2) (h : ℕ) (hh : h < 4) : FVec F S128x64 .bf16 :=
  qM.view.readAt (Elt F) (Rect.unit (s := S4096x256) ![2048 * b + 128 * k, 64 * h] S128x64.size (inb_q k hk b hb h hh)).toLoadRect Q
/-- All key (or value) rows of batch `b`, head `h`. -/
def kp (K : FVec F S4096x256 .bf16) (b : ℕ) (hb : b < 2) (h : ℕ) (hh : h < 4) : FVec F S2048x64 .bf16 :=
  kM.view.readAt (Elt F) (Rect.unit (s := S4096x256) ![2048 * b, 64 * h] S2048x64.size (inb_kv b hb h hh)).toLoadRect K

/-- One head of one batch entry of a chunk: attention of the chunk's rows to all the rows. -/
def head (Q K V : FVec F S4096x256 .bf16) (k : ℕ) (hk : k < 16) (b : ℕ) (hb : b < 2) (h : ℕ) (hh : h < 4) : FVec F S128x64 .f32 :=
  k0_pay17 (qp Q k hk b hb h hh) (kp K b hb h hh) (kp V b hb h hh)

/-- The four heads of one batch entry of a chunk, side by side. -/
def heads (Q K V : FVec F S4096x256 .bf16) (k : ℕ) (hk : k < 16) (b : ℕ) (hb : b < 2) : FVec F S128x256 .f32 :=
  concatenate S128x256 1 [⟨S128x64, head Q K V k hk b hb 0 (by decide)⟩, ⟨S128x64, head Q K V k hk b hb 1 (by decide)⟩,
    ⟨S128x64, head Q K V k hk b hb 2 (by decide)⟩, ⟨S128x64, head Q K V k hk b hb 3 (by decide)⟩]
    concatenates_S128x64_S128x64_S128x64_S128x64_S128x256_d1

/-- Chunk `k`: its heads through the output weights. -/
def chunkOf (Q K V : FVec F S4096x256 .bf16) (W : FVec F S256x512 .bf16) (k : ℕ) (hk : k < 16) : FVec F S2x128x512 .bf16 :=
  shapeCast S2x128x512
    (truncf .bf16
      (matmul dot_S256x256_S256x512_S256x512_1_0_0_1_n_n none
        (truncf .bf16
          (concatenate S256x256 0 [⟨S128x256, heads Q K V k hk 0 (by decide)⟩, ⟨S128x256, heads Q K V k hk 1 (by decide)⟩]
            concatenates_S128x256_S128x256_S256x256_d0) bitsLt_bf16_f32)
        W (constant S256x512 .f32 0x00000000#32)) bitsLt_bf16_f32)
    shapeCasts_S256x512_S2x128x512

/-- Chunk `k` (read modulo sixteen) of device `c`. -/
def chunk (c : Dev nD) (k : ℕ) : FVec F S2x128x512 .bf16 :=
  chunkOf (qv I c) (kv I c) (vv I c) (wov I c) (k % 16) (Nat.mod_lt _ (by decide))

/-- The running sum device `c` sends in step `s`. -/
def av : ℕ → Dev nD → FVec F S2x128x512 .bf16
  | 0, c => chunk I c 15
  | s + 1, c => addf (chunk I c (14 - s)) (av s (prv c))

/-- What device `c` leaves as its result. -/
def outv (c : Dev nD) : FVec F S2x128x512 .f32 := extf .f32 (av I 15 c) bitsLt_bf16_f32

end Cert.KernelIdeal.Ring
-- ==== Proof.KernelIdeal.Slots.lean ====
/-
  The slots of the two buffers of sixteen: the elements a slot has, what a slot's view reads, and the
  points-to of a slot at the block it holds.
-/
module

public import proofs.«01_k».proof.Proof.KernelIdeal.Proto

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

theorem inb_slot (k : ℕ) (hk : k < 16) :
    ∀ a, (![0, k, 0, 0] : Fin 4 → ℕ) a + S2x1x128x512.size a ≤ S2x16x128x512.size a := by
  intro a; fin_cases a
  · show 0 + 2 ≤ 2; omega
  · show k + 1 ≤ 16; omega
  · show 0 + 128 ≤ 128; omega
  · show 0 + 512 ≤ 512; omega

/-- The rectangle of slot `k`. -/
abbrev slotR (k : ℕ) (hk : k < 16) : Rect S2x16x128x512 :=
  Rect.unit (s := S2x16x128x512) ![0, k, 0, 0] S2x1x128x512.size (inb_slot k hk)

/-- The elements of slot `k`. -/
def slotSet (k : ℕ) : Finset S2x16x128x512.Idx := Finset.univ.filter fun i => (i 1).val = k

theorem mem_slotSet (k : ℕ) (i : S2x16x128x512.Idx) : i ∈ slotSet k ↔ (i 1).val = k := by
  unfold slotSet; rw [Finset.mem_filter]; exact and_iff_right (Finset.mem_univ _)

theorem slotR_set (k : ℕ) (hk : k < 16) : (slotR k hk).set = slotSet k := by
  ext i
  rw [Rect.mem_set_unit, mem_slotSet]
  constructor
  · intro h; have h1 := h 1
    have h2 : k ≤ (i 1).val := h1.1
    have h3 : (i 1).val < k + 1 := h1.2
    omega
  · intro h a
    have b := (i a).isLt
    fin_cases a
    · exact ⟨Nat.zero_le _, b⟩
    · refine ⟨?_, ?_⟩
      · show k ≤ (i 1).val; omega
      · show (i 1).val < k + 1; omega
    · exact ⟨Nat.zero_le _, b⟩
    · exact ⟨Nat.zero_le _, b⟩

theorem slotSet_disjoint (k k' : ℕ) (h : k ≠ k') : Disjoint (slotSet k) (slotSet k') := by
  rw [Finset.disjoint_left]; intro i hi hi'
  rw [mem_slotSet] at hi hi'; omega

theorem biUnion_slots : (Finset.range 16).biUnion slotSet = Finset.univ := by
  ext i
  simp only [Finset.mem_biUnion, Finset.mem_univ, iff_true, mem_slotSet, Finset.mem_range]
  exact ⟨(i 1).val, (i 1).isLt, rfl⟩

/-- A buffer of slots with the block `g` in every slot. -/
def canon (g : FVec F S2x128x512 .bf16) : FVec F S2x16x128x512 .bf16 := fun i => g (inSlot i)

/-- Slot `k` of the gathered input, and of the running sums, as the program names it. -/
abbrev xfSlot (k : ℕ) (hk : k < 16) : Memref sig .tc .vmem S2x128x512 .bf16 :=
  (xfM.slice (slotR k hk) (fun _ => rfl)).squeeze S2x128x512 squeezes_S2x1x128x512_S2x128x512
abbrev accSlot (k : ℕ) (hk : k < 16) : Memref sig .tc .vmem S2x128x512 .bf16 :=
  (accM.slice (slotR k hk) (fun _ => rfl)).squeeze S2x128x512 squeezes_S2x1x128x512_S2x128x512

theorem xfSlot_set (k : ℕ) (hk : k < 16) : (xfSlot k hk).view.set = slotSet k :=
  (View.set_reshape _ _).trans ((View.set_slice_whole _ _).trans (slotR_set k hk))
theorem accSlot_set (k : ℕ) (hk : k < 16) : (accSlot k hk).view.set = slotSet k :=
  (View.set_reshape _ _).trans ((View.set_slice_whole _ _).trans (slotR_set k hk))
theorem xfAccess_set (k : ℕ) (hk : k < 16) : (xfM.access (slotR k hk)).set = slotSet k :=
  (View.set_slice_whole _ _).trans (slotR_set k hk)
theorem accAccess_set (k : ℕ) (hk : k < 16) : (accM.access (slotR k hk)).set = slotSet k :=
  (View.set_slice_whole _ _).trans (slotR_set k hk)

/-- The block slot `k` of a buffer of slots holds. -/
def slotOf (k : ℕ) (hk : k < 16) (f : FVec F S2x16x128x512 .bf16) : FVec F S2x128x512 .bf16 :=
  shapeCast S2x128x512 ((xfM.view.slice (slotR k hk)).read (Elt F) f) shapeCasts_S2x1x128x512_S2x128x512

/-- The position of `i` inside the rectangle of its slot. -/
def inRect (i : S2x16x128x512.Idx) : S2x1x128x512.Idx
  | ⟨0, _⟩ => i 0
  | ⟨1, _⟩ => ⟨0, Nat.one_pos⟩
  | ⟨2, _⟩ => i 2
  | ⟨3, _⟩ => i 3

/-- Read at a position. -/
theorem slotOf_inSlot (k : ℕ) (hk : k < 16) (f : FVec F S2x16x128x512 .bf16) (i : S2x16x128x512.Idx) (hi : (i 1).val = k) :
    slotOf k hk f (inSlot i) = f i := by
  unfold slotOf
  rw [shapeCast_apply _ _ (inSlot i) (inRect i) (by
    rw [Shape.rowMajor_val_four, Shape.rowMajor_val_three]
    show (((i 0).val * 1 + 0) * 128 + (i 2).val) * 512 + (i 3).val = ((i 0).val * 128 + (i 2).val) * 512 + (i 3).val
    omega)]
  rw [View.read_apply]
  refine congrArg f (funext fun a => Fin.ext ?_)
  fin_cases a
  · show 0 + 1 * (i 0).val = (i 0).val; omega
  · show k + 1 * 0 = (i 1).val; omega
  · show 0 + 1 * (i 2).val = (i 2).val; omega
  · show 0 + 1 * (i 3).val = (i 3).val; omega

/-- A slot position lifted into the buffer. -/
def lift (k : ℕ) (hk : k < 16) (j : S2x128x512.Idx) : S2x16x128x512.Idx
  | ⟨0, _⟩ => j 0
  | ⟨1, _⟩ => ⟨k, hk⟩
  | ⟨2, _⟩ => j 1
  | ⟨3, _⟩ => j 2

theorem inSlot_lift (k : ℕ) (hk : k < 16) (j : S2x128x512.Idx) : inSlot (lift k hk j) = j := by
  funext a; fin_cases a <;> rfl

theorem slotOf_canon (k : ℕ) (hk : k < 16) (g : FVec F S2x128x512 .bf16) : slotOf k hk (canon g) = g := by
  funext j
  have h := slotOf_inSlot k hk (canon g) (lift k hk j) rfl
  rw [inSlot_lift] at h
  rw [h]
  show g (inSlot (lift k hk j)) = g j
  rw [inSlot_lift]

/-- A buffer agrees on slot `k` with the block it holds there. -/
theorem eq_canon (k : ℕ) (hk : k < 16) (f : FVec F S2x16x128x512 .bf16) : ∀ i ∈ slotSet k, f i = canon (slotOf k hk f) i := by
  intro i hi
  exact (slotOf_inSlot k hk f i ((mem_slotSet k i).mp hi)).symm

abbrev UU : Type := URounds (GSem nD τ sig) Unit × URounds (GSem nD τ sig) Bool

local notation "𝕄" => MT nD τ sig ℕ (Elt F) ℕ UU ℕ

abbrev EP : Emb (URounds (GSem nD τ sig) Unit) 𝕄 := embL
abbrev ER : Emb (URounds (GSem nD τ sig) Bool) 𝕄 := embR

/-- Slot `k` of device `c`'s gathered input, holding the block `g`; and of its running sums. -/
def xfPt (c : Dev nD) (k : ℕ) (q : PosShare TreeShare) (g : FVec F S2x128x512 .bf16) : sProp 𝕄 :=
  xfM.view.loc (c : Thread nD τ) ↦[slotSet k]{q} canon g
def accPt (c : Dev nD) (k : ℕ) (q : PosShare TreeShare) (g : FVec F S2x128x512 .bf16) : sProp 𝕄 :=
  accM.view.loc (c : Thread nD τ) ↦[slotSet k]{q} canon g
/-- Device `c`'s receive buffer of the second phase. -/
def rsPt (c : Dev nD) (g : FVec F S2x128x512 .bf16) : sProp 𝕄 :=
  rsM.view.loc (c : Thread nD τ) ↦[rsM.view.set]{fullShare} g

theorem xfPt_of (c : Dev nD) (k : ℕ) (hk : k < 16) (q : PosShare TreeShare) (f : FVec F S2x16x128x512 .bf16) :
    (xfM.view.loc (c : Thread nD τ) ↦[slotSet k]{q} f : sProp 𝕄) = xfPt c k q (slotOf k hk f) :=
  pointsTo_congr (eq_canon k hk f)
theorem accPt_of (c : Dev nD) (k : ℕ) (hk : k < 16) (q : PosShare TreeShare) (f : FVec F S2x16x128x512 .bf16) :
    (accM.view.loc (c : Thread nD τ) ↦[slotSet k]{q} f : sProp 𝕄) = accPt c k q (slotOf k hk f) :=
  pointsTo_congr (eq_canon k hk f)

/-- What a slot's view reads. -/
theorem xfSlot_read (k : ℕ) (hk : k < 16) (f : FVec F S2x16x128x512 .bf16) : (xfSlot k hk).view.read (Elt F) f = slotOf k hk f := rfl
theorem accSlot_read (k : ℕ) (hk : k < 16) (f : FVec F S2x16x128x512 .bf16) : (accSlot k hk).view.read (Elt F) f = slotOf k hk f := rfl
/-- What a load through a slot's rectangle reads. -/
theorem xfAccess_read (k : ℕ) (hk : k < 16) (f : FVec F S2x16x128x512 .bf16) :
    shapeCast S2x128x512 ((xfM.access (slotR k hk)).read (Elt F) f) shapeCasts_S2x1x128x512_S2x128x512 = slotOf k hk f := rfl
theorem accAccess_read (k : ℕ) (hk : k < 16) (f : FVec F S2x16x128x512 .bf16) :
    shapeCast S2x128x512 ((accM.access (slotR k hk)).read (Elt F) f) shapeCasts_S2x1x128x512_S2x128x512 = slotOf k hk f := rfl
theorem slotOf_xfWrite (k : ℕ) (hk : k < 16) (f : FVec F S2x16x128x512 .bf16) (w : FVec F S2x128x512 .bf16) :
    slotOf k hk ((xfSlot k hk).view.write (Elt F) f w Finset.univ) = w := by
  rw [← xfSlot_read]; exact View.read_write_univ _ _
theorem slotOf_accWrite (k : ℕ) (hk : k < 16) (f : FVec F S2x16x128x512 .bf16) (w : FVec F S2x128x512 .bf16) :
    slotOf k hk ((accSlot k hk).view.write (Elt F) f w Finset.univ) = w := by
  rw [← accSlot_read]; exact View.read_write_univ _ _
theorem slotOf_xfStore (k : ℕ) (hk : k < 16) (f : FVec F S2x16x128x512 .bf16) (w : FVec F S2x1x128x512 .bf16) :
    slotOf k hk ((xfM.access (slotR k hk)).write (Elt F) f w Finset.univ) = shapeCast S2x128x512 w shapeCasts_S2x1x128x512_S2x128x512 := by
  unfold slotOf
  exact congrArg (fun u => shapeCast S2x128x512 u shapeCasts_S2x1x128x512_S2x128x512) (View.read_write_univ _ _)
theorem slotOf_accStore (k : ℕ) (hk : k < 16) (f : FVec F S2x16x128x512 .bf16) (w : FVec F S2x1x128x512 .bf16) :
    slotOf k hk ((accM.access (slotR k hk)).write (Elt F) f w Finset.univ) = shapeCast S2x128x512 w shapeCasts_S2x1x128x512_S2x128x512 := by
  rw [← accAccess_read, View.read_write_univ]

end Cert.KernelIdeal.Ring
-- ==== Proof.KernelIdeal.Sched.lean ====
/-
  The schedule of the ring: for every semaphore cell its rounds, who pays them, how much and with what;
  what a device owes, in program order; and the levels that order the waits.
-/
module

public import Idealize.SL.BI.BigOpNat
public import proofs.«01_k».proof.Proof.KernelIdeal.Slots

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F)

/-! ## The cells -/

/-- The DMA semaphore number `n`. -/
def dmaAt (n : ℕ) : DmaSem sig := ⟨n % 68, Nat.mod_lt _ (by decide)⟩

abbrev barG (c : Dev nD) : GSem nD τ sig := ((c : Thread nD τ), .reg 1)
abbrev crG (c : Dev nD) : GSem nD τ sig := ((c : Thread nD τ), .reg 0)
/-- Gather copy `i` on the sender; and on the receiver (`i < 8` goes to the right, the others to the left). -/
abbrev agS (c : Dev nD) (i : ℕ) : GSem nD τ sig := ((c : Thread nD τ), .dma (dmaAt (8 + i)))
abbrev agR (c : Dev nD) (i : ℕ) : GSem nD τ sig := ((c : Thread nD τ), .dma (dmaAt (23 + i)))
/-- Copy `s` of the second phase on the sender; and on the receiver. -/
abbrev rsS (c : Dev nD) (s : ℕ) : GSem nD τ sig := ((c : Thread nD τ), .dma (dmaAt (38 + s)))
abbrev rsR (c : Dev nD) (s : ℕ) : GSem nD τ sig := ((c : Thread nD τ), .dma (dmaAt (53 + s)))

/-- The units a copy of one block credits. -/
abbrev N : ℕ := (rsM : Memref sig .tc .vmem S2x128x512 .bf16).view.dmaCredit
theorem N_pos : 0 < N := View.dmaCredit_pos _ (by decide)
theorem N_xf (k : ℕ) (hk : k < 16) : (xfSlot k hk).view.dmaCredit = N := rfl
theorem N_acc (k : ℕ) (hk : k < 16) : (accSlot k hk).view.dmaCredit = N := rfl

/-! ## What the cells are paid with -/

/-- Half of slot 0 goes each way round the ring; the other slots travel whole. -/
def rSh (h : ℕ) : PosShare TreeShare := if h = 0 then fullShare.left else fullShare
def lSh (h : ℕ) : PosShare TreeShare := if h = 0 then fullShare.right else fullShare

/-- The `h`-th block device `c` has to send to the right, and to the left. -/
def rPt (c : Dev nD) (h : ℕ) : sProp 𝕄 := xfPt c ((16 - h) % 16) (rSh h) (xAt I c ((16 - h) % 16))
def lPt (c : Dev nD) (h : ℕ) : sProp 𝕄 := xfPt c h (lSh h) (xAt I c h)

/-- A slot, or the receive buffer, at contents not chosen. -/
def xfAny (c : Dev nD) (k : ℕ) : sProp 𝕄 := iprop(∃ g : FVec F S2x128x512 .bf16, xfPt c k fullShare g)
def accAny (c : Dev nD) (k : ℕ) : sProp 𝕄 := iprop(∃ g : FVec F S2x128x512 .bf16, accPt c k fullShare g)
def rsAny (c : Dev nD) : sProp 𝕄 := iprop(∃ g : FVec F S2x128x512 .bf16, rsPt c g)

/-- What the right neighbour's greeting hands over: the places `c` writes on its right. -/
def barR (c : Dev nD) : sProp 𝕄 :=
  iprop(bigSep (Finset.range 8) (fun h => xfAny (F := F) (nxt c) (15 - h)) ∗ rsAny (F := F) (nxt c)
    ∗ bigSep (Finset.range 8) (fun h => reached ER (agR (nxt c) h) 0)
    ∗ bigSep (Finset.range 15) (fun s => reached ER (rsR (nxt c) s) 0))
/-- What the left neighbour's greeting hands over. -/
def barL (c : Dev nD) : sProp 𝕄 :=
  iprop(bigSep (Finset.range 7) (fun h => xfAny (F := F) (prv c) (h + 1)) ∗ bigSep (Finset.range 7) (fun h => reached ER (agR (prv c) (8 + h)) 0))

def agSPay (c : Dev nD) (i : ℕ) : sProp 𝕄 := if i < 8 then rPt I c i else lPt I c (i - 8)
def agRPay (c : Dev nD) (i : ℕ) : sProp 𝕄 := if i < 8 then rPt I c (i + 1) else lPt I c (i - 7)
def rsSPay (c : Dev nD) (s : ℕ) : sProp 𝕄 := accPt c (15 - s) fullShare (av I s c)
def rsRPay (c : Dev nD) (s : ℕ) : sProp 𝕄 := iprop(rsPt c (av I s (prv c)) ∗ reached ER (crG (prv c)) s)
def crPay (c : Dev nD) : sProp 𝕄 := rsAny (F := F) (nxt c)

def payOf (c : Dev nD) : SemLoc sig → Bool → sProp 𝕄
  | .reg s, d => if s.val = 1 then (if d then barL (F := F) c else barR (F := F) c) else crPay (F := F) c
  | .dma s, _ => if s.val < 23 then agSPay I c (s.val - 8) else if s.val < 38 then agRPay I c (s.val - 23)
      else if s.val < 53 then rsSPay I c (s.val - 38) else rsRPay I c (s.val - 53)

def dutiesOf : SemLoc sig → ℕ → Finset Bool
  | .reg s, r => if s.val = 1 then (if r = 0 then {false, true} else ∅) else (if r < 14 then {false} else ∅)
  | .dma s, r => if 8 ≤ s.val ∧ r = 0 then {false} else ∅

def amountOf' : SemLoc sig → ℕ
  | .reg _ => 1
  | .dma _ => N

/-- The schedule. -/
def Rd : Rounds.Schedule (GSem nD τ sig) Bool 𝕄 where
  duties g r := if g.1.2 = .tc then dutiesOf g.2 r else ∅
  unitless _ := False
  amount g _ _ := amountOf' g.2
  payload g _ d := payOf I g.1.1 g.2 d
  amount_pos g _ _ _ := by
    rcases g with ⟨_, s | s⟩
    · exact Nat.one_pos
    · exact N_pos

instance xfPt_storable (c : Dev nD) (k q) (g : FVec F S2x128x512 .bf16) : BI.Storable (upEmb : UEmb _ 𝕄) (xfPt c k q g) := by
  unfold xfPt; infer_instance
instance accPt_storable (c : Dev nD) (k q) (g : FVec F S2x128x512 .bf16) : BI.Storable (upEmb : UEmb _ 𝕄) (accPt c k q g) := by
  unfold accPt; infer_instance
instance rsPt_storable (c : Dev nD) (g : FVec F S2x128x512 .bf16) : BI.Storable (upEmb : UEmb _ 𝕄) (rsPt c g) := by
  unfold rsPt; infer_instance
instance xfAny_storable (c : Dev nD) (k) : BI.Storable (upEmb : UEmb _ 𝕄) (xfAny (F := F) c k) := by unfold xfAny; infer_instance
instance rsAny_storable (c : Dev nD) : BI.Storable (upEmb : UEmb _ 𝕄) (rsAny (F := F) c) := by unfold rsAny; infer_instance

instance rPt_storable (c : Dev nD) (h) : BI.Storable (upEmb : UEmb _ 𝕄) (rPt I c h) := by unfold rPt; infer_instance
instance lPt_storable (c : Dev nD) (h) : BI.Storable (upEmb : UEmb _ 𝕄) (lPt I c h) := by unfold lPt; infer_instance
instance barR_storable (c : Dev nD) : BI.Storable (upEmb : UEmb _ 𝕄) (barR (F := F) c) := by unfold barR; infer_instance
instance barL_storable (c : Dev nD) : BI.Storable (upEmb : UEmb _ 𝕄) (barL (F := F) c) := by unfold barL; infer_instance
instance crPay_storable (c : Dev nD) : BI.Storable (upEmb : UEmb _ 𝕄) (crPay (F := F) c) := by unfold crPay; infer_instance
instance agSPay_storable (c : Dev nD) (h) : BI.Storable (upEmb : UEmb _ 𝕄) (agSPay I c h) := by unfold agSPay; split <;> infer_instance
instance agRPay_storable (c : Dev nD) (h) : BI.Storable (upEmb : UEmb _ 𝕄) (agRPay I c h) := by unfold agRPay; split <;> infer_instance
instance rsSPay_storable (c : Dev nD) (h) : BI.Storable (upEmb : UEmb _ 𝕄) (rsSPay I c h) := by unfold rsSPay; infer_instance
instance rsRPay_storable (c : Dev nD) (h) : BI.Storable (upEmb : UEmb _ 𝕄) (rsRPay I c h) := by unfold rsRPay; infer_instance

instance Rd_storable (g : GSem nD τ sig) (r : ℕ) (d : Bool) : BI.Storable (upEmb : UEmb _ 𝕄) ((Rd I).payload g r d) := by
  show BI.Storable upEmb (payOf I g.1.1 g.2 d)
  generalize g.1.1 = c
  cases g.2 with
  | reg s => unfold payOf; (repeat' split) <;> infer_instance
  | dma s => unfold payOf; (repeat' split) <;> infer_instance

/-! ## The schedule at the cells -/

section At
variable (c : Dev nD)

theorem dmaAt_val (n : ℕ) (h : n < 68) : (dmaAt n).val = n := Nat.mod_eq_of_lt h

theorem duties_bar : (Rd I).duties (barG c) 0 = {false, true} := rfl
theorem duties_cr (r : ℕ) (hr : r < 14) : (Rd I).duties (crG c) r = {false} := by
  show (if r < 14 then ({false} : Finset Bool) else ∅) = _; rw [if_pos hr]
theorem duties_dma (n : ℕ) (h8 : 8 ≤ n) (h : n < 68) : (Rd I).duties ((c : Thread nD τ), .dma (dmaAt n)) 0 = {false} := by
  show (if 8 ≤ (dmaAt n).val ∧ 0 = 0 then ({false} : Finset Bool) else ∅) = _
  rw [dmaAt_val n h, if_pos ⟨h8, rfl⟩]
theorem duties_dma_later (sm : DmaSem sig) : ∀ r, 1 ≤ r → (Rd I).duties ((c : Thread nD τ), .dma sm) r = ∅ := by
  intro r hr
  show (if 8 ≤ sm.val ∧ r = 0 then ({false} : Finset Bool) else ∅) = _
  rw [if_neg (fun h => by omega)]
theorem duties_bar_later : ∀ r, 1 ≤ r → (Rd I).duties (barG c) r = ∅ := by
  intro r hr
  show (if r = 0 then ({false, true} : Finset Bool) else ∅) = _
  rw [if_neg (fun h => by omega)]
theorem duties_cr_later : ∀ r, 14 ≤ r → (Rd I).duties (crG c) r = ∅ := by
  intro r hr
  show (if r < 14 then ({false} : Finset Bool) else ∅) = _
  rw [if_neg (fun h => by omega)]

theorem expect_bar : (Rd I).expect (barG c) 0 = 2 := by
  unfold Schedule.expect Schedule.amountOf; rw [duties_bar]; rfl
theorem expect_cr (r : ℕ) (hr : r < 14) : (Rd I).expect (crG c) r = 1 := by
  unfold Schedule.expect Schedule.amountOf; rw [duties_cr I c r hr]; rfl
theorem expect_dma (n : ℕ) (h8 : 8 ≤ n) (h : n < 68) : (Rd I).expect ((c : Thread nD τ), .dma (dmaAt n)) 0 = N := by
  unfold Schedule.expect Schedule.amountOf; rw [duties_dma I c n h8 h, Finset.sum_singleton]; rfl

theorem pay_agS (i : ℕ) (hi : i < 15) (r : ℕ) (d : Bool) : (Rd I).payload (agS c i) r d = agSPay I c i := by
  show (if (dmaAt (8 + i)).val < 23 then agSPay I c ((dmaAt (8 + i)).val - 8) else _) = _
  rw [dmaAt_val _ (by omega), if_pos (by omega), Nat.add_sub_cancel_left]
theorem pay_agR (i : ℕ) (hi : i < 15) (r : ℕ) (d : Bool) : (Rd I).payload (agR c i) r d = agRPay I c i := by
  show (if (dmaAt (23 + i)).val < 23 then _ else if (dmaAt (23 + i)).val < 38 then agRPay I c ((dmaAt (23 + i)).val - 23) else _) = _
  rw [dmaAt_val _ (by omega), if_neg (by omega), if_pos (by omega), Nat.add_sub_cancel_left]
theorem pay_rsS (i : ℕ) (hi : i < 15) (r : ℕ) (d : Bool) : (Rd I).payload (rsS c i) r d = rsSPay I c i := by
  show (if (dmaAt (38 + i)).val < 23 then _ else if (dmaAt (38 + i)).val < 38 then _
    else if (dmaAt (38 + i)).val < 53 then rsSPay I c ((dmaAt (38 + i)).val - 38) else _) = _
  rw [dmaAt_val _ (by omega), if_neg (by omega), if_neg (by omega), if_pos (by omega), Nat.add_sub_cancel_left]
theorem pay_rsR (i : ℕ) (hi : i < 15) (r : ℕ) (d : Bool) : (Rd I).payload (rsR c i) r d = rsRPay I c i := by
  show (if (dmaAt (53 + i)).val < 23 then _ else if (dmaAt (53 + i)).val < 38 then _
    else if (dmaAt (53 + i)).val < 53 then _ else rsRPay I c ((dmaAt (53 + i)).val - 53)) = _
  rw [dmaAt_val _ (by omega), if_neg (by omega), if_neg (by omega), if_neg (by omega), Nat.add_sub_cancel_left]

theorem rest_bar : bigSep ((Rd I).duties (barG c) 0 \ ∅) (fun d => (Rd I).payload (barG c) 0 d) = iprop(barR (F := F) c ∗ barL (F := F) c) := by
  rw [Finset.sdiff_empty, duties_bar, bigSep_insert (by decide), bigSep_singleton]; rfl
theorem rest_cr (r : ℕ) (hr : r < 14) : bigSep ((Rd I).duties (crG c) r \ ∅) (fun d => (Rd I).payload (crG c) r d) = crPay (F := F) c := by
  rw [Finset.sdiff_empty, duties_cr I c r hr, bigSep_singleton]; rfl
theorem rest_agS (i : ℕ) (hi : i < 15) : bigSep ((Rd I).duties (agS c i) 0 \ ∅) (fun d => (Rd I).payload (agS c i) 0 d) = agSPay I c i := by
  rw [Finset.sdiff_empty, duties_dma I c _ (by omega) (by omega), bigSep_singleton, pay_agS I c i hi]
theorem rest_agR (i : ℕ) (hi : i < 15) : bigSep ((Rd I).duties (agR c i) 0 \ ∅) (fun d => (Rd I).payload (agR c i) 0 d) = agRPay I c i := by
  rw [Finset.sdiff_empty, duties_dma I c _ (by omega) (by omega), bigSep_singleton, pay_agR I c i hi]
theorem rest_rsS (i : ℕ) (hi : i < 15) : bigSep ((Rd I).duties (rsS c i) 0 \ ∅) (fun d => (Rd I).payload (rsS c i) 0 d) = rsSPay I c i := by
  rw [Finset.sdiff_empty, duties_dma I c _ (by omega) (by omega), bigSep_singleton, pay_rsS I c i hi]
theorem rest_rsR (i : ℕ) (hi : i < 15) : bigSep ((Rd I).duties (rsR c i) 0 \ ∅) (fun d => (Rd I).payload (rsR c i) 0 d) = rsRPay I c i := by
  rw [Finset.sdiff_empty, duties_dma I c _ (by omega) (by omega), bigSep_singleton, pay_rsR I c i hi]

end At

/-! ## What a device owes, and the levels -/

/-- The `k`-th thing device `c` pays to another device: the cell, the index, the amount. -/
def due (c : Dev nD) (k : ℕ) : GSem nD τ sig × ℕ × ℕ :=
  if k = 0 then (barG (prv c), 0, 1)
  else if k = 1 then (barG (nxt c), 0, 1)
  else if k < 17 then (if k % 2 = 0 then (agR (nxt c) ((k - 2) / 2), 0, N) else (agR (prv c) (8 + (k - 2) / 2), 0, N))
  else if k % 2 = 1 then (rsR (nxt c) ((k - 17) / 2), 0, N) else (crG (prv c), (k - 17) / 2, 1)

def dueT (c : Dev nD) (k : ℕ) : CellTallies nD τ sig ℕ := tallyAt (due c k).1 (due c k).2.1 (due c k).2.2

/-- What device `c` still owes before its `n`-th payment. -/
def owed (c : Dev nD) (n : ℕ) : CellTallies nD τ sig ℕ := ∑ k ∈ Finset.Ico n 46, dueT c k

theorem Ico_pop {n m : ℕ} (h : n < m) : Finset.Ico n m = insert n (Finset.Ico (n + 1) m) := by
  ext k; simp only [Finset.mem_insert, Finset.mem_Ico]; omega
theorem owed_step (c : Dev nD) (n : ℕ) (h : n < 46) : owed c n = owed c (n + 1) + dueT c n := by
  unfold owed; rw [Ico_pop h, Finset.sum_insert (by simp), add_comm]
theorem owed_end (c : Dev nD) : owed c 46 = 0 := by unfold owed; rw [Finset.Ico_self, Finset.sum_empty]

theorem dueT_bar0 (c : Dev nD) : dueT c 0 = tallyAt (barG (prv c)) 0 1 := rfl
theorem dueT_bar1 (c : Dev nD) : dueT c 1 = tallyAt (barG (nxt c)) 0 1 := rfl
theorem dueT_r (c : Dev nD) (h : ℕ) (hh : h < 8) : dueT c (2 + 2 * h) = tallyAt (agR (nxt c) h) 0 N := by
  unfold dueT due
  rw [if_neg (by omega), if_neg (by omega), if_pos (by omega), if_pos (by omega), show (2 + 2 * h - 2) / 2 = h by omega]
theorem dueT_l (c : Dev nD) (h : ℕ) (hh : h < 7) : dueT c (3 + 2 * h) = tallyAt (agR (prv c) (8 + h)) 0 N := by
  unfold dueT due
  rw [if_neg (by omega), if_neg (by omega), if_pos (by omega), if_neg (by omega), show (3 + 2 * h - 2) / 2 = h by omega]
theorem dueT_rs (c : Dev nD) (s : ℕ) : dueT c (17 + 2 * s) = tallyAt (rsR (nxt c) s) 0 N := by
  unfold dueT due
  rw [if_neg (by omega), if_neg (by omega), if_neg (by omega), if_pos (by omega), show (17 + 2 * s - 17) / 2 = s by omega]
theorem dueT_cr (c : Dev nD) (s : ℕ) : dueT c (18 + 2 * s) = tallyAt (crG (prv c)) s 1 := by
  unfold dueT due
  rw [if_neg (by omega), if_neg (by omega), if_neg (by omega), if_neg (by omega), show (18 + 2 * s - 17) / 2 = s by omega]

/-- The indices in use: the TensorCores' first fifteen. -/
def L (g : GSem nD τ sig) : Finset ℕ := if g.1.2 = .tc then Finset.range 15 else ∅
def lvOf : SemLoc sig → ℕ → ℕ
  | .reg s, ι => if s.val = 1 then 2 else 19 + 2 * ι
  | .dma s, _ => if s.val < 23 then 0 else if s.val < 31 then 3 + 2 * (s.val - 23) else if s.val < 38 then 4 + 2 * (s.val - 31)
      else if s.val < 53 then 0 else 18 + 2 * (s.val - 53)
def lv (g : GSem nD τ sig) (ι : ℕ) : ℕ := lvOf g.2 ι

theorem L_tc (c : Dev nD) (sm : SemLoc sig) : L ((c : Thread nD τ), sm) = Finset.range 15 := if_pos rfl
theorem L_of_ne (g : GSem nD τ sig) (h : g.1.2 ≠ .tc) : L g = ∅ := if_neg h

theorem lv_agR (c : Dev nD) (i : ℕ) (hi : i < 15) (ι : ℕ) : lv (agR c i) ι = if i < 8 then 3 + 2 * i else 4 + 2 * (i - 8) := by
  show (if (dmaAt (23 + i)).val < 23 then 0 else if (dmaAt (23 + i)).val < 31 then 3 + 2 * ((dmaAt (23 + i)).val - 23) else
    if (dmaAt (23 + i)).val < 38 then 4 + 2 * ((dmaAt (23 + i)).val - 31) else _) = _
  rw [dmaAt_val _ (by omega), if_neg (by omega)]
  by_cases h : i < 8
  · rw [if_pos (by omega), if_pos h]; omega
  · rw [if_neg (by omega), if_pos (by omega), if_neg h]; omega
theorem lv_rsR (c : Dev nD) (s : ℕ) (hs : s < 15) (ι : ℕ) : lv (rsR c s) ι = 18 + 2 * s := by
  show (if (dmaAt (53 + s)).val < 23 then 0 else if (dmaAt (53 + s)).val < 31 then _ else
    if (dmaAt (53 + s)).val < 38 then _ else if (dmaAt (53 + s)).val < 53 then _ else 18 + 2 * ((dmaAt (53 + s)).val - 53)) = _
  rw [dmaAt_val _ (by omega), if_neg (by omega), if_neg (by omega), if_neg (by omega), if_neg (by omega)]; omega
theorem lv_send (c : Dev nD) (n : ℕ) (h : n < 23 ∨ 38 ≤ n ∧ n < 53) (ι : ℕ) : lv ((c : Thread nD τ), .dma (dmaAt n)) ι = 0 := by
  show (if (dmaAt n).val < 23 then 0 else if (dmaAt n).val < 31 then 3 + 2 * ((dmaAt n).val - 23) else if (dmaAt n).val < 38 then 4 + 2 * ((dmaAt n).val - 31)
      else if (dmaAt n).val < 53 then 0 else 18 + 2 * ((dmaAt n).val - 53)) = _
  rw [dmaAt_val n (by omega)]
  rcases h with h | h
  · rw [if_pos h]
  · rw [if_neg (by omega), if_neg (by omega), if_neg (by omega), if_pos h.2]

/-- Every payment is due at a level above its place in the order, at an index in use. -/
theorem due_level (c : Dev nD) (k : ℕ) (hk : k < 46) : (due c k).2.1 ∈ L (due c k).1 ∧ k < lv (due c k).1 (due c k).2.1 := by
  unfold due
  split
  · refine ⟨by rw [L_tc]; show 0 ∈ Finset.range 15; decide, ?_⟩; subst k; show _ < 2; decide
  split
  · refine ⟨by rw [L_tc]; show 0 ∈ Finset.range 15; decide, ?_⟩; subst k; show _ < 2; decide
  split
  · split
    · refine ⟨by rw [L_tc]; show 0 ∈ Finset.range 15; decide, ?_⟩; dsimp only; rw [lv_agR _ _ (by omega), if_pos (by omega)]; omega
    · refine ⟨by rw [L_tc]; show 0 ∈ Finset.range 15; decide, ?_⟩; dsimp only; rw [lv_agR _ _ (by omega), if_neg (by omega)]; omega
  split
  · refine ⟨by rw [L_tc]; show 0 ∈ Finset.range 15; decide, ?_⟩; dsimp only; rw [lv_rsR _ _ (by omega)]; omega
  · refine ⟨by rw [L_tc, Finset.mem_range]; dsimp only; omega, ?_⟩
    show k < 19 + 2 * ((k - 17) / 2); omega

theorem owed_pos (c : Dev nD) (n : ℕ) (g : GSem nD τ sig) (u : ℕ) (h : 0 < owed c n g u) :
    ∃ k, n ≤ k ∧ k < 46 ∧ (due c k).1 = g ∧ (due c k).2.1 = u := by
  by_contra hn
  have h0 : owed c n g u = 0 := by
    unfold owed
    rw [Finset.sum_apply, Finsupp.finset_sum_apply]
    refine Finset.sum_eq_zero fun k hk => ?_
    rw [Finset.mem_Ico] at hk
    unfold dueT; rw [tallyAt_apply]
    exact if_neg fun e => hn ⟨k, hk.1, hk.2, e.1.symm, e.2.symm⟩
  omega

/-- What is known of the levels. -/
@[irreducible] def levs : sProp 𝕄 := levAts L lv
instance levs_persistent : BI.Persistent (levs (F := F)) := by unfold levs; infer_instance

/-- A wait below the level of everything still owed. -/
theorem mayWait (c : Dev nD) (sm : SemLoc sig) (ι : ℕ) (n : ℕ) (hι : ι < 15) (h : lv ((c : Thread nD τ), sm) ι ≤ n) :
    levs (F := F) ⊢ MayWait (c : Thread nD τ) sm ι (owed c n) := by
  unfold levs
  exact MayOwe.of_cut (L := L) (lev := lv) n
    (fun p hp => by rw [Finset.mem_singleton.mp hp, L_tc]; exact Finset.mem_range.mpr hι)
    (fun g u hg => by
      obtain ⟨k, _, hk, rfl, rfl⟩ := owed_pos c n g u hg
      exact (due_level c k hk).1)
    (fun p hp => by rw [Finset.mem_singleton.mp hp]; exact h)
    (fun g u hg => by
      obtain ⟨k, hnk, hk, rfl, rfl⟩ := owed_pos c n g u hg
      exact lt_of_le_of_lt hnk (due_level c k hk).2)

end Cert.KernelIdeal.Ring
-- ==== Proof.KernelIdeal.State.lean ====
/-
  What a device holds between two steps of the ring: the counters, tokens and blocks of the two directions of
  the gather and of the second phase, each as a function of the step.
-/
module

public import Idealize.SL.BI.BigOpNat
public import proofs.«01_k».proof.Proof.KernelIdeal.Sched

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F)

abbrev 𝒱₀ : Variants := Variants.none

/-- The semaphores of the protocol: the greeting, the credit, and the copies'. -/
def cellAt (j : Fin 62) : SemLoc sig := if j.val = 0 then .reg 1 else if j.val = 1 then .reg 0 else .dma (dmaAt (6 + j.val))
def cellOf' (p : Dev nD × Fin 62) : GSem nD τ sig := ((p.1 : Thread nD τ), cellAt p.2)

/-- Every cell's invariant, at the names `K`. -/
def invAll (K : GSem nD τ sig → ℕ) : sProp 𝕄 :=
  bigSep Finset.univ fun p : Dev nD × Fin 62 => cellInv ER (Rd I) (K (cellOf' p)) (cellOf' p)

instance invAll_persistent (K : GSem nD τ sig → ℕ) : BI.Persistent (invAll I K) := by unfold invAll; infer_instance

def ctx (K : GSem nD τ sig → ℕ) : sProp 𝕄 := iprop(invAll I K ∗ levs (F := F))
instance ctx_persistent (K : GSem nD τ sig → ℕ) : BI.Persistent (ctx I K) := by unfold ctx; infer_instance

theorem ctx_lev (K : GSem nD τ sig → ℕ) : ctx I K ⊢ levs (F := F) := by
  unfold ctx; iintro ⟨-, #H⟩; iexact H
theorem ctx_at (K : GSem nD τ sig → ℕ) (p : Dev nD × Fin 62) : ctx I K ⊢ cellInv ER (Rd I) (K (cellOf' p)) (cellOf' p) := by
  unfold ctx invAll
  exact (BI.Entails.trans BI.sep_and and_elimL).trans (bigSep_elim (Finset.mem_univ p))
theorem ctx_bar (K : GSem nD τ sig → ℕ) (c : Dev nD) : ctx I K ⊢ cellInv ER (Rd I) (K (barG c)) (barG c) := ctx_at I K (c, 0)
theorem ctx_cr (K : GSem nD τ sig → ℕ) (c : Dev nD) : ctx I K ⊢ cellInv ER (Rd I) (K (crG c)) (crG c) := ctx_at I K (c, 1)
theorem ctx_dma (K : GSem nD τ sig → ℕ) (c : Dev nD) (n : ℕ) (h8 : 8 ≤ n) (h : n < 68) :
    ctx I K ⊢ cellInv ER (Rd I) (K ((c : Thread nD τ), .dma (dmaAt n))) ((c : Thread nD τ), .dma (dmaAt n)) := by
  have e : cellOf' (c, ⟨n - 6, by omega⟩) = ((c : Thread nD τ), .dma (dmaAt n)) := by
    unfold cellOf' cellAt
    dsimp only
    rw [if_neg (by omega), if_neg (by omega), show 6 + (n - 6) = n by omega]
  have h := ctx_at I K (c, ⟨n - 6, by omega⟩)
  rw [e] at h; exact h

/-- Device `c` before its `n`-th payment. -/
def ow (c : Dev nD) (n : ℕ) : sProp 𝕄 := iprop(∃ W, owes (c : Thread nD τ) (owed c n) W)

/-! ## The gather, to the right -/

/-- What the `i`-th copy to the right still needs. -/
def tokR (c : Dev nD) (i : ℕ) : sProp 𝕄 :=
  iprop(dutyTok ER (agR (nxt c) i) 0 false ∗ reached ER (agR (nxt c) i) 0 ∗ dutyTok ER (agS c i) 0 false ∗ reached ER (agS c i) 0
    ∗ atPos ER (agS c i) 0 ∅ 0 ∗ atPos ER (agR c i) 0 ∅ 0 ∗ cred (tallyAt (agR c i) 0 N) ∗ xfAny (F := F) (nxt c) (15 - i))
def doneR (c : Dev nD) (i : ℕ) : sProp 𝕄 := iprop(rPt I c i ∗ semVal (agS c i) 0 ∗ semVal (agR c i) 0)

def todoR (c : Dev nD) (h : ℕ) : sProp 𝕄 := bigSep (Finset.Ico h 8) (tokR (F := F) c)
def pastR (c : Dev nD) (h : ℕ) : sProp 𝕄 := bigSep (Finset.range h) (doneR I c)

/-- Before the `h`-th send to the right; after it; after its own wait for the send. -/
def R0 (c : Dev nD) (h : ℕ) : sProp 𝕄 := iprop(pastR I c h ∗ rPt I c h ∗ todoR (F := F) c h)
def R1 (c : Dev nD) (h : ℕ) : sProp 𝕄 :=
  iprop(pastR I c h ∗ cred (tallyAt (agS c h) 0 N) ∗ atPos ER (agS c h) 0 ∅ 0 ∗ atPos ER (agR c h) 0 ∅ 0 ∗ cred (tallyAt (agR c h) 0 N) ∗ todoR (F := F) c (h + 1))
def R2 (c : Dev nD) (h : ℕ) : sProp 𝕄 :=
  iprop(pastR I c h ∗ rPt I c h ∗ semVal (agS c h) 0 ∗ atPos ER (agR c h) 0 ∅ 0 ∗ cred (tallyAt (agR c h) 0 N) ∗ todoR (F := F) c (h + 1))

/-! ## The gather, to the left -/

def tokL (c : Dev nD) (i : ℕ) : sProp 𝕄 :=
  iprop(dutyTok ER (agR (prv c) (8 + i)) 0 false ∗ reached ER (agR (prv c) (8 + i)) 0 ∗ dutyTok ER (agS c (8 + i)) 0 false ∗ reached ER (agS c (8 + i)) 0
    ∗ atPos ER (agS c (8 + i)) 0 ∅ 0 ∗ atPos ER (agR c (8 + i)) 0 ∅ 0 ∗ cred (tallyAt (agR c (8 + i)) 0 N) ∗ xfAny (F := F) (prv c) (i + 1))
def doneL (c : Dev nD) (i : ℕ) : sProp 𝕄 := iprop(lPt I c i ∗ semVal (agS c (8 + i)) 0 ∗ semVal (agR c (8 + i)) 0)

def todoL (c : Dev nD) (h : ℕ) : sProp 𝕄 := bigSep (Finset.Ico h 7) (tokL (F := F) c)
def pastL (c : Dev nD) (h : ℕ) : sProp 𝕄 := bigSep (Finset.range h) (doneL I c)

def L0 (c : Dev nD) (h : ℕ) : sProp 𝕄 := iprop(pastL I c h ∗ lPt I c h ∗ todoL (F := F) c h)
def L1 (c : Dev nD) (h : ℕ) : sProp 𝕄 :=
  iprop(pastL I c h ∗ cred (tallyAt (agS c (8 + h)) 0 N) ∗ atPos ER (agS c (8 + h)) 0 ∅ 0 ∗ atPos ER (agR c (8 + h)) 0 ∅ 0 ∗ cred (tallyAt (agR c (8 + h)) 0 N) ∗ todoL (F := F) c (h + 1))
def L2 (c : Dev nD) (h : ℕ) : sProp 𝕄 :=
  iprop(pastL I c h ∗ lPt I c h ∗ semVal (agS c (8 + h)) 0 ∗ atPos ER (agR c (8 + h)) 0 ∅ 0 ∗ cred (tallyAt (agR c (8 + h)) 0 N) ∗ todoL (F := F) c (h + 1))

/-! ## The second phase -/

def tokS (c : Dev nD) (s : ℕ) : sProp 𝕄 :=
  iprop(dutyTok ER (rsR (nxt c) s) 0 false ∗ reached ER (rsR (nxt c) s) 0 ∗ dutyTok ER (rsS c s) 0 false ∗ reached ER (rsS c s) 0
    ∗ atPos ER (rsS c s) 0 ∅ 0 ∗ atPos ER (rsR c s) 0 ∅ 0 ∗ cred (tallyAt (rsR c s) 0 N))
def tokC (c : Dev nD) (s : ℕ) : sProp 𝕄 := iprop(dutyTok ER (crG (prv c)) s false ∗ cred (tallyAt (crG c) s 1))
def doneS (c : Dev nD) (s : ℕ) : sProp 𝕄 := iprop(semVal (rsS c s) 0 ∗ semVal (rsR c s) 0 ∗ accAny (F := F) c (15 - s))

def todoS (c : Dev nD) (s : ℕ) : sProp 𝕄 := bigSep (Finset.Ico s 15) (tokS (F := F) c)
def todoC (c : Dev nD) (s : ℕ) : sProp 𝕄 := bigSep (Finset.Ico s 14) (tokC (F := F) c)
def pastS (c : Dev nD) (s : ℕ) : sProp 𝕄 := bigSep (Finset.range s) (doneS (F := F) c)
/-- The slots not yet written. -/
def accTodo (c : Dev nD) (n : ℕ) : sProp 𝕄 := bigSep (Finset.range n) (accAny (F := F) c)

/-- Before the first block is stored. -/
def SZ (c : Dev nD) : sProp 𝕄 :=
  iprop(accTodo (F := F) c 16 ∗ rsAny (F := F) (nxt c) ∗ atPos ER (crG c) 0 ∅ 0 ∗ reached ER (crG c) 0 ∗ todoS (F := F) c 0 ∗ todoC (F := F) c 0)
/-- Before the `s`-th send. -/
def SA (c : Dev nD) (s : ℕ) : sProp 𝕄 :=
  iprop(pastS (F := F) c s ∗ accPt c (15 - s) fullShare (av I s c) ∗ accTodo (F := F) c (15 - s) ∗ rsAny (F := F) (nxt c)
    ∗ atPos ER (crG c) s ∅ 0 ∗ reached ER (crG c) s ∗ todoS (F := F) c s ∗ todoC (F := F) c s)
/-- After it. -/
def SB (c : Dev nD) (s : ℕ) : sProp 𝕄 :=
  iprop(pastS (F := F) c s ∗ accTodo (F := F) c (15 - s) ∗ cred (tallyAt (rsS c s) 0 N) ∗ atPos ER (rsS c s) 0 ∅ 0
    ∗ atPos ER (rsR c s) 0 ∅ 0 ∗ cred (tallyAt (rsR c s) 0 N)
    ∗ atPos ER (crG c) s ∅ 0 ∗ todoS (F := F) c (s + 1) ∗ todoC (F := F) c s)
/-- With the next chunk stored. -/
def SC (c : Dev nD) (s : ℕ) : sProp 𝕄 :=
  iprop(pastS (F := F) c s ∗ accPt c (14 - s) fullShare (chunk I c (14 - s)) ∗ accTodo (F := F) c (14 - s) ∗ cred (tallyAt (rsS c s) 0 N) ∗ atPos ER (rsS c s) 0 ∅ 0
    ∗ atPos ER (rsR c s) 0 ∅ 0 ∗ cred (tallyAt (rsR c s) 0 N)
    ∗ atPos ER (crG c) s ∅ 0 ∗ todoS (F := F) c (s + 1) ∗ todoC (F := F) c s)
/-- The own send waited for. -/
def SD (c : Dev nD) (s : ℕ) : sProp 𝕄 :=
  iprop(pastS (F := F) c s ∗ accPt c (14 - s) fullShare (chunk I c (14 - s)) ∗ accTodo (F := F) c (14 - s) ∗ semVal (rsS c s) 0 ∗ accAny (F := F) c (15 - s)
    ∗ atPos ER (rsR c s) 0 ∅ 0 ∗ cred (tallyAt (rsR c s) 0 N)
    ∗ atPos ER (crG c) s ∅ 0 ∗ todoS (F := F) c (s + 1) ∗ todoC (F := F) c s)
/-- The left neighbour's sum received; the slot holds `g`. -/
def SE (c : Dev nD) (s : ℕ) (g : FVec F S2x128x512 .bf16) : sProp 𝕄 :=
  iprop(pastS (F := F) c (s + 1) ∗ accPt c (14 - s) fullShare g ∗ accTodo (F := F) c (14 - s) ∗ rsPt c (av I s (prv c)) ∗ reached ER (crG (prv c)) s
    ∗ atPos ER (crG c) s ∅ 0 ∗ todoS (F := F) c (s + 1) ∗ todoC (F := F) c s)
/-- The receive buffer given back to the left neighbour. -/
def SG (c : Dev nD) (s : ℕ) : sProp 𝕄 :=
  iprop(pastS (F := F) c (s + 1) ∗ accPt c (14 - s) fullShare (av I (s + 1) c) ∗ accTodo (F := F) c (14 - s) ∗ cred (tallyAt (crG c) s 1)
    ∗ atPos ER (crG c) s ∅ 0 ∗ todoS (F := F) c (s + 1) ∗ todoC (F := F) c (s + 1))

/-- A device's program from here on. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

end Cert.KernelIdeal.Ring
-- ==== Proof.KernelIdeal.OpsGather.lean ====
/-
  The steps of the gather: a send to either side, the wait for it, and the wait for what arrives.
-/
module

public import Idealize.SL.BI.BigOpNat
public import proofs.«01_k».proof.Proof.KernelIdeal.State

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F)

/-! ## The gather, to the right -/

theorem payR_src (c : Dev nD) (h : ℕ) (hh : h < 8) (hk : (16 - h) % 16 < 16) :
    ((xfSlot ((16 - h) % 16) hk).view.loc (c : Thread nD τ) ↦[(xfSlot ((16 - h) % 16) hk).view.set]{rSh h} canon (xAt I c ((16 - h) % 16))) = rPt I c h := by
  unfold rPt xfPt; rw [xfSlot_set]
theorem payR_S0 (c : Dev nD) (h : ℕ) (hh : h < 8) : agSPay I c (h) = rPt I c h := by unfold agSPay; rw [if_pos hh]
theorem payR_R0 (c : Dev nD) (h : ℕ) (hh : h < 8) : agRPay I c (h) = rPt I c (h + 1) := by unfold agRPay; rw [if_pos hh]
theorem payR_S (c : Dev nD) (h : ℕ) (hh : h < 8) (r : ℕ) (d : Bool) : (Rd I).payload (agS c (h)) r d = rPt I c h := by
  rw [pay_agS I c (h) (by omega), payR_S0 I c h hh]
theorem payR_R (c : Dev nD) (h : ℕ) (hh : h < 8) (r : ℕ) (d : Bool) : (Rd I).payload (agR c (h)) r d = rPt I c (h + 1) := by
  rw [pay_agR I c (h) (by omega), payR_R0 I c h hh]

/-- Sending block `h` to the right. -/
theorem op_sendR {X Y : sProp 𝕄} {α : Type} {Q : α → sProp 𝕄} (K : GSem nD τ sig → ℕ) (c : Dev nD) (h : ℕ) (hh : h < 8) (n : ℕ) (hn : n = 2 + 2 * h)
    {c' : Thread nD τ} {src : Memref sig .tc .vmem S2x128x512 .bf16} {dst : Memref sig c'.2.kind .vmem S2x128x512 .bf16} {sS sR : DmaSem sig}
    {h0 h1 h2 h3} {k : PUnit → Prog (TpuEff nD τ sig (Elt F) Λ₀ .tc) α}
    (hk : (16 - h) % 16 < 16) (hk' : 15 - h < 16) (ec : c' = (nxt c : Thread nD τ)) (es : src = xfSlot ((16 - h) % 16) hk) (ed : HEq dst (xfSlot (15 - h) hk'))
    (eS : sS = dmaAt (8 + (h))) (eR : sR = dmaAt (23 + (h)))
    (H : iprop(X ∗ (R1 I c h ∗ Y) ∗ ow (F := F) c (n + 1) ∗ ctx I K) ⊢ WP c (k ⟨⟩) Q) :
    iprop(X ∗ (R0 I c h ∗ Y) ∗ ow (F := F) c n ∗ ctx I K)
      ⊢ WP c (.op (.enqueueDma src (.remote c' dst (.dma sS) h0) (.dma sR) h1 h2 h3) k) Q := by
  subst ec es eS eR
  obtain rfl := eq_of_heq ed
  unfold R0 todoR ow
  rw [bigSep_Ico_succ_bot hh]
  iintro ⟨HX, ⟨⟨HP, Hsrc, HT⟩, HY⟩, ⟨%W, HO⟩, #Hctx⟩
  ihave HT := (Entails.of_eq (by unfold tokR xfAny; rfl)) $$ HT
  icases HT with ⟨⟨Ht, #Hr, HtS, #HrS, HaS, HaR, HcR, ⟨%g, Hd⟩⟩, HT⟩
  ihave Hd := (Entails.of_eq (show xfPt (nxt c) (15 - h) fullShare g
      = ((xfSlot (15 - h) hk').view.loc (nxt c : Thread nD τ) ↦[(xfSlot (15 - h) hk').view.set]{fullShare} canon g : sProp 𝕄) from by
        unfold xfPt; rw [xfSlot_set])) $$ Hd
  ihave Hsrc := (Entails.of_eq (payR_src I c h hh hk).symm) $$ Hsrc
  iapply (Rounds.wp_send_pointsTo 𝒱₀ ER (Rd I) (c : Thread nD τ) none (c' := (nxt c : Thread nD τ)) (src := xfSlot ((16 - h) % 16) hk) (dst := xfSlot (15 - h) hk')
      (sS := .dma (dmaAt (8 + (h)))) (sem := .dma (dmaAt (23 + (h)))) (q := rSh h) (fs := canon (xAt I c ((16 - h) % 16))) (κ₁ := K (agS c (h))) (κ₂ := K (agR (nxt c) (h)))
      (r₁ := 0) (r₂ := 0) (d₁ := false) (d₂ := false) (fd := canon g)
      (by rw [duties_dma I c _ (by omega) (by omega)]; exact Finset.mem_singleton_self _)
      (by rw [duties_dma I (nxt c) _ (by omega) (by omega)]; exact Finset.mem_singleton_self _)
      0 0 N rfl rfl rfl (O₀ := owed c n) (owed c (n + 1)) (by rw [owed_step c n (by omega)]; subst hn; rw [dueT_r c h hh]) (W := W)
      (by rw [payR_S I c h hh, payR_src I c h hh hk])
      (by
        rw [payR_R I (nxt c) h hh]
        rw [xfSlot_set, xfPt_of (nxt c) _ hk', slotOf_xfWrite, xfSlot_read, slotOf_canon]
        unfold rPt xAt
        rw [show (16 - (h + 1)) % 16 = 15 - h by omega, show rSh (h + 1) = fullShare from rfl, show rot (nxt c) (15 - h) = rot c ((16 - h) % 16) from by rw [rot_nxt]; exact rot_mod c _ _ (by omega)])) $$ [Hsrc Hd HO Ht HtS]
  · isplitr; · iapply (ctx_dma I K c _ (by omega) (by omega)); iexact Hctx
    isplitr; · iapply (ctx_dma I K (nxt c) _ (by omega) (by omega)); iexact Hctx
    isplitl [Hsrc]; · iexact Hsrc
    isplitl [Hd]; · iexact Hd
    isplitl [HO]; · iexact HO
    isplitl [HtS]; · iexact HtS
    isplitr; · iexact HrS
    isplitl [Ht]; · iexact Ht
    iexact Hr
  iintro ⟨HcS, HO⟩
  iapply H
  isplitl [HX]; · iexact HX
  isplitl [HY HP HcS HaS HaR HcR HT]
  · unfold R1 todoR
    isplitr [HY]
    rotate_left
    · iexact HY
    isplitl [HP]; · iexact HP
    isplitl [HcS]; · iexact HcS
    isplitl [HaS]; · iexact HaS
    isplitl [HaR]; · iexact HaR
    isplitl [HcR]; · iexact HcR
    iexact HT
  isplitl [HO]; · unfold ow; iexists W; iexact HO
  iexact Hctx

/-- Waiting for the own send. -/
theorem op_waitSR {X Y : sProp 𝕄} {α : Type} {Q : α → sProp 𝕄} (K : GSem nD τ sig → ℕ) (c : Dev nD) (h : ℕ) (hh : h < 8) (n : ℕ)
    {src dst : Memref sig .tc .vmem S2x128x512 .bf16} {sS : DmaSem sig} {h0 h1} {k : PUnit → Prog (TpuEff nD τ sig (Elt F) Λ₀ .tc) α}
    (eS : sS = dmaAt (8 + (h))) (eN : dst.view.dmaCredit = N)
    (H : iprop(X ∗ (R2 I c h ∗ Y) ∗ ow (F := F) c n ∗ ctx I K) ⊢ WP c (k ⟨⟩) Q) :
    iprop(X ∗ (R1 I c h ∗ Y) ∗ ow (F := F) c n ∗ ctx I K) ⊢ WP c (.op (.waitDma2 sS src dst h0 h1) k) Q := by
  subst eS
  unfold R1 ow
  iintro ⟨HX, ⟨⟨HP, HcS, HaS, HaR, HcR, HT⟩, HY⟩, ⟨%W, HO⟩, #Hctx⟩
  iapply (Rounds.wp_wait_rest_token 𝒱₀ ER (Rd I) (c : Thread nD τ) none (κ := K (agS c (h)))
      (wpE_waitDma2_eq (src := src) (dst := dst) 𝒱₀ (c : Thread nD τ) none Set.univ) (Set.mem_univ _) 0 (O := owed c n) (W := W) (R := 0) (m := 0) (T := ∅)
      (by rw [expect_dma I c _ (by omega) (by omega), Nat.zero_add])) $$ [HcS HO HaS]
  · isplitr; · iapply (ctx_dma I K c _ (by omega) (by omega)); iexact Hctx
    isplitl [HcS]; · rw [eN]; iexact HcS
    isplitl [HO]; · iexact HO
    isplitr
    · iapply ((ctx_lev I K).trans (mayWait c _ 0 n (by decide) (by rw [lv_send c _ (Or.inl (by omega))]; exact Nat.zero_le _))); iexact Hctx
    iexact HaS
  iintro ⟨HO, HaS, -, Hpay⟩
  ihave Hsrc := (Entails.of_eq ((rest_agS I c (h) (by omega)).trans (payR_S0 I c h hh))) $$ Hpay
  imod (Rounds.cell_close ER (Rd I) (Set.mem_univ (K (agS c (h)))) id (duties_dma_later I c _)) $$ [HaS] with HvS
  · isplitr; · iapply (ctx_dma I K c _ (by omega) (by omega)); iexact Hctx
    iexact HaS
  iapply H
  isplitl [HX]; · iexact HX
  isplitl [HY HP Hsrc HvS HaR HcR HT]
  · unfold R2
    isplitr [HY]
    rotate_left
    · iexact HY
    isplitl [HP]; · iexact HP
    isplitl [Hsrc]; · iexact Hsrc
    isplitl [HvS]; · iexact HvS
    isplitl [HaR]; · iexact HaR
    isplitl [HcR]; · iexact HcR
    iexact HT
  isplitl [HO]; · unfold ow; iexists _; iexact HO
  iexact Hctx

/-- Waiting for the block that comes from the left. -/
theorem op_waitRR {X Y : sProp 𝕄} {α : Type} {Q : α → sProp 𝕄} (K : GSem nD τ sig → ℕ) (c : Dev nD) (h : ℕ) (hh : h < 8) (n : ℕ) (hn : 3 + 2 * h ≤ n)
    {src dst : Memref sig .tc .vmem S2x128x512 .bf16} {sR : DmaSem sig} {h0 h1} {k : PUnit → Prog (TpuEff nD τ sig (Elt F) Λ₀ .tc) α}
    (eR : sR = dmaAt (23 + (h))) (eN : dst.view.dmaCredit = N)
    (H : iprop(X ∗ (R0 I c (h + 1) ∗ Y) ∗ ow (F := F) c n ∗ ctx I K) ⊢ WP c (k ⟨⟩) Q) :
    iprop(X ∗ (R2 I c h ∗ Y) ∗ ow (F := F) c n ∗ ctx I K) ⊢ WP c (.op (.waitDma2 sR src dst h0 h1) k) Q := by
  subst eR
  unfold R2 ow
  iintro ⟨HX, ⟨⟨HP, Hsrc, HvS, HaR, HcR, HT⟩, HY⟩, ⟨%W, HO⟩, #Hctx⟩
  iapply (Rounds.wp_wait_rest_token 𝒱₀ ER (Rd I) (c : Thread nD τ) none (κ := K (agR c (h)))
      (wpE_waitDma2_eq (src := src) (dst := dst) 𝒱₀ (c : Thread nD τ) none Set.univ) (Set.mem_univ _) 0 (O := owed c n) (W := W) (R := 0) (m := 0) (T := ∅)
      (by rw [expect_dma I c _ (by omega) (by omega), Nat.zero_add])) $$ [HcR HO HaR]
  · isplitr; · iapply (ctx_dma I K c _ (by omega) (by omega)); iexact Hctx
    isplitl [HcR]; · rw [eN]; iexact HcR
    isplitl [HO]; · iexact HO
    isplitr
    · iapply ((ctx_lev I K).trans (mayWait c _ 0 n (by decide) (by rw [lv_agR c _ (by omega), if_pos hh]; omega))); iexact Hctx
    iexact HaR
  iintro ⟨HO, HaR, -, Hpay⟩
  ihave Hnew := (Entails.of_eq ((rest_agR I c (h) (by omega)).trans (payR_R0 I c h hh))) $$ Hpay
  imod (Rounds.cell_close ER (Rd I) (Set.mem_univ (K (agR c (h)))) id (duties_dma_later I c _)) $$ [HaR] with HvR
  · isplitr; · iapply (ctx_dma I K c _ (by omega) (by omega)); iexact Hctx
    iexact HaR
  iapply H
  isplitl [HX]; · iexact HX
  isplitl [HY HP Hsrc HvS HvR Hnew HT]
  · unfold R0 pastR
    rw [bigSep_range_succ]
    isplitr [HY]
    rotate_left
    · iexact HY
    isplitl [HP Hsrc HvS HvR]
    · isplitr [HP]
      · unfold doneR
        isplitl [Hsrc]; · iexact Hsrc
        isplitl [HvS]; · iexact HvS
        iexact HvR
      iexact HP
    isplitl [Hnew]; · iexact Hnew
    iexact HT
  isplitl [HO]; · unfold ow; iexists _; iexact HO
  iexact Hctx

/-! ## The gather, to the left -/

theorem payL_src (c : Dev nD) (h : ℕ) (hh : h < 7) (hk : h < 16) :
    ((xfSlot (h) hk).view.loc (c : Thread nD τ) ↦[(xfSlot (h) hk).view.set]{lSh h} canon (xAt I c (h))) = lPt I c h := by
  unfold lPt xfPt; rw [xfSlot_set]
theorem payL_S0 (c : Dev nD) (h : ℕ) (hh : h < 7) : agSPay I c (8 + h) = lPt I c h := by unfold agSPay; rw [if_neg (by omega), Nat.add_sub_cancel_left]
theorem payL_R0 (c : Dev nD) (h : ℕ) (hh : h < 7) : agRPay I c (8 + h) = lPt I c (h + 1) := by unfold agRPay; rw [if_neg (by omega), show 8 + h - 7 = h + 1 by omega]
theorem payL_S (c : Dev nD) (h : ℕ) (hh : h < 7) (r : ℕ) (d : Bool) : (Rd I).payload (agS c (8 + h)) r d = lPt I c h := by
  rw [pay_agS I c (8 + h) (by omega), payL_S0 I c h hh]
theorem payL_R (c : Dev nD) (h : ℕ) (hh : h < 7) (r : ℕ) (d : Bool) : (Rd I).payload (agR c (8 + h)) r d = lPt I c (h + 1) := by
  rw [pay_agR I c (8 + h) (by omega), payL_R0 I c h hh]

/-- Sending block `h` to the left. -/
theorem op_sendL {X Y : sProp 𝕄} {α : Type} {Q : α → sProp 𝕄} (K : GSem nD τ sig → ℕ) (c : Dev nD) (h : ℕ) (hh : h < 7) (n : ℕ) (hn : n = 3 + 2 * h)
    {c' : Thread nD τ} {src : Memref sig .tc .vmem S2x128x512 .bf16} {dst : Memref sig c'.2.kind .vmem S2x128x512 .bf16} {sS sR : DmaSem sig}
    {h0 h1 h2 h3} {k : PUnit → Prog (TpuEff nD τ sig (Elt F) Λ₀ .tc) α}
    (hk : h < 16) (hk' : h + 1 < 16) (ec : c' = (prv c : Thread nD τ)) (es : src = xfSlot (h) hk) (ed : HEq dst (xfSlot (h + 1) hk'))
    (eS : sS = dmaAt (8 + (8 + h))) (eR : sR = dmaAt (23 + (8 + h)))
    (H : iprop(X ∗ (Y ∗ L1 I c h) ∗ ow (F := F) c (n + 1) ∗ ctx I K) ⊢ WP c (k ⟨⟩) Q) :
    iprop(X ∗ (Y ∗ L0 I c h) ∗ ow (F := F) c n ∗ ctx I K)
      ⊢ WP c (.op (.enqueueDma src (.remote c' dst (.dma sS) h0) (.dma sR) h1 h2 h3) k) Q := by
  subst ec es eS eR
  obtain rfl := eq_of_heq ed
  unfold L0 todoL ow
  rw [bigSep_Ico_succ_bot hh]
  iintro ⟨HX, ⟨HY, HP, Hsrc, HT⟩, ⟨%W, HO⟩, #Hctx⟩
  ihave HT := (Entails.of_eq (by unfold tokL xfAny; rfl)) $$ HT
  icases HT with ⟨⟨Ht, #Hr, HtS, #HrS, HaS, HaR, HcR, ⟨%g, Hd⟩⟩, HT⟩
  ihave Hd := (Entails.of_eq (show xfPt (prv c) (h + 1) fullShare g
      = ((xfSlot (h + 1) hk').view.loc (prv c : Thread nD τ) ↦[(xfSlot (h + 1) hk').view.set]{fullShare} canon g : sProp 𝕄) from by
        unfold xfPt; rw [xfSlot_set])) $$ Hd
  ihave Hsrc := (Entails.of_eq (payL_src I c h hh hk).symm) $$ Hsrc
  iapply (Rounds.wp_send_pointsTo 𝒱₀ ER (Rd I) (c : Thread nD τ) none (c' := (prv c : Thread nD τ)) (src := xfSlot (h) hk) (dst := xfSlot (h + 1) hk')
      (sS := .dma (dmaAt (8 + (8 + h)))) (sem := .dma (dmaAt (23 + (8 + h)))) (q := lSh h) (fs := canon (xAt I c (h))) (κ₁ := K (agS c (8 + h))) (κ₂ := K (agR (prv c) (8 + h)))
      (r₁ := 0) (r₂ := 0) (d₁ := false) (d₂ := false) (fd := canon g)
      (by rw [duties_dma I c _ (by omega) (by omega)]; exact Finset.mem_singleton_self _)
      (by rw [duties_dma I (prv c) _ (by omega) (by omega)]; exact Finset.mem_singleton_self _)
      0 0 N rfl rfl rfl (O₀ := owed c n) (owed c (n + 1)) (by rw [owed_step c n (by omega)]; subst hn; rw [dueT_l c h hh]) (W := W)
      (by rw [payL_S I c h hh, payL_src I c h hh hk])
      (by
        rw [payL_R I (prv c) h hh]
        rw [xfSlot_set, xfPt_of (prv c) _ hk', slotOf_xfWrite, xfSlot_read, slotOf_canon]
        unfold lPt xAt
        rw [rot_prv, show lSh (h + 1) = fullShare from rfl])) $$ [Hsrc Hd HO Ht HtS]
  · isplitr; · iapply (ctx_dma I K c _ (by omega) (by omega)); iexact Hctx
    isplitr; · iapply (ctx_dma I K (prv c) _ (by omega) (by omega)); iexact Hctx
    isplitl [Hsrc]; · iexact Hsrc
    isplitl [Hd]; · iexact Hd
    isplitl [HO]; · iexact HO
    isplitl [HtS]; · iexact HtS
    isplitr; · iexact HrS
    isplitl [Ht]; · iexact Ht
    iexact Hr
  iintro ⟨HcS, HO⟩
  iapply H
  isplitl [HX]; · iexact HX
  isplitl [HY HP HcS HaS HaR HcR HT]
  · unfold L1 todoL
    isplitl [HY]

    · iexact HY
    isplitl [HP]; · iexact HP
    isplitl [HcS]; · iexact HcS
    isplitl [HaS]; · iexact HaS
    isplitl [HaR]; · iexact HaR
    isplitl [HcR]; · iexact HcR
    iexact HT
  isplitl [HO]; · unfold ow; iexists W; iexact HO
  iexact Hctx

/-- Waiting for the own send. -/
theorem op_waitSL {X Y : sProp 𝕄} {α : Type} {Q : α → sProp 𝕄} (K : GSem nD τ sig → ℕ) (c : Dev nD) (h : ℕ) (hh : h < 7) (n : ℕ)
    {src dst : Memref sig .tc .vmem S2x128x512 .bf16} {sS : DmaSem sig} {h0 h1} {k : PUnit → Prog (TpuEff nD τ sig (Elt F) Λ₀ .tc) α}
    (eS : sS = dmaAt (8 + (8 + h))) (eN : dst.view.dmaCredit = N)
    (H : iprop(X ∗ (Y ∗ L2 I c h) ∗ ow (F := F) c n ∗ ctx I K) ⊢ WP c (k ⟨⟩) Q) :
    iprop(X ∗ (Y ∗ L1 I c h) ∗ ow (F := F) c n ∗ ctx I K) ⊢ WP c (.op (.waitDma2 sS src dst h0 h1) k) Q := by
  subst eS
  unfold L1 ow
  iintro ⟨HX, ⟨HY, HP, HcS, HaS, HaR, HcR, HT⟩, ⟨%W, HO⟩, #Hctx⟩
  iapply (Rounds.wp_wait_rest_token 𝒱₀ ER (Rd I) (c : Thread nD τ) none (κ := K (agS c (8 + h)))
      (wpE_waitDma2_eq (src := src) (dst := dst) 𝒱₀ (c : Thread nD τ) none Set.univ) (Set.mem_univ _) 0 (O := owed c n) (W := W) (R := 0) (m := 0) (T := ∅)
      (by rw [expect_dma I c _ (by omega) (by omega), Nat.zero_add])) $$ [HcS HO HaS]
  · isplitr; · iapply (ctx_dma I K c _ (by omega) (by omega)); iexact Hctx
    isplitl [HcS]; · rw [eN]; iexact HcS
    isplitl [HO]; · iexact HO
    isplitr
    · iapply ((ctx_lev I K).trans (mayWait c _ 0 n (by decide) (by rw [lv_send c _ (Or.inl (by omega))]; exact Nat.zero_le _))); iexact Hctx
    iexact HaS
  iintro ⟨HO, HaS, -, Hpay⟩
  ihave Hsrc := (Entails.of_eq ((rest_agS I c (8 + h) (by omega)).trans (payL_S0 I c h hh))) $$ Hpay
  imod (Rounds.cell_close ER (Rd I) (Set.mem_univ (K (agS c (8 + h)))) id (duties_dma_later I c _)) $$ [HaS] with HvS
  · isplitr; · iapply (ctx_dma I K c _ (by omega) (by omega)); iexact Hctx
    iexact HaS
  iapply H
  isplitl [HX]; · iexact HX
  isplitl [HY HP Hsrc HvS HaR HcR HT]
  · unfold L2
    isplitl [HY]

    · iexact HY
    isplitl [HP]; · iexact HP
    isplitl [Hsrc]; · iexact Hsrc
    isplitl [HvS]; · iexact HvS
    isplitl [HaR]; · iexact HaR
    isplitl [HcR]; · iexact HcR
    iexact HT
  isplitl [HO]; · unfold ow; iexists _; iexact HO
  iexact Hctx

/-- Waiting for the block that comes from the right. -/
theorem op_waitRL {X Y : sProp 𝕄} {α : Type} {Q : α → sProp 𝕄} (K : GSem nD τ sig → ℕ) (c : Dev nD) (h : ℕ) (hh : h < 7) (n : ℕ) (hn : 4 + 2 * h ≤ n)
    {src dst : Memref sig .tc .vmem S2x128x512 .bf16} {sR : DmaSem sig} {h0 h1} {k : PUnit → Prog (TpuEff nD τ sig (Elt F) Λ₀ .tc) α}
    (eR : sR = dmaAt (23 + (8 + h))) (eN : dst.view.dmaCredit = N)
    (H : iprop(X ∗ (Y ∗ L0 I c (h + 1)) ∗ ow (F := F) c n ∗ ctx I K) ⊢ WP c (k ⟨⟩) Q) :
    iprop(X ∗ (Y ∗ L2 I c h) ∗ ow (F := F) c n ∗ ctx I K) ⊢ WP c (.op (.waitDma2 sR src dst h0 h1) k) Q := by
  subst eR
  unfold L2 ow
  iintro ⟨HX, ⟨HY, HP, Hsrc, HvS, HaR, HcR, HT⟩, ⟨%W, HO⟩, #Hctx⟩
  iapply (Rounds.wp_wait_rest_token 𝒱₀ ER (Rd I) (c : Thread nD τ) none (κ := K (agR c (8 + h)))
      (wpE_waitDma2_eq (src := src) (dst := dst) 𝒱₀ (c : Thread nD τ) none Set.univ) (Set.mem_univ _) 0 (O := owed c n) (W := W) (R := 0) (m := 0) (T := ∅)
      (by rw [expect_dma I c _ (by omega) (by omega), Nat.zero_add])) $$ [HcR HO HaR]
  · isplitr; · iapply (ctx_dma I K c _ (by omega) (by omega)); iexact Hctx
    isplitl [HcR]; · rw [eN]; iexact HcR
    isplitl [HO]; · iexact HO
    isplitr
    · iapply ((ctx_lev I K).trans (mayWait c _ 0 n (by decide) (by rw [lv_agR c _ (by omega), if_neg (by omega)]; omega))); iexact Hctx
    iexact HaR
  iintro ⟨HO, HaR, -, Hpay⟩
  ihave Hnew := (Entails.of_eq ((rest_agR I c (8 + h) (by omega)).trans (payL_R0 I c h hh))) $$ Hpay
  imod (Rounds.cell_close ER (Rd I) (Set.mem_univ (K (agR c (8 + h)))) id (duties_dma_later I c _)) $$ [HaR] with HvR
  · isplitr; · iapply (ctx_dma I K c _ (by omega) (by omega)); iexact Hctx
    iexact HaR
  iapply H
  isplitl [HX]; · iexact HX
  isplitl [HY HP Hsrc HvS HvR Hnew HT]
  · unfold L0 pastL
    rw [bigSep_range_succ]
    isplitl [HY]

    · iexact HY
    isplitl [HP Hsrc HvS HvR]
    · isplitr [HP]
      · unfold doneL
        isplitl [Hsrc]; · iexact Hsrc
        isplitl [HvS]; · iexact HvS
        iexact HvR
      iexact HP
    isplitl [Hnew]; · iexact Hnew
    iexact HT
  isplitl [HO]; · unfold ow; iexists _; iexact HO
  iexact Hctx

end Cert.KernelIdeal.Ring
-- ==== Proof.KernelIdeal.OpsRing.lean ====
/-
  The steps of the second phase: the send round the ring, the waits, the sum, and the credit.
-/
module

public import Idealize.SL.BI.BigOpNat
public import proofs.«01_k».proof.Proof.KernelIdeal.State

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F)

/-! ## Loads and stores of a slot of the running sums -/

theorem accSet (k : ℕ) (hk : k < 16) : (accM.access (slotR k hk)).setOn Finset.univ ⊆ slotSet k := by
  exact le_of_eq (accAccess_set k hk)
theorem accPtAt (c : Dev nD) (k : ℕ) (hk : k < 16) (g : FVec F S2x128x512 .bf16) :
    accPt c k fullShare g = ((accM.access (slotR k hk)).loc (c : Thread nD τ) ↦[slotSet k]{fullShare} canon g : sProp 𝕄) := rfl

/-- A slot is loaded: its block comes back. -/
theorem acc_load {α : Type} {Q : α → sProp 𝕄} (c : Dev nD) (k : ℕ) (hk : k < 16) (g : FVec F S2x128x512 .bf16)
    {hl : accM.view.LoadsAt (slotR k hk).toLoadRect} {p : ((slotR k hk).shape.Idx → Elt F .bf16) → Prog (TpuEff nD τ sig (Elt F) Λ₀ .tc) α} :
    accPt c k fullShare g ⊢ iprop((∀ x : (slotR k hk).shape.Idx → Elt F .bf16, ⌜shapeCast S2x128x512 x shapeCasts_S2x1x128x512_S2x128x512 = g⌝ -∗ accPt c k fullShare g -∗ WP c (p x) Q)
      -∗ WP c (.op (.load accM (slotR k hk).toLoadRect hl) p) Q) := by
  iintro HP HK
  ihave HP := (Entails.of_eq (accPtAt c k hk g)) $$ HP
  iapply (wp_load_rect 𝒱₀ (c : Thread nD τ) none Set.univ (m := accM) (r := slotR k hk) (hl := hl) (k := p) (S := slotSet k) (q := fullShare) (f := canon g)
    (le_of_eq (accAccess_set k hk))) $$ HP
  iintro HP
  iapply HK
  · ipureintro
    exact (accAccess_read k hk (canon g)).trans (slotOf_canon k hk g)
  ihave HP := (Entails.of_eq (accPtAt c k hk g).symm) $$ HP
  iexact HP

/-- A slot is stored. -/
theorem acc_store {α : Type} {Q : α → sProp 𝕄} (c : Dev nD) (k : ℕ) (hk : k < 16) (g : FVec F S2x128x512 .bf16) (w : FVec F S2x1x128x512 .bf16)
    {hx hm} {p : PUnit → Prog (TpuEff nD τ sig (Elt F) Λ₀ .tc) α} :
    accPt c k fullShare g ⊢ iprop((accPt c k fullShare (shapeCast S2x128x512 w shapeCasts_S2x1x128x512_S2x128x512) -∗ WP c (p ⟨⟩) Q)
      -∗ WP c (.op (.store accM (slotR k hk) w Finset.univ hx hm) p) Q) := by
  iintro HP HK
  ihave HP := (Entails.of_eq (accPtAt c k hk g)) $$ HP
  iapply (wp_store 𝒱₀ (c : Thread nD τ) none Set.univ (m := accM) (r := slotR k hk) (w := w) (Mk := Finset.univ) (hx := hx) (hm := hm) (k := p) (S := slotSet k) (f := canon g)
    (accSet k hk)) $$ HP
  iintro HP
  iapply HK
  ihave HP := (Entails.of_eq ((accPt_of c k hk fullShare _).trans (by rw [slotOf_accStore]))) $$ HP
  iexact HP

/-- The next slot: a load whose result is not used. -/
theorem op_deadB {X : sProp 𝕄} {α : Type} {Q : α → sProp 𝕄} (K : GSem nD τ sig → ℕ) (c : Dev nD) (s : ℕ) (hs : s < 15) {n : ℕ} (hk : 14 - s < 16)
    {hl : accM.view.LoadsAt (slotR (14 - s) hk).toLoadRect} {k : ((slotR (14 - s) hk).shape.Idx → Elt F .bf16) → Prog (TpuEff nD τ sig (Elt F) Λ₀ .tc) α}
    (H : ∀ x, iprop(X ∗ (SB (F := F) c s) ∗ ow (F := F) c n ∗ ctx I K) ⊢ WP c (k x) Q) :
    iprop(X ∗ (SB (F := F) c s) ∗ ow (F := F) c n ∗ ctx I K) ⊢ WP c (.op (.load accM (slotR (14 - s) hk).toLoadRect hl) k) Q := by
  have e : accTodo (F := F) c (15 - s) = iprop(accAny (F := F) c (14 - s) ∗ accTodo (F := F) c (14 - s)) := by
    unfold accTodo; rw [show 15 - s = (14 - s) + 1 by omega, bigSep_range_succ]
  unfold SB at H ⊢
  rw [e] at H ⊢
  iintro ⟨HX, ⟨HP, ⟨HA, HT⟩, HcS, HaS, HaR, HcR, Hc, HS, HC⟩, HO, #Hctx⟩
  unfold accAny
  icases HA with ⟨%g, HA⟩
  iapply (acc_load c (14 - s) hk g) $$ HA
  iintro %x - HA
  iapply (H x)
  isplitl [HX]; · iexact HX
  isplitl [HP HT HcS HaS HaR HcR Hc HS HC HA]
  · isplitl [HP]; · iexact HP
    isplitl [HA HT]
    · isplitl [HA]
      · unfold accAny; iexists g; iexact HA
      iexact HT
    isplitl [HcS]; · iexact HcS
    isplitl [HaS]; · iexact HaS
    isplitl [HaR]; · iexact HaR
    isplitl [HcR]; · iexact HcR
    isplitl [Hc]; · iexact Hc
    isplitl [HS]; · iexact HS
    iexact HC
  isplitl [HO]; · iexact HO
  iexact Hctx

/-- The next slot: the chunk is stored. -/
theorem op_storeB {X : sProp 𝕄} {α : Type} {Q : α → sProp 𝕄} (K : GSem nD τ sig → ℕ) (c : Dev nD) (s : ℕ) (hs : s < 15) {n : ℕ} (hk : 14 - s < 16)
    {w : FVec F S2x1x128x512 .bf16} {hx hm} {k : PUnit → Prog (TpuEff nD τ sig (Elt F) Λ₀ .tc) α}
    (hw : shapeCast S2x128x512 w shapeCasts_S2x1x128x512_S2x128x512 = chunk I c (14 - s))
    (H : iprop(X ∗ (SC I c s) ∗ ow (F := F) c n ∗ ctx I K) ⊢ WP c (k ⟨⟩) Q) :
    iprop(X ∗ (SB (F := F) c s) ∗ ow (F := F) c n ∗ ctx I K) ⊢ WP c (.op (.store accM (slotR (14 - s) hk) w Finset.univ hx hm) k) Q := by
  have e : accTodo (F := F) c (15 - s) = iprop(accAny (F := F) c (14 - s) ∗ accTodo (F := F) c (14 - s)) := by
    unfold accTodo; rw [show 15 - s = (14 - s) + 1 by omega, bigSep_range_succ]
  unfold SB
  rw [e]
  iintro ⟨HX, ⟨HP, ⟨HA, HT⟩, HcS, HaS, HaR, HcR, Hc, HS, HC⟩, HO, #Hctx⟩
  unfold accAny
  icases HA with ⟨%g, HA⟩
  iapply (acc_store c (14 - s) hk g) $$ HA
  rw [hw]
  iintro HA
  iapply H
  isplitl [HX]; · iexact HX
  isplitl [HP HA HT HcS HaS HaR HcR Hc HS HC]
  · unfold SC
    isplitl [HP]; · iexact HP
    isplitl [HA]; · iexact HA
    isplitl [HT]; · iexact HT
    isplitl [HcS]; · iexact HcS
    isplitl [HaS]; · iexact HaS
    isplitl [HaR]; · iexact HaR
    isplitl [HcR]; · iexact HcR
    isplitl [Hc]; · iexact Hc
    isplitl [HS]; · iexact HS
    iexact HC
  isplitl [HO]; · iexact HO
  iexact Hctx

/-- Slot 15, at the start: a load whose result is not used. -/
theorem op_deadZ {X : sProp 𝕄} {α : Type} {Q : α → sProp 𝕄} (K : GSem nD τ sig → ℕ) (c : Dev nD)  {n : ℕ} (hk : 15 < 16)
    {hl : accM.view.LoadsAt (slotR (15) hk).toLoadRect} {k : ((slotR (15) hk).shape.Idx → Elt F .bf16) → Prog (TpuEff nD τ sig (Elt F) Λ₀ .tc) α}
    (H : ∀ x, iprop(X ∗ (SZ (F := F) c) ∗ ow (F := F) c n ∗ ctx I K) ⊢ WP c (k x) Q) :
    iprop(X ∗ (SZ (F := F) c) ∗ ow (F := F) c n ∗ ctx I K) ⊢ WP c (.op (.load accM (slotR (15) hk).toLoadRect hl) k) Q := by
  have e : accTodo (F := F) c (16) = iprop(accAny (F := F) c (15) ∗ accTodo (F := F) c (15)) := by
    unfold accTodo; rw [show 16 = (15) + 1 by omega, bigSep_range_succ]
  unfold SZ at H ⊢
  rw [e] at H ⊢
  iintro ⟨HX, ⟨⟨HA, HT⟩, HR, Hc, #Hrc, HS, HC⟩, HO, #Hctx⟩
  unfold accAny
  icases HA with ⟨%g, HA⟩
  iapply (acc_load c (15) hk g) $$ HA
  iintro %x - HA
  iapply (H x)
  isplitl [HX]; · iexact HX
  isplitl [HT HR Hc HS HC HA]
  · isplitl [HA HT]
    · isplitl [HA]
      · unfold accAny; iexists g; iexact HA
      iexact HT
    isplitl [HR]; · iexact HR
    isplitl [Hc]; · iexact Hc
    isplitr; · iexact Hrc
    isplitl [HS]; · iexact HS
    iexact HC
  isplitl [HO]; · iexact HO
  iexact Hctx

/-- Slot 15, at the start: the chunk is stored. -/
theorem op_storeZ {X : sProp 𝕄} {α : Type} {Q : α → sProp 𝕄} (K : GSem nD τ sig → ℕ) (c : Dev nD)  {n : ℕ} (hk : 15 < 16)
    {w : FVec F S2x1x128x512 .bf16} {hx hm} {k : PUnit → Prog (TpuEff nD τ sig (Elt F) Λ₀ .tc) α}
    (hw : shapeCast S2x128x512 w shapeCasts_S2x1x128x512_S2x128x512 = chunk I c 15)
    (H : iprop(X ∗ (SA I c 0) ∗ ow (F := F) c n ∗ ctx I K) ⊢ WP c (k ⟨⟩) Q) :
    iprop(X ∗ (SZ (F := F) c) ∗ ow (F := F) c n ∗ ctx I K) ⊢ WP c (.op (.store accM (slotR (15) hk) w Finset.univ hx hm) k) Q := by
  have e : accTodo (F := F) c (16) = iprop(accAny (F := F) c (15) ∗ accTodo (F := F) c (15)) := by
    unfold accTodo; rw [show 16 = (15) + 1 by omega, bigSep_range_succ]
  unfold SZ
  rw [e]
  iintro ⟨HX, ⟨⟨HA, HT⟩, HR, Hc, #Hrc, HS, HC⟩, HO, #Hctx⟩
  unfold accAny
  icases HA with ⟨%g, HA⟩
  iapply (acc_store c (15) hk g) $$ HA
  rw [hw]
  iintro HA
  iapply H
  isplitl [HX]; · iexact HX
  isplitl [HA HT HR Hc HS HC]
  · unfold SA pastS
    rw [Finset.range_zero, bigSep_empty]
    isplitr; · iempintro
    isplitl [HA]; · iexact HA
    isplitl [HT]; · iexact HT
    isplitl [HR]; · iexact HR
    isplitl [Hc]; · iexact Hc
    isplitr; · iexact Hrc
    isplitl [HS]; · iexact HS
    iexact HC
  isplitl [HO]; · iexact HO
  iexact Hctx

/-! ## The send round the ring -/

/-- The `s`-th send of the second phase. -/
theorem op_sendS {X : sProp 𝕄} {α : Type} {Q : α → sProp 𝕄} (K : GSem nD τ sig → ℕ) (c : Dev nD) (s : ℕ) (hs : s < 15) (n : ℕ) (hn : n = 17 + 2 * s)
    {c' : Thread nD τ} {src : Memref sig .tc .vmem S2x128x512 .bf16} {dst : Memref sig c'.2.kind .vmem S2x128x512 .bf16} {sS sR : DmaSem sig}
    {h0 h1 h2 h3} {k : PUnit → Prog (TpuEff nD τ sig (Elt F) Λ₀ .tc) α}
    (hk : 15 - s < 16) (ec : c' = (nxt c : Thread nD τ)) (es : src = accSlot (15 - s) hk) (ed : HEq dst rsM)
    (eS : sS = dmaAt (38 + s)) (eR : sR = dmaAt (53 + s))
    (H : iprop(X ∗ SB (F := F) c s ∗ ow (F := F) c (n + 1) ∗ ctx I K) ⊢ WP c (k ⟨⟩) Q) :
    iprop(X ∗ SA I c s ∗ ow (F := F) c n ∗ ctx I K) ⊢ WP c (.op (.enqueueDma src (.remote c' dst (.dma sS) h0) (.dma sR) h1 h2 h3) k) Q := by
  subst ec es eS eR
  obtain rfl := eq_of_heq ed
  unfold SA todoS ow
  rw [bigSep_Ico_succ_bot hs]
  iintro ⟨HX, ⟨HP, HA, HT, HR, Hc, #Hrc, ⟨Htok, HS⟩, HC⟩, ⟨%W, HO⟩, #Hctx⟩
  ihave Htok := (Entails.of_eq (by unfold tokS; rfl)) $$ Htok
  unfold rsAny rsPt accPt
  icases Htok with ⟨Ht, #Hr, HtS, #HrS, HaS, HaR, HcR⟩
  icases HR with ⟨%g, HR⟩
  iapply (Rounds.wp_send_pointsTo_with 𝒱₀ ER (Rd I) (c : Thread nD τ) none (c' := (nxt c : Thread nD τ)) (src := accSlot (15 - s) hk) (dst := rsM)
      (sS := .dma (dmaAt (38 + s))) (sem := .dma (dmaAt (53 + s))) (q := fullShare) (fs := canon (av I s c)) (κ₁ := K (rsS c s)) (κ₂ := K (rsR (nxt c) s))
      (r₁ := 0) (r₂ := 0) (d₁ := false) (d₂ := false) (fd := g) (F := reached ER (crG c) s)
      (by rw [duties_dma I c _ (by omega) (by omega)]; exact Finset.mem_singleton_self _)
      (by rw [duties_dma I (nxt c) _ (by omega) (by omega)]; exact Finset.mem_singleton_self _)
      0 0 N rfl rfl rfl (O₀ := owed c n) (owed c (n + 1)) (by rw [owed_step c n (by omega)]; subst hn; rw [dueT_rs c s]) (W := W)
      (by rw [pay_rsS I c s hs, accSlot_set]; unfold rsSPay accPt; exact .rfl)
      (by
        rw [pay_rsR I (nxt c) s hs, accSlot_read, slotOf_canon]
        unfold rsRPay rsPt
        rw [prv_nxt]
        exact Entails.of_eq (congrArg (fun w => iprop((rsM.view.loc (nxt c : Thread nD τ) ↦[rsM.view.set]{fullShare} w) ∗ reached ER (crG c) s)) (View.write_whole_univ (Val := Elt F) cc0_scratch5 g (av I s c))))) $$ [HA HR HO Ht HtS]
  · isplitr; · iapply (ctx_dma I K c _ (by omega) (by omega)); iexact Hctx
    isplitr; · iapply (ctx_dma I K (nxt c) _ (by omega) (by omega)); iexact Hctx
    isplitl [HA]; · rw [accSlot_set]; iexact HA
    isplitl [HR]
    · isplitl [HR]; · iexact HR
      iexact Hrc
    isplitl [HO]; · iexact HO
    isplitl [HtS]; · iexact HtS
    isplitr; · iexact HrS
    isplitl [Ht]; · iexact Ht
    iexact Hr
  iintro ⟨HcS, HO⟩
  iapply H
  isplitl [HX]; · iexact HX
  isplitl [HP HT HcS HaS HaR HcR Hc HS HC]
  · unfold SB todoS
    isplitl [HP]; · iexact HP
    isplitl [HT]; · iexact HT
    isplitl [HcS]; · iexact HcS
    isplitl [HaS]; · iexact HaS
    isplitl [HaR]; · iexact HaR
    isplitl [HcR]; · iexact HcR
    isplitl [Hc]; · iexact Hc
    isplitl [HS]; · iexact HS
    iexact HC
  isplitl [HO]; · unfold ow; iexists _; iexact HO
  iexact Hctx

/-- Waiting for the own send: the slot sent from comes back. -/
theorem op_waitSS {X : sProp 𝕄} {α : Type} {Q : α → sProp 𝕄} (K : GSem nD τ sig → ℕ) (c : Dev nD) (s : ℕ) (hs : s < 15) (n : ℕ)
    {src dst : Memref sig .tc .vmem S2x128x512 .bf16} {sm : DmaSem sig} {h0 h1} {k : PUnit → Prog (TpuEff nD τ sig (Elt F) Λ₀ .tc) α}
    (eS : sm = dmaAt (38 + s)) (eN : dst.view.dmaCredit = N)
    (H : iprop(X ∗ SD I c s ∗ ow (F := F) c n ∗ ctx I K) ⊢ WP c (k ⟨⟩) Q) :
    iprop(X ∗ SC I c s ∗ ow (F := F) c n ∗ ctx I K) ⊢ WP c (.op (.waitDma2 sm src dst h0 h1) k) Q := by
  subst eS
  unfold SC ow
  iintro ⟨HX, ⟨HP, HA, HT, Hcr, Hat, HaR, HcR, Hc, HS, HC⟩, ⟨%W, HO⟩, #Hctx⟩
  iapply (Rounds.wp_wait_rest_token 𝒱₀ ER (Rd I) (c : Thread nD τ) none (κ := K (rsS c s))
      (wpE_waitDma2_eq (src := src) (dst := dst) 𝒱₀ (c : Thread nD τ) none Set.univ) (Set.mem_univ _) 0 (O := owed c n) (W := W) (R := 0) (m := 0) (T := ∅)
      (by rw [expect_dma I c _ (by omega) (by omega), Nat.zero_add])) $$ [Hcr HO Hat]
  · isplitr; · iapply (ctx_dma I K c _ (by omega) (by omega)); iexact Hctx
    isplitl [Hcr]; · rw [eN]; iexact Hcr
    isplitl [HO]; · iexact HO
    isplitr
    · iapply ((ctx_lev I K).trans (mayWait c _ 0 n (by decide) (by rw [lv_send c _ (Or.inr (by omega))]; exact Nat.zero_le _))); iexact Hctx
    iexact Hat
  iintro ⟨HO, Hat, -, Hpay⟩
  ihave Hpay := (Entails.of_eq ((rest_rsS I c s (by omega)))) $$ Hpay
  imod (Rounds.cell_close ER (Rd I) (Set.mem_univ (K (rsS c s))) id (duties_dma_later I c _)) $$ [Hat] with Hv
  · isplitr; · iapply (ctx_dma I K c _ (by omega) (by omega)); iexact Hctx
    iexact Hat
  ihave Hold := (show rsSPay I c s ⊢ accAny (F := F) c (15 - s) from by unfold rsSPay accAny; iintro H; iexists _; iexact H) $$ Hpay
  iapply H
  isplitl [HX]; · iexact HX
  isplitl [HP HA HT Hv Hold HaR HcR Hc HS HC]
  · unfold SD
    isplitl [HP]; · iexact HP
    isplitl [HA]; · iexact HA
    isplitl [HT]; · iexact HT
    isplitl [Hv]; · iexact Hv
    isplitl [Hold]; · iexact Hold
    isplitl [HaR]; · iexact HaR
    isplitl [HcR]; · iexact HcR
    isplitl [Hc]; · iexact Hc
    isplitl [HS]; · iexact HS
    iexact HC
  isplitl [HO]; · unfold ow; iexists _; iexact HO
  iexact Hctx

/-- Waiting for the left neighbour’s sum. -/
theorem op_waitRS {X : sProp 𝕄} {α : Type} {Q : α → sProp 𝕄} (K : GSem nD τ sig → ℕ) (c : Dev nD) (s : ℕ) (hs : s < 15) (n : ℕ) (hn : 18 + 2 * s ≤ n)
    {src dst : Memref sig .tc .vmem S2x128x512 .bf16} {sm : DmaSem sig} {h0 h1} {k : PUnit → Prog (TpuEff nD τ sig (Elt F) Λ₀ .tc) α}
    (eS : sm = dmaAt (53 + s)) (eN : dst.view.dmaCredit = N)
    (H : iprop(X ∗ SE I c s (chunk I c (14 - s)) ∗ ow (F := F) c n ∗ ctx I K) ⊢ WP c (k ⟨⟩) Q) :
    iprop(X ∗ SD I c s ∗ ow (F := F) c n ∗ ctx I K) ⊢ WP c (.op (.waitDma2 sm src dst h0 h1) k) Q := by
  subst eS
  unfold SD ow
  iintro ⟨HX, ⟨HP, HA, HT, HvS, Hold, Hat, Hcr, Hc, HS, HC⟩, ⟨%W, HO⟩, #Hctx⟩
  iapply (Rounds.wp_wait_rest_token 𝒱₀ ER (Rd I) (c : Thread nD τ) none (κ := K (rsR c s))
      (wpE_waitDma2_eq (src := src) (dst := dst) 𝒱₀ (c : Thread nD τ) none Set.univ) (Set.mem_univ _) 0 (O := owed c n) (W := W) (R := 0) (m := 0) (T := ∅)
      (by rw [expect_dma I c _ (by omega) (by omega), Nat.zero_add])) $$ [Hcr HO Hat]
  · isplitr; · iapply (ctx_dma I K c _ (by omega) (by omega)); iexact Hctx
    isplitl [Hcr]; · rw [eN]; iexact Hcr
    isplitl [HO]; · iexact HO
    isplitr
    · iapply ((ctx_lev I K).trans (mayWait c _ 0 n (by decide) (by rw [lv_rsR c s hs]; exact hn))); iexact Hctx
    iexact Hat
  iintro ⟨HO, Hat, -, Hpay⟩
  ihave Hpay := (Entails.of_eq ((rest_rsR I c s (by omega)))) $$ Hpay
  imod (Rounds.cell_close ER (Rd I) (Set.mem_univ (K (rsR c s))) id (duties_dma_later I c _)) $$ [Hat] with Hv
  · isplitr; · iapply (ctx_dma I K c _ (by omega) (by omega)); iexact Hctx
    iexact Hat
  ihave Hpay := (Entails.of_eq (by unfold rsRPay; rfl)) $$ Hpay
  icases Hpay with ⟨HR, Hrp⟩
  iapply H
  isplitl [HX]; · iexact HX
  isplitl [HP HA HT HvS Hold Hv HR Hrp Hc HS HC]
  · unfold SE pastS
    rw [bigSep_range_succ]
    isplitl [HP HvS Hold Hv]
    · isplitr [HP]
      · unfold doneS
        isplitl [HvS]; · iexact HvS
        isplitl [Hv]; · iexact Hv
        iexact Hold
      iexact HP
    isplitl [HA]; · iexact HA
    isplitl [HT]; · iexact HT
    isplitl [HR]; · iexact HR
    isplitl [Hrp]; · iexact Hrp
    isplitl [Hc]; · iexact Hc
    isplitl [HS]; · iexact HS
    iexact HC
  isplitl [HO]; · unfold ow; iexists _; iexact HO
  iexact Hctx

/-! ## Adding what arrived -/

theorem rsRead (g : FVec F S2x128x512 .bf16) (hr : ∀ a, (![0, 0, 0] : Fin 3 → ℕ) a + S2x128x512.size a ≤ S2x128x512.size a) :
    rsM.view.readAt (Elt F) (Rect.unit (s := S2x128x512) ![0, 0, 0] S2x128x512.size hr).toLoadRect g = g := by
  exact Memref.readAt_unit_zero (Elt F) cc0_scratch5 (by funext a; fin_cases a <;> rfl) hr g

/-- The slot is loaded. -/
theorem op_loadE {X : sProp 𝕄} {α : Type} {Q : α → sProp 𝕄} (K : GSem nD τ sig → ℕ) (c : Dev nD) (s : ℕ) (hs : s < 15) (g : FVec F S2x128x512 .bf16) {n : ℕ} (hk : 14 - s < 16)
    {hl : accM.view.LoadsAt (slotR (14 - s) hk).toLoadRect} {k : ((slotR (14 - s) hk).shape.Idx → Elt F .bf16) → Prog (TpuEff nD τ sig (Elt F) Λ₀ .tc) α}
    (H : ∀ x : FVec F S2x1x128x512 .bf16, shapeCast S2x128x512 x shapeCasts_S2x1x128x512_S2x128x512 = g → iprop(X ∗ SE I c s g ∗ ow (F := F) c n ∗ ctx I K) ⊢ WP c (k x) Q) :
    iprop(X ∗ SE I c s g ∗ ow (F := F) c n ∗ ctx I K) ⊢ WP c (.op (.load accM (slotR (14 - s) hk).toLoadRect hl) k) Q := by
  unfold SE at H ⊢
  iintro ⟨HX, ⟨HP, HA, HT, HR, Hrp, Hc, HS, HC⟩, HO, #Hctx⟩
  iapply (acc_load c (14 - s) hk g) $$ HA
  iintro %x %hx HA
  iapply (H x hx)
  isplitl [HX]; · iexact HX
  isplitl [HP HA HT HR Hrp Hc HS HC]
  · isplitl [HP]; · iexact HP
    isplitl [HA]; · iexact HA
    isplitl [HT]; · iexact HT
    isplitl [HR]; · iexact HR
    isplitl [Hrp]; · iexact Hrp
    isplitl [Hc]; · iexact Hc
    isplitl [HS]; · iexact HS
    iexact HC
  isplitl [HO]; · iexact HO
  iexact Hctx

/-- What arrived is loaded. -/
theorem op_loadRs {X : sProp 𝕄} {α : Type} {Q : α → sProp 𝕄} (K : GSem nD τ sig → ℕ) (c : Dev nD) (s : ℕ) (g : FVec F S2x128x512 .bf16) {n : ℕ} (hr : ∀ a, (![0, 0, 0] : Fin 3 → ℕ) a + S2x128x512.size a ≤ S2x128x512.size a)
    {hl : rsM.view.LoadsAt (Rect.unit (s := S2x128x512) ![0, 0, 0] S2x128x512.size hr).toLoadRect} {k : ((Rect.unit (s := S2x128x512) ![0, 0, 0] S2x128x512.size hr).shape.Idx → Elt F .bf16) → Prog (TpuEff nD τ sig (Elt F) Λ₀ .tc) α}
    (H : iprop(X ∗ SE I c s g ∗ ow (F := F) c n ∗ ctx I K) ⊢ WP c (k (av I s (prv c))) Q) :
    iprop(X ∗ SE I c s g ∗ ow (F := F) c n ∗ ctx I K) ⊢ WP c (.op (.load rsM (Rect.unit (s := S2x128x512) ![0, 0, 0] S2x128x512.size hr).toLoadRect hl) k) Q := by
  unfold SE at H ⊢
  iintro ⟨HX, ⟨HP, HA, HT, HR, Hrp, Hc, HS, HC⟩, HO, #Hctx⟩
  unfold rsPt
  iapply (wp_load 𝒱₀ (c : Thread nD τ) none Set.univ (m := rsM) (r := (Rect.unit (s := S2x128x512) ![0, 0, 0] S2x128x512.size hr).toLoadRect) (hl := hl) (k := k)
    (S := rsM.view.set) (q := fullShare) (f := av I s (prv c)) (View.setOn_subset_set _ _)) $$ HR
  rw [show rsM.view.readAt (Elt F) (Rect.unit (s := S2x128x512) ![0, 0, 0] S2x128x512.size hr).toLoadRect (av I s (prv c)) = av I s (prv c) from rsRead _ hr]
  iintro HR
  iapply H
  isplitl [HX]; · iexact HX
  isplitl [HP HA HT HR Hrp Hc HS HC]
  · isplitl [HP]; · iexact HP
    isplitl [HA]; · iexact HA
    isplitl [HT]; · iexact HT
    isplitl [HR]; · (unfold rsPt; iexact HR)
    isplitl [Hrp]; · iexact Hrp
    isplitl [Hc]; · iexact Hc
    isplitl [HS]; · iexact HS
    iexact HC
  isplitl [HO]; · iexact HO
  iexact Hctx

/-- The sum is stored. -/
theorem op_storeE {X : sProp 𝕄} {α : Type} {Q : α → sProp 𝕄} (K : GSem nD τ sig → ℕ) (c : Dev nD) (s : ℕ) (hs : s < 15) (g g' : FVec F S2x128x512 .bf16) {n : ℕ} (hk : 14 - s < 16)
    {w : FVec F S2x1x128x512 .bf16} {hx hm} {k : PUnit → Prog (TpuEff nD τ sig (Elt F) Λ₀ .tc) α}
    (hw : shapeCast S2x128x512 w shapeCasts_S2x1x128x512_S2x128x512 = g')
    (H : iprop(X ∗ SE I c s g' ∗ ow (F := F) c n ∗ ctx I K) ⊢ WP c (k ⟨⟩) Q) :
    iprop(X ∗ SE I c s g ∗ ow (F := F) c n ∗ ctx I K) ⊢ WP c (.op (.store accM (slotR (14 - s) hk) w Finset.univ hx hm) k) Q := by
  unfold SE at H ⊢
  iintro ⟨HX, ⟨HP, HA, HT, HR, Hrp, Hc, HS, HC⟩, HO, #Hctx⟩
  iapply (acc_store c (14 - s) hk g) $$ HA
  rw [hw]
  iintro HA
  iapply H
  isplitl [HX]; · iexact HX
  isplitl [HP HA HT HR Hrp Hc HS HC]
  · isplitl [HP]; · iexact HP
    isplitl [HA]; · iexact HA
    isplitl [HT]; · iexact HT
    isplitl [HR]; · iexact HR
    isplitl [Hrp]; · iexact Hrp
    isplitl [Hc]; · iexact Hc
    isplitl [HS]; · iexact HS
    iexact HC
  isplitl [HO]; · iexact HO
  iexact Hctx

/-! ## The credit -/

/-- The receive buffer is given back to the left neighbour. -/
theorem op_sig {X : sProp 𝕄} {α : Type} {Q : α → sProp 𝕄} (K : GSem nD τ sig → ℕ) (c : Dev nD) (s : ℕ) (hs : s < 14) (n : ℕ) (hn : n = 18 + 2 * s)
    {c' : Thread nD τ} {sm : Sem sig} {a : ℤ} {k : PUnit → Prog (TpuEff nD τ sig (Elt F) Λ₀ .tc) α}
    (ec : c' = (prv c : Thread nD τ)) (es : sm = 0) (ea : a = ((1 : ℕ) : ℤ))
    (H : iprop(X ∗ SG I c s ∗ ow (F := F) c (n + 1) ∗ ctx I K) ⊢ WP c (k ⟨⟩) Q) :
    iprop(X ∗ SE I c s (av I (s + 1) c) ∗ ow (F := F) c n ∗ ctx I K) ⊢ WP c (.op (.semSignal c' sm a) k) Q := by
  subst ec es ea
  unfold SE todoC ow
  rw [bigSep_Ico_succ_bot hs]
  iintro ⟨HX, ⟨HP, HA, HT, HR, #Hrp, Hc, HS, ⟨Htok, HC⟩⟩, ⟨%W, HO⟩, #Hctx⟩
  ihave Htok := (Entails.of_eq (by unfold tokC; rfl)) $$ Htok
  icases Htok with ⟨Ht, Hcr⟩
  iapply (Rounds.wp_signal 𝒱₀ ER (Rd I) (c : Thread nD τ) none (dst := (prv c : Thread nD τ)) (sem := 0) (r := s) (d := false) (κ := K (crG (prv c)))
      (by rw [duties_cr I (prv c) s hs]; exact Finset.mem_singleton_self _) (k' := 1) rfl s (O₀ := owed c n) (owed c (n + 1))
      (by rw [owed_step c n (by omega)]; subst hn; rw [dueT_cr c s]) (W := W)) $$ [HR HO Ht]
  · isplitr; · iapply (ctx_cr I K (prv c)); iexact Hctx
    isplitl [HO]; · iexact HO
    isplitl [Ht]; · iexact Ht
    isplitl [HR]
    · iapply (show rsPt c (av I s (prv c)) ⊢ (Rd I).payload (crG (prv c)) s false from by
        rw [show (Rd I).payload (crG (prv c)) s false = rsAny (F := F) (nxt (prv c)) from rfl, nxt_prv]
        unfold rsAny; iintro H; iexists _; iexact H)
      iexact HR
    iexact Hrp
  iintro HO
  iapply H
  isplitl [HX]; · iexact HX
  isplitl [HP HA HT Hcr Hc HS HC]
  · unfold SG todoC
    isplitl [HP]; · iexact HP
    isplitl [HA]; · iexact HA
    isplitl [HT]; · iexact HT
    isplitl [Hcr]; · iexact Hcr
    isplitl [Hc]; · iexact Hc
    isplitl [HS]; · iexact HS
    iexact HC
  isplitl [HO]; · unfold ow; iexists _; iexact HO
  iexact Hctx

/-- The right neighbour gives its receive buffer back. -/
theorem op_swait {X : sProp 𝕄} {α : Type} {Q : α → sProp 𝕄} (K : GSem nD τ sig → ℕ) (c : Dev nD) (s : ℕ) (hs : s < 14) (n : ℕ) (hn : 19 + 2 * s ≤ n)
    {sm : Sem sig} {a : ℕ} {k : PUnit → Prog (TpuEff nD τ sig (Elt F) Λ₀ .tc) α}
    (es : sm = 0) (ea : a = 1)
    (H : iprop(X ∗ SA I c (s + 1) ∗ ow (F := F) c n ∗ ctx I K) ⊢ WP c (k ⟨⟩) Q) :
    iprop(X ∗ SG I c s ∗ ow (F := F) c n ∗ ctx I K) ⊢ WP c (.op (.semWait sm a) k) Q := by
  subst es ea
  unfold SG ow
  iintro ⟨HX, ⟨HP, HA, HT, Hcr, Hc, HS, HC⟩, ⟨%W, HO⟩, #Hctx⟩
  iapply (Rounds.wp_wait_rest_token 𝒱₀ ER (Rd I) (c : Thread nD τ) none (κ := K (crG c))
      (wpE_semWait_eq 𝒱₀ (c : Thread nD τ) none Set.univ) (Set.mem_univ _) s (O := owed c n) (W := W) (R := s) (m := 0) (T := ∅)
      (by rw [expect_cr I c s hs])) $$ [Hcr HO Hc]
  · isplitr; · iapply (ctx_cr I K c); iexact Hctx
    isplitl [Hcr]; · iexact Hcr
    isplitl [HO]; · iexact HO
    isplitr
    · iapply ((ctx_lev I K).trans (mayWait c _ s n (by omega) (by show 19 + 2 * s ≤ n; exact hn))); iexact Hctx
    iexact Hc
  iintro ⟨HO, Hc, Hrc, Hpay⟩
  ihave HR := (Entails.of_eq ((rest_cr I c s hs).trans (by unfold crPay; rfl))) $$ Hpay
  iapply H
  isplitl [HX]; · iexact HX
  isplitl [HP HA HT HR Hc Hrc HS HC]
  · unfold SA
    rw [show 15 - (s + 1) = 14 - s by omega]
    isplitl [HP]; · iexact HP
    isplitl [HA]; · iexact HA
    isplitl [HT]; · iexact HT
    isplitl [HR]; · iexact HR
    isplitl [Hc]; · iexact Hc
    isplitl [Hrc]; · iexact Hrc
    isplitl [HS]; · iexact HS
    iexact HC
  isplitl [HO]; · unfold ow; iexists _; iexact HO
  iexact Hctx

end Cert.KernelIdeal.Ring
-- ==== Proof.KernelIdeal.OpsLoad.lean ====
/-
The loads of the second phase and of the operands: each leaves what it read from in place.
-/
module

public import Idealize.SL.BI.BigOpNat
public import proofs.«01_k».proof.Proof.KernelIdeal.State

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F)

/-- A program in two pieces. -/
theorem bindE {P : sProp 𝕄} {α β : Type} {c : Dev nD} {p : Prog (TpuEff nD τ sig (Elt F) Λ₀ .tc) α} {k : α → Prog (TpuEff nD τ sig (Elt F) Λ₀ .tc) β} {Q : β → sProp 𝕄}
    (h : P ⊢ WP c p (fun r => WP c (k r) Q)) : P ⊢ WP c (p >>= k) Q :=
  h.trans (BIBase.Entails.of_eq (wp_bind _ _ _ _ _ _).symm)

/-! ## Buffers taken whole -/

theorem idx_zero {s : Shape} {off : Fin s.rank → ℕ} (h : off = fun _ => 0) (inb : ∀ a, off a + s.size a ≤ s.size a) (x : s.Idx) :
    (Rect.unit (s := s) off s.size inb).toLoadRect.idx x = x := by
  subst h
  funext a
  apply Fin.ext
  have e : ((Rect.unit (s := s) (fun _ => 0) s.size inb).toLoadRect.idx x a).val = 0 + 1 * (x a).val := rfl
  rw [e]; omega

theorem readAt_all {κ : Kind} {sp : Space} {s : Shape} {e : EltTy} (m : Memref sig κ sp s e) {off : Fin s.rank → ℕ} (h : off = fun _ => 0)
    (inb : ∀ a, off a + s.size a ≤ s.size a) (f : m.view.ty.Contents (Elt F)) :
    m.view.readAt (Elt F) (Rect.unit (s := s) off s.size inb).toLoadRect f = m.view.read (Elt F) f := by
  funext x
  rw [View.readAt_apply]
  exact congrArg _ (idx_zero h inb x)

theorem read_write_all {κ : Kind} {sp : Space} {s : Shape} {e : EltTy} (m : Memref sig κ sp s e) (hm : m.IsWhole) {off : Fin s.rank → ℕ} (h : off = fun _ => 0)
    (inb : ∀ a, off a + s.size a ≤ s.size a) (f : m.view.ty.Contents (Elt F)) (w : s.Idx → Elt F e) :
    m.view.read (Elt F) ((m.access (Rect.unit (s := s) off s.size inb)).write (Elt F) f w Finset.univ) = w := by
  obtain ⟨b, rfl, rfl, rfl, hm⟩ := hm
  obtain rfl := eq_of_heq hm
  rw [Memref.write_access_unit_zero_univ (Elt F) b h inb f w]
  rfl

theorem read_view {s : Shape} {e : EltTy} (m : Memref sig .tc .vmem s e) (c : Dev nD) {X : sProp 𝕄} {α : Type} {Q : α → sProp 𝕄} {off : Fin s.rank → ℕ} (h : off = fun _ => 0)
    (inb : ∀ a, off a + s.size a ≤ s.size a) (g : s.Idx → Elt F e) {hl : m.view.LoadsAt (Rect.unit (s := s) off s.size inb).toLoadRect}
    {k : (s.Idx → Elt F e) → Prog (TpuEff nD τ sig (Elt F) Λ₀ .tc) α}
    (H : iprop(owns (c : Thread nD τ) m fullShare g ∗ X) ⊢ WP c (k g) Q) :
    iprop(owns (c : Thread nD τ) m fullShare g ∗ X) ⊢ WP c (.op (.load m (Rect.unit (s := s) off s.size inb).toLoadRect hl) k) Q := by
  unfold owns at H ⊢
  iintro ⟨⟨%f, %hf, HP⟩, HX⟩
  iapply (wp_load 𝒱₀ (c : Thread nD τ) none Set.univ (m := m) (r := (Rect.unit (s := s) off s.size inb).toLoadRect) (hl := hl) (k := k)
    (S := m.view.set) (q := fullShare) (f := f) (View.setOn_subset_set _ _)) $$ HP
  rw [readAt_all m h inb f, hf]
  iintro HP
  iapply H
  isplitl [HP]
  · iexists f
    isplitr
    · ipureintro; exact hf
    iexact HP
  iexact HX

/-- A buffer held whole is overwritten. -/
theorem store_view {s : Shape} {e : EltTy} (m : Memref sig .tc .vmem s e) (hm : m.IsWhole) (c : Dev nD) {X : sProp 𝕄} {α : Type} {Q : α → sProp 𝕄} {off : Fin s.rank → ℕ} (h : off = fun _ => 0)
    (inb : ∀ a, off a + s.size a ≤ s.size a) (g w : s.Idx → Elt F e) {hx hy}
    {k : PUnit → Prog (TpuEff nD τ sig (Elt F) Λ₀ .tc) α}
    (H : iprop(owns (c : Thread nD τ) m fullShare w ∗ X) ⊢ WP c (k ⟨⟩) Q) :
    iprop(owns (c : Thread nD τ) m fullShare g ∗ X) ⊢ WP c (.op (.store m (Rect.unit (s := s) off s.size inb) w Finset.univ hx hy) k) Q := by
  unfold owns at H ⊢
  iintro ⟨⟨%f, -, HP⟩, HX⟩
  iapply (wp_store 𝒱₀ (c : Thread nD τ) none Set.univ (m := m) (r := Rect.unit (s := s) off s.size inb) (w := w) (Mk := Finset.univ) (hx := hx) (hm := hy) (k := k)
    (S := m.view.set) (f := f) (le_trans (View.setOn_subset_set _ _) (View.set_slice_subset _ _))) $$ HP
  iintro HP
  iapply H
  isplitl [HP]
  · iexists _
    isplitr
    · ipureintro; exact read_write_all m hm h inb f w
    iexact HP
  iexact HX

/-! ## Queries, keys and values -/

def qPt (c : Dev nD) (g : FVec F S4096x256 .bf16) : sProp 𝕄 := owns (c : Thread nD τ) qM fullShare g
def kPt (c : Dev nD) (g : FVec F S4096x256 .bf16) : sProp 𝕄 := owns (c : Thread nD τ) kM fullShare g
def vPt (c : Dev nD) (g : FVec F S4096x256 .bf16) : sProp 𝕄 := owns (c : Thread nD τ) vM fullShare g
/-- The three, computed. -/
def QKV (c : Dev nD) : sProp 𝕄 := iprop(qPt c (qv I c) ∗ kPt c (kv I c) ∗ vPt c (vv I c))

theorem part_load (m : Memref sig .tc .vmem S4096x256 .bf16) (c : Dev nD) {X : sProp 𝕄} {α : Type} {Q : α → sProp 𝕄} (g : FVec F S4096x256 .bf16)
    {r : LoadRect S4096x256} {hl : m.view.LoadsAt r} {k : (r.shape.Idx → Elt F .bf16) → Prog (TpuEff nD τ sig (Elt F) Λ₀ .tc) α}
    (H : iprop(owns (c : Thread nD τ) m fullShare g ∗ X) ⊢ WP c (k (fun x => g (r.idx x))) Q) :
    iprop(owns (c : Thread nD τ) m fullShare g ∗ X) ⊢ WP c (.op (.load m r hl) k) Q := by
  unfold owns at H ⊢
  iintro ⟨⟨%f, %hf, HP⟩, HX⟩
  iapply (wp_load 𝒱₀ (c : Thread nD τ) none Set.univ (m := m) (r := r) (hl := hl) (k := k)
    (S := m.view.set) (q := fullShare) (f := f) (View.setOn_subset_set _ _)) $$ HP
  rw [show m.view.readAt (Elt F) r f = fun x => g (r.idx x) from by rw [← hf]; rfl]
  iintro HP
  iapply H
  isplitl [HP]
  · iexists f
    isplitr
    · ipureintro; exact hf
    iexact HP
  iexact HX

theorem op_loadQ {X T : sProp 𝕄} {α : Type} {Q : α → sProp 𝕄} (c : Dev nD) {r : LoadRect S4096x256} {hl : qM.view.LoadsAt r}
    {k : (r.shape.Idx → Elt F .bf16) → Prog (TpuEff nD τ sig (Elt F) Λ₀ .tc) α}
    (H : iprop((QKV I c ∗ X) ∗ T) ⊢ WP c (k (qM.view.readAt (Elt F) r (qv I c))) Q) :
    iprop((QKV I c ∗ X) ∗ T) ⊢ WP c (.op (.load qM r hl) k) Q := by
  unfold QKV at H ⊢
  have e : iprop(((qPt c (qv I c) ∗ kPt c (kv I c) ∗ vPt c (vv I c)) ∗ X) ∗ T) ⊢ iprop(qPt c (qv I c) ∗ (kPt c (kv I c) ∗ vPt c (vv I c)) ∗ X ∗ T) := by
    iintro ⟨⟨⟨HQ, HK, HV⟩, HX⟩, HT⟩
    isplitl [HQ]; · iexact HQ
    isplitl [HK HV]
    · isplitl [HK]; · iexact HK
      iexact HV
    isplitl [HX]; · iexact HX
    iexact HT
  have e' : iprop(qPt c (qv I c) ∗ (kPt c (kv I c) ∗ vPt c (vv I c)) ∗ X ∗ T) ⊢ iprop(((qPt c (qv I c) ∗ kPt c (kv I c) ∗ vPt c (vv I c)) ∗ X) ∗ T) := by
    iintro ⟨HQ, ⟨HK, HV⟩, HX, HT⟩
    isplitr [HT]
    · isplitr [HX]
      · isplitl [HQ]; · iexact HQ
        isplitl [HK]; · iexact HK
        iexact HV
      iexact HX
    iexact HT
  refine e.trans ?_
  exact part_load qM c (qv I c) (e'.trans H)

theorem op_loadK {X T : sProp 𝕄} {α : Type} {Q : α → sProp 𝕄} (c : Dev nD) {r : LoadRect S4096x256} {hl : kM.view.LoadsAt r}
    {k : (r.shape.Idx → Elt F .bf16) → Prog (TpuEff nD τ sig (Elt F) Λ₀ .tc) α}
    (H : iprop((QKV I c ∗ X) ∗ T) ⊢ WP c (k (kM.view.readAt (Elt F) r (kv I c))) Q) :
    iprop((QKV I c ∗ X) ∗ T) ⊢ WP c (.op (.load kM r hl) k) Q := by
  unfold QKV at H ⊢
  have e : iprop(((qPt c (qv I c) ∗ kPt c (kv I c) ∗ vPt c (vv I c)) ∗ X) ∗ T) ⊢ iprop(kPt c (kv I c) ∗ (qPt c (qv I c) ∗ vPt c (vv I c)) ∗ X ∗ T) := by
    iintro ⟨⟨⟨HQ, HK, HV⟩, HX⟩, HT⟩
    isplitl [HK]; · iexact HK
    isplitl [HQ HV]
    · isplitl [HQ]; · iexact HQ
      iexact HV
    isplitl [HX]; · iexact HX
    iexact HT
  have e' : iprop(kPt c (kv I c) ∗ (qPt c (qv I c) ∗ vPt c (vv I c)) ∗ X ∗ T) ⊢ iprop(((qPt c (qv I c) ∗ kPt c (kv I c) ∗ vPt c (vv I c)) ∗ X) ∗ T) := by
    iintro ⟨HK, ⟨HQ, HV⟩, HX, HT⟩
    isplitr [HT]
    · isplitr [HX]
      · isplitl [HQ]; · iexact HQ
        isplitl [HK]; · iexact HK
        iexact HV
      iexact HX
    iexact HT
  refine e.trans ?_
  exact part_load kM c (kv I c) (e'.trans H)

theorem op_loadV {X T : sProp 𝕄} {α : Type} {Q : α → sProp 𝕄} (c : Dev nD) {r : LoadRect S4096x256} {hl : vM.view.LoadsAt r}
    {k : (r.shape.Idx → Elt F .bf16) → Prog (TpuEff nD τ sig (Elt F) Λ₀ .tc) α}
    (H : iprop((QKV I c ∗ X) ∗ T) ⊢ WP c (k (vM.view.readAt (Elt F) r (vv I c))) Q) :
    iprop((QKV I c ∗ X) ∗ T) ⊢ WP c (.op (.load vM r hl) k) Q := by
  unfold QKV at H ⊢
  have e : iprop(((qPt c (qv I c) ∗ kPt c (kv I c) ∗ vPt c (vv I c)) ∗ X) ∗ T) ⊢ iprop(vPt c (vv I c) ∗ (qPt c (qv I c) ∗ kPt c (kv I c)) ∗ X ∗ T) := by
    iintro ⟨⟨⟨HQ, HK, HV⟩, HX⟩, HT⟩
    isplitl [HV]; · iexact HV
    isplitl [HQ HK]
    · isplitl [HQ]; · iexact HQ
      iexact HK
    isplitl [HX]; · iexact HX
    iexact HT
  have e' : iprop(vPt c (vv I c) ∗ (qPt c (qv I c) ∗ kPt c (kv I c)) ∗ X ∗ T) ⊢ iprop(((qPt c (qv I c) ∗ kPt c (kv I c) ∗ vPt c (vv I c)) ∗ X) ∗ T) := by
    iintro ⟨HV, ⟨HQ, HK⟩, HX, HT⟩
    isplitr [HT]
    · isplitr [HX]
      · isplitl [HQ]; · iexact HQ
        isplitl [HK]; · iexact HK
        iexact HV
      iexact HX
    iexact HT
  refine e.trans ?_
  exact part_load vM c (vv I c) (e'.trans H)

/-! ## The operands -/

/-- The operands a device is handed, in their buffers. -/
def ST (c : Dev nD) (a0 : Memref sig .tc .vmem S2x128x512 .bf16) (a1 a2 a3 : Memref sig .tc .vmem S512x256 .bf16) (a4 : Memref sig .tc .vmem S256x512 .bf16)
    (a5 a6 : Memref sig .tc .vmem S2048x64 .f32) : sProp 𝕄 :=
  iprop(owns (c : Thread nD τ) a0 fullShare (I c).x ∗ owns (c : Thread nD τ) a1 fullShare (I c).wq ∗ owns (c : Thread nD τ) a2 fullShare (I c).wk
    ∗ owns (c : Thread nD τ) a3 fullShare (I c).wv ∗ owns (c : Thread nD τ) a4 fullShare (I c).wo ∗ owns (c : Thread nD τ) a5 fullShare (I c).cs
    ∗ owns (c : Thread nD τ) a6 fullShare (I c).sn)

section Operands
variable {a0 : Memref sig .tc .vmem S2x128x512 .bf16} {a1 a2 a3 : Memref sig .tc .vmem S512x256 .bf16} {a4 : Memref sig .tc .vmem S256x512 .bf16}
    {a5 a6 : Memref sig .tc .vmem S2048x64 .f32}

theorem op_ld0 {X T : sProp 𝕄} {α : Type} {Q : α → sProp 𝕄} (c : Dev nD) {off : Fin S2x128x512.rank → ℕ} (h : off = fun _ => 0) (inb : ∀ a, off a + S2x128x512.size a ≤ S2x128x512.size a)
    {hl : a0.view.LoadsAt (Rect.unit (s := S2x128x512) off S2x128x512.size inb).toLoadRect}
    {k : (S2x128x512.Idx → Elt F .bf16) → Prog (TpuEff nD τ sig (Elt F) Λ₀ .tc) α}
    (H : iprop((ST I c a0 a1 a2 a3 a4 a5 a6 ∗ X) ∗ T) ⊢ WP c (k (I c).x) Q) :
    iprop((ST I c a0 a1 a2 a3 a4 a5 a6 ∗ X) ∗ T) ⊢ WP c (.op (.load a0 (Rect.unit (s := S2x128x512) off S2x128x512.size inb).toLoadRect hl) k) Q := by
  have e : iprop((ST I c a0 a1 a2 a3 a4 a5 a6 ∗ X) ∗ T)
      ⊢ iprop(owns (c : Thread nD τ) a0 fullShare (I c).x ∗ (owns (c : Thread nD τ) a0 fullShare (I c).x -∗ (ST I c a0 a1 a2 a3 a4 a5 a6 ∗ X) ∗ T)) := by
    unfold ST
    iintro ⟨⟨⟨H0, H1, H2, H3, H4, H5, H6⟩, HX⟩, HT⟩
    isplitl [H0]; · iexact H0
    iintro H0
    isplitr [HT]
    · isplitr [HX]
      · isplitl [H0]; · iexact H0
        isplitl [H1]; · iexact H1
        isplitl [H2]; · iexact H2
        isplitl [H3]; · iexact H3
        isplitl [H4]; · iexact H4
        isplitl [H5]; · iexact H5
        iexact H6
      iexact HX
    iexact HT
  refine e.trans ?_
  refine read_view a0 c h inb _ ?_
  refine BIBase.Entails.trans ?_ H
  iintro ⟨HP, HW⟩
  iapply HW $$ HP

theorem op_ld1 {X T : sProp 𝕄} {α : Type} {Q : α → sProp 𝕄} (c : Dev nD) {off : Fin S512x256.rank → ℕ} (h : off = fun _ => 0) (inb : ∀ a, off a + S512x256.size a ≤ S512x256.size a)
    {hl : a1.view.LoadsAt (Rect.unit (s := S512x256) off S512x256.size inb).toLoadRect}
    {k : (S512x256.Idx → Elt F .bf16) → Prog (TpuEff nD τ sig (Elt F) Λ₀ .tc) α}
    (H : iprop((ST I c a0 a1 a2 a3 a4 a5 a6 ∗ X) ∗ T) ⊢ WP c (k (I c).wq) Q) :
    iprop((ST I c a0 a1 a2 a3 a4 a5 a6 ∗ X) ∗ T) ⊢ WP c (.op (.load a1 (Rect.unit (s := S512x256) off S512x256.size inb).toLoadRect hl) k) Q := by
  have e : iprop((ST I c a0 a1 a2 a3 a4 a5 a6 ∗ X) ∗ T)
      ⊢ iprop(owns (c : Thread nD τ) a1 fullShare (I c).wq ∗ (owns (c : Thread nD τ) a1 fullShare (I c).wq -∗ (ST I c a0 a1 a2 a3 a4 a5 a6 ∗ X) ∗ T)) := by
    unfold ST
    iintro ⟨⟨⟨H0, H1, H2, H3, H4, H5, H6⟩, HX⟩, HT⟩
    isplitl [H1]; · iexact H1
    iintro H1
    isplitr [HT]
    · isplitr [HX]
      · isplitl [H0]; · iexact H0
        isplitl [H1]; · iexact H1
        isplitl [H2]; · iexact H2
        isplitl [H3]; · iexact H3
        isplitl [H4]; · iexact H4
        isplitl [H5]; · iexact H5
        iexact H6
      iexact HX
    iexact HT
  refine e.trans ?_
  refine read_view a1 c h inb _ ?_
  refine BIBase.Entails.trans ?_ H
  iintro ⟨HP, HW⟩
  iapply HW $$ HP

theorem op_ld2 {X T : sProp 𝕄} {α : Type} {Q : α → sProp 𝕄} (c : Dev nD) {off : Fin S512x256.rank → ℕ} (h : off = fun _ => 0) (inb : ∀ a, off a + S512x256.size a ≤ S512x256.size a)
    {hl : a2.view.LoadsAt (Rect.unit (s := S512x256) off S512x256.size inb).toLoadRect}
    {k : (S512x256.Idx → Elt F .bf16) → Prog (TpuEff nD τ sig (Elt F) Λ₀ .tc) α}
    (H : iprop((ST I c a0 a1 a2 a3 a4 a5 a6 ∗ X) ∗ T) ⊢ WP c (k (I c).wk) Q) :
    iprop((ST I c a0 a1 a2 a3 a4 a5 a6 ∗ X) ∗ T) ⊢ WP c (.op (.load a2 (Rect.unit (s := S512x256) off S512x256.size inb).toLoadRect hl) k) Q := by
  have e : iprop((ST I c a0 a1 a2 a3 a4 a5 a6 ∗ X) ∗ T)
      ⊢ iprop(owns (c : Thread nD τ) a2 fullShare (I c).wk ∗ (owns (c : Thread nD τ) a2 fullShare (I c).wk -∗ (ST I c a0 a1 a2 a3 a4 a5 a6 ∗ X) ∗ T)) := by
    unfold ST
    iintro ⟨⟨⟨H0, H1, H2, H3, H4, H5, H6⟩, HX⟩, HT⟩
    isplitl [H2]; · iexact H2
    iintro H2
    isplitr [HT]
    · isplitr [HX]
      · isplitl [H0]; · iexact H0
        isplitl [H1]; · iexact H1
        isplitl [H2]; · iexact H2
        isplitl [H3]; · iexact H3
        isplitl [H4]; · iexact H4
        isplitl [H5]; · iexact H5
        iexact H6
      iexact HX
    iexact HT
  refine e.trans ?_
  refine read_view a2 c h inb _ ?_
  refine BIBase.Entails.trans ?_ H
  iintro ⟨HP, HW⟩
  iapply HW $$ HP

theorem op_ld3 {X T : sProp 𝕄} {α : Type} {Q : α → sProp 𝕄} (c : Dev nD) {off : Fin S512x256.rank → ℕ} (h : off = fun _ => 0) (inb : ∀ a, off a + S512x256.size a ≤ S512x256.size a)
    {hl : a3.view.LoadsAt (Rect.unit (s := S512x256) off S512x256.size inb).toLoadRect}
    {k : (S512x256.Idx → Elt F .bf16) → Prog (TpuEff nD τ sig (Elt F) Λ₀ .tc) α}
    (H : iprop((ST I c a0 a1 a2 a3 a4 a5 a6 ∗ X) ∗ T) ⊢ WP c (k (I c).wv) Q) :
    iprop((ST I c a0 a1 a2 a3 a4 a5 a6 ∗ X) ∗ T) ⊢ WP c (.op (.load a3 (Rect.unit (s := S512x256) off S512x256.size inb).toLoadRect hl) k) Q := by
  have e : iprop((ST I c a0 a1 a2 a3 a4 a5 a6 ∗ X) ∗ T)
      ⊢ iprop(owns (c : Thread nD τ) a3 fullShare (I c).wv ∗ (owns (c : Thread nD τ) a3 fullShare (I c).wv -∗ (ST I c a0 a1 a2 a3 a4 a5 a6 ∗ X) ∗ T)) := by
    unfold ST
    iintro ⟨⟨⟨H0, H1, H2, H3, H4, H5, H6⟩, HX⟩, HT⟩
    isplitl [H3]; · iexact H3
    iintro H3
    isplitr [HT]
    · isplitr [HX]
      · isplitl [H0]; · iexact H0
        isplitl [H1]; · iexact H1
        isplitl [H2]; · iexact H2
        isplitl [H3]; · iexact H3
        isplitl [H4]; · iexact H4
        isplitl [H5]; · iexact H5
        iexact H6
      iexact HX
    iexact HT
  refine e.trans ?_
  refine read_view a3 c h inb _ ?_
  refine BIBase.Entails.trans ?_ H
  iintro ⟨HP, HW⟩
  iapply HW $$ HP

theorem op_ld4 {X T : sProp 𝕄} {α : Type} {Q : α → sProp 𝕄} (c : Dev nD) {off : Fin S256x512.rank → ℕ} (h : off = fun _ => 0) (inb : ∀ a, off a + S256x512.size a ≤ S256x512.size a)
    {hl : a4.view.LoadsAt (Rect.unit (s := S256x512) off S256x512.size inb).toLoadRect}
    {k : (S256x512.Idx → Elt F .bf16) → Prog (TpuEff nD τ sig (Elt F) Λ₀ .tc) α}
    (H : iprop((ST I c a0 a1 a2 a3 a4 a5 a6 ∗ X) ∗ T) ⊢ WP c (k (I c).wo) Q) :
    iprop((ST I c a0 a1 a2 a3 a4 a5 a6 ∗ X) ∗ T) ⊢ WP c (.op (.load a4 (Rect.unit (s := S256x512) off S256x512.size inb).toLoadRect hl) k) Q := by
  have e : iprop((ST I c a0 a1 a2 a3 a4 a5 a6 ∗ X) ∗ T)
      ⊢ iprop(owns (c : Thread nD τ) a4 fullShare (I c).wo ∗ (owns (c : Thread nD τ) a4 fullShare (I c).wo -∗ (ST I c a0 a1 a2 a3 a4 a5 a6 ∗ X) ∗ T)) := by
    unfold ST
    iintro ⟨⟨⟨H0, H1, H2, H3, H4, H5, H6⟩, HX⟩, HT⟩
    isplitl [H4]; · iexact H4
    iintro H4
    isplitr [HT]
    · isplitr [HX]
      · isplitl [H0]; · iexact H0
        isplitl [H1]; · iexact H1
        isplitl [H2]; · iexact H2
        isplitl [H3]; · iexact H3
        isplitl [H4]; · iexact H4
        isplitl [H5]; · iexact H5
        iexact H6
      iexact HX
    iexact HT
  refine e.trans ?_
  refine read_view a4 c h inb _ ?_
  refine BIBase.Entails.trans ?_ H
  iintro ⟨HP, HW⟩
  iapply HW $$ HP

theorem op_ld5 {X T : sProp 𝕄} {α : Type} {Q : α → sProp 𝕄} (c : Dev nD) {off : Fin S2048x64.rank → ℕ} (h : off = fun _ => 0) (inb : ∀ a, off a + S2048x64.size a ≤ S2048x64.size a)
    {hl : a5.view.LoadsAt (Rect.unit (s := S2048x64) off S2048x64.size inb).toLoadRect}
    {k : (S2048x64.Idx → Elt F .f32) → Prog (TpuEff nD τ sig (Elt F) Λ₀ .tc) α}
    (H : iprop((ST I c a0 a1 a2 a3 a4 a5 a6 ∗ X) ∗ T) ⊢ WP c (k (I c).cs) Q) :
    iprop((ST I c a0 a1 a2 a3 a4 a5 a6 ∗ X) ∗ T) ⊢ WP c (.op (.load a5 (Rect.unit (s := S2048x64) off S2048x64.size inb).toLoadRect hl) k) Q := by
  have e : iprop((ST I c a0 a1 a2 a3 a4 a5 a6 ∗ X) ∗ T)
      ⊢ iprop(owns (c : Thread nD τ) a5 fullShare (I c).cs ∗ (owns (c : Thread nD τ) a5 fullShare (I c).cs -∗ (ST I c a0 a1 a2 a3 a4 a5 a6 ∗ X) ∗ T)) := by
    unfold ST
    iintro ⟨⟨⟨H0, H1, H2, H3, H4, H5, H6⟩, HX⟩, HT⟩
    isplitl [H5]; · iexact H5
    iintro H5
    isplitr [HT]
    · isplitr [HX]
      · isplitl [H0]; · iexact H0
        isplitl [H1]; · iexact H1
        isplitl [H2]; · iexact H2
        isplitl [H3]; · iexact H3
        isplitl [H4]; · iexact H4
        isplitl [H5]; · iexact H5
        iexact H6
      iexact HX
    iexact HT
  refine e.trans ?_
  refine read_view a5 c h inb _ ?_
  refine BIBase.Entails.trans ?_ H
  iintro ⟨HP, HW⟩
  iapply HW $$ HP

theorem op_ld6 {X T : sProp 𝕄} {α : Type} {Q : α → sProp 𝕄} (c : Dev nD) {off : Fin S2048x64.rank → ℕ} (h : off = fun _ => 0) (inb : ∀ a, off a + S2048x64.size a ≤ S2048x64.size a)
    {hl : a6.view.LoadsAt (Rect.unit (s := S2048x64) off S2048x64.size inb).toLoadRect}
    {k : (S2048x64.Idx → Elt F .f32) → Prog (TpuEff nD τ sig (Elt F) Λ₀ .tc) α}
    (H : iprop((ST I c a0 a1 a2 a3 a4 a5 a6 ∗ X) ∗ T) ⊢ WP c (k (I c).sn) Q) :
    iprop((ST I c a0 a1 a2 a3 a4 a5 a6 ∗ X) ∗ T) ⊢ WP c (.op (.load a6 (Rect.unit (s := S2048x64) off S2048x64.size inb).toLoadRect hl) k) Q := by
  have e : iprop((ST I c a0 a1 a2 a3 a4 a5 a6 ∗ X) ∗ T)
      ⊢ iprop(owns (c : Thread nD τ) a6 fullShare (I c).sn ∗ (owns (c : Thread nD τ) a6 fullShare (I c).sn -∗ (ST I c a0 a1 a2 a3 a4 a5 a6 ∗ X) ∗ T)) := by
    unfold ST
    iintro ⟨⟨⟨H0, H1, H2, H3, H4, H5, H6⟩, HX⟩, HT⟩
    isplitl [H6]; · iexact H6
    iintro H6
    isplitr [HT]
    · isplitr [HX]
      · isplitl [H0]; · iexact H0
        isplitl [H1]; · iexact H1
        isplitl [H2]; · iexact H2
        isplitl [H3]; · iexact H3
        isplitl [H4]; · iexact H4
        isplitl [H5]; · iexact H5
        iexact H6
      iexact HX
    iexact HT
  refine e.trans ?_
  refine read_view a6 c h inb _ ?_
  refine BIBase.Entails.trans ?_ H
  iintro ⟨HP, HW⟩
  iapply HW $$ HP

end Operands

end Cert.KernelIdeal.Ring
-- ==== Proof.KernelIdeal.OpsEdge.lean ====
/-
The steps between the phases: the own block stored, the gathered input loaded, and queries, keys and values stored.
-/
module

public import Idealize.SL.BI.BigOpNat
public import proofs.«01_k».proof.Proof.KernelIdeal.OpsLoad

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F)

theorem wp_done {α : Type} {P : sProp 𝕄} {c : Dev nD} {Q : α → sProp 𝕄} {a : α} (H : P ⊢ Q a) : P ⊢ WP c (.ret a) Q :=
  H.trans (le_wp_ret _ _ _ a Q)

/-! ## The device's own block, into slot 0 -/

/-- Before the own block is stored. -/
def G0 (c : Dev nD) : sProp 𝕄 := iprop(xfAny (F := F) c 0 ∗ todoR (F := F) c 0 ∗ todoL (F := F) c 0)

theorem xfPtAt (c : Dev nD) (k : ℕ) (hk : k < 16) (g : FVec F S2x128x512 .bf16) :
    xfPt c k fullShare g = ((xfM.access (slotR k hk)).loc (c : Thread nD τ) ↦[slotSet k]{fullShare} canon g : sProp 𝕄) := rfl

theorem op_dead0 {X T : sProp 𝕄} {α : Type} {Q : α → sProp 𝕄} (c : Dev nD) (hk : 0 < 16)
    {hl : xfM.view.LoadsAt (slotR 0 hk).toLoadRect} {k : ((slotR 0 hk).shape.Idx → Elt F .bf16) → Prog (TpuEff nD τ sig (Elt F) Λ₀ .tc) α}
    (H : ∀ x, iprop(X ∗ G0 (F := F) c ∗ T) ⊢ WP c (k x) Q) :
    iprop(X ∗ G0 (F := F) c ∗ T) ⊢ WP c (.op (.load xfM (slotR 0 hk).toLoadRect hl) k) Q := by
  unfold G0 xfAny at H ⊢
  iintro ⟨HX, ⟨⟨%g, HP⟩, HG⟩, HT⟩
  ihave HP := (Entails.of_eq (xfPtAt c 0 hk g)) $$ HP
  iapply (wp_load_rect 𝒱₀ (c : Thread nD τ) none Set.univ (m := xfM) (r := slotR 0 hk) (hl := hl) (k := k) (S := slotSet 0) (q := fullShare) (f := canon g)
    (le_of_eq (xfAccess_set 0 hk))) $$ HP
  iintro HP
  ihave HP := (Entails.of_eq (xfPtAt c 0 hk g).symm) $$ HP
  iapply (H _)
  isplitl [HX]; · iexact HX
  isplitr [HT]
  · isplitl [HP]
    · iexists g; iexact HP
    iexact HG
  iexact HT

theorem share0 (c : Dev nD) (g : FVec F S2x128x512 .bf16) :
    xfPt c 0 fullShare g ⊢ iprop(xfPt c 0 fullShare.left g ∗ xfPt c 0 fullShare.right g : sProp 𝕄) := by
  unfold xfPt; exact (pointsTo_share (PosShare.mem_left_op_right fullShare)).1
theorem unshare0 (c : Dev nD) (g : FVec F S2x128x512 .bf16) :
    iprop(xfPt c 0 fullShare.left g ∗ xfPt c 0 fullShare.right g) ⊢ (xfPt c 0 fullShare g : sProp 𝕄) := by
  unfold xfPt; exact (pointsTo_share (PosShare.mem_left_op_right fullShare)).2

theorem cast_back (g : FVec F S2x128x512 .bf16) : shapeCast S2x128x512 (k0_pay1 g) shapeCasts_S2x1x128x512_S2x128x512 = g := by
  show shapeCast S2x128x512 (shapeCast S2x1x128x512 (shapeCast S2x128x512 g shapeCasts_S2x128x512_S2x128x512) shapeCasts_S2x128x512_S2x1x128x512) shapeCasts_S2x1x128x512_S2x128x512 = g
  simp only [shapeCast_shapeCast, shapeCast_self]

theorem op_store0 {X T : sProp 𝕄} {α : Type} {Q : α → sProp 𝕄} (c : Dev nD) (hk : 0 < 16)
    {w : FVec F S2x1x128x512 .bf16} {hx hm} {k : PUnit → Prog (TpuEff nD τ sig (Elt F) Λ₀ .tc) α}
    (hw : shapeCast S2x128x512 w shapeCasts_S2x1x128x512_S2x128x512 = (I c).x)
    (H : iprop(X ∗ (R0 I c 0 ∗ L0 I c 0) ∗ T) ⊢ WP c (k ⟨⟩) Q) :
    iprop(X ∗ G0 (F := F) c ∗ T) ⊢ WP c (.op (.store xfM (slotR 0 hk) w Finset.univ hx hm) k) Q := by
  have e : xAt I c 0 = (I c).x := by unfold xAt; rw [rot_zero]
  unfold G0 xfAny
  iintro ⟨HX, ⟨⟨%g, HP⟩, HR, HL⟩, HT⟩
  ihave HP := (Entails.of_eq (xfPtAt c 0 hk g)) $$ HP
  iapply (wp_store 𝒱₀ (c : Thread nD τ) none Set.univ (m := xfM) (r := slotR 0 hk) (w := w) (Mk := Finset.univ) (hx := hx) (hm := hm) (k := k) (S := slotSet 0) (f := canon g)
    (le_of_eq (xfAccess_set 0 hk))) $$ HP
  iintro HP
  ihave HP := (Entails.of_eq ((xfPt_of c 0 hk fullShare _).trans (by rw [slotOf_xfStore, hw, ← e]))) $$ HP
  ihave HP := (share0 c (xAt I c 0)) $$ HP
  icases HP with ⟨H1, H2⟩
  iapply H
  isplitl [HX]; · iexact HX
  isplitr [HT]
  · isplitl [H1 HR]
    · unfold R0 pastR rPt
      rw [Finset.range_zero, bigSep_empty]
      isplitr; · iempintro
      isplitl [H1]; · iexact H1
      iexact HR
    · unfold L0 pastL lPt
      rw [Finset.range_zero, bigSep_empty]
      isplitr; · iempintro
      isplitl [H2]; · iexact H2
      iexact HL
  iexact HT

/-! ## The gathered input, loaded whole -/

theorem xf_slot (c : Dev nD) (k : ℕ) (q : PosShare TreeShare) :
    xfPt c k q (xAt I c k) = (xfM.view.loc (c : Thread nD τ) ↦[slotSet k]{q} xAll I c : sProp 𝕄) := by
  unfold xfPt
  refine pointsTo_congr fun i hi => ?_
  have h := (mem_slotSet k i).mp hi
  subst h
  rfl

def semsOf (c : Dev nD) (i : ℕ) : sProp 𝕄 := iprop(semVal (agS c i) 0 ∗ semVal (agR c i) 0)

/-- The gather over: the whole input, and its semaphores at rest. -/
def XD (c : Dev nD) : sProp 𝕄 :=
  iprop((xfM.view.loc (c : Thread nD τ) ↦{fullShare} xAll I c) ∗ bigSep (Finset.range 8) (semsOf (F := F) c) ∗ bigSep (Finset.range 7) (fun i => semsOf (F := F) c (8 + i)))

theorem join16 (c : Dev nD) :
    bigSep (Finset.range 16) (fun k => xfPt c k fullShare (xAt I c k)) ⊢ (xfM.view.loc (c : Thread nD τ) ↦{fullShare} xAll I c : sProp 𝕄) := by
  have e : (xfM.view.loc (c : Thread nD τ) ↦{fullShare} xAll I c : sProp 𝕄)
      = bigSep (Finset.range 16) fun k => (xfM.view.loc (c : Thread nD τ) ↦[slotSet k]{fullShare} xAll I c : sProp 𝕄) := by
    have h := pointsTo_biUnion (Val := Elt F) (Ix := ℕ) (Name := ℕ) (U := UU) (Lvl := ℕ) (ℓ := xfM.view.loc (c : Thread nD τ)) (q := fullShare) (f := xAll I c) (Finset.range 16) slotSet fun t _ t' _ h => slotSet_disjoint t t' h
    rw [← h, biUnion_slots]
  rw [e]
  exact bigSep_mono fun k _ => Entails.of_eq (xf_slot I c k fullShare)

theorem slots_of (c : Dev nD) :
    iprop(bigSep (Finset.range 9) (rPt I c) ∗ bigSep (Finset.range 8) (lPt I c)) ⊢ bigSep (Finset.range 16) (fun k => xfPt c k fullShare (xAt I c k)) := by
  simp only [bigSep_range_succ, Finset.range_zero, bigSep_empty, rPt, lPt, rSh, lSh, Nat.reduceSub, Nat.reduceMod, OfNat.ofNat_ne_zero, one_ne_zero, if_true, if_false, Nat.reduceEqDiff, Nat.sub_zero, Nat.mod_self]
  iintro ⟨⟨R8, R7, R6, R5, R4, R3, R2, R1, R0, -⟩, ⟨L7, L6, L5, L4, L3, L2, L1, L0, -⟩⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [L7]; · iexact L7
  isplitl [L6]; · iexact L6
  isplitl [L5]; · iexact L5
  isplitl [L4]; · iexact L4
  isplitl [L3]; · iexact L3
  isplitl [L2]; · iexact L2
  isplitl [L1]; · iexact L1
  isplitl
  · iapply (unshare0 c (xAt I c 0))
    isplitl [R0]; · iexact R0
    iexact L0
  iempintro

theorem gathered (c : Dev nD) : iprop(R0 I c 8 ∗ L0 I c 7) ⊢ XD I c := by
  unfold R0 L0 XD
  have eR : pastR I c 8 = iprop(bigSep (Finset.range 8) (rPt I c) ∗ bigSep (Finset.range 8) (semsOf (F := F) c)) := by
    unfold pastR; rw [← bigSep_sep']; rfl
  have eL : pastL I c 7 = iprop(bigSep (Finset.range 7) (lPt I c) ∗ bigSep (Finset.range 7) (fun i => semsOf (F := F) c (8 + i))) := by
    unfold pastL; rw [← bigSep_sep']; rfl
  rw [eR, eL]
  iintro ⟨⟨⟨HR, HS⟩, HR8, -⟩, ⟨HL, HU⟩, HL7, -⟩
  isplitr [HS HU]
  · iapply (join16 I c)
    iapply (slots_of I c)
    isplitl [HR HR8]
    · iapply (Entails.of_eq (bigSep_range_succ 8 (A := rPt I c)).symm)
      isplitl [HR8]; · iexact HR8
      iexact HR
    · iapply (Entails.of_eq (bigSep_range_succ 7 (A := lPt I c)).symm)
      isplitl [HL7]; · iexact HL7
      iexact HL
  isplitl [HS]; · iexact HS
  iexact HU

theorem op_loadX {X T : sProp 𝕄} {α : Type} {Q : α → sProp 𝕄} (c : Dev nD) {off : Fin S2x16x128x512.rank → ℕ} (h : off = fun _ => 0)
    (inb : ∀ a, off a + S2x16x128x512.size a ≤ S2x16x128x512.size a)
    {hl : xfM.view.LoadsAt (Rect.unit (s := S2x16x128x512) off S2x16x128x512.size inb).toLoadRect}
    {k : (S2x16x128x512.Idx → Elt F .bf16) → Prog (TpuEff nD τ sig (Elt F) Λ₀ .tc) α}
    (H : iprop(X ∗ XD I c ∗ T) ⊢ WP c (k (xAll I c)) Q) :
    iprop(X ∗ (R0 I c 8 ∗ L0 I c 7) ∗ T) ⊢ WP c (.op (.load xfM (Rect.unit (s := S2x16x128x512) off S2x16x128x512.size inb).toLoadRect hl) k) Q := by
  refine (sep_mono .rfl (sep_mono (gathered I c) .rfl)).trans ?_
  unfold XD at H ⊢
  iintro ⟨HX, ⟨HP, HS⟩, HT⟩
  iapply (wp_load 𝒱₀ (c : Thread nD τ) none Set.univ (m := xfM) (r := (Rect.unit (s := S2x16x128x512) off S2x16x128x512.size inb).toLoadRect) (hl := hl) (k := k)
    (S := Finset.univ) (q := fullShare) (f := xAll I c) (Finset.subset_univ _)) $$ HP
  rw [show xfM.view.readAt (Elt F) (Rect.unit (s := S2x16x128x512) off S2x16x128x512.size inb).toLoadRect (xAll I c) = xAll I c from (readAt_all xfM h inb (xAll I c)).trans rfl]
  iintro HP
  iapply H
  isplitl [HX]; · iexact HX
  isplitr [HT]
  · isplitl [HP]; · iexact HP
    iexact HS
  iexact HT

/-! ## Queries, keys and values, as they are computed -/

def qAny (c : Dev nD) : sProp 𝕄 := iprop(∃ g : FVec F S4096x256 .bf16, qPt c g)
def kAny (c : Dev nD) : sProp 𝕄 := iprop(∃ g : FVec F S4096x256 .bf16, kPt c g)
def vAny (c : Dev nD) : sProp 𝕄 := iprop(∃ g : FVec F S4096x256 .bf16, vPt c g)
def Q0 (c : Dev nD) : sProp 𝕄 := iprop(qAny (F := F) c ∗ kAny (F := F) c ∗ vAny (F := F) c)
def Q1 (c : Dev nD) : sProp 𝕄 := iprop(qPt c (qv I c) ∗ kAny (F := F) c ∗ vAny (F := F) c)
def Q2 (c : Dev nD) : sProp 𝕄 := iprop(qPt c (qv I c) ∗ kPt c (kv I c) ∗ vAny (F := F) c)

theorem op_deadQ {A X T : sProp 𝕄} {α : Type} {Q : α → sProp 𝕄} (c : Dev nD) {off : Fin S4096x256.rank → ℕ} (h : off = fun _ => 0) (inb : ∀ a, off a + S4096x256.size a ≤ S4096x256.size a)
    {hl : qM.view.LoadsAt (Rect.unit (s := S4096x256) off S4096x256.size inb).toLoadRect} {k : (S4096x256.Idx → Elt F .bf16) → Prog (TpuEff nD τ sig (Elt F) Λ₀ .tc) α}
    (H : ∀ x, iprop((A ∗ (Q0 (F := F) c ∗ X)) ∗ T) ⊢ WP c (k x) Q) :
    iprop((A ∗ (Q0 (F := F) c ∗ X)) ∗ T) ⊢ WP c (.op (.load qM (Rect.unit (s := S4096x256) off S4096x256.size inb).toLoadRect hl) k) Q := by
  unfold Q0 qAny qPt at H ⊢
  iintro ⟨⟨HA, ⟨HQ, HK, HV⟩, HX⟩, HT⟩
  icases HQ with ⟨%g, HQ⟩
  iapply (read_view qM c (X := iprop(A ∗ kAny (F := F) c ∗ vAny (F := F) c ∗ X ∗ T)) h inb g (hl := hl) (k := k) (Q := Q) ?_)
  · refine BIBase.Entails.trans ?_ (H g)
    iintro ⟨HQ, HA, HK, HV, HX, HT⟩
    isplitr [HT]
    · isplitl [HA]; · iexact HA
      isplitr [HX]
      · isplitl [HQ]; · first | iexact HQ | (iexists g; iexact HQ)
        isplitl [HK]; · first | iexact HK | (iexists g; iexact HK)
        first | iexact HV | (iexists g; iexact HV)
      iexact HX
    iexact HT
  isplitl [HQ]; · iexact HQ
  isplitl [HA]; · iexact HA
  isplitl [HK]; · first | iexact HK | (unfold kPt; iexact HK)
  isplitl [HV]; · iexact HV
  isplitl [HX]; · iexact HX
  iexact HT

theorem op_storeQ {A X T : sProp 𝕄} {α : Type} {Q : α → sProp 𝕄} (c : Dev nD) {off : Fin S4096x256.rank → ℕ} (h : off = fun _ => 0) (inb : ∀ a, off a + S4096x256.size a ≤ S4096x256.size a)
    {w : S4096x256.Idx → Elt F .bf16} {hx hy} {k : PUnit → Prog (TpuEff nD τ sig (Elt F) Λ₀ .tc) α} (hw : w = qv I c)
    (H : iprop((A ∗ (Q1 I c ∗ X)) ∗ T) ⊢ WP c (k ⟨⟩) Q) :
    iprop((A ∗ (Q0 (F := F) c ∗ X)) ∗ T) ⊢ WP c (.op (.store qM (Rect.unit (s := S4096x256) off S4096x256.size inb) w Finset.univ hx hy) k) Q := by
  subst hw
  unfold Q0 qAny
  unfold Q1 at H
  iintro ⟨⟨HA, ⟨HQ, HK, HV⟩, HX⟩, HT⟩
  icases HQ with ⟨%g, HQ⟩
  iapply (store_view qM (Memref.isWhole_whole _) c (X := iprop(A ∗ kAny (F := F) c ∗ vAny (F := F) c ∗ X ∗ T)) h inb g (qv I c) (hx := hx) (hy := hy) (k := k) (Q := Q) ?_)
  · refine BIBase.Entails.trans ?_ H
    iintro ⟨HQ, HA, HK, HV, HX, HT⟩
    isplitr [HT]
    · isplitl [HA]; · iexact HA
      isplitr [HX]
      · isplitl [HQ]; · first | iexact HQ | (unfold qPt; iexact HQ)
        isplitl [HK]; · first | iexact HK | (unfold kPt; iexact HK)
        first | iexact HV | (unfold vPt; iexact HV)
      iexact HX
    iexact HT
  isplitl [HQ]; · unfold qPt; iexact HQ
  isplitl [HA]; · iexact HA
  isplitl [HK]; · iexact HK
  isplitl [HV]; · iexact HV
  isplitl [HX]; · iexact HX
  iexact HT

theorem op_deadK {A X T : sProp 𝕄} {α : Type} {Q : α → sProp 𝕄} (c : Dev nD) {off : Fin S4096x256.rank → ℕ} (h : off = fun _ => 0) (inb : ∀ a, off a + S4096x256.size a ≤ S4096x256.size a)
    {hl : kM.view.LoadsAt (Rect.unit (s := S4096x256) off S4096x256.size inb).toLoadRect} {k : (S4096x256.Idx → Elt F .bf16) → Prog (TpuEff nD τ sig (Elt F) Λ₀ .tc) α}
    (H : ∀ x, iprop((A ∗ (Q1 I c ∗ X)) ∗ T) ⊢ WP c (k x) Q) :
    iprop((A ∗ (Q1 I c ∗ X)) ∗ T) ⊢ WP c (.op (.load kM (Rect.unit (s := S4096x256) off S4096x256.size inb).toLoadRect hl) k) Q := by
  unfold Q1 kAny kPt at H ⊢
  iintro ⟨⟨HA, ⟨HQ, HK, HV⟩, HX⟩, HT⟩
  icases HK with ⟨%g, HK⟩
  iapply (read_view kM c (X := iprop(A ∗ qPt c (qv I c) ∗ vAny (F := F) c ∗ X ∗ T)) h inb g (hl := hl) (k := k) (Q := Q) ?_)
  · refine BIBase.Entails.trans ?_ (H g)
    iintro ⟨HK, HA, HQ, HV, HX, HT⟩
    isplitr [HT]
    · isplitl [HA]; · iexact HA
      isplitr [HX]
      · isplitl [HQ]; · first | iexact HQ | (iexists g; iexact HQ)
        isplitl [HK]; · first | iexact HK | (iexists g; iexact HK)
        first | iexact HV | (iexists g; iexact HV)
      iexact HX
    iexact HT
  isplitl [HK]; · iexact HK
  isplitl [HA]; · iexact HA
  isplitl [HQ]; · first | iexact HQ | (unfold qPt; iexact HQ)
  isplitl [HV]; · iexact HV
  isplitl [HX]; · iexact HX
  iexact HT

theorem op_storeK {A X T : sProp 𝕄} {α : Type} {Q : α → sProp 𝕄} (c : Dev nD) {off : Fin S4096x256.rank → ℕ} (h : off = fun _ => 0) (inb : ∀ a, off a + S4096x256.size a ≤ S4096x256.size a)
    {w : S4096x256.Idx → Elt F .bf16} {hx hy} {k : PUnit → Prog (TpuEff nD τ sig (Elt F) Λ₀ .tc) α} (hw : w = kv I c)
    (H : iprop((A ∗ (Q2 I c ∗ X)) ∗ T) ⊢ WP c (k ⟨⟩) Q) :
    iprop((A ∗ (Q1 I c ∗ X)) ∗ T) ⊢ WP c (.op (.store kM (Rect.unit (s := S4096x256) off S4096x256.size inb) w Finset.univ hx hy) k) Q := by
  subst hw
  unfold Q1 kAny
  unfold Q2 at H
  iintro ⟨⟨HA, ⟨HQ, HK, HV⟩, HX⟩, HT⟩
  icases HK with ⟨%g, HK⟩
  iapply (store_view kM (Memref.isWhole_whole _) c (X := iprop(A ∗ qPt c (qv I c) ∗ vAny (F := F) c ∗ X ∗ T)) h inb g (kv I c) (hx := hx) (hy := hy) (k := k) (Q := Q) ?_)
  · refine BIBase.Entails.trans ?_ H
    iintro ⟨HK, HA, HQ, HV, HX, HT⟩
    isplitr [HT]
    · isplitl [HA]; · iexact HA
      isplitr [HX]
      · isplitl [HQ]; · first | iexact HQ | (unfold qPt; iexact HQ)
        isplitl [HK]; · first | iexact HK | (unfold kPt; iexact HK)
        first | iexact HV | (unfold vPt; iexact HV)
      iexact HX
    iexact HT
  isplitl [HK]; · unfold kPt; iexact HK
  isplitl [HA]; · iexact HA
  isplitl [HQ]; · iexact HQ
  isplitl [HV]; · iexact HV
  isplitl [HX]; · iexact HX
  iexact HT

theorem op_deadV {A X T : sProp 𝕄} {α : Type} {Q : α → sProp 𝕄} (c : Dev nD) {off : Fin S4096x256.rank → ℕ} (h : off = fun _ => 0) (inb : ∀ a, off a + S4096x256.size a ≤ S4096x256.size a)
    {hl : vM.view.LoadsAt (Rect.unit (s := S4096x256) off S4096x256.size inb).toLoadRect} {k : (S4096x256.Idx → Elt F .bf16) → Prog (TpuEff nD τ sig (Elt F) Λ₀ .tc) α}
    (H : ∀ x, iprop((A ∗ (Q2 I c ∗ X)) ∗ T) ⊢ WP c (k x) Q) :
    iprop((A ∗ (Q2 I c ∗ X)) ∗ T) ⊢ WP c (.op (.load vM (Rect.unit (s := S4096x256) off S4096x256.size inb).toLoadRect hl) k) Q := by
  unfold Q2 vAny vPt at H ⊢
  iintro ⟨⟨HA, ⟨HQ, HK, HV⟩, HX⟩, HT⟩
  icases HV with ⟨%g, HV⟩
  iapply (read_view vM c (X := iprop(A ∗ qPt c (qv I c) ∗ kPt c (kv I c) ∗ X ∗ T)) h inb g (hl := hl) (k := k) (Q := Q) ?_)
  · refine BIBase.Entails.trans ?_ (H g)
    iintro ⟨HV, HA, HQ, HK, HX, HT⟩
    isplitr [HT]
    · isplitl [HA]; · iexact HA
      isplitr [HX]
      · isplitl [HQ]; · first | iexact HQ | (iexists g; iexact HQ)
        isplitl [HK]; · first | iexact HK | (iexists g; iexact HK)
        first | iexact HV | (iexists g; iexact HV)
      iexact HX
    iexact HT
  isplitl [HV]; · iexact HV
  isplitl [HA]; · iexact HA
  isplitl [HQ]; · first | iexact HQ | (unfold qPt; iexact HQ)
  isplitl [HK]; · iexact HK
  isplitl [HX]; · iexact HX
  iexact HT

theorem op_storeV {A X T : sProp 𝕄} {α : Type} {Q : α → sProp 𝕄} (c : Dev nD) {off : Fin S4096x256.rank → ℕ} (h : off = fun _ => 0) (inb : ∀ a, off a + S4096x256.size a ≤ S4096x256.size a)
    {w : S4096x256.Idx → Elt F .bf16} {hx hy} {k : PUnit → Prog (TpuEff nD τ sig (Elt F) Λ₀ .tc) α} (hw : w = vv I c)
    (H : iprop((A ∗ (QKV I c ∗ X)) ∗ T) ⊢ WP c (k ⟨⟩) Q) :
    iprop((A ∗ (Q2 I c ∗ X)) ∗ T) ⊢ WP c (.op (.store vM (Rect.unit (s := S4096x256) off S4096x256.size inb) w Finset.univ hx hy) k) Q := by
  subst hw
  unfold Q2 vAny
  unfold QKV at H
  iintro ⟨⟨HA, ⟨HQ, HK, HV⟩, HX⟩, HT⟩
  icases HV with ⟨%g, HV⟩
  iapply (store_view vM (Memref.isWhole_whole _) c (X := iprop(A ∗ qPt c (qv I c) ∗ kPt c (kv I c) ∗ X ∗ T)) h inb g (vv I c) (hx := hx) (hy := hy) (k := k) (Q := Q) ?_)
  · refine BIBase.Entails.trans ?_ H
    iintro ⟨HV, HA, HQ, HK, HX, HT⟩
    isplitr [HT]
    · isplitl [HA]; · iexact HA
      isplitr [HX]
      · isplitl [HQ]; · first | iexact HQ | (unfold qPt; iexact HQ)
        isplitl [HK]; · first | iexact HK | (unfold kPt; iexact HK)
        first | iexact HV | (unfold vPt; iexact HV)
      iexact HX
    iexact HT
  isplitl [HV]; · unfold vPt; iexact HV
  isplitl [HA]; · iexact HA
  isplitl [HQ]; · iexact HQ
  isplitl [HK]; · iexact HK
  isplitl [HX]; · iexact HX
  iexact HT

/-- The first phase's leavings set aside for the second. -/
theorem turn {A X T : sProp 𝕄} {α : Type} {Q : α → sProp 𝕄} (c : Dev nD) {p : Prog (TpuEff nD τ sig (Elt F) Λ₀ .tc) α}
    (H : iprop((QKV I c ∗ (A ∗ XD I c ∗ X)) ∗ SZ (F := F) c ∗ T) ⊢ WP c p Q) :
    iprop((A ∗ (QKV I c ∗ (SZ (F := F) c ∗ X))) ∗ XD I c ∗ T) ⊢ WP c p Q := by
  refine BIBase.Entails.trans ?_ H
  iintro ⟨⟨HA, HQ, HZ, HX⟩, HD, HT⟩
  isplitl [HA HQ HX HD]
  · isplitl [HQ]; · iexact HQ
    isplitl [HA]; · iexact HA
    isplitl [HD]; · iexact HD
    iexact HX
  isplitl [HZ]; · iexact HZ
  iexact HT

/-- The sum stored in step `s`. -/
theorem sum_eq (c : Dev nD) (s : ℕ) {x : FVec F S2x1x128x512 .bf16} (hx : shapeCast S2x128x512 x shapeCasts_S2x1x128x512_S2x128x512 = chunk I c (14 - s))
    (w : FVec F S2x1x128x512 .bf16)
    (hw : w = shapeCast S2x1x128x512 (addf (shapeCast S2x128x512 x shapeCasts_S2x1x128x512_S2x128x512) (av I s (prv c))) shapeCasts_S2x128x512_S2x1x128x512) :
    shapeCast S2x128x512 w shapeCasts_S2x1x128x512_S2x128x512 = av I (s + 1) c := by
  rw [hw, shapeCast_shapeCast, hx]; rfl

end Cert.KernelIdeal.Ring
-- ==== Proof.KernelIdeal.Devs.lean ====
/-
Each device the program computes is the right or the left neighbour.
-/
module

public import Idealize.SL.BI.BigOpNat
public import proofs.«01_k».proof.Proof.KernelIdeal.Slots

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

/-! The devices the program names are the two neighbours. -/

theorem dev1 (c : Dev nD) : (⟨k0_dev1 c, k0_dev1_lt c⟩ : Dev nD) = prv c := by revert c; decide +kernel
theorem dev2 (c : Dev nD) : (⟨k0_dev2 c, k0_dev2_lt c⟩ : Dev nD) = nxt c := by revert c; decide +kernel
theorem dev3 (c : Dev nD) : (⟨k0_dev3 c, k0_dev3_lt c⟩ : Dev nD) = nxt c := by revert c; decide +kernel
theorem dev4 (c : Dev nD) : (⟨k0_dev4 c, k0_dev4_lt c⟩ : Dev nD) = prv c := by revert c; decide +kernel
theorem dev5 (c : Dev nD) : (⟨k0_dev5 c, k0_dev5_lt c⟩ : Dev nD) = nxt c := by revert c; decide +kernel
theorem dev6 (c : Dev nD) : (⟨k0_dev6 c, k0_dev6_lt c⟩ : Dev nD) = prv c := by revert c; decide +kernel
theorem dev7 (c : Dev nD) : (⟨k0_dev7 c, k0_dev7_lt c⟩ : Dev nD) = nxt c := by revert c; decide +kernel
theorem dev8 (c : Dev nD) : (⟨k0_dev8 c, k0_dev8_lt c⟩ : Dev nD) = prv c := by revert c; decide +kernel
theorem dev9 (c : Dev nD) : (⟨k0_dev9 c, k0_dev9_lt c⟩ : Dev nD) = nxt c := by revert c; decide +kernel
theorem dev10 (c : Dev nD) : (⟨k0_dev10 c, k0_dev10_lt c⟩ : Dev nD) = prv c := by revert c; decide +kernel
theorem dev11 (c : Dev nD) : (⟨k0_dev11 c, k0_dev11_lt c⟩ : Dev nD) = nxt c := by revert c; decide +kernel
theorem dev12 (c : Dev nD) : (⟨k0_dev12 c, k0_dev12_lt c⟩ : Dev nD) = prv c := by revert c; decide +kernel
theorem dev13 (c : Dev nD) : (⟨k0_dev13 c, k0_dev13_lt c⟩ : Dev nD) = nxt c := by revert c; decide +kernel
theorem dev14 (c : Dev nD) : (⟨k0_dev14 c, k0_dev14_lt c⟩ : Dev nD) = prv c := by revert c; decide +kernel
theorem dev15 (c : Dev nD) : (⟨k0_dev15 c, k0_dev15_lt c⟩ : Dev nD) = nxt c := by revert c; decide +kernel
theorem dev16 (c : Dev nD) : (⟨k0_dev16 c, k0_dev16_lt c⟩ : Dev nD) = prv c := by revert c; decide +kernel
theorem dev17 (c : Dev nD) : (⟨k0_dev17 c, k0_dev17_lt c⟩ : Dev nD) = nxt c := by revert c; decide +kernel
theorem dev18 (c : Dev nD) : (⟨k0_dev18 c, k0_dev18_lt c⟩ : Dev nD) = nxt c := by revert c; decide +kernel
theorem dev19 (c : Dev nD) : (⟨k0_dev19 c, k0_dev19_lt c⟩ : Dev nD) = prv c := by revert c; decide +kernel
theorem dev20 (c : Dev nD) : (⟨k0_dev20 c, k0_dev20_lt c⟩ : Dev nD) = nxt c := by revert c; decide +kernel
theorem dev21 (c : Dev nD) : (⟨k0_dev21 c, k0_dev21_lt c⟩ : Dev nD) = prv c := by revert c; decide +kernel
theorem dev22 (c : Dev nD) : (⟨k0_dev22 c, k0_dev22_lt c⟩ : Dev nD) = nxt c := by revert c; decide +kernel
theorem dev23 (c : Dev nD) : (⟨k0_dev23 c, k0_dev23_lt c⟩ : Dev nD) = prv c := by revert c; decide +kernel
theorem dev24 (c : Dev nD) : (⟨k0_dev24 c, k0_dev24_lt c⟩ : Dev nD) = nxt c := by revert c; decide +kernel
theorem dev25 (c : Dev nD) : (⟨k0_dev25 c, k0_dev25_lt c⟩ : Dev nD) = prv c := by revert c; decide +kernel
theorem dev26 (c : Dev nD) : (⟨k0_dev26 c, k0_dev26_lt c⟩ : Dev nD) = nxt c := by revert c; decide +kernel
theorem dev27 (c : Dev nD) : (⟨k0_dev27 c, k0_dev27_lt c⟩ : Dev nD) = prv c := by revert c; decide +kernel
theorem dev28 (c : Dev nD) : (⟨k0_dev28 c, k0_dev28_lt c⟩ : Dev nD) = nxt c := by revert c; decide +kernel
theorem dev29 (c : Dev nD) : (⟨k0_dev29 c, k0_dev29_lt c⟩ : Dev nD) = prv c := by revert c; decide +kernel
theorem dev30 (c : Dev nD) : (⟨k0_dev30 c, k0_dev30_lt c⟩ : Dev nD) = nxt c := by revert c; decide +kernel
theorem dev31 (c : Dev nD) : (⟨k0_dev31 c, k0_dev31_lt c⟩ : Dev nD) = prv c := by revert c; decide +kernel
theorem dev32 (c : Dev nD) : (⟨k0_dev32 c, k0_dev32_lt c⟩ : Dev nD) = nxt c := by revert c; decide +kernel
theorem dev33 (c : Dev nD) : (⟨k0_dev33 c, k0_dev33_lt c⟩ : Dev nD) = prv c := by revert c; decide +kernel
theorem dev34 (c : Dev nD) : (⟨k0_dev34 c, k0_dev34_lt c⟩ : Dev nD) = nxt c := by revert c; decide +kernel
theorem dev35 (c : Dev nD) : (⟨k0_dev35 c, k0_dev35_lt c⟩ : Dev nD) = prv c := by revert c; decide +kernel
theorem dev36 (c : Dev nD) : (⟨k0_dev36 c, k0_dev36_lt c⟩ : Dev nD) = nxt c := by revert c; decide +kernel
theorem dev37 (c : Dev nD) : (⟨k0_dev37 c, k0_dev37_lt c⟩ : Dev nD) = prv c := by revert c; decide +kernel
theorem dev38 (c : Dev nD) : (⟨k0_dev38 c, k0_dev38_lt c⟩ : Dev nD) = nxt c := by revert c; decide +kernel
theorem dev39 (c : Dev nD) : (⟨k0_dev39 c, k0_dev39_lt c⟩ : Dev nD) = prv c := by revert c; decide +kernel
theorem dev40 (c : Dev nD) : (⟨k0_dev40 c, k0_dev40_lt c⟩ : Dev nD) = nxt c := by revert c; decide +kernel
theorem dev41 (c : Dev nD) : (⟨k0_dev41 c, k0_dev41_lt c⟩ : Dev nD) = prv c := by revert c; decide +kernel
theorem dev42 (c : Dev nD) : (⟨k0_dev42 c, k0_dev42_lt c⟩ : Dev nD) = nxt c := by revert c; decide +kernel
theorem dev43 (c : Dev nD) : (⟨k0_dev43 c, k0_dev43_lt c⟩ : Dev nD) = prv c := by revert c; decide +kernel
theorem dev44 (c : Dev nD) : (⟨k0_dev44 c, k0_dev44_lt c⟩ : Dev nD) = nxt c := by revert c; decide +kernel
theorem dev45 (c : Dev nD) : (⟨k0_dev45 c, k0_dev45_lt c⟩ : Dev nD) = prv c := by revert c; decide +kernel
theorem dev46 (c : Dev nD) : (⟨k0_dev46 c, k0_dev46_lt c⟩ : Dev nD) = nxt c := by revert c; decide +kernel

end Cert.KernelIdeal.Ring
-- ==== Proof.KernelIdeal.PartsA.lean ====
/-
The parts of the body that gather the input and compute queries, keys and values.
-/
module

public import Idealize.SL.BI.BigOpNat
public import proofs.«01_k».proof.Proof.KernelIdeal.OpsGather
public import proofs.«01_k».proof.Proof.KernelIdeal.OpsRing
public import proofs.«01_k».proof.Proof.KernelIdeal.OpsEdge
public import proofs.«01_k».proof.Proof.KernelIdeal.Devs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F) (K : GSem nD τ sig → ℕ)
variable (a0 : Memref sig .tc .vmem S2x128x512 .bf16) (h0 : a0.IsWhole) (a1 : Memref sig .tc .vmem S512x256 .bf16) (h1 : a1.IsWhole)
    (a2 : Memref sig .tc .vmem S512x256 .bf16) (h2 : a2.IsWhole) (a3 : Memref sig .tc .vmem S512x256 .bf16) (h3 : a3.IsWhole)
    (a4 : Memref sig .tc .vmem S256x512 .bf16) (h4 : a4.IsWhole) (a5 : Memref sig .tc .vmem S2048x64 .f32) (h5 : a5.IsWhole)
    (a6 : Memref sig .tc .vmem S2048x64 .f32) (h6 : a6.IsWhole) (a7 : Memref sig .tc .vmem S2x128x512 .f32) (h7 : a7.IsWhole)

theorem part2 (c : Dev nD) {X : sProp 𝕄} (v14 : BitVec 32) (v25 : BitVec 32) {Q : (PUnit) → sProp 𝕄}
    (H : iprop((ST I c a0 a1 a2 a3 a4 a5 a6 ∗ X) ∗ (R1 I c 0 ∗ L1 I c 0) ∗ ow (F := F) c 4 ∗ ctx I K) ⊢ Q ⟨⟩) :
    iprop((ST I c a0 a1 a2 a3 a4 a5 a6 ∗ X) ∗ G0 (F := F) c ∗ ow (F := F) c 2 ∗ ctx I K)
      ⊢ WP c (k0_part2 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part2_eq_skeleton]; unfold k0_part2_skel
  simp only [semSignalWord, semWaitWord, Prog.lift, Prog.bind_op, Prog.bind_ret, Prog.pure_eq_ret]
  refine op_ld0 I c (by decide) _ ?_
  refine op_dead0 c (by decide) (fun _ => ?_)
  refine op_store0 I c (by decide) (cast_back _) ?_
  refine op_sendR I K c 0 (by decide) 2 rfl (by decide) (by decide) (congrArg Dev.tc (dev3 c)) rfl HEq.rfl rfl rfl ?_
  refine op_sendL I K c 0 (by decide) 3 rfl (by decide) (by decide) (congrArg Dev.tc (dev4 c)) rfl HEq.rfl rfl rfl ?_
  exact wp_done (H)

theorem part3 (c : Dev nD) {X : sProp 𝕄} (v25 : BitVec 32) {Q : (PUnit) → sProp 𝕄}
    (H : iprop(X ∗ (R0 I c 1 ∗ L2 I c 0) ∗ ow (F := F) c 4 ∗ ctx I K) ⊢ Q ⟨⟩) :
    iprop(X ∗ (R1 I c 0 ∗ L1 I c 0) ∗ ow (F := F) c 4 ∗ ctx I K)
      ⊢ WP c (k0_part3 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v25) Q := by
  rw [k0_part3_eq_skeleton]; unfold k0_part3_skel
  simp only [semSignalWord, semWaitWord, Prog.lift, Prog.bind_op, Prog.bind_ret, Prog.pure_eq_ret]
  refine op_waitSR I K c 0 (by decide) 4 rfl rfl ?_
  refine op_waitRR I K c 0 (by decide) 4 (by decide) rfl rfl ?_
  refine op_waitSL I K c 0 (by decide) 4 rfl rfl ?_
  exact wp_done (H)

theorem part4 (c : Dev nD) {X : sProp 𝕄} (v14 : BitVec 32) (v25 : BitVec 32) {Q : (PUnit) → sProp 𝕄}
    (H : iprop(X ∗ (R1 I c 1 ∗ L0 I c 1) ∗ ow (F := F) c 5 ∗ ctx I K) ⊢ Q ⟨⟩) :
    iprop(X ∗ (R0 I c 1 ∗ L2 I c 0) ∗ ow (F := F) c 4 ∗ ctx I K)
      ⊢ WP c (k0_part4 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part4_eq_skeleton]; unfold k0_part4_skel
  simp only [semSignalWord, semWaitWord, Prog.lift, Prog.bind_op, Prog.bind_ret, Prog.pure_eq_ret]
  refine op_waitRL I K c 0 (by decide) 4 (by decide) rfl rfl ?_
  refine op_sendR I K c 1 (by decide) 4 rfl (by decide) (by decide) (congrArg Dev.tc (dev5 c)) rfl HEq.rfl rfl rfl ?_
  exact wp_done (H)

theorem part5 (c : Dev nD) {X : sProp 𝕄} (v25 : BitVec 32) {Q : (PUnit) → sProp 𝕄}
    (H : iprop(X ∗ (R0 I c 2 ∗ L2 I c 1) ∗ ow (F := F) c 6 ∗ ctx I K) ⊢ Q ⟨⟩) :
    iprop(X ∗ (R1 I c 1 ∗ L0 I c 1) ∗ ow (F := F) c 5 ∗ ctx I K)
      ⊢ WP c (k0_part5 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v25) Q := by
  rw [k0_part5_eq_skeleton]; unfold k0_part5_skel
  simp only [semSignalWord, semWaitWord, Prog.lift, Prog.bind_op, Prog.bind_ret, Prog.pure_eq_ret]
  refine op_sendL I K c 1 (by decide) 5 rfl (by decide) (by decide) (congrArg Dev.tc (dev6 c)) rfl HEq.rfl rfl rfl ?_
  refine op_waitSR I K c 1 (by decide) 6 rfl rfl ?_
  refine op_waitRR I K c 1 (by decide) 6 (by decide) rfl rfl ?_
  refine op_waitSL I K c 1 (by decide) 6 rfl rfl ?_
  exact wp_done (H)

theorem part6 (c : Dev nD) {X : sProp 𝕄} (v14 : BitVec 32) (v25 : BitVec 32) {Q : (PUnit) → sProp 𝕄}
    (H : iprop(X ∗ (R1 I c 2 ∗ L0 I c 2) ∗ ow (F := F) c 7 ∗ ctx I K) ⊢ Q ⟨⟩) :
    iprop(X ∗ (R0 I c 2 ∗ L2 I c 1) ∗ ow (F := F) c 6 ∗ ctx I K)
      ⊢ WP c (k0_part6 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part6_eq_skeleton]; unfold k0_part6_skel
  simp only [semSignalWord, semWaitWord, Prog.lift, Prog.bind_op, Prog.bind_ret, Prog.pure_eq_ret]
  refine op_waitRL I K c 1 (by decide) 6 (by decide) rfl rfl ?_
  refine op_sendR I K c 2 (by decide) 6 rfl (by decide) (by decide) (congrArg Dev.tc (dev7 c)) rfl HEq.rfl rfl rfl ?_
  exact wp_done (H)

theorem part7 (c : Dev nD) {X : sProp 𝕄} (v25 : BitVec 32) {Q : (PUnit) → sProp 𝕄}
    (H : iprop(X ∗ (R0 I c 3 ∗ L1 I c 2) ∗ ow (F := F) c 8 ∗ ctx I K) ⊢ Q ⟨⟩) :
    iprop(X ∗ (R1 I c 2 ∗ L0 I c 2) ∗ ow (F := F) c 7 ∗ ctx I K)
      ⊢ WP c (k0_part7 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v25) Q := by
  rw [k0_part7_eq_skeleton]; unfold k0_part7_skel
  simp only [semSignalWord, semWaitWord, Prog.lift, Prog.bind_op, Prog.bind_ret, Prog.pure_eq_ret]
  refine op_sendL I K c 2 (by decide) 7 rfl (by decide) (by decide) (congrArg Dev.tc (dev8 c)) rfl HEq.rfl rfl rfl ?_
  refine op_waitSR I K c 2 (by decide) 8 rfl rfl ?_
  refine op_waitRR I K c 2 (by decide) 8 (by decide) rfl rfl ?_
  exact wp_done (H)

theorem part8 (c : Dev nD) {X : sProp 𝕄} (v14 : BitVec 32) (v25 : BitVec 32) {Q : (PUnit) → sProp 𝕄}
    (H : iprop(X ∗ (R1 I c 3 ∗ L0 I c 3) ∗ ow (F := F) c 9 ∗ ctx I K) ⊢ Q ⟨⟩) :
    iprop(X ∗ (R0 I c 3 ∗ L1 I c 2) ∗ ow (F := F) c 8 ∗ ctx I K)
      ⊢ WP c (k0_part8 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part8_eq_skeleton]; unfold k0_part8_skel
  simp only [semSignalWord, semWaitWord, Prog.lift, Prog.bind_op, Prog.bind_ret, Prog.pure_eq_ret]
  refine op_waitSL I K c 2 (by decide) 8 rfl rfl ?_
  refine op_waitRL I K c 2 (by decide) 8 (by decide) rfl rfl ?_
  refine op_sendR I K c 3 (by decide) 8 rfl (by decide) (by decide) (congrArg Dev.tc (dev9 c)) rfl HEq.rfl rfl rfl ?_
  exact wp_done (H)

theorem part9 (c : Dev nD) {X : sProp 𝕄} (v25 : BitVec 32) {Q : (PUnit) → sProp 𝕄}
    (H : iprop(X ∗ (R0 I c 4 ∗ L1 I c 3) ∗ ow (F := F) c 10 ∗ ctx I K) ⊢ Q ⟨⟩) :
    iprop(X ∗ (R1 I c 3 ∗ L0 I c 3) ∗ ow (F := F) c 9 ∗ ctx I K)
      ⊢ WP c (k0_part9 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v25) Q := by
  rw [k0_part9_eq_skeleton]; unfold k0_part9_skel
  simp only [semSignalWord, semWaitWord, Prog.lift, Prog.bind_op, Prog.bind_ret, Prog.pure_eq_ret]
  refine op_sendL I K c 3 (by decide) 9 rfl (by decide) (by decide) (congrArg Dev.tc (dev10 c)) rfl HEq.rfl rfl rfl ?_
  refine op_waitSR I K c 3 (by decide) 10 rfl rfl ?_
  refine op_waitRR I K c 3 (by decide) 10 (by decide) rfl rfl ?_
  exact wp_done (H)

theorem part10 (c : Dev nD) {X : sProp 𝕄} (v14 : BitVec 32) (v25 : BitVec 32) {Q : (PUnit) → sProp 𝕄}
    (H : iprop(X ∗ (R1 I c 4 ∗ L0 I c 4) ∗ ow (F := F) c 11 ∗ ctx I K) ⊢ Q ⟨⟩) :
    iprop(X ∗ (R0 I c 4 ∗ L1 I c 3) ∗ ow (F := F) c 10 ∗ ctx I K)
      ⊢ WP c (k0_part10 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part10_eq_skeleton]; unfold k0_part10_skel
  simp only [semSignalWord, semWaitWord, Prog.lift, Prog.bind_op, Prog.bind_ret, Prog.pure_eq_ret]
  refine op_waitSL I K c 3 (by decide) 10 rfl rfl ?_
  refine op_waitRL I K c 3 (by decide) 10 (by decide) rfl rfl ?_
  refine op_sendR I K c 4 (by decide) 10 rfl (by decide) (by decide) (congrArg Dev.tc (dev11 c)) rfl HEq.rfl rfl rfl ?_
  exact wp_done (H)

theorem part11 (c : Dev nD) {X : sProp 𝕄} (v25 : BitVec 32) {Q : (PUnit) → sProp 𝕄}
    (H : iprop(X ∗ (R0 I c 5 ∗ L1 I c 4) ∗ ow (F := F) c 12 ∗ ctx I K) ⊢ Q ⟨⟩) :
    iprop(X ∗ (R1 I c 4 ∗ L0 I c 4) ∗ ow (F := F) c 11 ∗ ctx I K)
      ⊢ WP c (k0_part11 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v25) Q := by
  rw [k0_part11_eq_skeleton]; unfold k0_part11_skel
  simp only [semSignalWord, semWaitWord, Prog.lift, Prog.bind_op, Prog.bind_ret, Prog.pure_eq_ret]
  refine op_sendL I K c 4 (by decide) 11 rfl (by decide) (by decide) (congrArg Dev.tc (dev12 c)) rfl HEq.rfl rfl rfl ?_
  refine op_waitSR I K c 4 (by decide) 12 rfl rfl ?_
  refine op_waitRR I K c 4 (by decide) 12 (by decide) rfl rfl ?_
  exact wp_done (H)

theorem part12 (c : Dev nD) {X : sProp 𝕄} (v14 : BitVec 32) (v25 : BitVec 32) {Q : (PUnit) → sProp 𝕄}
    (H : iprop(X ∗ (R1 I c 5 ∗ L0 I c 5) ∗ ow (F := F) c 13 ∗ ctx I K) ⊢ Q ⟨⟩) :
    iprop(X ∗ (R0 I c 5 ∗ L1 I c 4) ∗ ow (F := F) c 12 ∗ ctx I K)
      ⊢ WP c (k0_part12 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part12_eq_skeleton]; unfold k0_part12_skel
  simp only [semSignalWord, semWaitWord, Prog.lift, Prog.bind_op, Prog.bind_ret, Prog.pure_eq_ret]
  refine op_waitSL I K c 4 (by decide) 12 rfl rfl ?_
  refine op_waitRL I K c 4 (by decide) 12 (by decide) rfl rfl ?_
  refine op_sendR I K c 5 (by decide) 12 rfl (by decide) (by decide) (congrArg Dev.tc (dev13 c)) rfl HEq.rfl rfl rfl ?_
  exact wp_done (H)

theorem part13 (c : Dev nD) {X : sProp 𝕄} (v14 : BitVec 32) (v25 : BitVec 32) {Q : (PUnit) → sProp 𝕄}
    (H : iprop(X ∗ (R0 I c 6 ∗ L1 I c 5) ∗ ow (F := F) c 14 ∗ ctx I K) ⊢ Q ⟨⟩) :
    iprop(X ∗ (R1 I c 5 ∗ L0 I c 5) ∗ ow (F := F) c 13 ∗ ctx I K)
      ⊢ WP c (k0_part13 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part13_eq_skeleton]; unfold k0_part13_skel
  simp only [semSignalWord, semWaitWord, Prog.lift, Prog.bind_op, Prog.bind_ret, Prog.pure_eq_ret]
  refine op_sendL I K c 5 (by decide) 13 rfl (by decide) (by decide) (congrArg Dev.tc (dev14 c)) rfl HEq.rfl rfl rfl ?_
  refine op_waitSR I K c 5 (by decide) 14 rfl rfl ?_
  refine op_waitRR I K c 5 (by decide) 14 (by decide) rfl rfl ?_
  exact wp_done (H)

theorem part14 (c : Dev nD) {X : sProp 𝕄} (v14 : BitVec 32) (v25 : BitVec 32) {Q : (PUnit) → sProp 𝕄}
    (H : iprop(X ∗ (R1 I c 6 ∗ L0 I c 6) ∗ ow (F := F) c 15 ∗ ctx I K) ⊢ Q ⟨⟩) :
    iprop(X ∗ (R0 I c 6 ∗ L1 I c 5) ∗ ow (F := F) c 14 ∗ ctx I K)
      ⊢ WP c (k0_part14 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part14_eq_skeleton]; unfold k0_part14_skel
  simp only [semSignalWord, semWaitWord, Prog.lift, Prog.bind_op, Prog.bind_ret, Prog.pure_eq_ret]
  refine op_waitSL I K c 5 (by decide) 14 rfl rfl ?_
  refine op_waitRL I K c 5 (by decide) 14 (by decide) rfl rfl ?_
  refine op_sendR I K c 6 (by decide) 14 rfl (by decide) (by decide) (congrArg Dev.tc (dev15 c)) rfl HEq.rfl rfl rfl ?_
  exact wp_done (H)

theorem part15 (c : Dev nD) {X : sProp 𝕄} (v14 : BitVec 32) (v25 : BitVec 32) {Q : (PUnit) → sProp 𝕄}
    (H : iprop(X ∗ (R2 I c 6 ∗ L1 I c 6) ∗ ow (F := F) c 16 ∗ ctx I K) ⊢ Q ⟨⟩) :
    iprop(X ∗ (R1 I c 6 ∗ L0 I c 6) ∗ ow (F := F) c 15 ∗ ctx I K)
      ⊢ WP c (k0_part15 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part15_eq_skeleton]; unfold k0_part15_skel
  simp only [semSignalWord, semWaitWord, Prog.lift, Prog.bind_op, Prog.bind_ret, Prog.pure_eq_ret]
  refine op_sendL I K c 6 (by decide) 15 rfl (by decide) (by decide) (congrArg Dev.tc (dev16 c)) rfl HEq.rfl rfl rfl ?_
  refine op_waitSR I K c 6 (by decide) 16 rfl rfl ?_
  exact wp_done (H)

theorem part16 (c : Dev nD) {X : sProp 𝕄} (v14 : BitVec 32) (v25 : BitVec 32) {Q : (PUnit) → sProp 𝕄}
    (H : iprop(X ∗ (R0 I c 7 ∗ L0 I c 7) ∗ ow (F := F) c 16 ∗ ctx I K) ⊢ Q ⟨⟩) :
    iprop(X ∗ (R2 I c 6 ∗ L1 I c 6) ∗ ow (F := F) c 16 ∗ ctx I K)
      ⊢ WP c (k0_part16 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v14 v25) Q := by
  rw [k0_part16_eq_skeleton]; unfold k0_part16_skel
  simp only [semSignalWord, semWaitWord, Prog.lift, Prog.bind_op, Prog.bind_ret, Prog.pure_eq_ret]
  refine op_waitRR I K c 6 (by decide) 16 (by decide) rfl rfl ?_
  refine op_waitSL I K c 6 (by decide) 16 rfl rfl ?_
  refine op_waitRL I K c 6 (by decide) 16 (by decide) rfl rfl ?_
  exact wp_done (H)

theorem part17 (c : Dev nD) {X : sProp 𝕄} (v25 : BitVec 32) {Q : (Σ' (v397 : FVec F S4096x512 .bf16) (v403 : FVec F S4096x64 .f32), FVec F S4096x256 .f32) → sProp 𝕄}
    (H : iprop((ST I c a0 a1 a2 a3 a4 a5 a6 ∗ X) ∗ XD I c ∗ ow (F := F) c 17 ∗ ctx I K) ⊢ Q ⟨k0_pay2 (xAll I c), k0_pay3 (I c).sn, k0_pay4 (I c).cs⟩) :
    iprop((ST I c a0 a1 a2 a3 a4 a5 a6 ∗ X) ∗ (R0 I c 7 ∗ L0 I c 7) ∗ ow (F := F) c 16 ∗ ctx I K)
      ⊢ WP c (k0_part17 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v25) Q := by
  rw [k0_part17_eq_skeleton]; unfold k0_part17_skel
  simp only [semSignalWord, semWaitWord, Prog.lift, Prog.bind_op, Prog.bind_ret, Prog.pure_eq_ret]
  refine op_sendR I K c 7 (by decide) 16 rfl (by decide) (by decide) (congrArg Dev.tc (dev17 c)) rfl HEq.rfl rfl rfl ?_
  refine op_waitSR I K c 7 (by decide) 17 rfl rfl ?_
  refine op_waitRR I K c 7 (by decide) 17 (by decide) rfl rfl ?_
  refine op_loadX I c (by decide) _ ?_
  refine op_ld5 I c (by decide) _ ?_
  refine op_ld6 I c (by decide) _ ?_
  exact wp_done (H)

theorem part18 (c : Dev nD) {X : sProp 𝕄} (v397 : FVec F S4096x512 .bf16) (v403 : FVec F S4096x64 .f32) (v404 : FVec F S4096x256 .f32) {Q : (Σ' (v405 : FVec F S4096x256 .f32) (v424 : IVec S4096x256 1) (v428 : FVec F S512x256 .bf16) (v430 : FVec F S512x256 .bf16), FVec F S4096x256 .bf16) → sProp 𝕄}
    (H : iprop((ST I c a0 a1 a2 a3 a4 a5 a6 ∗ (Q0 (F := F) c ∗ X)) ∗ XD I c ∗ ow (F := F) c 17 ∗ ctx I K) ⊢ Q ⟨k0_pay5 v403, k0_pay6, k0_pay7 (I c).wk, k0_pay8 (I c).wv, k0_pay9 v397 v403 v404 (I c).wq⟩) :
    iprop((ST I c a0 a1 a2 a3 a4 a5 a6 ∗ (Q0 (F := F) c ∗ X)) ∗ XD I c ∗ ow (F := F) c 17 ∗ ctx I K)
      ⊢ WP c (k0_part18 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v397 v403 v404) Q := by
  rw [k0_part18_eq_skeleton]; unfold k0_part18_skel
  simp only [semSignalWord, semWaitWord, Prog.lift, Prog.bind_op, Prog.bind_ret, Prog.pure_eq_ret]
  refine op_ld1 I c (by decide) _ ?_
  refine op_ld2 I c (by decide) _ ?_
  refine op_ld3 I c (by decide) _ ?_
  refine op_deadQ c (by decide) _ (fun _ => ?_)
  exact wp_done (H)

theorem part19 (c : Dev nD) {X : sProp 𝕄} (v397 : FVec F S4096x512 .bf16) (v404 : FVec F S4096x256 .f32) (v405 : FVec F S4096x256 .f32) (v424 : IVec S4096x256 1) (v428 : FVec F S512x256 .bf16) (v430 : FVec F S512x256 .bf16) (v447 : FVec F S4096x256 .bf16) {Q : (Σ' (v471 : FVec F S256x512 .bf16) (v482 : FVec F S128x1 .f32), FVec F S128x64 .f32) → sProp 𝕄}
    (hqv : v447 = qv I c)
    (hkv : (k0_pay10 v397 v404 v405 v424 v428) = kv I c)
    (hvv : (k0_pay11 v397 v430) = vv I c)
    (H : iprop((QKV I c ∗ (ST I c a0 a1 a2 a3 a4 a5 a6 ∗ XD I c ∗ X)) ∗ SZ (F := F) c ∗ ow (F := F) c 17 ∗ ctx I K) ⊢ Q ⟨k0_pay12 (I c).wo, k0_pay14 (qp (qv I c) 15 (by decide) 0 (by decide) 0 (by decide)) (kp (kv I c) 0 (by decide) 0 (by decide)), k0_pay15 (qp (qv I c) 15 (by decide) 0 (by decide) 0 (by decide)) (kp (kv I c) 0 (by decide) 0 (by decide)) (kp (vv I c) 0 (by decide) 0 (by decide))⟩) :
    iprop((ST I c a0 a1 a2 a3 a4 a5 a6 ∗ (Q0 (F := F) c ∗ (SZ (F := F) c ∗ X))) ∗ XD I c ∗ ow (F := F) c 17 ∗ ctx I K)
      ⊢ WP c (k0_part19 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v397 v404 v405 v424 v428 v430 v447) Q := by
  rw [k0_part19_eq_skeleton]; unfold k0_part19_skel
  simp only [semSignalWord, semWaitWord, Prog.lift, Prog.bind_op, Prog.bind_ret, Prog.pure_eq_ret]
  refine op_storeQ I c (by decide) _ hqv ?_
  refine op_deadK I c (by decide) _ (fun _ => ?_)
  refine op_storeK I c (by decide) _ hkv ?_
  refine op_deadV I c (by decide) _ (fun _ => ?_)
  refine op_storeV I c (by decide) _ hvv ?_
  refine op_ld4 I c (by decide) _ ?_
  refine turn I c ?_
  refine op_loadQ I c ?_
  refine op_loadK I c ?_
  refine op_loadV I c ?_
  exact wp_done (H)

end Cert.KernelIdeal.Ring
-- ==== Proof.KernelIdeal.PartsB.lean ====
/-
The parts of the body over the first steps of the reduction.
-/
module

public import Idealize.SL.BI.BigOpNat
public import proofs.«01_k».proof.Proof.KernelIdeal.OpsGather
public import proofs.«01_k».proof.Proof.KernelIdeal.OpsRing
public import proofs.«01_k».proof.Proof.KernelIdeal.OpsEdge
public import proofs.«01_k».proof.Proof.KernelIdeal.Devs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F) (K : GSem nD τ sig → ℕ)
variable (a0 : Memref sig .tc .vmem S2x128x512 .bf16) (h0 : a0.IsWhole) (a1 : Memref sig .tc .vmem S512x256 .bf16) (h1 : a1.IsWhole)
    (a2 : Memref sig .tc .vmem S512x256 .bf16) (h2 : a2.IsWhole) (a3 : Memref sig .tc .vmem S512x256 .bf16) (h3 : a3.IsWhole)
    (a4 : Memref sig .tc .vmem S256x512 .bf16) (h4 : a4.IsWhole) (a5 : Memref sig .tc .vmem S2048x64 .f32) (h5 : a5.IsWhole)
    (a6 : Memref sig .tc .vmem S2048x64 .f32) (h6 : a6.IsWhole) (a7 : Memref sig .tc .vmem S2x128x512 .f32) (h7 : a7.IsWhole)

theorem part20 (c : Dev nD) {X : sProp 𝕄} (v482 : FVec F S128x1 .f32) (v484 : FVec F S128x64 .f32) {Q : (Σ' (v486 : FVec F S128x64 .f32) (v501 : FVec F S128x64 .f32) (v516 : FVec F S128x64 .f32) (v517 : Vec F S128x64 .bf16), Vec F S2048x64 .bf16) → sProp 𝕄}
    (H : iprop((QKV I c ∗ X) ∗ SZ (F := F) c ∗ ow (F := F) c 17 ∗ ctx I K) ⊢ Q ⟨k0_pay16 v482 v484, k0_pay17 (qp (qv I c) 15 (by decide) 0 (by decide) 1 (by decide)) (kp (kv I c) 0 (by decide) 1 (by decide)) (kp (vv I c) 0 (by decide) 1 (by decide)), k0_pay18 (qp (qv I c) 15 (by decide) 0 (by decide) 2 (by decide)) (kp (kv I c) 0 (by decide) 2 (by decide)) (kp (vv I c) 0 (by decide) 2 (by decide)), (qp (qv I c) 15 (by decide) 0 (by decide) 3 (by decide)), (kp (kv I c) 0 (by decide) 3 (by decide))⟩) :
    iprop((QKV I c ∗ X) ∗ SZ (F := F) c ∗ ow (F := F) c 17 ∗ ctx I K)
      ⊢ WP c (k0_part20 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v482 v484) Q := by
  rw [k0_part20_eq_skeleton]; unfold k0_part20_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  refine op_loadQ I c ?_
  refine op_loadK I c ?_
  exact wp_done (H)

theorem part21 (c : Dev nD) {X : sProp 𝕄} (v486 : FVec F S128x64 .f32) (v501 : FVec F S128x64 .f32) (v516 : FVec F S128x64 .f32) (v517 : Vec F S128x64 .bf16) (v518 : Vec F S2048x64 .bf16) {Q : (Σ' (v532 : FVec F S128x256 .f32) (v547 : FVec F S128x64 .f32) (v550 : Vec F S2048x64 .bf16) (v551 : FVec F S128x2048 .f32), FVec F S128x2048 .f32) → sProp 𝕄}
    (H : iprop((QKV I c ∗ X) ∗ SZ (F := F) c ∗ ow (F := F) c 17 ∗ ctx I K) ⊢ Q ⟨k0_pay19 v486 v501 v516 v517 v518 (kp (vv I c) 0 (by decide) 3 (by decide)), k0_pay20 (qp (qv I c) 15 (by decide) 1 (by decide) 0 (by decide)) (kp (kv I c) 1 (by decide) 0 (by decide)) (kp (vv I c) 1 (by decide) 0 (by decide)), (kp (vv I c) 1 (by decide) 1 (by decide)), k0_pay21 (qp (qv I c) 15 (by decide) 1 (by decide) 1 (by decide)) (kp (kv I c) 1 (by decide) 1 (by decide)), k0_pay22 (F := F)⟩) :
    iprop((QKV I c ∗ X) ∗ SZ (F := F) c ∗ ow (F := F) c 17 ∗ ctx I K)
      ⊢ WP c (k0_part21 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v486 v501 v516 v517 v518) Q := by
  rw [k0_part21_eq_skeleton]; unfold k0_part21_skel
  simp only [semSignalWord, semWaitWord, Prog.lift, Prog.bind_op, Prog.bind_ret, Prog.pure_eq_ret]
  refine op_loadV I c ?_
  refine op_loadQ I c ?_
  refine op_loadK I c ?_
  refine op_loadV I c ?_
  refine op_loadQ I c ?_
  refine op_loadK I c ?_
  refine op_loadV I c ?_
  exact wp_done (H)

theorem part22 (c : Dev nD) {X : sProp 𝕄} (v550 : Vec F S2048x64 .bf16) (v551 : FVec F S128x2048 .f32) (v552 : FVec F S128x2048 .f32) {Q : (Σ' (v562 : FVec F S128x64 .f32) (v577 : FVec F S128x64 .f32) (v580 : Vec F S2048x64 .bf16) (v584 : FVec F S128x2048 .f32), FVec F S128x1 .f32) → sProp 𝕄}
    (H : iprop((QKV I c ∗ X) ∗ SZ (F := F) c ∗ ow (F := F) c 17 ∗ ctx I K) ⊢ Q ⟨k0_pay23 v550 v551 v552, k0_pay24 (qp (qv I c) 15 (by decide) 1 (by decide) 2 (by decide)) (kp (kv I c) 1 (by decide) 2 (by decide)) (kp (vv I c) 1 (by decide) 2 (by decide)), (kp (vv I c) 1 (by decide) 3 (by decide)), k0_pay25 (qp (qv I c) 15 (by decide) 1 (by decide) 3 (by decide)) (kp (kv I c) 1 (by decide) 3 (by decide)), k0_pay26 (qp (qv I c) 15 (by decide) 1 (by decide) 3 (by decide)) (kp (kv I c) 1 (by decide) 3 (by decide))⟩) :
    iprop((QKV I c ∗ X) ∗ SZ (F := F) c ∗ ow (F := F) c 17 ∗ ctx I K)
      ⊢ WP c (k0_part22 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v550 v551 v552) Q := by
  rw [k0_part22_eq_skeleton]; unfold k0_part22_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part23 (c : Dev nD) {X : sProp 𝕄} (v25 : BitVec 32) (v471 : FVec F S256x512 .bf16) (v532 : FVec F S128x256 .f32) (v547 : FVec F S128x64 .f32) (v562 : FVec F S128x64 .f32) (v577 : FVec F S128x64 .f32) (v580 : Vec F S2048x64 .bf16) (v584 : FVec F S128x2048 .f32) (v588 : FVec F S128x1 .f32) {Q : (Σ' (v612 : Vec F S2048x64 .bf16) (v620 : FVec F S128x1 .f32) (v621 : FVec F S128x2048 .bf16), FVec F S128x64 .f32) → sProp 𝕄}
    (hw : shapeCast S2x128x512 (k0_pay27 v471 v532 v547 v562 v577 v580 v584 v588) shapeCasts_S2x1x128x512_S2x128x512 = chunk I c 15)
    (H : iprop((QKV I c ∗ X) ∗ SB (F := F) c 0 ∗ ow (F := F) c 18 ∗ ctx I K) ⊢ Q ⟨(kp (vv I c) 0 (by decide) 0 (by decide)), k0_pay29 (qp (qv I c) 14 (by decide) 0 (by decide) 0 (by decide)) (kp (kv I c) 0 (by decide) 0 (by decide)), k0_pay30 (qp (qv I c) 14 (by decide) 0 (by decide) 0 (by decide)) (kp (kv I c) 0 (by decide) 0 (by decide)), (constant S128x64 .f32 0x00000000#32)⟩) :
    iprop((QKV I c ∗ X) ∗ SZ (F := F) c ∗ ow (F := F) c 17 ∗ ctx I K)
      ⊢ WP c (k0_part23 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v25 v471 v532 v547 v562 v577 v580 v584 v588) Q := by
  rw [k0_part23_eq_skeleton]; unfold k0_part23_skel
  simp only [semSignalWord, semWaitWord, Prog.lift, Prog.bind_op, Prog.bind_ret, Prog.pure_eq_ret]
  refine op_deadZ I K c (by decide) (fun _ => ?_)
  refine op_storeZ I K c (by decide) hw ?_
  refine op_sendS I K c 0 (by decide) 17 rfl (by decide) (congrArg Dev.tc (dev18 c)) rfl HEq.rfl rfl rfl ?_
  refine op_loadQ I c ?_
  refine op_loadK I c ?_
  refine op_loadV I c ?_
  exact wp_done (H)

theorem part24 (c : Dev nD) {X : sProp 𝕄} (v612 : Vec F S2048x64 .bf16) (v620 : FVec F S128x1 .f32) (v621 : FVec F S128x2048 .bf16) (cst_674 : FVec F S128x64 .f32) {Q : (Σ' (v624 : FVec F S128x64 .f32) (v639 : FVec F S128x64 .f32) (v654 : FVec F S128x64 .f32), Vec F S128x64 .bf16) → sProp 𝕄}
    (H : iprop((QKV I c ∗ X) ∗ SB (F := F) c 0 ∗ ow (F := F) c 18 ∗ ctx I K) ⊢ Q ⟨k0_pay31 v612 v620 v621 cst_674, k0_pay32 (qp (qv I c) 14 (by decide) 0 (by decide) 1 (by decide)) (kp (kv I c) 0 (by decide) 1 (by decide)) (kp (vv I c) 0 (by decide) 1 (by decide)), k0_pay33 (qp (qv I c) 14 (by decide) 0 (by decide) 2 (by decide)) (kp (kv I c) 0 (by decide) 2 (by decide)) (kp (vv I c) 0 (by decide) 2 (by decide)), (qp (qv I c) 14 (by decide) 0 (by decide) 3 (by decide))⟩) :
    iprop((QKV I c ∗ X) ∗ SB (F := F) c 0 ∗ ow (F := F) c 18 ∗ ctx I K)
      ⊢ WP c (k0_part24 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v612 v620 v621 cst_674) Q := by
  rw [k0_part24_eq_skeleton]; unfold k0_part24_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  refine op_loadQ I c ?_
  exact wp_done (H)

theorem part25 (c : Dev nD) {X : sProp 𝕄} (v624 : FVec F S128x64 .f32) (v639 : FVec F S128x64 .f32) (v654 : FVec F S128x64 .f32) (v655 : Vec F S128x64 .bf16) {Q : (Σ' (v670 : FVec F S128x256 .f32) (v685 : FVec F S128x64 .f32) (v688 : Vec F S2048x64 .bf16) (v689 : FVec F S128x2048 .f32), F .f32) → sProp 𝕄}
    (H : iprop((QKV I c ∗ X) ∗ SB (F := F) c 0 ∗ ow (F := F) c 18 ∗ ctx I K) ⊢ Q ⟨k0_pay34 v624 v639 v654 v655 (kp (kv I c) 0 (by decide) 3 (by decide)) (kp (vv I c) 0 (by decide) 3 (by decide)), k0_pay35 (qp (qv I c) 14 (by decide) 1 (by decide) 0 (by decide)) (kp (kv I c) 1 (by decide) 0 (by decide)) (kp (vv I c) 1 (by decide) 0 (by decide)), (kp (vv I c) 1 (by decide) 1 (by decide)), k0_pay36 (qp (qv I c) 14 (by decide) 1 (by decide) 1 (by decide)) (kp (kv I c) 1 (by decide) 1 (by decide)), (Scalar.ofBits .f32 0x3E000000#32)⟩) :
    iprop((QKV I c ∗ X) ∗ SB (F := F) c 0 ∗ ow (F := F) c 18 ∗ ctx I K)
      ⊢ WP c (k0_part25 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v624 v639 v654 v655) Q := by
  rw [k0_part25_eq_skeleton]; unfold k0_part25_skel
  simp only [semSignalWord, semWaitWord, Prog.lift, Prog.bind_op, Prog.bind_ret, Prog.pure_eq_ret]
  refine op_loadK I c ?_
  refine op_loadV I c ?_
  refine op_loadQ I c ?_
  refine op_loadK I c ?_
  refine op_loadV I c ?_
  refine op_loadQ I c ?_
  refine op_loadK I c ?_
  refine op_loadV I c ?_
  exact wp_done (H)

theorem part26 (c : Dev nD) {X : sProp 𝕄} (v688 : Vec F S2048x64 .bf16) (v689 : FVec F S128x2048 .f32) (cst_725 : F .f32) {Q : (Σ' (v700 : FVec F S128x64 .f32) (v715 : FVec F S128x64 .f32) (v718 : Vec F S2048x64 .bf16) (v722 : FVec F S128x2048 .f32) (v724 : FVec F S128x1 .f32), FVec F S128x1 .f32) → sProp 𝕄}
    (H : iprop((QKV I c ∗ X) ∗ SB (F := F) c 0 ∗ ow (F := F) c 18 ∗ ctx I K) ⊢ Q ⟨k0_pay37 v688 v689 cst_725, k0_pay38 (qp (qv I c) 14 (by decide) 1 (by decide) 2 (by decide)) (kp (kv I c) 1 (by decide) 2 (by decide)) (kp (vv I c) 1 (by decide) 2 (by decide)), (kp (vv I c) 1 (by decide) 3 (by decide)), k0_pay39 (qp (qv I c) 14 (by decide) 1 (by decide) 3 (by decide)) (kp (kv I c) 1 (by decide) 3 (by decide)), k0_pay40 (qp (qv I c) 14 (by decide) 1 (by decide) 3 (by decide)) (kp (kv I c) 1 (by decide) 3 (by decide)), k0_pay41 (F := F)⟩) :
    iprop((QKV I c ∗ X) ∗ SB (F := F) c 0 ∗ ow (F := F) c 18 ∗ ctx I K)
      ⊢ WP c (k0_part26 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v688 v689 cst_725) Q := by
  rw [k0_part26_eq_skeleton]; unfold k0_part26_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part27 (c : Dev nD) {X : sProp 𝕄} (v25 : BitVec 32) (v471 : FVec F S256x512 .bf16) (v670 : FVec F S128x256 .f32) (v685 : FVec F S128x64 .f32) (v700 : FVec F S128x64 .f32) (v715 : FVec F S128x64 .f32) (v718 : Vec F S2048x64 .bf16) (v722 : FVec F S128x2048 .f32) (v724 : FVec F S128x1 .f32) (v725 : FVec F S128x1 .f32) {Q : (FVec F S2x128x512 .bf16) → sProp 𝕄}
    (hw : shapeCast S2x128x512 (k0_pay42 v471 v670 v685 v700 v715 v718 v722 v724 v725) shapeCasts_S2x1x128x512_S2x128x512 = chunk I c 14)
    (H : ∀ v750 : FVec F S2x1x128x512 .bf16, shapeCast S2x128x512 v750 shapeCasts_S2x1x128x512_S2x128x512 = chunk I c (14 - 0) → iprop((QKV I c ∗ X) ∗ SE I c 0 (chunk I c (14 - 0)) ∗ ow (F := F) c 18 ∗ ctx I K) ⊢ Q (k0_pay43 v750 (av I 0 (prv c)))) :
    iprop((QKV I c ∗ X) ∗ SB (F := F) c 0 ∗ ow (F := F) c 18 ∗ ctx I K)
      ⊢ WP c (k0_part27 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v25 v471 v670 v685 v700 v715 v718 v722 v724 v725) Q := by
  rw [k0_part27_eq_skeleton]; unfold k0_part27_skel
  simp only [semSignalWord, semWaitWord, Prog.lift, Prog.bind_op, Prog.bind_ret, Prog.pure_eq_ret]
  refine op_deadB I K c 0 (by decide) (by decide) (fun _ => ?_)
  refine op_storeB I K c 0 (by decide) (by decide) hw ?_
  refine op_waitSS I K c 0 (by decide) 18 rfl rfl ?_
  refine op_waitRS I K c 0 (by decide) 18 (by decide) rfl rfl ?_
  refine op_loadE I K c 0 (by decide) _ (by decide) (fun v750 hv750 => ?_)
  refine op_loadRs I K c 0 _ (by decide) ?_
  exact wp_done (H v750 hv750)

theorem part28 (c : Dev nD) {X : sProp 𝕄} (v14 : BitVec 32) (v25 : BitVec 32) (v753 : FVec F S2x128x512 .bf16) {Q : (FVec F S128x64 .f32) → sProp 𝕄}
    (hw : shapeCast S2x128x512 (k0_pay44 v753) shapeCasts_S2x1x128x512_S2x128x512 = av I (0 + 1) c)
    (H : iprop((QKV I c ∗ X) ∗ SB (F := F) c 1 ∗ ow (F := F) c 20 ∗ ctx I K) ⊢ Q (k0_pay45 (qp (qv I c) 13 (by decide) 0 (by decide) 0 (by decide)) (kp (kv I c) 0 (by decide) 0 (by decide)) (kp (vv I c) 0 (by decide) 0 (by decide)))) :
    iprop((QKV I c ∗ X) ∗ SE I c 0 (chunk I c (14 - 0)) ∗ ow (F := F) c 18 ∗ ctx I K)
      ⊢ WP c (k0_part28 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25 v753) Q := by
  rw [k0_part28_eq_skeleton]; unfold k0_part28_skel
  simp only [semSignalWord, semWaitWord, Prog.lift, Prog.bind_op, Prog.bind_ret, Prog.pure_eq_ret]
  refine op_loadE I K c 0 (by decide) _ (by decide) (fun v754 hv754 => ?_)
  refine op_storeE I K c 0 (by decide) _ (av I (0 + 1) c) (by decide) hw ?_
  refine op_sig I K c 0 (by decide) 18 rfl (congrArg Dev.tc (dev19 c)) rfl rfl ?_
  refine op_swait I K c 0 (by decide) 19 (by decide) rfl rfl ?_
  refine op_sendS I K c 1 (by decide) 19 rfl (by decide) (congrArg Dev.tc (dev20 c)) rfl HEq.rfl rfl rfl ?_
  refine op_loadQ I c ?_
  refine op_loadK I c ?_
  refine op_loadV I c ?_
  exact wp_done (H)

theorem part29 (c : Dev nD) {X : sProp 𝕄}  {Q : (Σ' (v796 : FVec F S128x64 .f32) (v811 : FVec F S128x64 .f32) (v812 : Vec F S128x64 .bf16) (v813 : Vec F S2048x64 .bf16), Vec F S2048x64 .bf16) → sProp 𝕄}
    (H : iprop((QKV I c ∗ X) ∗ SB (F := F) c 1 ∗ ow (F := F) c 20 ∗ ctx I K) ⊢ Q ⟨k0_pay46 (qp (qv I c) 13 (by decide) 0 (by decide) 1 (by decide)) (kp (kv I c) 0 (by decide) 1 (by decide)) (kp (vv I c) 0 (by decide) 1 (by decide)), k0_pay47 (qp (qv I c) 13 (by decide) 0 (by decide) 2 (by decide)) (kp (kv I c) 0 (by decide) 2 (by decide)) (kp (vv I c) 0 (by decide) 2 (by decide)), (qp (qv I c) 13 (by decide) 0 (by decide) 3 (by decide)), (kp (kv I c) 0 (by decide) 3 (by decide)), (kp (vv I c) 0 (by decide) 3 (by decide))⟩) :
    iprop((QKV I c ∗ X) ∗ SB (F := F) c 1 ∗ ow (F := F) c 20 ∗ ctx I K)
      ⊢ WP c (k0_part29 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 ) Q := by
  rw [k0_part29_eq_skeleton]; unfold k0_part29_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  refine op_loadQ I c ?_
  refine op_loadK I c ?_
  refine op_loadV I c ?_
  exact wp_done (H)

theorem part30 (c : Dev nD) {X : sProp 𝕄} (v781 : FVec F S128x64 .f32) (v796 : FVec F S128x64 .f32) (v811 : FVec F S128x64 .f32) (v812 : Vec F S128x64 .bf16) (v813 : Vec F S2048x64 .bf16) (v814 : Vec F S2048x64 .bf16) {Q : (Σ' (v827 : FVec F S128x256 .f32) (v842 : FVec F S128x64 .f32) (v845 : Vec F S2048x64 .bf16), FVec F S128x2048 .f32) → sProp 𝕄}
    (H : iprop((QKV I c ∗ X) ∗ SB (F := F) c 1 ∗ ow (F := F) c 20 ∗ ctx I K) ⊢ Q ⟨k0_pay48 v781 v796 v811 v812 v813 v814, k0_pay49 (qp (qv I c) 13 (by decide) 1 (by decide) 0 (by decide)) (kp (kv I c) 1 (by decide) 0 (by decide)) (kp (vv I c) 1 (by decide) 0 (by decide)), (kp (vv I c) 1 (by decide) 1 (by decide)), k0_pay50 (qp (qv I c) 13 (by decide) 1 (by decide) 1 (by decide)) (kp (kv I c) 1 (by decide) 1 (by decide))⟩) :
    iprop((QKV I c ∗ X) ∗ SB (F := F) c 1 ∗ ow (F := F) c 20 ∗ ctx I K)
      ⊢ WP c (k0_part30 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v781 v796 v811 v812 v813 v814) Q := by
  rw [k0_part30_eq_skeleton]; unfold k0_part30_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part31 (c : Dev nD) {X : sProp 𝕄} (v845 : Vec F S2048x64 .bf16) (v849 : FVec F S128x2048 .f32) {Q : (Σ' (v857 : FVec F S128x64 .f32) (v872 : FVec F S128x64 .f32) (v883 : FVec F S128x1 .f32), FVec F S128x64 .f32) → sProp 𝕄}
    (H : iprop((QKV I c ∗ X) ∗ SB (F := F) c 1 ∗ ow (F := F) c 20 ∗ ctx I K) ⊢ Q ⟨k0_pay51 v845 v849, k0_pay52 (qp (qv I c) 13 (by decide) 1 (by decide) 2 (by decide)) (kp (kv I c) 1 (by decide) 2 (by decide)) (kp (vv I c) 1 (by decide) 2 (by decide)), k0_pay54 (qp (qv I c) 13 (by decide) 1 (by decide) 3 (by decide)) (kp (kv I c) 1 (by decide) 3 (by decide)), k0_pay55 (qp (qv I c) 13 (by decide) 1 (by decide) 3 (by decide)) (kp (kv I c) 1 (by decide) 3 (by decide)) (kp (vv I c) 1 (by decide) 3 (by decide))⟩) :
    iprop((QKV I c ∗ X) ∗ SB (F := F) c 1 ∗ ow (F := F) c 20 ∗ ctx I K)
      ⊢ WP c (k0_part31 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v845 v849) Q := by
  rw [k0_part31_eq_skeleton]; unfold k0_part31_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part32 (c : Dev nD) {X : sProp 𝕄} (v25 : BitVec 32) (v471 : FVec F S256x512 .bf16) (v827 : FVec F S128x256 .f32) (v842 : FVec F S128x64 .f32) (v857 : FVec F S128x64 .f32) (v872 : FVec F S128x64 .f32) (v883 : FVec F S128x1 .f32) (v885 : FVec F S128x64 .f32) {Q : (Σ' (v910 : FVec F S2x128x512 .bf16), Vec F S2x1x128x512 .bf16) → sProp 𝕄}
    (hw : shapeCast S2x128x512 (k0_pay56 v471 v827 v842 v857 v872 v883 v885) shapeCasts_S2x1x128x512_S2x128x512 = chunk I c 13)
    (H : ∀ v907 : FVec F S2x1x128x512 .bf16, shapeCast S2x128x512 v907 shapeCasts_S2x1x128x512_S2x128x512 = chunk I c (14 - 1) → ∀ v911 : FVec F S2x1x128x512 .bf16, shapeCast S2x128x512 v911 shapeCasts_S2x1x128x512_S2x128x512 = chunk I c (14 - 1) → iprop((QKV I c ∗ X) ∗ SE I c 1 (chunk I c (14 - 1)) ∗ ow (F := F) c 20 ∗ ctx I K) ⊢ Q ⟨k0_pay57 v907 (av I 1 (prv c)), v911⟩) :
    iprop((QKV I c ∗ X) ∗ SB (F := F) c 1 ∗ ow (F := F) c 20 ∗ ctx I K)
      ⊢ WP c (k0_part32 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v25 v471 v827 v842 v857 v872 v883 v885) Q := by
  rw [k0_part32_eq_skeleton]; unfold k0_part32_skel
  simp only [semSignalWord, semWaitWord, Prog.lift, Prog.bind_op, Prog.bind_ret, Prog.pure_eq_ret]
  refine op_deadB I K c 1 (by decide) (by decide) (fun _ => ?_)
  refine op_storeB I K c 1 (by decide) (by decide) hw ?_
  refine op_waitSS I K c 1 (by decide) 20 rfl rfl ?_
  refine op_waitRS I K c 1 (by decide) 20 (by decide) rfl rfl ?_
  refine op_loadE I K c 1 (by decide) _ (by decide) (fun v907 hv907 => ?_)
  refine op_loadRs I K c 1 _ (by decide) ?_
  refine op_loadE I K c 1 (by decide) _ (by decide) (fun v911 hv911 => ?_)
  exact wp_done (H v907 hv907 v911 hv911)

theorem part33 (c : Dev nD) {X : sProp 𝕄} (v14 : BitVec 32) (v25 : BitVec 32) (v910 : FVec F S2x128x512 .bf16) (v911 : Vec F S2x1x128x512 .bf16) {Q : (Σ' (v938 : FVec F S128x64 .f32), Vec F S128x64 .bf16) → sProp 𝕄}
    (hw : shapeCast S2x128x512 (k0_pay58 v910) shapeCasts_S2x1x128x512_S2x128x512 = av I (1 + 1) c)
    (H : iprop((QKV I c ∗ X) ∗ SB (F := F) c 2 ∗ ow (F := F) c 22 ∗ ctx I K) ⊢ Q ⟨k0_pay59 (qp (qv I c) 12 (by decide) 0 (by decide) 0 (by decide)) (kp (kv I c) 0 (by decide) 0 (by decide)) (kp (vv I c) 0 (by decide) 0 (by decide)), (qp (qv I c) 12 (by decide) 0 (by decide) 1 (by decide))⟩) :
    iprop((QKV I c ∗ X) ∗ SE I c 1 (chunk I c (14 - 1)) ∗ ow (F := F) c 20 ∗ ctx I K)
      ⊢ WP c (k0_part33 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25 v910 v911) Q := by
  rw [k0_part33_eq_skeleton]; unfold k0_part33_skel
  simp only [semSignalWord, semWaitWord, Prog.lift, Prog.bind_op, Prog.bind_ret, Prog.pure_eq_ret]
  refine op_storeE I K c 1 (by decide) _ (av I (1 + 1) c) (by decide) hw ?_
  refine op_sig I K c 1 (by decide) 20 rfl (congrArg Dev.tc (dev21 c)) rfl rfl ?_
  refine op_swait I K c 1 (by decide) 21 (by decide) rfl rfl ?_
  refine op_sendS I K c 2 (by decide) 21 rfl (by decide) (congrArg Dev.tc (dev22 c)) rfl HEq.rfl rfl rfl ?_
  refine op_loadQ I c ?_
  refine op_loadK I c ?_
  refine op_loadV I c ?_
  refine op_loadQ I c ?_
  exact wp_done (H)

theorem part34 (c : Dev nD) {X : sProp 𝕄} (v939 : Vec F S128x64 .bf16) {Q : (Σ' (v953 : FVec F S128x64 .f32) (v968 : FVec F S128x64 .f32) (v971 : Vec F S2048x64 .bf16) (v972 : FVec F S128x2048 .f32), FVec F S128x2048 .f32) → sProp 𝕄}
    (H : iprop((QKV I c ∗ X) ∗ SB (F := F) c 2 ∗ ow (F := F) c 22 ∗ ctx I K) ⊢ Q ⟨k0_pay60 v939 (kp (kv I c) 0 (by decide) 1 (by decide)) (kp (vv I c) 0 (by decide) 1 (by decide)), k0_pay61 (qp (qv I c) 12 (by decide) 0 (by decide) 2 (by decide)) (kp (kv I c) 0 (by decide) 2 (by decide)) (kp (vv I c) 0 (by decide) 2 (by decide)), (kp (vv I c) 0 (by decide) 3 (by decide)), k0_pay62 (qp (qv I c) 12 (by decide) 0 (by decide) 3 (by decide)) (kp (kv I c) 0 (by decide) 3 (by decide)), k0_pay63 (F := F)⟩) :
    iprop((QKV I c ∗ X) ∗ SB (F := F) c 2 ∗ ow (F := F) c 22 ∗ ctx I K)
      ⊢ WP c (k0_part34 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v939) Q := by
  rw [k0_part34_eq_skeleton]; unfold k0_part34_skel
  simp only [semSignalWord, semWaitWord, Prog.lift, Prog.bind_op, Prog.bind_ret, Prog.pure_eq_ret]
  refine op_loadK I c ?_
  refine op_loadV I c ?_
  refine op_loadQ I c ?_
  refine op_loadK I c ?_
  refine op_loadV I c ?_
  refine op_loadQ I c ?_
  refine op_loadK I c ?_
  refine op_loadV I c ?_
  exact wp_done (H)

theorem part35 (c : Dev nD) {X : sProp 𝕄} (v938 : FVec F S128x64 .f32) (v953 : FVec F S128x64 .f32) (v968 : FVec F S128x64 .f32) (v971 : Vec F S2048x64 .bf16) (v972 : FVec F S128x2048 .f32) (v973 : FVec F S128x2048 .f32) {Q : (Σ' (v984 : FVec F S128x256 .f32) (v999 : FVec F S128x64 .f32) (v1002 : Vec F S2048x64 .bf16) (v1006 : FVec F S128x2048 .f32) (v1008 : FVec F S128x1 .f32), FVec F S128x1 .f32) → sProp 𝕄}
    (H : iprop((QKV I c ∗ X) ∗ SB (F := F) c 2 ∗ ow (F := F) c 22 ∗ ctx I K) ⊢ Q ⟨k0_pay64 v938 v953 v968 v971 v972 v973, k0_pay65 (qp (qv I c) 12 (by decide) 1 (by decide) 0 (by decide)) (kp (kv I c) 1 (by decide) 0 (by decide)) (kp (vv I c) 1 (by decide) 0 (by decide)), (kp (vv I c) 1 (by decide) 1 (by decide)), k0_pay66 (qp (qv I c) 12 (by decide) 1 (by decide) 1 (by decide)) (kp (kv I c) 1 (by decide) 1 (by decide)), k0_pay67 (qp (qv I c) 12 (by decide) 1 (by decide) 1 (by decide)) (kp (kv I c) 1 (by decide) 1 (by decide)), k0_pay68 (F := F)⟩) :
    iprop((QKV I c ∗ X) ∗ SB (F := F) c 2 ∗ ow (F := F) c 22 ∗ ctx I K)
      ⊢ WP c (k0_part35 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v938 v953 v968 v971 v972 v973) Q := by
  rw [k0_part35_eq_skeleton]; unfold k0_part35_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part36 (c : Dev nD) {X : sProp 𝕄} (v984 : FVec F S128x256 .f32) (v999 : FVec F S128x64 .f32) (v1002 : Vec F S2048x64 .bf16) (v1006 : FVec F S128x2048 .f32) (v1008 : FVec F S128x1 .f32) (v1009 : FVec F S128x1 .f32) {Q : (FVec F S256x256 .f32) → sProp 𝕄}
    (H : iprop((QKV I c ∗ X) ∗ SB (F := F) c 2 ∗ ow (F := F) c 22 ∗ ctx I K) ⊢ Q (k0_pay69 v984 v999 v1002 v1006 v1008 v1009 (qp (qv I c) 12 (by decide) 1 (by decide) 2 (by decide)) (kp (kv I c) 1 (by decide) 2 (by decide)) (kp (vv I c) 1 (by decide) 2 (by decide)) (qp (qv I c) 12 (by decide) 1 (by decide) 3 (by decide)) (kp (kv I c) 1 (by decide) 3 (by decide)) (kp (vv I c) 1 (by decide) 3 (by decide)))) :
    iprop((QKV I c ∗ X) ∗ SB (F := F) c 2 ∗ ow (F := F) c 22 ∗ ctx I K)
      ⊢ WP c (k0_part36 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v984 v999 v1002 v1006 v1008 v1009) Q := by
  rw [k0_part36_eq_skeleton]; unfold k0_part36_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part37 (c : Dev nD) {X : sProp 𝕄} (v25 : BitVec 32) (v471 : FVec F S256x512 .bf16) (v1046 : FVec F S256x256 .f32) {Q : (PUnit) → sProp 𝕄}
    (hw : shapeCast S2x128x512 (k0_pay70 v471 v1046) shapeCasts_S2x1x128x512_S2x128x512 = chunk I c 12)
    (H : iprop((QKV I c ∗ X) ∗ SE I c 2 (av I (2 + 1) c) ∗ ow (F := F) c 22 ∗ ctx I K) ⊢ Q ⟨⟩) :
    iprop((QKV I c ∗ X) ∗ SB (F := F) c 2 ∗ ow (F := F) c 22 ∗ ctx I K)
      ⊢ WP c (k0_part37 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v25 v471 v1046) Q := by
  rw [k0_part37_eq_skeleton]; unfold k0_part37_skel
  simp only [semSignalWord, semWaitWord, Prog.lift, Prog.bind_op, Prog.bind_ret, Prog.pure_eq_ret]
  refine op_deadB I K c 2 (by decide) (by decide) (fun _ => ?_)
  refine op_storeB I K c 2 (by decide) (by decide) hw ?_
  refine op_waitSS I K c 2 (by decide) 22 rfl rfl ?_
  refine op_waitRS I K c 2 (by decide) 22 (by decide) rfl rfl ?_
  refine op_loadE I K c 2 (by decide) _ (by decide) (fun v1064 hv1064 => ?_)
  refine op_loadRs I K c 2 _ (by decide) ?_
  refine op_loadE I K c 2 (by decide) _ (by decide) (fun v1068 hv1068 => ?_)
  refine op_storeE I K c 2 (by decide) _ (av I (2 + 1) c) (by decide) (sum_eq I c 2 hv1064 _ rfl) ?_
  exact wp_done (H)

theorem part38 (c : Dev nD) {X : sProp 𝕄} (v14 : BitVec 32) (v25 : BitVec 32) {Q : (Σ' (v1095 : FVec F S128x64 .f32) (v1096 : Vec F S128x64 .bf16) (v1097 : Vec F S2048x64 .bf16), Vec F S2048x64 .bf16) → sProp 𝕄}
    (H : iprop((QKV I c ∗ X) ∗ SB (F := F) c 3 ∗ ow (F := F) c 24 ∗ ctx I K) ⊢ Q ⟨k0_pay72 (qp (qv I c) 11 (by decide) 0 (by decide) 0 (by decide)) (kp (kv I c) 0 (by decide) 0 (by decide)) (kp (vv I c) 0 (by decide) 0 (by decide)), (qp (qv I c) 11 (by decide) 0 (by decide) 1 (by decide)), (kp (kv I c) 0 (by decide) 1 (by decide)), (kp (vv I c) 0 (by decide) 1 (by decide))⟩) :
    iprop((QKV I c ∗ X) ∗ SE I c 2 (av I (2 + 1) c) ∗ ow (F := F) c 22 ∗ ctx I K)
      ⊢ WP c (k0_part38 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part38_eq_skeleton]; unfold k0_part38_skel
  simp only [semSignalWord, semWaitWord, Prog.lift, Prog.bind_op, Prog.bind_ret, Prog.pure_eq_ret]
  refine op_sig I K c 2 (by decide) 22 rfl (congrArg Dev.tc (dev23 c)) rfl rfl ?_
  refine op_swait I K c 2 (by decide) 23 (by decide) rfl rfl ?_
  refine op_sendS I K c 3 (by decide) 23 rfl (by decide) (congrArg Dev.tc (dev24 c)) rfl HEq.rfl rfl rfl ?_
  refine op_loadQ I c ?_
  refine op_loadK I c ?_
  refine op_loadV I c ?_
  refine op_loadQ I c ?_
  refine op_loadK I c ?_
  refine op_loadV I c ?_
  exact wp_done (H)

theorem part39 (c : Dev nD) {X : sProp 𝕄} (v1096 : Vec F S128x64 .bf16) (v1097 : Vec F S2048x64 .bf16) (v1098 : Vec F S2048x64 .bf16) {Q : (Σ' (v1110 : FVec F S128x64 .f32) (v1125 : FVec F S128x64 .f32) (v1128 : Vec F S2048x64 .bf16) (v1132 : FVec F S128x2048 .f32), FVec F S128 .f32) → sProp 𝕄}
    (H : iprop((QKV I c ∗ X) ∗ SB (F := F) c 3 ∗ ow (F := F) c 24 ∗ ctx I K) ⊢ Q ⟨k0_pay73 v1096 v1097 v1098, k0_pay74 (qp (qv I c) 11 (by decide) 0 (by decide) 2 (by decide)) (kp (kv I c) 0 (by decide) 2 (by decide)) (kp (vv I c) 0 (by decide) 2 (by decide)), (kp (vv I c) 0 (by decide) 3 (by decide)), k0_pay75 (qp (qv I c) 11 (by decide) 0 (by decide) 3 (by decide)) (kp (kv I c) 0 (by decide) 3 (by decide)), k0_pay76 (qp (qv I c) 11 (by decide) 0 (by decide) 3 (by decide)) (kp (kv I c) 0 (by decide) 3 (by decide))⟩) :
    iprop((QKV I c ∗ X) ∗ SB (F := F) c 3 ∗ ow (F := F) c 24 ∗ ctx I K)
      ⊢ WP c (k0_part39 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v1096 v1097 v1098) Q := by
  rw [k0_part39_eq_skeleton]; unfold k0_part39_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part40 (c : Dev nD) {X : sProp 𝕄} (v1095 : FVec F S128x64 .f32) (v1110 : FVec F S128x64 .f32) (v1125 : FVec F S128x64 .f32) (v1128 : Vec F S2048x64 .bf16) (v1132 : FVec F S128x2048 .f32) (v1133 : FVec F S128 .f32) {Q : (Σ' (v1141 : FVec F S128x256 .f32) (v1156 : FVec F S128x64 .f32) (v1167 : FVec F S128x1 .f32), FVec F S128x64 .f32) → sProp 𝕄}
    (H : iprop((QKV I c ∗ X) ∗ SB (F := F) c 3 ∗ ow (F := F) c 24 ∗ ctx I K) ⊢ Q ⟨k0_pay77 v1095 v1110 v1125 v1128 v1132 v1133, k0_pay78 (qp (qv I c) 11 (by decide) 1 (by decide) 0 (by decide)) (kp (kv I c) 1 (by decide) 0 (by decide)) (kp (vv I c) 1 (by decide) 0 (by decide)), k0_pay80 (qp (qv I c) 11 (by decide) 1 (by decide) 1 (by decide)) (kp (kv I c) 1 (by decide) 1 (by decide)), k0_pay81 (qp (qv I c) 11 (by decide) 1 (by decide) 1 (by decide)) (kp (kv I c) 1 (by decide) 1 (by decide)) (kp (vv I c) 1 (by decide) 1 (by decide))⟩) :
    iprop((QKV I c ∗ X) ∗ SB (F := F) c 3 ∗ ow (F := F) c 24 ∗ ctx I K)
      ⊢ WP c (k0_part40 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v1095 v1110 v1125 v1128 v1132 v1133) Q := by
  rw [k0_part40_eq_skeleton]; unfold k0_part40_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part41 (c : Dev nD) {X : sProp 𝕄} (v471 : FVec F S256x512 .bf16) (v1141 : FVec F S128x256 .f32) (v1156 : FVec F S128x64 .f32) (v1167 : FVec F S128x1 .f32) (v1169 : FVec F S128x64 .f32) {Q : (FVec F S256x512 .bf16) → sProp 𝕄}
    (H : iprop((QKV I c ∗ X) ∗ SB (F := F) c 3 ∗ ow (F := F) c 24 ∗ ctx I K) ⊢ Q (k0_pay82 v471 v1141 v1156 v1167 v1169 (qp (qv I c) 11 (by decide) 1 (by decide) 2 (by decide)) (kp (kv I c) 1 (by decide) 2 (by decide)) (kp (vv I c) 1 (by decide) 2 (by decide)) (qp (qv I c) 11 (by decide) 1 (by decide) 3 (by decide)) (kp (kv I c) 1 (by decide) 3 (by decide)) (kp (vv I c) 1 (by decide) 3 (by decide)))) :
    iprop((QKV I c ∗ X) ∗ SB (F := F) c 3 ∗ ow (F := F) c 24 ∗ ctx I K)
      ⊢ WP c (k0_part41 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v471 v1141 v1156 v1167 v1169) Q := by
  rw [k0_part41_eq_skeleton]; unfold k0_part41_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part42 (c : Dev nD) {X : sProp 𝕄} (v14 : BitVec 32) (v25 : BitVec 32) (v1206 : FVec F S256x512 .bf16) {Q : (PUnit) → sProp 𝕄}
    (hw : shapeCast S2x128x512 (k0_pay83 v1206) shapeCasts_S2x1x128x512_S2x128x512 = chunk I c 11)
    (H : iprop((QKV I c ∗ X) ∗ SE I c 3 (av I (3 + 1) c) ∗ ow (F := F) c 24 ∗ ctx I K) ⊢ Q ⟨⟩) :
    iprop((QKV I c ∗ X) ∗ SB (F := F) c 3 ∗ ow (F := F) c 24 ∗ ctx I K)
      ⊢ WP c (k0_part42 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v14 v25 v1206) Q := by
  rw [k0_part42_eq_skeleton]; unfold k0_part42_skel
  simp only [semSignalWord, semWaitWord, Prog.lift, Prog.bind_op, Prog.bind_ret, Prog.pure_eq_ret]
  refine op_deadB I K c 3 (by decide) (by decide) (fun _ => ?_)
  refine op_storeB I K c 3 (by decide) (by decide) hw ?_
  refine op_waitSS I K c 3 (by decide) 24 rfl rfl ?_
  refine op_waitRS I K c 3 (by decide) 24 (by decide) rfl rfl ?_
  refine op_loadE I K c 3 (by decide) _ (by decide) (fun v1221 hv1221 => ?_)
  refine op_loadRs I K c 3 _ (by decide) ?_
  refine op_loadE I K c 3 (by decide) _ (by decide) (fun v1225 hv1225 => ?_)
  refine op_storeE I K c 3 (by decide) _ (av I (3 + 1) c) (by decide) (sum_eq I c 3 hv1221 _ rfl) ?_
  exact wp_done (H)

theorem part43 (c : Dev nD) {X : sProp 𝕄} (v25 : BitVec 32) {Q : (Σ' (v1252 : FVec F S128x64 .f32) (v1255 : Vec F S2048x64 .bf16) (v1256 : FVec F S128x2048 .f32), FVec F S128x2048 .f32) → sProp 𝕄}
    (H : iprop((QKV I c ∗ X) ∗ SB (F := F) c 4 ∗ ow (F := F) c 26 ∗ ctx I K) ⊢ Q ⟨k0_pay85 (qp (qv I c) 10 (by decide) 0 (by decide) 0 (by decide)) (kp (kv I c) 0 (by decide) 0 (by decide)) (kp (vv I c) 0 (by decide) 0 (by decide)), (kp (vv I c) 0 (by decide) 1 (by decide)), k0_pay86 (qp (qv I c) 10 (by decide) 0 (by decide) 1 (by decide)) (kp (kv I c) 0 (by decide) 1 (by decide)), k0_pay87 (F := F)⟩) :
    iprop((QKV I c ∗ X) ∗ SE I c 3 (av I (3 + 1) c) ∗ ow (F := F) c 24 ∗ ctx I K)
      ⊢ WP c (k0_part43 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v25) Q := by
  rw [k0_part43_eq_skeleton]; unfold k0_part43_skel
  simp only [semSignalWord, semWaitWord, Prog.lift, Prog.bind_op, Prog.bind_ret, Prog.pure_eq_ret]
  refine op_sig I K c 3 (by decide) 24 rfl (congrArg Dev.tc (dev25 c)) rfl rfl ?_
  refine op_swait I K c 3 (by decide) 25 (by decide) rfl rfl ?_
  refine op_sendS I K c 4 (by decide) 25 rfl (by decide) (congrArg Dev.tc (dev26 c)) rfl HEq.rfl rfl rfl ?_
  refine op_loadQ I c ?_
  refine op_loadK I c ?_
  refine op_loadV I c ?_
  refine op_loadQ I c ?_
  refine op_loadK I c ?_
  refine op_loadV I c ?_
  exact wp_done (H)

theorem part44 (c : Dev nD) {X : sProp 𝕄} (v1255 : Vec F S2048x64 .bf16) (v1256 : FVec F S128x2048 .f32) (v1257 : FVec F S128x2048 .f32) {Q : (Σ' (v1267 : FVec F S128x64 .f32) (v1282 : FVec F S128x64 .f32) (v1285 : Vec F S2048x64 .bf16) (v1289 : FVec F S128x2048 .f32), FVec F S128x1 .f32) → sProp 𝕄}
    (H : iprop((QKV I c ∗ X) ∗ SB (F := F) c 4 ∗ ow (F := F) c 26 ∗ ctx I K) ⊢ Q ⟨k0_pay88 v1255 v1256 v1257, k0_pay89 (qp (qv I c) 10 (by decide) 0 (by decide) 2 (by decide)) (kp (kv I c) 0 (by decide) 2 (by decide)) (kp (vv I c) 0 (by decide) 2 (by decide)), (kp (vv I c) 0 (by decide) 3 (by decide)), k0_pay90 (qp (qv I c) 10 (by decide) 0 (by decide) 3 (by decide)) (kp (kv I c) 0 (by decide) 3 (by decide)), k0_pay91 (qp (qv I c) 10 (by decide) 0 (by decide) 3 (by decide)) (kp (kv I c) 0 (by decide) 3 (by decide))⟩) :
    iprop((QKV I c ∗ X) ∗ SB (F := F) c 4 ∗ ow (F := F) c 26 ∗ ctx I K)
      ⊢ WP c (k0_part44 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v1255 v1256 v1257) Q := by
  rw [k0_part44_eq_skeleton]; unfold k0_part44_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part45 (c : Dev nD) {X : sProp 𝕄} (v1252 : FVec F S128x64 .f32) (v1267 : FVec F S128x64 .f32) (v1282 : FVec F S128x64 .f32) (v1285 : Vec F S2048x64 .bf16) (v1289 : FVec F S128x2048 .f32) (v1293 : FVec F S128x1 .f32) {Q : (Σ' (v1298 : FVec F S128x256 .f32) (v1313 : FVec F S128x64 .f32), FVec F S128x64 .f32) → sProp 𝕄}
    (H : iprop((QKV I c ∗ X) ∗ SB (F := F) c 4 ∗ ow (F := F) c 26 ∗ ctx I K) ⊢ Q ⟨k0_pay92 v1252 v1267 v1282 v1285 v1289 v1293, k0_pay93 (qp (qv I c) 10 (by decide) 1 (by decide) 0 (by decide)) (kp (kv I c) 1 (by decide) 0 (by decide)) (kp (vv I c) 1 (by decide) 0 (by decide)), k0_pay94 (qp (qv I c) 10 (by decide) 1 (by decide) 1 (by decide)) (kp (kv I c) 1 (by decide) 1 (by decide)) (kp (vv I c) 1 (by decide) 1 (by decide))⟩) :
    iprop((QKV I c ∗ X) ∗ SB (F := F) c 4 ∗ ow (F := F) c 26 ∗ ctx I K)
      ⊢ WP c (k0_part45 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v1252 v1267 v1282 v1285 v1289 v1293) Q := by
  rw [k0_part45_eq_skeleton]; unfold k0_part45_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part46 (c : Dev nD) {X : sProp 𝕄} (v471 : FVec F S256x512 .bf16) (v1298 : FVec F S128x256 .f32) (v1313 : FVec F S128x64 .f32) (v1328 : FVec F S128x64 .f32) {Q : (FVec F S2x128x512 .bf16) → sProp 𝕄}
    (H : iprop((QKV I c ∗ X) ∗ SB (F := F) c 4 ∗ ow (F := F) c 26 ∗ ctx I K) ⊢ Q (k0_pay95 v471 v1298 v1313 v1328 (qp (qv I c) 10 (by decide) 1 (by decide) 2 (by decide)) (kp (kv I c) 1 (by decide) 2 (by decide)) (kp (vv I c) 1 (by decide) 2 (by decide)) (qp (qv I c) 10 (by decide) 1 (by decide) 3 (by decide)) (kp (kv I c) 1 (by decide) 3 (by decide)) (kp (vv I c) 1 (by decide) 3 (by decide)))) :
    iprop((QKV I c ∗ X) ∗ SB (F := F) c 4 ∗ ow (F := F) c 26 ∗ ctx I K)
      ⊢ WP c (k0_part46 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v471 v1298 v1313 v1328) Q := by
  rw [k0_part46_eq_skeleton]; unfold k0_part46_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part47 (c : Dev nD) {X : sProp 𝕄} (v14 : BitVec 32) (v25 : BitVec 32) (v1364 : FVec F S2x128x512 .bf16) {Q : (PUnit) → sProp 𝕄}
    (hw : shapeCast S2x128x512 (k0_pay96 v1364) shapeCasts_S2x1x128x512_S2x128x512 = chunk I c 10)
    (H : iprop((QKV I c ∗ X) ∗ SA I c 5 ∗ ow (F := F) c 27 ∗ ctx I K) ⊢ Q ⟨⟩) :
    iprop((QKV I c ∗ X) ∗ SB (F := F) c 4 ∗ ow (F := F) c 26 ∗ ctx I K)
      ⊢ WP c (k0_part47 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25 v1364) Q := by
  rw [k0_part47_eq_skeleton]; unfold k0_part47_skel
  simp only [semSignalWord, semWaitWord, Prog.lift, Prog.bind_op, Prog.bind_ret, Prog.pure_eq_ret]
  refine op_deadB I K c 4 (by decide) (by decide) (fun _ => ?_)
  refine op_storeB I K c 4 (by decide) (by decide) hw ?_
  refine op_waitSS I K c 4 (by decide) 26 rfl rfl ?_
  refine op_waitRS I K c 4 (by decide) 26 (by decide) rfl rfl ?_
  refine op_loadE I K c 4 (by decide) _ (by decide) (fun v1378 hv1378 => ?_)
  refine op_loadRs I K c 4 _ (by decide) ?_
  refine op_loadE I K c 4 (by decide) _ (by decide) (fun v1382 hv1382 => ?_)
  refine op_storeE I K c 4 (by decide) _ (av I (4 + 1) c) (by decide) (sum_eq I c 4 hv1378 _ rfl) ?_
  refine op_sig I K c 4 (by decide) 26 rfl (congrArg Dev.tc (dev27 c)) rfl rfl ?_
  refine op_swait I K c 4 (by decide) 27 (by decide) rfl rfl ?_
  exact wp_done (H)

theorem part48 (c : Dev nD) {X : sProp 𝕄} (v25 : BitVec 32) {Q : (Σ' (v1409 : FVec F S128x64 .f32) (v1412 : Vec F S2048x64 .bf16) (v1416 : FVec F S128x2048 .f32), FVec F S128 .f32) → sProp 𝕄}
    (H : iprop((QKV I c ∗ X) ∗ SB (F := F) c 5 ∗ ow (F := F) c 28 ∗ ctx I K) ⊢ Q ⟨k0_pay98 (qp (qv I c) 9 (by decide) 0 (by decide) 0 (by decide)) (kp (kv I c) 0 (by decide) 0 (by decide)) (kp (vv I c) 0 (by decide) 0 (by decide)), (kp (vv I c) 0 (by decide) 1 (by decide)), k0_pay99 (qp (qv I c) 9 (by decide) 0 (by decide) 1 (by decide)) (kp (kv I c) 0 (by decide) 1 (by decide)), k0_pay100 (qp (qv I c) 9 (by decide) 0 (by decide) 1 (by decide)) (kp (kv I c) 0 (by decide) 1 (by decide))⟩) :
    iprop((QKV I c ∗ X) ∗ SA I c 5 ∗ ow (F := F) c 27 ∗ ctx I K)
      ⊢ WP c (k0_part48 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v25) Q := by
  rw [k0_part48_eq_skeleton]; unfold k0_part48_skel
  simp only [semSignalWord, semWaitWord, Prog.lift, Prog.bind_op, Prog.bind_ret, Prog.pure_eq_ret]
  refine op_sendS I K c 5 (by decide) 27 rfl (by decide) (congrArg Dev.tc (dev28 c)) rfl HEq.rfl rfl rfl ?_
  refine op_loadQ I c ?_
  refine op_loadK I c ?_
  refine op_loadV I c ?_
  refine op_loadQ I c ?_
  refine op_loadK I c ?_
  refine op_loadV I c ?_
  exact wp_done (H)

theorem part49 (c : Dev nD) {X : sProp 𝕄} (v1412 : Vec F S2048x64 .bf16) (v1416 : FVec F S128x2048 .f32) (v1417 : FVec F S128 .f32) {Q : (Σ' (v1424 : FVec F S128x64 .f32) (v1439 : FVec F S128x64 .f32) (v1452 : FVec F S128x64 .f32), FVec F S128x64 .f32) → sProp 𝕄}
    (H : iprop((QKV I c ∗ X) ∗ SB (F := F) c 5 ∗ ow (F := F) c 28 ∗ ctx I K) ⊢ Q ⟨k0_pay101 v1412 v1416 v1417, k0_pay102 (qp (qv I c) 9 (by decide) 0 (by decide) 2 (by decide)) (kp (kv I c) 0 (by decide) 2 (by decide)) (kp (vv I c) 0 (by decide) 2 (by decide)), k0_pay104 (qp (qv I c) 9 (by decide) 0 (by decide) 3 (by decide)) (kp (kv I c) 0 (by decide) 3 (by decide)) (kp (vv I c) 0 (by decide) 3 (by decide)), k0_pay105 (qp (qv I c) 9 (by decide) 0 (by decide) 3 (by decide)) (kp (kv I c) 0 (by decide) 3 (by decide))⟩) :
    iprop((QKV I c ∗ X) ∗ SB (F := F) c 5 ∗ ow (F := F) c 28 ∗ ctx I K)
      ⊢ WP c (k0_part49 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v1412 v1416 v1417) Q := by
  rw [k0_part49_eq_skeleton]; unfold k0_part49_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part50 (c : Dev nD) {X : sProp 𝕄} (v1409 : FVec F S128x64 .f32) (v1424 : FVec F S128x64 .f32) (v1439 : FVec F S128x64 .f32) (v1452 : FVec F S128x64 .f32) (v1453 : FVec F S128x64 .f32) {Q : (Σ' (v1455 : FVec F S128x256 .f32) (v1470 : FVec F S128x64 .f32) (v1485 : FVec F S128x64 .f32) (v1486 : Vec F S128x64 .bf16), Vec F S2048x64 .bf16) → sProp 𝕄}
    (H : iprop((QKV I c ∗ X) ∗ SB (F := F) c 5 ∗ ow (F := F) c 28 ∗ ctx I K) ⊢ Q ⟨k0_pay106 v1409 v1424 v1439 v1452 v1453, k0_pay107 (qp (qv I c) 9 (by decide) 1 (by decide) 0 (by decide)) (kp (kv I c) 1 (by decide) 0 (by decide)) (kp (vv I c) 1 (by decide) 0 (by decide)), k0_pay108 (qp (qv I c) 9 (by decide) 1 (by decide) 1 (by decide)) (kp (kv I c) 1 (by decide) 1 (by decide)) (kp (vv I c) 1 (by decide) 1 (by decide)), (qp (qv I c) 9 (by decide) 1 (by decide) 2 (by decide)), (kp (kv I c) 1 (by decide) 2 (by decide))⟩) :
    iprop((QKV I c ∗ X) ∗ SB (F := F) c 5 ∗ ow (F := F) c 28 ∗ ctx I K)
      ⊢ WP c (k0_part50 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v1409 v1424 v1439 v1452 v1453) Q := by
  rw [k0_part50_eq_skeleton]; unfold k0_part50_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  refine op_loadQ I c ?_
  refine op_loadK I c ?_
  exact wp_done (H)

theorem part51 (c : Dev nD) {X : sProp 𝕄} (v471 : FVec F S256x512 .bf16) (v1455 : FVec F S128x256 .f32) (v1470 : FVec F S128x64 .f32) (v1485 : FVec F S128x64 .f32) (v1486 : Vec F S128x64 .bf16) (v1487 : Vec F S2048x64 .bf16) {Q : (FVec F S2x1x128x512 .bf16) → sProp 𝕄}
    (H : iprop((QKV I c ∗ X) ∗ SB (F := F) c 5 ∗ ow (F := F) c 28 ∗ ctx I K) ⊢ Q (k0_pay109 v471 v1455 v1470 v1485 v1486 v1487 (kp (vv I c) 1 (by decide) 2 (by decide)) (qp (qv I c) 9 (by decide) 1 (by decide) 3 (by decide)) (kp (kv I c) 1 (by decide) 3 (by decide)) (kp (vv I c) 1 (by decide) 3 (by decide)))) :
    iprop((QKV I c ∗ X) ∗ SB (F := F) c 5 ∗ ow (F := F) c 28 ∗ ctx I K)
      ⊢ WP c (k0_part51 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v471 v1455 v1470 v1485 v1486 v1487) Q := by
  rw [k0_part51_eq_skeleton]; unfold k0_part51_skel
  simp only [semSignalWord, semWaitWord, Prog.lift, Prog.bind_op, Prog.bind_ret, Prog.pure_eq_ret]
  refine op_loadV I c ?_
  refine op_loadQ I c ?_
  refine op_loadK I c ?_
  refine op_loadV I c ?_
  refine op_deadB I K c 5 (by decide) (by decide) (fun _ => ?_)
  exact wp_done (H)

theorem part52 (c : Dev nD) {X : sProp 𝕄} (v14 : BitVec 32) (v25 : BitVec 32) (v1524 : FVec F S2x1x128x512 .bf16) {Q : (BitVec 32) → sProp 𝕄}
    (hw : shapeCast S2x128x512 v1524 shapeCasts_S2x1x128x512_S2x128x512 = chunk I c 9)
    (H : iprop((QKV I c ∗ X) ∗ SA I c 6 ∗ ow (F := F) c 29 ∗ ctx I K) ⊢ Q 1#32) :
    iprop((QKV I c ∗ X) ∗ SB (F := F) c 5 ∗ ow (F := F) c 28 ∗ ctx I K)
      ⊢ WP c (k0_part52 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25 v1524) Q := by
  rw [k0_part52_eq_skeleton]; unfold k0_part52_skel
  simp only [semSignalWord, semWaitWord, Prog.lift, Prog.bind_op, Prog.bind_ret, Prog.pure_eq_ret]
  refine op_storeB I K c 5 (by decide) (by decide) hw ?_
  refine op_waitSS I K c 5 (by decide) 28 rfl rfl ?_
  refine op_waitRS I K c 5 (by decide) 28 (by decide) rfl rfl ?_
  refine op_loadE I K c 5 (by decide) _ (by decide) (fun v1535 hv1535 => ?_)
  refine op_loadRs I K c 5 _ (by decide) ?_
  refine op_loadE I K c 5 (by decide) _ (by decide) (fun v1539 hv1539 => ?_)
  refine op_storeE I K c 5 (by decide) _ (av I (5 + 1) c) (by decide) (sum_eq I c 5 hv1535 _ rfl) ?_
  refine op_sig I K c 5 (by decide) 28 rfl (congrArg Dev.tc (dev29 c)) rfl rfl ?_
  refine op_swait I K c 5 (by decide) 29 (by decide) rfl rfl ?_
  exact wp_done (H)

theorem part53 (c : Dev nD) {X : sProp 𝕄} (v25 : BitVec 32) (c1_i32_1434 : BitVec 32) {Q : (Σ' (v1566 : FVec F S128x64 .f32) (v1569 : Vec F S2048x64 .bf16) (v1573 : FVec F S128x2048 .f32), FVec F S128x1 .f32) → sProp 𝕄}
    (H : iprop((QKV I c ∗ X) ∗ SB (F := F) c 6 ∗ ow (F := F) c 30 ∗ ctx I K) ⊢ Q ⟨k0_pay111 (qp (qv I c) 8 (by decide) 0 (by decide) 0 (by decide)) (kp (kv I c) 0 (by decide) 0 (by decide)) (kp (vv I c) 0 (by decide) 0 (by decide)), (kp (vv I c) 0 (by decide) 1 (by decide)), k0_pay112 (qp (qv I c) 8 (by decide) 0 (by decide) 1 (by decide)) (kp (kv I c) 0 (by decide) 1 (by decide)), k0_pay113 (qp (qv I c) 8 (by decide) 0 (by decide) 1 (by decide)) (kp (kv I c) 0 (by decide) 1 (by decide))⟩) :
    iprop((QKV I c ∗ X) ∗ SA I c 6 ∗ ow (F := F) c 29 ∗ ctx I K)
      ⊢ WP c (k0_part53 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v25 c1_i32_1434) Q := by
  rw [k0_part53_eq_skeleton]; unfold k0_part53_skel
  simp only [semSignalWord, semWaitWord, Prog.lift, Prog.bind_op, Prog.bind_ret, Prog.pure_eq_ret]
  refine op_sendS I K c 6 (by decide) 29 rfl (by decide) (congrArg Dev.tc (dev30 c)) rfl HEq.rfl rfl rfl ?_
  refine op_loadQ I c ?_
  refine op_loadK I c ?_
  refine op_loadV I c ?_
  refine op_loadQ I c ?_
  refine op_loadK I c ?_
  refine op_loadV I c ?_
  exact wp_done (H)

theorem part54 (c : Dev nD) {X : sProp 𝕄} (v1566 : FVec F S128x64 .f32) (v1569 : Vec F S2048x64 .bf16) (v1573 : FVec F S128x2048 .f32) (v1577 : FVec F S128x1 .f32) {Q : (FVec F S128x256 .f32) → sProp 𝕄}
    (H : iprop((QKV I c ∗ X) ∗ SB (F := F) c 6 ∗ ow (F := F) c 30 ∗ ctx I K) ⊢ Q (k0_pay114 v1566 v1569 v1573 v1577 (qp (qv I c) 8 (by decide) 0 (by decide) 2 (by decide)) (kp (kv I c) 0 (by decide) 2 (by decide)) (kp (vv I c) 0 (by decide) 2 (by decide)) (qp (qv I c) 8 (by decide) 0 (by decide) 3 (by decide)) (kp (kv I c) 0 (by decide) 3 (by decide)) (kp (vv I c) 0 (by decide) 3 (by decide)))) :
    iprop((QKV I c ∗ X) ∗ SB (F := F) c 6 ∗ ow (F := F) c 30 ∗ ctx I K)
      ⊢ WP c (k0_part54 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v1566 v1569 v1573 v1577) Q := by
  rw [k0_part54_eq_skeleton]; unfold k0_part54_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part55 (c : Dev nD) {X : sProp 𝕄}  {Q : (Σ' (v1627 : FVec F S128x64 .f32) (v1642 : FVec F S128x64 .f32) (v1643 : Vec F S128x64 .bf16) (v1644 : Vec F S2048x64 .bf16) (v1645 : Vec F S2048x64 .bf16), FVec F S128x2048 .f32) → sProp 𝕄}
    (H : iprop((QKV I c ∗ X) ∗ SB (F := F) c 6 ∗ ow (F := F) c 30 ∗ ctx I K) ⊢ Q ⟨k0_pay115 (qp (qv I c) 8 (by decide) 1 (by decide) 0 (by decide)) (kp (kv I c) 1 (by decide) 0 (by decide)) (kp (vv I c) 1 (by decide) 0 (by decide)), k0_pay116 (qp (qv I c) 8 (by decide) 1 (by decide) 1 (by decide)) (kp (kv I c) 1 (by decide) 1 (by decide)) (kp (vv I c) 1 (by decide) 1 (by decide)), (qp (qv I c) 8 (by decide) 1 (by decide) 2 (by decide)), (kp (kv I c) 1 (by decide) 2 (by decide)), (kp (vv I c) 1 (by decide) 2 (by decide)), (constant S128x2048 .f32 0x00000000#32)⟩) :
    iprop((QKV I c ∗ X) ∗ SB (F := F) c 6 ∗ ow (F := F) c 30 ∗ ctx I K)
      ⊢ WP c (k0_part55 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 ) Q := by
  rw [k0_part55_eq_skeleton]; unfold k0_part55_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  refine op_loadQ I c ?_
  refine op_loadK I c ?_
  refine op_loadV I c ?_
  exact wp_done (H)

theorem part56 (c : Dev nD) {X : sProp 𝕄} (v471 : FVec F S256x512 .bf16) (v1612 : FVec F S128x256 .f32) (v1627 : FVec F S128x64 .f32) (v1642 : FVec F S128x64 .f32) (v1643 : Vec F S128x64 .bf16) (v1644 : Vec F S2048x64 .bf16) (v1645 : Vec F S2048x64 .bf16) (cst_1509 : FVec F S128x2048 .f32) {Q : (PUnit) → sProp 𝕄}
    (hw : shapeCast S2x128x512 (k0_pay117 v471 v1612 v1627 v1642 v1643 v1644 v1645 cst_1509 (qp (qv I c) 8 (by decide) 1 (by decide) 3 (by decide)) (kp (kv I c) 1 (by decide) 3 (by decide)) (kp (vv I c) 1 (by decide) 3 (by decide))) shapeCasts_S2x1x128x512_S2x128x512 = chunk I c 8)
    (H : iprop((QKV I c ∗ X) ∗ SC I c 6 ∗ ow (F := F) c 30 ∗ ctx I K) ⊢ Q ⟨⟩) :
    iprop((QKV I c ∗ X) ∗ SB (F := F) c 6 ∗ ow (F := F) c 30 ∗ ctx I K)
      ⊢ WP c (k0_part56 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v471 v1612 v1627 v1642 v1643 v1644 v1645 cst_1509) Q := by
  rw [k0_part56_eq_skeleton]; unfold k0_part56_skel
  simp only [semSignalWord, semWaitWord, Prog.lift, Prog.bind_op, Prog.bind_ret, Prog.pure_eq_ret]
  refine op_loadQ I c ?_
  refine op_loadK I c ?_
  refine op_loadV I c ?_
  refine op_deadB I K c 6 (by decide) (by decide) (fun _ => ?_)
  refine op_storeB I K c 6 (by decide) (by decide) hw ?_
  exact wp_done (H)

theorem part57 (c : Dev nD) {X : sProp 𝕄} (v14 : BitVec 32) (v25 : BitVec 32) {Q : (PUnit) → sProp 𝕄}
    (H : iprop((QKV I c ∗ X) ∗ SA I c 7 ∗ ow (F := F) c 31 ∗ ctx I K) ⊢ Q ⟨⟩) :
    iprop((QKV I c ∗ X) ∗ SC I c 6 ∗ ow (F := F) c 30 ∗ ctx I K)
      ⊢ WP c (k0_part57 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part57_eq_skeleton]; unfold k0_part57_skel
  simp only [semSignalWord, semWaitWord, Prog.lift, Prog.bind_op, Prog.bind_ret, Prog.pure_eq_ret]
  refine op_waitSS I K c 6 (by decide) 30 rfl rfl ?_
  refine op_waitRS I K c 6 (by decide) 30 (by decide) rfl rfl ?_
  refine op_loadE I K c 6 (by decide) _ (by decide) (fun v1692 hv1692 => ?_)
  refine op_loadRs I K c 6 _ (by decide) ?_
  refine op_loadE I K c 6 (by decide) _ (by decide) (fun v1696 hv1696 => ?_)
  refine op_storeE I K c 6 (by decide) _ (av I (6 + 1) c) (by decide) (sum_eq I c 6 hv1692 _ rfl) ?_
  refine op_sig I K c 6 (by decide) 30 rfl (congrArg Dev.tc (dev31 c)) rfl rfl ?_
  refine op_swait I K c 6 (by decide) 31 (by decide) rfl rfl ?_
  exact wp_done (H)

theorem part58 (c : Dev nD) {X : sProp 𝕄}  {Q : (Σ' (v1723 : FVec F S128x64 .f32) (v1736 : FVec F S128x64 .f32), FVec F S128x64 .f32) → sProp 𝕄}
    (H : iprop((QKV I c ∗ X) ∗ SB (F := F) c 7 ∗ ow (F := F) c 32 ∗ ctx I K) ⊢ Q ⟨k0_pay119 (qp (qv I c) 7 (by decide) 0 (by decide) 0 (by decide)) (kp (kv I c) 0 (by decide) 0 (by decide)) (kp (vv I c) 0 (by decide) 0 (by decide)), k0_pay121 (qp (qv I c) 7 (by decide) 0 (by decide) 1 (by decide)) (kp (kv I c) 0 (by decide) 1 (by decide)) (kp (vv I c) 0 (by decide) 1 (by decide)), k0_pay122 (qp (qv I c) 7 (by decide) 0 (by decide) 1 (by decide)) (kp (kv I c) 0 (by decide) 1 (by decide))⟩) :
    iprop((QKV I c ∗ X) ∗ SA I c 7 ∗ ow (F := F) c 31 ∗ ctx I K)
      ⊢ WP c (k0_part58 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c) Q := by
  rw [k0_part58_eq_skeleton]; unfold k0_part58_skel
  simp only [semSignalWord, semWaitWord, Prog.lift, Prog.bind_op, Prog.bind_ret, Prog.pure_eq_ret]
  refine op_sendS I K c 7 (by decide) 31 rfl (by decide) (congrArg Dev.tc (dev32 c)) rfl HEq.rfl rfl rfl ?_
  refine op_loadQ I c ?_
  refine op_loadK I c ?_
  refine op_loadV I c ?_
  refine op_loadQ I c ?_
  refine op_loadK I c ?_
  refine op_loadV I c ?_
  exact wp_done (H)

theorem part59 (c : Dev nD) {X : sProp 𝕄} (v1723 : FVec F S128x64 .f32) (v1736 : FVec F S128x64 .f32) (v1737 : FVec F S128x64 .f32) {Q : (Σ' (v1769 : FVec F S128x256 .f32) (v1770 : Vec F S128x64 .bf16), Vec F S2048x64 .bf16) → sProp 𝕄}
    (H : iprop((QKV I c ∗ X) ∗ SB (F := F) c 7 ∗ ow (F := F) c 32 ∗ ctx I K) ⊢ Q ⟨k0_pay123 v1723 v1736 v1737 (qp (qv I c) 7 (by decide) 0 (by decide) 2 (by decide)) (kp (kv I c) 0 (by decide) 2 (by decide)) (kp (vv I c) 0 (by decide) 2 (by decide)) (qp (qv I c) 7 (by decide) 0 (by decide) 3 (by decide)) (kp (kv I c) 0 (by decide) 3 (by decide)) (kp (vv I c) 0 (by decide) 3 (by decide)), (qp (qv I c) 7 (by decide) 1 (by decide) 0 (by decide)), (kp (kv I c) 1 (by decide) 0 (by decide))⟩) :
    iprop((QKV I c ∗ X) ∗ SB (F := F) c 7 ∗ ow (F := F) c 32 ∗ ctx I K)
      ⊢ WP c (k0_part59 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v1723 v1736 v1737) Q := by
  rw [k0_part59_eq_skeleton]; unfold k0_part59_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  refine op_loadQ I c ?_
  refine op_loadK I c ?_
  exact wp_done (H)

end Cert.KernelIdeal.Ring
-- ==== Proof.KernelIdeal.PartsC.lean ====
/-
The parts of the body over the last steps of the reduction.
-/
module

public import Idealize.SL.BI.BigOpNat
public import proofs.«01_k».proof.Proof.KernelIdeal.OpsGather
public import proofs.«01_k».proof.Proof.KernelIdeal.OpsRing
public import proofs.«01_k».proof.Proof.KernelIdeal.OpsEdge
public import proofs.«01_k».proof.Proof.KernelIdeal.Devs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F) (K : GSem nD τ sig → ℕ)
variable (a0 : Memref sig .tc .vmem S2x128x512 .bf16) (h0 : a0.IsWhole) (a1 : Memref sig .tc .vmem S512x256 .bf16) (h1 : a1.IsWhole)
    (a2 : Memref sig .tc .vmem S512x256 .bf16) (h2 : a2.IsWhole) (a3 : Memref sig .tc .vmem S512x256 .bf16) (h3 : a3.IsWhole)
    (a4 : Memref sig .tc .vmem S256x512 .bf16) (h4 : a4.IsWhole) (a5 : Memref sig .tc .vmem S2048x64 .f32) (h5 : a5.IsWhole)
    (a6 : Memref sig .tc .vmem S2048x64 .f32) (h6 : a6.IsWhole) (a7 : Memref sig .tc .vmem S2x128x512 .f32) (h7 : a7.IsWhole)

theorem part60 (c : Dev nD) {X : sProp 𝕄} (v1770 : Vec F S128x64 .bf16) (v1771 : Vec F S2048x64 .bf16) {Q : (Σ' (v1784 : FVec F S128x64 .f32) (v1799 : FVec F S128x64 .f32) (v1802 : Vec F S2048x64 .bf16), FVec F S128x2048 .f32) → sProp 𝕄}
    (H : iprop((QKV I c ∗ X) ∗ SB (F := F) c 7 ∗ ow (F := F) c 32 ∗ ctx I K) ⊢ Q ⟨k0_pay124 v1770 v1771 (kp (vv I c) 1 (by decide) 0 (by decide)), k0_pay125 (qp (qv I c) 7 (by decide) 1 (by decide) 1 (by decide)) (kp (kv I c) 1 (by decide) 1 (by decide)) (kp (vv I c) 1 (by decide) 1 (by decide)), (kp (vv I c) 1 (by decide) 2 (by decide)), k0_pay126 (qp (qv I c) 7 (by decide) 1 (by decide) 2 (by decide)) (kp (kv I c) 1 (by decide) 2 (by decide))⟩) :
    iprop((QKV I c ∗ X) ∗ SB (F := F) c 7 ∗ ow (F := F) c 32 ∗ ctx I K)
      ⊢ WP c (k0_part60 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v1770 v1771) Q := by
  rw [k0_part60_eq_skeleton]; unfold k0_part60_skel
  simp only [semSignalWord, semWaitWord, Prog.lift, Prog.bind_op, Prog.bind_ret, Prog.pure_eq_ret]
  refine op_loadV I c ?_
  refine op_loadQ I c ?_
  refine op_loadK I c ?_
  refine op_loadV I c ?_
  refine op_loadQ I c ?_
  refine op_loadK I c ?_
  refine op_loadV I c ?_
  exact wp_done (H)

theorem part61 (c : Dev nD) {X : sProp 𝕄} (v471 : FVec F S256x512 .bf16) (v1769 : FVec F S128x256 .f32) (v1784 : FVec F S128x64 .f32) (v1799 : FVec F S128x64 .f32) (v1802 : Vec F S2048x64 .bf16) (v1805 : FVec F S128x2048 .f32) {Q : (PUnit) → sProp 𝕄}
    (hw : shapeCast S2x128x512 (k0_pay127 v471 v1769 v1784 v1799 v1802 v1805 (qp (qv I c) 7 (by decide) 1 (by decide) 3 (by decide)) (kp (kv I c) 1 (by decide) 3 (by decide)) (kp (vv I c) 1 (by decide) 3 (by decide))) shapeCasts_S2x1x128x512_S2x128x512 = chunk I c 7)
    (H : iprop((QKV I c ∗ X) ∗ SC I c 7 ∗ ow (F := F) c 32 ∗ ctx I K) ⊢ Q ⟨⟩) :
    iprop((QKV I c ∗ X) ∗ SB (F := F) c 7 ∗ ow (F := F) c 32 ∗ ctx I K)
      ⊢ WP c (k0_part61 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v471 v1769 v1784 v1799 v1802 v1805) Q := by
  rw [k0_part61_eq_skeleton]; unfold k0_part61_skel
  simp only [semSignalWord, semWaitWord, Prog.lift, Prog.bind_op, Prog.bind_ret, Prog.pure_eq_ret]
  refine op_loadQ I c ?_
  refine op_loadK I c ?_
  refine op_loadV I c ?_
  refine op_deadB I K c 7 (by decide) (by decide) (fun _ => ?_)
  refine op_storeB I K c 7 (by decide) (by decide) hw ?_
  exact wp_done (H)

theorem part62 (c : Dev nD) {X : sProp 𝕄} (v14 : BitVec 32) (v25 : BitVec 32) {Q : (PUnit) → sProp 𝕄}
    (H : iprop((QKV I c ∗ X) ∗ SA I c 8 ∗ ow (F := F) c 33 ∗ ctx I K) ⊢ Q ⟨⟩) :
    iprop((QKV I c ∗ X) ∗ SC I c 7 ∗ ow (F := F) c 32 ∗ ctx I K)
      ⊢ WP c (k0_part62 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part62_eq_skeleton]; unfold k0_part62_skel
  simp only [semSignalWord, semWaitWord, Prog.lift, Prog.bind_op, Prog.bind_ret, Prog.pure_eq_ret]
  refine op_waitSS I K c 7 (by decide) 32 rfl rfl ?_
  refine op_waitRS I K c 7 (by decide) 32 (by decide) rfl rfl ?_
  refine op_loadE I K c 7 (by decide) _ (by decide) (fun v1849 hv1849 => ?_)
  refine op_loadRs I K c 7 _ (by decide) ?_
  refine op_loadE I K c 7 (by decide) _ (by decide) (fun v1853 hv1853 => ?_)
  refine op_storeE I K c 7 (by decide) _ (av I (7 + 1) c) (by decide) (sum_eq I c 7 hv1849 _ rfl) ?_
  refine op_sig I K c 7 (by decide) 32 rfl (congrArg Dev.tc (dev33 c)) rfl rfl ?_
  refine op_swait I K c 7 (by decide) 33 (by decide) rfl rfl ?_
  exact wp_done (H)

theorem part63 (c : Dev nD) {X : sProp 𝕄}  {Q : (Σ' (v1880 : FVec F S128x64 .f32) (v1895 : FVec F S128x64 .f32), Vec F S128x64 .bf16) → sProp 𝕄}
    (H : iprop((QKV I c ∗ X) ∗ SB (F := F) c 8 ∗ ow (F := F) c 34 ∗ ctx I K) ⊢ Q ⟨k0_pay129 (qp (qv I c) 6 (by decide) 0 (by decide) 0 (by decide)) (kp (kv I c) 0 (by decide) 0 (by decide)) (kp (vv I c) 0 (by decide) 0 (by decide)), k0_pay130 (qp (qv I c) 6 (by decide) 0 (by decide) 1 (by decide)) (kp (kv I c) 0 (by decide) 1 (by decide)) (kp (vv I c) 0 (by decide) 1 (by decide)), (qp (qv I c) 6 (by decide) 0 (by decide) 2 (by decide))⟩) :
    iprop((QKV I c ∗ X) ∗ SA I c 8 ∗ ow (F := F) c 33 ∗ ctx I K)
      ⊢ WP c (k0_part63 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c) Q := by
  rw [k0_part63_eq_skeleton]; unfold k0_part63_skel
  simp only [semSignalWord, semWaitWord, Prog.lift, Prog.bind_op, Prog.bind_ret, Prog.pure_eq_ret]
  refine op_sendS I K c 8 (by decide) 33 rfl (by decide) (congrArg Dev.tc (dev34 c)) rfl HEq.rfl rfl rfl ?_
  refine op_loadQ I c ?_
  refine op_loadK I c ?_
  refine op_loadV I c ?_
  refine op_loadQ I c ?_
  refine op_loadK I c ?_
  refine op_loadV I c ?_
  refine op_loadQ I c ?_
  exact wp_done (H)

theorem part64 (c : Dev nD) {X : sProp 𝕄} (v1880 : FVec F S128x64 .f32) (v1895 : FVec F S128x64 .f32) (v1896 : Vec F S128x64 .bf16) {Q : (Σ' (v1926 : FVec F S128x256 .f32) (v1927 : Vec F S128x64 .bf16) (v1928 : Vec F S2048x64 .bf16) (v1929 : Vec F S2048x64 .bf16), FVec F S128x2048 .f32) → sProp 𝕄}
    (H : iprop((QKV I c ∗ X) ∗ SB (F := F) c 8 ∗ ow (F := F) c 34 ∗ ctx I K) ⊢ Q ⟨k0_pay131 v1880 v1895 v1896 (kp (kv I c) 0 (by decide) 2 (by decide)) (kp (vv I c) 0 (by decide) 2 (by decide)) (qp (qv I c) 6 (by decide) 0 (by decide) 3 (by decide)) (kp (kv I c) 0 (by decide) 3 (by decide)) (kp (vv I c) 0 (by decide) 3 (by decide)), (qp (qv I c) 6 (by decide) 1 (by decide) 0 (by decide)), (kp (kv I c) 1 (by decide) 0 (by decide)), (kp (vv I c) 1 (by decide) 0 (by decide)), (constant S128x2048 .f32 0x00000000#32)⟩) :
    iprop((QKV I c ∗ X) ∗ SB (F := F) c 8 ∗ ow (F := F) c 34 ∗ ctx I K)
      ⊢ WP c (k0_part64 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v1880 v1895 v1896) Q := by
  rw [k0_part64_eq_skeleton]; unfold k0_part64_skel
  simp only [semSignalWord, semWaitWord, Prog.lift, Prog.bind_op, Prog.bind_ret, Prog.pure_eq_ret]
  refine op_loadK I c ?_
  refine op_loadV I c ?_
  refine op_loadQ I c ?_
  refine op_loadK I c ?_
  refine op_loadV I c ?_
  refine op_loadQ I c ?_
  refine op_loadK I c ?_
  refine op_loadV I c ?_
  exact wp_done (H)

theorem part65 (c : Dev nD) {X : sProp 𝕄} (v1927 : Vec F S128x64 .bf16) (v1928 : Vec F S2048x64 .bf16) (v1929 : Vec F S2048x64 .bf16) (cst_1745 : FVec F S128x2048 .f32) {Q : (Σ' (v1941 : FVec F S128x64 .f32) (v1956 : FVec F S128x64 .f32) (v1959 : Vec F S2048x64 .bf16) (v1963 : FVec F S128x2048 .f32), FVec F S128x1 .f32) → sProp 𝕄}
    (H : iprop((QKV I c ∗ X) ∗ SB (F := F) c 8 ∗ ow (F := F) c 34 ∗ ctx I K) ⊢ Q ⟨k0_pay132 v1927 v1928 v1929 cst_1745, k0_pay133 (qp (qv I c) 6 (by decide) 1 (by decide) 1 (by decide)) (kp (kv I c) 1 (by decide) 1 (by decide)) (kp (vv I c) 1 (by decide) 1 (by decide)), (kp (vv I c) 1 (by decide) 2 (by decide)), k0_pay134 (qp (qv I c) 6 (by decide) 1 (by decide) 2 (by decide)) (kp (kv I c) 1 (by decide) 2 (by decide)), k0_pay135 (qp (qv I c) 6 (by decide) 1 (by decide) 2 (by decide)) (kp (kv I c) 1 (by decide) 2 (by decide))⟩) :
    iprop((QKV I c ∗ X) ∗ SB (F := F) c 8 ∗ ow (F := F) c 34 ∗ ctx I K)
      ⊢ WP c (k0_part65 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v1927 v1928 v1929 cst_1745) Q := by
  rw [k0_part65_eq_skeleton]; unfold k0_part65_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part66 (c : Dev nD) {X : sProp 𝕄} (v471 : FVec F S256x512 .bf16) (v1926 : FVec F S128x256 .f32) (v1941 : FVec F S128x64 .f32) (v1956 : FVec F S128x64 .f32) (v1959 : Vec F S2048x64 .bf16) (v1963 : FVec F S128x2048 .f32) (v1965 : FVec F S128x1 .f32) {Q : (PUnit) → sProp 𝕄}
    (hw : shapeCast S2x128x512 (k0_pay136 v471 v1926 v1941 v1956 v1959 v1963 v1965 (qp (qv I c) 6 (by decide) 1 (by decide) 3 (by decide)) (kp (kv I c) 1 (by decide) 3 (by decide)) (kp (vv I c) 1 (by decide) 3 (by decide))) shapeCasts_S2x1x128x512_S2x128x512 = chunk I c 6)
    (H : iprop((QKV I c ∗ X) ∗ SC I c 8 ∗ ow (F := F) c 34 ∗ ctx I K) ⊢ Q ⟨⟩) :
    iprop((QKV I c ∗ X) ∗ SB (F := F) c 8 ∗ ow (F := F) c 34 ∗ ctx I K)
      ⊢ WP c (k0_part66 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v471 v1926 v1941 v1956 v1959 v1963 v1965) Q := by
  rw [k0_part66_eq_skeleton]; unfold k0_part66_skel
  simp only [semSignalWord, semWaitWord, Prog.lift, Prog.bind_op, Prog.bind_ret, Prog.pure_eq_ret]
  refine op_loadQ I c ?_
  refine op_loadK I c ?_
  refine op_loadV I c ?_
  refine op_deadB I K c 8 (by decide) (by decide) (fun _ => ?_)
  refine op_storeB I K c 8 (by decide) (by decide) hw ?_
  exact wp_done (H)

theorem part67 (c : Dev nD) {X : sProp 𝕄} (v14 : BitVec 32) (v25 : BitVec 32) {Q : (PUnit) → sProp 𝕄}
    (H : iprop((QKV I c ∗ X) ∗ SA I c 9 ∗ ow (F := F) c 35 ∗ ctx I K) ⊢ Q ⟨⟩) :
    iprop((QKV I c ∗ X) ∗ SC I c 8 ∗ ow (F := F) c 34 ∗ ctx I K)
      ⊢ WP c (k0_part67 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part67_eq_skeleton]; unfold k0_part67_skel
  simp only [semSignalWord, semWaitWord, Prog.lift, Prog.bind_op, Prog.bind_ret, Prog.pure_eq_ret]
  refine op_waitSS I K c 8 (by decide) 34 rfl rfl ?_
  refine op_waitRS I K c 8 (by decide) 34 (by decide) rfl rfl ?_
  refine op_loadE I K c 8 (by decide) _ (by decide) (fun v2006 hv2006 => ?_)
  refine op_loadRs I K c 8 _ (by decide) ?_
  refine op_loadE I K c 8 (by decide) _ (by decide) (fun v2010 hv2010 => ?_)
  refine op_storeE I K c 8 (by decide) _ (av I (8 + 1) c) (by decide) (sum_eq I c 8 hv2006 _ rfl) ?_
  refine op_sig I K c 8 (by decide) 34 rfl (congrArg Dev.tc (dev35 c)) rfl rfl ?_
  refine op_swait I K c 8 (by decide) 35 (by decide) rfl rfl ?_
  exact wp_done (H)

theorem part68 (c : Dev nD) {X : sProp 𝕄}  {Q : (Σ' (v2037 : FVec F S128x64 .f32) (v2052 : FVec F S128x64 .f32) (v2053 : Vec F S128x64 .bf16), Vec F S2048x64 .bf16) → sProp 𝕄}
    (H : iprop((QKV I c ∗ X) ∗ SB (F := F) c 9 ∗ ow (F := F) c 36 ∗ ctx I K) ⊢ Q ⟨k0_pay138 (qp (qv I c) 5 (by decide) 0 (by decide) 0 (by decide)) (kp (kv I c) 0 (by decide) 0 (by decide)) (kp (vv I c) 0 (by decide) 0 (by decide)), k0_pay139 (qp (qv I c) 5 (by decide) 0 (by decide) 1 (by decide)) (kp (kv I c) 0 (by decide) 1 (by decide)) (kp (vv I c) 0 (by decide) 1 (by decide)), (qp (qv I c) 5 (by decide) 0 (by decide) 2 (by decide)), (kp (kv I c) 0 (by decide) 2 (by decide))⟩) :
    iprop((QKV I c ∗ X) ∗ SA I c 9 ∗ ow (F := F) c 35 ∗ ctx I K)
      ⊢ WP c (k0_part68 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c) Q := by
  rw [k0_part68_eq_skeleton]; unfold k0_part68_skel
  simp only [semSignalWord, semWaitWord, Prog.lift, Prog.bind_op, Prog.bind_ret, Prog.pure_eq_ret]
  refine op_sendS I K c 9 (by decide) 35 rfl (by decide) (congrArg Dev.tc (dev36 c)) rfl HEq.rfl rfl rfl ?_
  refine op_loadQ I c ?_
  refine op_loadK I c ?_
  refine op_loadV I c ?_
  refine op_loadQ I c ?_
  refine op_loadK I c ?_
  refine op_loadV I c ?_
  refine op_loadQ I c ?_
  refine op_loadK I c ?_
  exact wp_done (H)

theorem part69 (c : Dev nD) {X : sProp 𝕄} (v2037 : FVec F S128x64 .f32) (v2052 : FVec F S128x64 .f32) (v2053 : Vec F S128x64 .bf16) (v2054 : Vec F S2048x64 .bf16) {Q : (Σ' (v2083 : FVec F S128x256 .f32) (v2086 : Vec F S2048x64 .bf16), FVec F S128x2048 .f32) → sProp 𝕄}
    (H : iprop((QKV I c ∗ X) ∗ SB (F := F) c 9 ∗ ow (F := F) c 36 ∗ ctx I K) ⊢ Q ⟨k0_pay140 v2037 v2052 v2053 v2054 (kp (vv I c) 0 (by decide) 2 (by decide)) (qp (qv I c) 5 (by decide) 0 (by decide) 3 (by decide)) (kp (kv I c) 0 (by decide) 3 (by decide)) (kp (vv I c) 0 (by decide) 3 (by decide)), (kp (vv I c) 1 (by decide) 0 (by decide)), k0_pay141 (qp (qv I c) 5 (by decide) 1 (by decide) 0 (by decide)) (kp (kv I c) 1 (by decide) 0 (by decide))⟩) :
    iprop((QKV I c ∗ X) ∗ SB (F := F) c 9 ∗ ow (F := F) c 36 ∗ ctx I K)
      ⊢ WP c (k0_part69 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2037 v2052 v2053 v2054) Q := by
  rw [k0_part69_eq_skeleton]; unfold k0_part69_skel
  simp only [semSignalWord, semWaitWord, Prog.lift, Prog.bind_op, Prog.bind_ret, Prog.pure_eq_ret]
  refine op_loadV I c ?_
  refine op_loadQ I c ?_
  refine op_loadK I c ?_
  refine op_loadV I c ?_
  refine op_loadQ I c ?_
  refine op_loadK I c ?_
  refine op_loadV I c ?_
  exact wp_done (H)

theorem part70 (c : Dev nD) {X : sProp 𝕄} (v2086 : Vec F S2048x64 .bf16) (v2089 : FVec F S128x2048 .f32) {Q : (Σ' (v2098 : FVec F S128x64 .f32) (v2113 : FVec F S128x64 .f32) (v2116 : Vec F S2048x64 .bf16) (v2124 : FVec F S128x1 .f32), FVec F S128x2048 .bf16) → sProp 𝕄}
    (H : iprop((QKV I c ∗ X) ∗ SB (F := F) c 9 ∗ ow (F := F) c 36 ∗ ctx I K) ⊢ Q ⟨k0_pay142 v2086 v2089, k0_pay143 (qp (qv I c) 5 (by decide) 1 (by decide) 1 (by decide)) (kp (kv I c) 1 (by decide) 1 (by decide)) (kp (vv I c) 1 (by decide) 1 (by decide)), (kp (vv I c) 1 (by decide) 2 (by decide)), k0_pay145 (qp (qv I c) 5 (by decide) 1 (by decide) 2 (by decide)) (kp (kv I c) 1 (by decide) 2 (by decide)), k0_pay146 (qp (qv I c) 5 (by decide) 1 (by decide) 2 (by decide)) (kp (kv I c) 1 (by decide) 2 (by decide))⟩) :
    iprop((QKV I c ∗ X) ∗ SB (F := F) c 9 ∗ ow (F := F) c 36 ∗ ctx I K)
      ⊢ WP c (k0_part70 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2086 v2089) Q := by
  rw [k0_part70_eq_skeleton]; unfold k0_part70_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part71 (c : Dev nD) {X : sProp 𝕄} (v471 : FVec F S256x512 .bf16) (v2083 : FVec F S128x256 .f32) (v2098 : FVec F S128x64 .f32) (v2113 : FVec F S128x64 .f32) (v2116 : Vec F S2048x64 .bf16) (v2124 : FVec F S128x1 .f32) (v2125 : FVec F S128x2048 .bf16) {Q : (PUnit) → sProp 𝕄}
    (hw : shapeCast S2x128x512 (k0_pay147 v471 v2083 v2098 v2113 v2116 v2124 v2125 (qp (qv I c) 5 (by decide) 1 (by decide) 3 (by decide)) (kp (kv I c) 1 (by decide) 3 (by decide)) (kp (vv I c) 1 (by decide) 3 (by decide))) shapeCasts_S2x1x128x512_S2x128x512 = chunk I c 5)
    (H : iprop((QKV I c ∗ X) ∗ SD I c 9 ∗ ow (F := F) c 36 ∗ ctx I K) ⊢ Q ⟨⟩) :
    iprop((QKV I c ∗ X) ∗ SB (F := F) c 9 ∗ ow (F := F) c 36 ∗ ctx I K)
      ⊢ WP c (k0_part71 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v471 v2083 v2098 v2113 v2116 v2124 v2125) Q := by
  rw [k0_part71_eq_skeleton]; unfold k0_part71_skel
  simp only [semSignalWord, semWaitWord, Prog.lift, Prog.bind_op, Prog.bind_ret, Prog.pure_eq_ret]
  refine op_loadQ I c ?_
  refine op_loadK I c ?_
  refine op_loadV I c ?_
  refine op_deadB I K c 9 (by decide) (by decide) (fun _ => ?_)
  refine op_storeB I K c 9 (by decide) (by decide) hw ?_
  refine op_waitSS I K c 9 (by decide) 36 rfl rfl ?_
  exact wp_done (H)

theorem part72 (c : Dev nD) {X : sProp 𝕄} (v14 : BitVec 32) (v25 : BitVec 32) {Q : (Vec F S128x64 .bf16) → sProp 𝕄}
    (H : iprop((QKV I c ∗ X) ∗ SB (F := F) c 10 ∗ ow (F := F) c 38 ∗ ctx I K) ⊢ Q (qp (qv I c) 4 (by decide) 0 (by decide) 0 (by decide))) :
    iprop((QKV I c ∗ X) ∗ SD I c 9 ∗ ow (F := F) c 36 ∗ ctx I K)
      ⊢ WP c (k0_part72 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part72_eq_skeleton]; unfold k0_part72_skel
  simp only [semSignalWord, semWaitWord, Prog.lift, Prog.bind_op, Prog.bind_ret, Prog.pure_eq_ret]
  refine op_waitRS I K c 9 (by decide) 36 (by decide) rfl rfl ?_
  refine op_loadE I K c 9 (by decide) _ (by decide) (fun v2163 hv2163 => ?_)
  refine op_loadRs I K c 9 _ (by decide) ?_
  refine op_loadE I K c 9 (by decide) _ (by decide) (fun v2167 hv2167 => ?_)
  refine op_storeE I K c 9 (by decide) _ (av I (9 + 1) c) (by decide) (sum_eq I c 9 hv2163 _ rfl) ?_
  refine op_sig I K c 9 (by decide) 36 rfl (congrArg Dev.tc (dev37 c)) rfl rfl ?_
  refine op_swait I K c 9 (by decide) 37 (by decide) rfl rfl ?_
  refine op_sendS I K c 10 (by decide) 37 rfl (by decide) (congrArg Dev.tc (dev38 c)) rfl HEq.rfl rfl rfl ?_
  refine op_loadQ I c ?_
  exact wp_done (H)

theorem part73 (c : Dev nD) {X : sProp 𝕄} (v2180 : Vec F S128x64 .bf16) {Q : (Σ' (v2194 : FVec F S128x64 .f32) (v2209 : FVec F S128x64 .f32) (v2212 : Vec F S2048x64 .bf16), FVec F S128x2048 .f32) → sProp 𝕄}
    (H : iprop((QKV I c ∗ X) ∗ SB (F := F) c 10 ∗ ow (F := F) c 38 ∗ ctx I K) ⊢ Q ⟨k0_pay149 v2180 (kp (kv I c) 0 (by decide) 0 (by decide)) (kp (vv I c) 0 (by decide) 0 (by decide)), k0_pay150 (qp (qv I c) 4 (by decide) 0 (by decide) 1 (by decide)) (kp (kv I c) 0 (by decide) 1 (by decide)) (kp (vv I c) 0 (by decide) 1 (by decide)), (kp (vv I c) 0 (by decide) 2 (by decide)), k0_pay151 (qp (qv I c) 4 (by decide) 0 (by decide) 2 (by decide)) (kp (kv I c) 0 (by decide) 2 (by decide))⟩) :
    iprop((QKV I c ∗ X) ∗ SB (F := F) c 10 ∗ ow (F := F) c 38 ∗ ctx I K)
      ⊢ WP c (k0_part73 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2180) Q := by
  rw [k0_part73_eq_skeleton]; unfold k0_part73_skel
  simp only [semSignalWord, semWaitWord, Prog.lift, Prog.bind_op, Prog.bind_ret, Prog.pure_eq_ret]
  refine op_loadK I c ?_
  refine op_loadV I c ?_
  refine op_loadQ I c ?_
  refine op_loadK I c ?_
  refine op_loadV I c ?_
  refine op_loadQ I c ?_
  refine op_loadK I c ?_
  refine op_loadV I c ?_
  exact wp_done (H)

theorem part74 (c : Dev nD) {X : sProp 𝕄} (v2194 : FVec F S128x64 .f32) (v2209 : FVec F S128x64 .f32) (v2212 : Vec F S2048x64 .bf16) (v2213 : FVec F S128x2048 .f32) {Q : (Σ' (v2240 : FVec F S128x256 .f32) (v2243 : Vec F S2048x64 .bf16) (v2247 : FVec F S128x2048 .f32), FVec F S128x1 .f32) → sProp 𝕄}
    (H : iprop((QKV I c ∗ X) ∗ SB (F := F) c 10 ∗ ow (F := F) c 38 ∗ ctx I K) ⊢ Q ⟨k0_pay152 v2194 v2209 v2212 v2213 (qp (qv I c) 4 (by decide) 0 (by decide) 3 (by decide)) (kp (kv I c) 0 (by decide) 3 (by decide)) (kp (vv I c) 0 (by decide) 3 (by decide)), (kp (vv I c) 1 (by decide) 0 (by decide)), k0_pay153 (qp (qv I c) 4 (by decide) 1 (by decide) 0 (by decide)) (kp (kv I c) 1 (by decide) 0 (by decide)), k0_pay154 (qp (qv I c) 4 (by decide) 1 (by decide) 0 (by decide)) (kp (kv I c) 1 (by decide) 0 (by decide))⟩) :
    iprop((QKV I c ∗ X) ∗ SB (F := F) c 10 ∗ ow (F := F) c 38 ∗ ctx I K)
      ⊢ WP c (k0_part74 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2194 v2209 v2212 v2213) Q := by
  rw [k0_part74_eq_skeleton]; unfold k0_part74_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part75 (c : Dev nD) {X : sProp 𝕄} (v2243 : Vec F S2048x64 .bf16) (v2247 : FVec F S128x2048 .f32) (v2249 : FVec F S128x1 .f32) {Q : (Σ' (v2255 : FVec F S128x64 .f32) (v2270 : FVec F S128x64 .f32), FVec F S128x64 .f32) → sProp 𝕄}
    (H : iprop((QKV I c ∗ X) ∗ SB (F := F) c 10 ∗ ow (F := F) c 38 ∗ ctx I K) ⊢ Q ⟨k0_pay155 v2243 v2247 v2249, k0_pay156 (qp (qv I c) 4 (by decide) 1 (by decide) 1 (by decide)) (kp (kv I c) 1 (by decide) 1 (by decide)) (kp (vv I c) 1 (by decide) 1 (by decide)), k0_pay157 (qp (qv I c) 4 (by decide) 1 (by decide) 2 (by decide)) (kp (kv I c) 1 (by decide) 2 (by decide)) (kp (vv I c) 1 (by decide) 2 (by decide))⟩) :
    iprop((QKV I c ∗ X) ∗ SB (F := F) c 10 ∗ ow (F := F) c 38 ∗ ctx I K)
      ⊢ WP c (k0_part75 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2243 v2247 v2249) Q := by
  rw [k0_part75_eq_skeleton]; unfold k0_part75_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part76 (c : Dev nD) {X : sProp 𝕄} (v25 : BitVec 32) (v471 : FVec F S256x512 .bf16) (v2240 : FVec F S128x256 .f32) (v2255 : FVec F S128x64 .f32) (v2270 : FVec F S128x64 .f32) (v2285 : FVec F S128x64 .f32) {Q : (PUnit) → sProp 𝕄}
    (hw : shapeCast S2x128x512 (k0_pay158 v471 v2240 v2255 v2270 v2285 (qp (qv I c) 4 (by decide) 1 (by decide) 3 (by decide)) (kp (kv I c) 1 (by decide) 3 (by decide)) (kp (vv I c) 1 (by decide) 3 (by decide))) shapeCasts_S2x1x128x512_S2x128x512 = chunk I c 4)
    (H : iprop((QKV I c ∗ X) ∗ SD I c 10 ∗ ow (F := F) c 38 ∗ ctx I K) ⊢ Q ⟨⟩) :
    iprop((QKV I c ∗ X) ∗ SB (F := F) c 10 ∗ ow (F := F) c 38 ∗ ctx I K)
      ⊢ WP c (k0_part76 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v25 v471 v2240 v2255 v2270 v2285) Q := by
  rw [k0_part76_eq_skeleton]; unfold k0_part76_skel
  simp only [semSignalWord, semWaitWord, Prog.lift, Prog.bind_op, Prog.bind_ret, Prog.pure_eq_ret]
  refine op_loadQ I c ?_
  refine op_loadK I c ?_
  refine op_loadV I c ?_
  refine op_deadB I K c 10 (by decide) (by decide) (fun _ => ?_)
  refine op_storeB I K c 10 (by decide) (by decide) hw ?_
  refine op_waitSS I K c 10 (by decide) 38 rfl rfl ?_
  exact wp_done (H)

theorem part77 (c : Dev nD) {X : sProp 𝕄} (v14 : BitVec 32) (v25 : BitVec 32) {Q : (Σ' (v2337 : Vec F S128x64 .bf16), Vec F S2048x64 .bf16) → sProp 𝕄}
    (H : iprop((QKV I c ∗ X) ∗ SB (F := F) c 11 ∗ ow (F := F) c 40 ∗ ctx I K) ⊢ Q ⟨(qp (qv I c) 3 (by decide) 0 (by decide) 0 (by decide)), (kp (kv I c) 0 (by decide) 0 (by decide))⟩) :
    iprop((QKV I c ∗ X) ∗ SD I c 10 ∗ ow (F := F) c 38 ∗ ctx I K)
      ⊢ WP c (k0_part77 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part77_eq_skeleton]; unfold k0_part77_skel
  simp only [semSignalWord, semWaitWord, Prog.lift, Prog.bind_op, Prog.bind_ret, Prog.pure_eq_ret]
  refine op_waitRS I K c 10 (by decide) 38 (by decide) rfl rfl ?_
  refine op_loadE I K c 10 (by decide) _ (by decide) (fun v2320 hv2320 => ?_)
  refine op_loadRs I K c 10 _ (by decide) ?_
  refine op_loadE I K c 10 (by decide) _ (by decide) (fun v2324 hv2324 => ?_)
  refine op_storeE I K c 10 (by decide) _ (av I (10 + 1) c) (by decide) (sum_eq I c 10 hv2320 _ rfl) ?_
  refine op_sig I K c 10 (by decide) 38 rfl (congrArg Dev.tc (dev39 c)) rfl rfl ?_
  refine op_swait I K c 10 (by decide) 39 (by decide) rfl rfl ?_
  refine op_sendS I K c 11 (by decide) 39 rfl (by decide) (congrArg Dev.tc (dev40 c)) rfl HEq.rfl rfl rfl ?_
  refine op_loadQ I c ?_
  refine op_loadK I c ?_
  exact wp_done (H)

theorem part78 (c : Dev nD) {X : sProp 𝕄} (v2337 : Vec F S128x64 .bf16) (v2338 : Vec F S2048x64 .bf16) {Q : (Σ' (v2351 : FVec F S128x64 .f32) (v2366 : FVec F S128x64 .f32) (v2369 : Vec F S2048x64 .bf16), FVec F S128x2048 .f32) → sProp 𝕄}
    (H : iprop((QKV I c ∗ X) ∗ SB (F := F) c 11 ∗ ow (F := F) c 40 ∗ ctx I K) ⊢ Q ⟨k0_pay160 v2337 v2338 (kp (vv I c) 0 (by decide) 0 (by decide)), k0_pay161 (qp (qv I c) 3 (by decide) 0 (by decide) 1 (by decide)) (kp (kv I c) 0 (by decide) 1 (by decide)) (kp (vv I c) 0 (by decide) 1 (by decide)), (kp (vv I c) 0 (by decide) 2 (by decide)), k0_pay162 (qp (qv I c) 3 (by decide) 0 (by decide) 2 (by decide)) (kp (kv I c) 0 (by decide) 2 (by decide))⟩) :
    iprop((QKV I c ∗ X) ∗ SB (F := F) c 11 ∗ ow (F := F) c 40 ∗ ctx I K)
      ⊢ WP c (k0_part78 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2337 v2338) Q := by
  rw [k0_part78_eq_skeleton]; unfold k0_part78_skel
  simp only [semSignalWord, semWaitWord, Prog.lift, Prog.bind_op, Prog.bind_ret, Prog.pure_eq_ret]
  refine op_loadV I c ?_
  refine op_loadQ I c ?_
  refine op_loadK I c ?_
  refine op_loadV I c ?_
  refine op_loadQ I c ?_
  refine op_loadK I c ?_
  refine op_loadV I c ?_
  exact wp_done (H)

theorem part79 (c : Dev nD) {X : sProp 𝕄} (v2351 : FVec F S128x64 .f32) (v2366 : FVec F S128x64 .f32) (v2369 : Vec F S2048x64 .bf16) (v2373 : FVec F S128x2048 .f32) {Q : (Σ' (v2397 : FVec F S128x256 .f32) (v2400 : Vec F S2048x64 .bf16) (v2408 : FVec F S128x1 .f32), FVec F S128x2048 .bf16) → sProp 𝕄}
    (H : iprop((QKV I c ∗ X) ∗ SB (F := F) c 11 ∗ ow (F := F) c 40 ∗ ctx I K) ⊢ Q ⟨k0_pay163 v2351 v2366 v2369 v2373 (qp (qv I c) 3 (by decide) 0 (by decide) 3 (by decide)) (kp (kv I c) 0 (by decide) 3 (by decide)) (kp (vv I c) 0 (by decide) 3 (by decide)), (kp (vv I c) 1 (by decide) 0 (by decide)), k0_pay165 (qp (qv I c) 3 (by decide) 1 (by decide) 0 (by decide)) (kp (kv I c) 1 (by decide) 0 (by decide)), k0_pay166 (qp (qv I c) 3 (by decide) 1 (by decide) 0 (by decide)) (kp (kv I c) 1 (by decide) 0 (by decide))⟩) :
    iprop((QKV I c ∗ X) ∗ SB (F := F) c 11 ∗ ow (F := F) c 40 ∗ ctx I K)
      ⊢ WP c (k0_part79 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2351 v2366 v2369 v2373) Q := by
  rw [k0_part79_eq_skeleton]; unfold k0_part79_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part80 (c : Dev nD) {X : sProp 𝕄} (v2400 : Vec F S2048x64 .bf16) (v2408 : FVec F S128x1 .f32) (v2409 : FVec F S128x2048 .bf16) {Q : (Σ' (v2412 : FVec F S128x64 .f32) (v2427 : FVec F S128x64 .f32) (v2442 : FVec F S128x64 .f32), Vec F S128x64 .bf16) → sProp 𝕄}
    (H : iprop((QKV I c ∗ X) ∗ SB (F := F) c 11 ∗ ow (F := F) c 40 ∗ ctx I K) ⊢ Q ⟨k0_pay167 v2400 v2408 v2409, k0_pay168 (qp (qv I c) 3 (by decide) 1 (by decide) 1 (by decide)) (kp (kv I c) 1 (by decide) 1 (by decide)) (kp (vv I c) 1 (by decide) 1 (by decide)), k0_pay169 (qp (qv I c) 3 (by decide) 1 (by decide) 2 (by decide)) (kp (kv I c) 1 (by decide) 2 (by decide)) (kp (vv I c) 1 (by decide) 2 (by decide)), (qp (qv I c) 3 (by decide) 1 (by decide) 3 (by decide))⟩) :
    iprop((QKV I c ∗ X) ∗ SB (F := F) c 11 ∗ ow (F := F) c 40 ∗ ctx I K)
      ⊢ WP c (k0_part80 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2400 v2408 v2409) Q := by
  rw [k0_part80_eq_skeleton]; unfold k0_part80_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  refine op_loadQ I c ?_
  exact wp_done (H)

theorem part81 (c : Dev nD) {X : sProp 𝕄} (v25 : BitVec 32) (v471 : FVec F S256x512 .bf16) (v2397 : FVec F S128x256 .f32) (v2412 : FVec F S128x64 .f32) (v2427 : FVec F S128x64 .f32) (v2442 : FVec F S128x64 .f32) (v2443 : Vec F S128x64 .bf16) {Q : (PUnit) → sProp 𝕄}
    (hw : shapeCast S2x128x512 (k0_pay170 v471 v2397 v2412 v2427 v2442 v2443 (kp (kv I c) 1 (by decide) 3 (by decide)) (kp (vv I c) 1 (by decide) 3 (by decide))) shapeCasts_S2x1x128x512_S2x128x512 = chunk I c 3)
    (H : iprop((QKV I c ∗ X) ∗ SD I c 11 ∗ ow (F := F) c 40 ∗ ctx I K) ⊢ Q ⟨⟩) :
    iprop((QKV I c ∗ X) ∗ SB (F := F) c 11 ∗ ow (F := F) c 40 ∗ ctx I K)
      ⊢ WP c (k0_part81 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v25 v471 v2397 v2412 v2427 v2442 v2443) Q := by
  rw [k0_part81_eq_skeleton]; unfold k0_part81_skel
  simp only [semSignalWord, semWaitWord, Prog.lift, Prog.bind_op, Prog.bind_ret, Prog.pure_eq_ret]
  refine op_loadK I c ?_
  refine op_loadV I c ?_
  refine op_deadB I K c 11 (by decide) (by decide) (fun _ => ?_)
  refine op_storeB I K c 11 (by decide) (by decide) hw ?_
  refine op_waitSS I K c 11 (by decide) 40 rfl rfl ?_
  exact wp_done (H)

theorem part82 (c : Dev nD) {X : sProp 𝕄} (v14 : BitVec 32) (v25 : BitVec 32) {Q : (Σ' (v2496 : Vec F S2048x64 .bf16), FVec F S128x2048 .f32) → sProp 𝕄}
    (H : iprop((QKV I c ∗ X) ∗ SB (F := F) c 12 ∗ ow (F := F) c 42 ∗ ctx I K) ⊢ Q ⟨(kp (vv I c) 0 (by decide) 0 (by decide)), k0_pay172 (qp (qv I c) 2 (by decide) 0 (by decide) 0 (by decide)) (kp (kv I c) 0 (by decide) 0 (by decide))⟩) :
    iprop((QKV I c ∗ X) ∗ SD I c 11 ∗ ow (F := F) c 40 ∗ ctx I K)
      ⊢ WP c (k0_part82 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part82_eq_skeleton]; unfold k0_part82_skel
  simp only [semSignalWord, semWaitWord, Prog.lift, Prog.bind_op, Prog.bind_ret, Prog.pure_eq_ret]
  refine op_waitRS I K c 11 (by decide) 40 (by decide) rfl rfl ?_
  refine op_loadE I K c 11 (by decide) _ (by decide) (fun v2477 hv2477 => ?_)
  refine op_loadRs I K c 11 _ (by decide) ?_
  refine op_loadE I K c 11 (by decide) _ (by decide) (fun v2481 hv2481 => ?_)
  refine op_storeE I K c 11 (by decide) _ (av I (11 + 1) c) (by decide) (sum_eq I c 11 hv2477 _ rfl) ?_
  refine op_sig I K c 11 (by decide) 40 rfl (congrArg Dev.tc (dev41 c)) rfl rfl ?_
  refine op_swait I K c 11 (by decide) 41 (by decide) rfl rfl ?_
  refine op_sendS I K c 12 (by decide) 41 rfl (by decide) (congrArg Dev.tc (dev42 c)) rfl HEq.rfl rfl rfl ?_
  refine op_loadQ I c ?_
  refine op_loadK I c ?_
  refine op_loadV I c ?_
  exact wp_done (H)

theorem part83 (c : Dev nD) {X : sProp 𝕄} (v2496 : Vec F S2048x64 .bf16) (v2497 : FVec F S128x2048 .f32) {Q : (Σ' (v2508 : FVec F S128x64 .f32) (v2523 : FVec F S128x64 .f32) (v2526 : Vec F S2048x64 .bf16) (v2530 : FVec F S128x2048 .f32) (v2532 : FVec F S128x1 .f32), F .f32) → sProp 𝕄}
    (H : iprop((QKV I c ∗ X) ∗ SB (F := F) c 12 ∗ ow (F := F) c 42 ∗ ctx I K) ⊢ Q ⟨k0_pay173 v2496 v2497, k0_pay174 (qp (qv I c) 2 (by decide) 0 (by decide) 1 (by decide)) (kp (kv I c) 0 (by decide) 1 (by decide)) (kp (vv I c) 0 (by decide) 1 (by decide)), (kp (vv I c) 0 (by decide) 2 (by decide)), k0_pay175 (qp (qv I c) 2 (by decide) 0 (by decide) 2 (by decide)) (kp (kv I c) 0 (by decide) 2 (by decide)), k0_pay176 (qp (qv I c) 2 (by decide) 0 (by decide) 2 (by decide)) (kp (kv I c) 0 (by decide) 2 (by decide)), (Scalar.ofBits .f32 0x3F800000#32)⟩) :
    iprop((QKV I c ∗ X) ∗ SB (F := F) c 12 ∗ ow (F := F) c 42 ∗ ctx I K)
      ⊢ WP c (k0_part83 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2496 v2497) Q := by
  rw [k0_part83_eq_skeleton]; unfold k0_part83_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part84 (c : Dev nD) {X : sProp 𝕄} (v2508 : FVec F S128x64 .f32) (v2523 : FVec F S128x64 .f32) (v2526 : Vec F S2048x64 .bf16) (v2530 : FVec F S128x2048 .f32) (v2532 : FVec F S128x1 .f32) (cst_2243 : F .f32) {Q : (Σ' (v2554 : FVec F S128x256 .f32), FVec F S128x64 .f32) → sProp 𝕄}
    (H : iprop((QKV I c ∗ X) ∗ SB (F := F) c 12 ∗ ow (F := F) c 42 ∗ ctx I K) ⊢ Q ⟨k0_pay177 v2508 v2523 v2526 v2530 v2532 cst_2243 (qp (qv I c) 2 (by decide) 0 (by decide) 3 (by decide)) (kp (kv I c) 0 (by decide) 3 (by decide)) (kp (vv I c) 0 (by decide) 3 (by decide)), k0_pay178 (qp (qv I c) 2 (by decide) 1 (by decide) 0 (by decide)) (kp (kv I c) 1 (by decide) 0 (by decide)) (kp (vv I c) 1 (by decide) 0 (by decide))⟩) :
    iprop((QKV I c ∗ X) ∗ SB (F := F) c 12 ∗ ow (F := F) c 42 ∗ ctx I K)
      ⊢ WP c (k0_part84 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2508 v2523 v2526 v2530 v2532 cst_2243) Q := by
  rw [k0_part84_eq_skeleton]; unfold k0_part84_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part85 (c : Dev nD) {X : sProp 𝕄}  {Q : (Σ' (v2584 : FVec F S128x64 .f32) (v2599 : FVec F S128x64 .f32) (v2600 : Vec F S128x64 .bf16), Vec F S2048x64 .bf16) → sProp 𝕄}
    (H : iprop((QKV I c ∗ X) ∗ SB (F := F) c 12 ∗ ow (F := F) c 42 ∗ ctx I K) ⊢ Q ⟨k0_pay179 (qp (qv I c) 2 (by decide) 1 (by decide) 1 (by decide)) (kp (kv I c) 1 (by decide) 1 (by decide)) (kp (vv I c) 1 (by decide) 1 (by decide)), k0_pay180 (qp (qv I c) 2 (by decide) 1 (by decide) 2 (by decide)) (kp (kv I c) 1 (by decide) 2 (by decide)) (kp (vv I c) 1 (by decide) 2 (by decide)), (qp (qv I c) 2 (by decide) 1 (by decide) 3 (by decide)), (kp (kv I c) 1 (by decide) 3 (by decide))⟩) :
    iprop((QKV I c ∗ X) ∗ SB (F := F) c 12 ∗ ow (F := F) c 42 ∗ ctx I K)
      ⊢ WP c (k0_part85 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 ) Q := by
  rw [k0_part85_eq_skeleton]; unfold k0_part85_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  refine op_loadQ I c ?_
  refine op_loadK I c ?_
  exact wp_done (H)

theorem part86 (c : Dev nD) {X : sProp 𝕄} (v25 : BitVec 32) (v471 : FVec F S256x512 .bf16) (v2554 : FVec F S128x256 .f32) (v2569 : FVec F S128x64 .f32) (v2584 : FVec F S128x64 .f32) (v2599 : FVec F S128x64 .f32) (v2600 : Vec F S128x64 .bf16) (v2601 : Vec F S2048x64 .bf16) {Q : (PUnit) → sProp 𝕄}
    (hw : shapeCast S2x128x512 (k0_pay181 v471 v2554 v2569 v2584 v2599 v2600 v2601 (kp (vv I c) 1 (by decide) 3 (by decide))) shapeCasts_S2x1x128x512_S2x128x512 = chunk I c 2)
    (H : iprop((QKV I c ∗ X) ∗ SE I c 12 (chunk I c (14 - 12)) ∗ ow (F := F) c 42 ∗ ctx I K) ⊢ Q ⟨⟩) :
    iprop((QKV I c ∗ X) ∗ SB (F := F) c 12 ∗ ow (F := F) c 42 ∗ ctx I K)
      ⊢ WP c (k0_part86 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v25 v471 v2554 v2569 v2584 v2599 v2600 v2601) Q := by
  rw [k0_part86_eq_skeleton]; unfold k0_part86_skel
  simp only [semSignalWord, semWaitWord, Prog.lift, Prog.bind_op, Prog.bind_ret, Prog.pure_eq_ret]
  refine op_loadV I c ?_
  refine op_deadB I K c 12 (by decide) (by decide) (fun _ => ?_)
  refine op_storeB I K c 12 (by decide) (by decide) hw ?_
  refine op_waitSS I K c 12 (by decide) 42 rfl rfl ?_
  refine op_waitRS I K c 12 (by decide) 42 (by decide) rfl rfl ?_
  exact wp_done (H)

theorem part87 (c : Dev nD) {X : sProp 𝕄} (v14 : BitVec 32) (v25 : BitVec 32) {Q : (Σ' (v2653 : Vec F S2048x64 .bf16), FVec F S128x2048 .f32) → sProp 𝕄}
    (H : iprop((QKV I c ∗ X) ∗ SB (F := F) c 13 ∗ ow (F := F) c 44 ∗ ctx I K) ⊢ Q ⟨(kp (vv I c) 0 (by decide) 0 (by decide)), k0_pay183 (qp (qv I c) 1 (by decide) 0 (by decide) 0 (by decide)) (kp (kv I c) 0 (by decide) 0 (by decide))⟩) :
    iprop((QKV I c ∗ X) ∗ SE I c 12 (chunk I c (14 - 12)) ∗ ow (F := F) c 42 ∗ ctx I K)
      ⊢ WP c (k0_part87 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part87_eq_skeleton]; unfold k0_part87_skel
  simp only [semSignalWord, semWaitWord, Prog.lift, Prog.bind_op, Prog.bind_ret, Prog.pure_eq_ret]
  refine op_loadE I K c 12 (by decide) _ (by decide) (fun v2634 hv2634 => ?_)
  refine op_loadRs I K c 12 _ (by decide) ?_
  refine op_loadE I K c 12 (by decide) _ (by decide) (fun v2638 hv2638 => ?_)
  refine op_storeE I K c 12 (by decide) _ (av I (12 + 1) c) (by decide) (sum_eq I c 12 hv2634 _ rfl) ?_
  refine op_sig I K c 12 (by decide) 42 rfl (congrArg Dev.tc (dev43 c)) rfl rfl ?_
  refine op_swait I K c 12 (by decide) 43 (by decide) rfl rfl ?_
  refine op_sendS I K c 13 (by decide) 43 rfl (by decide) (congrArg Dev.tc (dev44 c)) rfl HEq.rfl rfl rfl ?_
  refine op_loadQ I c ?_
  refine op_loadK I c ?_
  refine op_loadV I c ?_
  exact wp_done (H)

theorem part88 (c : Dev nD) {X : sProp 𝕄} (v2653 : Vec F S2048x64 .bf16) (v2657 : FVec F S128x2048 .f32) {Q : (Σ' (v2665 : FVec F S128x64 .f32) (v2680 : FVec F S128x64 .f32) (v2683 : Vec F S2048x64 .bf16) (v2691 : FVec F S128x1 .f32) (v2692 : FVec F S128x2048 .bf16), FVec F S128x64 .f32) → sProp 𝕄}
    (H : iprop((QKV I c ∗ X) ∗ SB (F := F) c 13 ∗ ow (F := F) c 44 ∗ ctx I K) ⊢ Q ⟨k0_pay184 v2653 v2657, k0_pay185 (qp (qv I c) 1 (by decide) 0 (by decide) 1 (by decide)) (kp (kv I c) 0 (by decide) 1 (by decide)) (kp (vv I c) 0 (by decide) 1 (by decide)), (kp (vv I c) 0 (by decide) 2 (by decide)), k0_pay187 (qp (qv I c) 1 (by decide) 0 (by decide) 2 (by decide)) (kp (kv I c) 0 (by decide) 2 (by decide)), k0_pay188 (qp (qv I c) 1 (by decide) 0 (by decide) 2 (by decide)) (kp (kv I c) 0 (by decide) 2 (by decide)), (constant S128x64 .f32 0x00000000#32)⟩) :
    iprop((QKV I c ∗ X) ∗ SB (F := F) c 13 ∗ ow (F := F) c 44 ∗ ctx I K)
      ⊢ WP c (k0_part88 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2653 v2657) Q := by
  rw [k0_part88_eq_skeleton]; unfold k0_part88_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part89 (c : Dev nD) {X : sProp 𝕄} (v2665 : FVec F S128x64 .f32) (v2680 : FVec F S128x64 .f32) (v2683 : Vec F S2048x64 .bf16) (v2691 : FVec F S128x1 .f32) (v2692 : FVec F S128x2048 .bf16) (cst_2374 : FVec F S128x64 .f32) {Q : (Σ' (v2711 : FVec F S128x256 .f32) (v2726 : FVec F S128x64 .f32), Vec F S128x64 .bf16) → sProp 𝕄}
    (H : iprop((QKV I c ∗ X) ∗ SB (F := F) c 13 ∗ ow (F := F) c 44 ∗ ctx I K) ⊢ Q ⟨k0_pay189 v2665 v2680 v2683 v2691 v2692 cst_2374 (qp (qv I c) 1 (by decide) 0 (by decide) 3 (by decide)) (kp (kv I c) 0 (by decide) 3 (by decide)) (kp (vv I c) 0 (by decide) 3 (by decide)), k0_pay190 (qp (qv I c) 1 (by decide) 1 (by decide) 0 (by decide)) (kp (kv I c) 1 (by decide) 0 (by decide)) (kp (vv I c) 1 (by decide) 0 (by decide)), (qp (qv I c) 1 (by decide) 1 (by decide) 1 (by decide))⟩) :
    iprop((QKV I c ∗ X) ∗ SB (F := F) c 13 ∗ ow (F := F) c 44 ∗ ctx I K)
      ⊢ WP c (k0_part89 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2665 v2680 v2683 v2691 v2692 cst_2374) Q := by
  rw [k0_part89_eq_skeleton]; unfold k0_part89_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  refine op_loadQ I c ?_
  exact wp_done (H)

theorem part90 (c : Dev nD) {X : sProp 𝕄} (v2727 : Vec F S128x64 .bf16) {Q : (Σ' (v2741 : FVec F S128x64 .f32) (v2756 : FVec F S128x64 .f32) (v2759 : Vec F S2048x64 .bf16) (v2760 : FVec F S128x2048 .f32), F .f32) → sProp 𝕄}
    (H : iprop((QKV I c ∗ X) ∗ SB (F := F) c 13 ∗ ow (F := F) c 44 ∗ ctx I K) ⊢ Q ⟨k0_pay191 v2727 (kp (kv I c) 1 (by decide) 1 (by decide)) (kp (vv I c) 1 (by decide) 1 (by decide)), k0_pay192 (qp (qv I c) 1 (by decide) 1 (by decide) 2 (by decide)) (kp (kv I c) 1 (by decide) 2 (by decide)) (kp (vv I c) 1 (by decide) 2 (by decide)), (kp (vv I c) 1 (by decide) 3 (by decide)), k0_pay193 (qp (qv I c) 1 (by decide) 1 (by decide) 3 (by decide)) (kp (kv I c) 1 (by decide) 3 (by decide)), (Scalar.ofBits .f32 0x3E000000#32)⟩) :
    iprop((QKV I c ∗ X) ∗ SB (F := F) c 13 ∗ ow (F := F) c 44 ∗ ctx I K)
      ⊢ WP c (k0_part90 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2727) Q := by
  rw [k0_part90_eq_skeleton]; unfold k0_part90_skel
  simp only [semSignalWord, semWaitWord, Prog.lift, Prog.bind_op, Prog.bind_ret, Prog.pure_eq_ret]
  refine op_loadK I c ?_
  refine op_loadV I c ?_
  refine op_loadQ I c ?_
  refine op_loadK I c ?_
  refine op_loadV I c ?_
  refine op_loadQ I c ?_
  refine op_loadK I c ?_
  refine op_loadV I c ?_
  exact wp_done (H)

theorem part91 (c : Dev nD) {X : sProp 𝕄} (v25 : BitVec 32) (v471 : FVec F S256x512 .bf16) (v2711 : FVec F S128x256 .f32) (v2726 : FVec F S128x64 .f32) (v2741 : FVec F S128x64 .f32) (v2756 : FVec F S128x64 .f32) (v2759 : Vec F S2048x64 .bf16) (v2760 : FVec F S128x2048 .f32) (cst_2425 : F .f32) {Q : (PUnit) → sProp 𝕄}
    (hw : shapeCast S2x128x512 (k0_pay194 v471 v2711 v2726 v2741 v2756 v2759 v2760 cst_2425) shapeCasts_S2x1x128x512_S2x128x512 = chunk I c 1)
    (H : iprop((QKV I c ∗ X) ∗ SE I c 13 (chunk I c (14 - 13)) ∗ ow (F := F) c 44 ∗ ctx I K) ⊢ Q ⟨⟩) :
    iprop((QKV I c ∗ X) ∗ SB (F := F) c 13 ∗ ow (F := F) c 44 ∗ ctx I K)
      ⊢ WP c (k0_part91 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v25 v471 v2711 v2726 v2741 v2756 v2759 v2760 cst_2425) Q := by
  rw [k0_part91_eq_skeleton]; unfold k0_part91_skel
  simp only [semSignalWord, semWaitWord, Prog.lift, Prog.bind_op, Prog.bind_ret, Prog.pure_eq_ret]
  refine op_deadB I K c 13 (by decide) (by decide) (fun _ => ?_)
  refine op_storeB I K c 13 (by decide) (by decide) hw ?_
  refine op_waitSS I K c 13 (by decide) 44 rfl rfl ?_
  refine op_waitRS I K c 13 (by decide) 44 (by decide) rfl rfl ?_
  exact wp_done (H)

theorem part92 (c : Dev nD) {X : sProp 𝕄} (v14 : BitVec 32) (v25 : BitVec 32) {Q : (Σ' (v2810 : Vec F S2048x64 .bf16) (v2814 : FVec F S128x2048 .f32) (v2816 : FVec F S128x1 .f32), F .f32) → sProp 𝕄}
    (H : iprop((QKV I c ∗ X) ∗ SB (F := F) c 14 ∗ ow (F := F) c 46 ∗ ctx I K) ⊢ Q ⟨(kp (vv I c) 0 (by decide) 0 (by decide)), k0_pay196 (qp (qv I c) 0 (by decide) 0 (by decide) 0 (by decide)) (kp (kv I c) 0 (by decide) 0 (by decide)), k0_pay197 (qp (qv I c) 0 (by decide) 0 (by decide) 0 (by decide)) (kp (kv I c) 0 (by decide) 0 (by decide)), (Scalar.ofBits .f32 0x3F800000#32)⟩) :
    iprop((QKV I c ∗ X) ∗ SE I c 13 (chunk I c (14 - 13)) ∗ ow (F := F) c 44 ∗ ctx I K)
      ⊢ WP c (k0_part92 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 c v14 v25) Q := by
  rw [k0_part92_eq_skeleton]; unfold k0_part92_skel
  simp only [semSignalWord, semWaitWord, Prog.lift, Prog.bind_op, Prog.bind_ret, Prog.pure_eq_ret]
  refine op_loadE I K c 13 (by decide) _ (by decide) (fun v2791 hv2791 => ?_)
  refine op_loadRs I K c 13 _ (by decide) ?_
  refine op_loadE I K c 13 (by decide) _ (by decide) (fun v2795 hv2795 => ?_)
  refine op_storeE I K c 13 (by decide) _ (av I (13 + 1) c) (by decide) (sum_eq I c 13 hv2791 _ rfl) ?_
  refine op_sig I K c 13 (by decide) 44 rfl (congrArg Dev.tc (dev45 c)) rfl rfl ?_
  refine op_swait I K c 13 (by decide) 45 (by decide) rfl rfl ?_
  refine op_sendS I K c 14 (by decide) 45 rfl (by decide) (congrArg Dev.tc (dev46 c)) rfl HEq.rfl rfl rfl ?_
  refine op_loadQ I c ?_
  refine op_loadK I c ?_
  refine op_loadV I c ?_
  exact wp_done (H)

theorem part93 (c : Dev nD) {X : sProp 𝕄} (v2810 : Vec F S2048x64 .bf16) (v2814 : FVec F S128x2048 .f32) (v2816 : FVec F S128x1 .f32) (cst_2481 : F .f32) {Q : (Σ' (v2822 : FVec F S128x64 .f32) (v2837 : FVec F S128x64 .f32), FVec F S128x64 .f32) → sProp 𝕄}
    (H : iprop((QKV I c ∗ X) ∗ SB (F := F) c 14 ∗ ow (F := F) c 46 ∗ ctx I K) ⊢ Q ⟨k0_pay198 v2810 v2814 v2816 cst_2481, k0_pay199 (qp (qv I c) 0 (by decide) 0 (by decide) 1 (by decide)) (kp (kv I c) 0 (by decide) 1 (by decide)) (kp (vv I c) 0 (by decide) 1 (by decide)), k0_pay200 (qp (qv I c) 0 (by decide) 0 (by decide) 2 (by decide)) (kp (kv I c) 0 (by decide) 2 (by decide)) (kp (vv I c) 0 (by decide) 2 (by decide))⟩) :
    iprop((QKV I c ∗ X) ∗ SB (F := F) c 14 ∗ ow (F := F) c 46 ∗ ctx I K)
      ⊢ WP c (k0_part93 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2810 v2814 v2816 cst_2481) Q := by
  rw [k0_part93_eq_skeleton]; unfold k0_part93_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  exact wp_done (H)

theorem part94 (c : Dev nD) {X : sProp 𝕄} (v2822 : FVec F S128x64 .f32) (v2837 : FVec F S128x64 .f32) (v2852 : FVec F S128x64 .f32) {Q : (Σ' (v2868 : FVec F S128x256 .f32) (v2883 : FVec F S128x64 .f32) (v2884 : Vec F S128x64 .bf16), Vec F S2048x64 .bf16) → sProp 𝕄}
    (H : iprop((QKV I c ∗ X) ∗ SB (F := F) c 14 ∗ ow (F := F) c 46 ∗ ctx I K) ⊢ Q ⟨k0_pay201 v2822 v2837 v2852 (qp (qv I c) 0 (by decide) 0 (by decide) 3 (by decide)) (kp (kv I c) 0 (by decide) 3 (by decide)) (kp (vv I c) 0 (by decide) 3 (by decide)), k0_pay202 (qp (qv I c) 0 (by decide) 1 (by decide) 0 (by decide)) (kp (kv I c) 1 (by decide) 0 (by decide)) (kp (vv I c) 1 (by decide) 0 (by decide)), (qp (qv I c) 0 (by decide) 1 (by decide) 1 (by decide)), (kp (kv I c) 1 (by decide) 1 (by decide))⟩) :
    iprop((QKV I c ∗ X) ∗ SB (F := F) c 14 ∗ ow (F := F) c 46 ∗ ctx I K)
      ⊢ WP c (k0_part94 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2822 v2837 v2852) Q := by
  rw [k0_part94_eq_skeleton]; unfold k0_part94_skel
  simp only [semSignalWord, semWaitWord, Prog.lift, Prog.bind_op, Prog.bind_ret, Prog.pure_eq_ret]
  refine op_loadQ I c ?_
  refine op_loadK I c ?_
  refine op_loadV I c ?_
  refine op_loadQ I c ?_
  refine op_loadK I c ?_
  refine op_loadV I c ?_
  refine op_loadQ I c ?_
  refine op_loadK I c ?_
  exact wp_done (H)

theorem part95 (c : Dev nD) {X : sProp 𝕄} (v2884 : Vec F S128x64 .bf16) (v2885 : Vec F S2048x64 .bf16) {Q : (Σ' (v2898 : FVec F S128x64 .f32) (v2913 : FVec F S128x64 .f32) (v2916 : Vec F S2048x64 .bf16), FVec F S128x2048 .f32) → sProp 𝕄}
    (H : iprop((QKV I c ∗ X) ∗ SB (F := F) c 14 ∗ ow (F := F) c 46 ∗ ctx I K) ⊢ Q ⟨k0_pay203 v2884 v2885 (kp (vv I c) 1 (by decide) 1 (by decide)), k0_pay204 (qp (qv I c) 0 (by decide) 1 (by decide) 2 (by decide)) (kp (kv I c) 1 (by decide) 2 (by decide)) (kp (vv I c) 1 (by decide) 2 (by decide)), (kp (vv I c) 1 (by decide) 3 (by decide)), k0_pay205 (qp (qv I c) 0 (by decide) 1 (by decide) 3 (by decide)) (kp (kv I c) 1 (by decide) 3 (by decide))⟩) :
    iprop((QKV I c ∗ X) ∗ SB (F := F) c 14 ∗ ow (F := F) c 46 ∗ ctx I K)
      ⊢ WP c (k0_part95 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v2884 v2885) Q := by
  rw [k0_part95_eq_skeleton]; unfold k0_part95_skel
  simp only [semSignalWord, semWaitWord, Prog.lift, Prog.bind_op, Prog.bind_ret, Prog.pure_eq_ret]
  refine op_loadV I c ?_
  refine op_loadQ I c ?_
  refine op_loadK I c ?_
  refine op_loadV I c ?_
  refine op_loadQ I c ?_
  refine op_loadK I c ?_
  refine op_loadV I c ?_
  exact wp_done (H)

theorem part96 (c : Dev nD) {X : sProp 𝕄} (v25 : BitVec 32) (v471 : FVec F S256x512 .bf16) (v2868 : FVec F S128x256 .f32) (v2883 : FVec F S128x64 .f32) (v2898 : FVec F S128x64 .f32) (v2913 : FVec F S128x64 .f32) (v2916 : Vec F S2048x64 .bf16) (v2920 : FVec F S128x2048 .f32) {Q : (FVec F S2x128x512 .bf16) → sProp 𝕄}
    (hw : shapeCast S2x128x512 (k0_pay206 v471 v2868 v2883 v2898 v2913 v2916 v2920) shapeCasts_S2x1x128x512_S2x128x512 = chunk I c 0)
    (H : ∀ v2948 : FVec F S2x1x128x512 .bf16, shapeCast S2x128x512 v2948 shapeCasts_S2x1x128x512_S2x128x512 = chunk I c (14 - 14) → iprop((QKV I c ∗ X) ∗ SE I c 14 (chunk I c (14 - 14)) ∗ ow (F := F) c 46 ∗ ctx I K) ⊢ Q (k0_pay207 v2948)) :
    iprop((QKV I c ∗ X) ∗ SB (F := F) c 14 ∗ ow (F := F) c 46 ∗ ctx I K)
      ⊢ WP c (k0_part96 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10 v25 v471 v2868 v2883 v2898 v2913 v2916 v2920) Q := by
  rw [k0_part96_eq_skeleton]; unfold k0_part96_skel
  simp only [semSignalWord, semWaitWord, Prog.lift, Prog.bind_op, Prog.bind_ret, Prog.pure_eq_ret]
  refine op_deadB I K c 14 (by decide) (by decide) (fun _ => ?_)
  refine op_storeB I K c 14 (by decide) (by decide) hw ?_
  refine op_waitSS I K c 14 (by decide) 46 rfl rfl ?_
  refine op_waitRS I K c 14 (by decide) 46 (by decide) rfl rfl ?_
  refine op_loadE I K c 14 (by decide) _ (by decide) (fun v2948 hv2948 => ?_)
  exact wp_done (H v2948 hv2948)

end Cert.KernelIdeal.Ring
-- ==== Proof.KernelIdeal.Greet.lean ====
/-
The greeting: each device tells its neighbours that it is ready, hands them the places they write, and waits for both.
-/
module

public import Idealize.SL.BI.BigOpNat
public import proofs.«01_k».proof.Proof.KernelIdeal.OpsEdge
public import proofs.«01_k».proof.Proof.KernelIdeal.Devs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F) (K : GSem nD τ sig → ℕ)
variable (a0 : Memref sig .tc .vmem S2x128x512 .bf16) (h0 : a0.IsWhole) (a1 : Memref sig .tc .vmem S512x256 .bf16) (h1 : a1.IsWhole)
    (a2 : Memref sig .tc .vmem S512x256 .bf16) (h2 : a2.IsWhole) (a3 : Memref sig .tc .vmem S512x256 .bf16) (h3 : a3.IsWhole)
    (a4 : Memref sig .tc .vmem S256x512 .bf16) (h4 : a4.IsWhole) (a5 : Memref sig .tc .vmem S2048x64 .f32) (h5 : a5.IsWhole)
    (a6 : Memref sig .tc .vmem S2048x64 .f32) (h6 : a6.IsWhole) (a7 : Memref sig .tc .vmem S2x128x512 .f32) (h7 : a7.IsWhole)

/-! ## What a device brings to the greeting -/

/-- The greeting itself. -/
def hiT (c : Dev nD) : sProp 𝕄 :=
  iprop(dutyTok ER (barG (prv c)) 0 false ∗ dutyTok ER (barG (nxt c)) 0 true ∗ reached ER (barG (prv c)) 0 ∗ reached ER (barG (nxt c)) 0
    ∗ atPos ER (barG c) 0 ∅ 0 ∗ cred (tallyAt (barG c) 0 2))
/-- What a copy still needs, short of the place it writes. -/
def pR (c : Dev nD) (i : ℕ) : sProp 𝕄 :=
  iprop(dutyTok ER (agR (nxt c) i) 0 false ∗ dutyTok ER (agS c i) 0 false ∗ reached ER (agS c i) 0 ∗ atPos ER (agS c i) 0 ∅ 0 ∗ atPos ER (agR c i) 0 ∅ 0
    ∗ cred (tallyAt (agR c i) 0 N))
def pL (c : Dev nD) (i : ℕ) : sProp 𝕄 :=
  iprop(dutyTok ER (agR (prv c) (8 + i)) 0 false ∗ dutyTok ER (agS c (8 + i)) 0 false ∗ reached ER (agS c (8 + i)) 0 ∗ atPos ER (agS c (8 + i)) 0 ∅ 0
    ∗ atPos ER (agR c (8 + i)) 0 ∅ 0 ∗ cred (tallyAt (agR c (8 + i)) 0 N))
def pS (c : Dev nD) (s : ℕ) : sProp 𝕄 :=
  iprop(dutyTok ER (rsR (nxt c) s) 0 false ∗ dutyTok ER (rsS c s) 0 false ∗ reached ER (rsS c s) 0 ∗ atPos ER (rsS c s) 0 ∅ 0 ∗ atPos ER (rsR c s) 0 ∅ 0
    ∗ cred (tallyAt (rsR c s) 0 N))
/-- What it tells its neighbours: its own receiving cells are open. -/
def opened (c : Dev nD) : sProp 𝕄 :=
  iprop(bigSep (Finset.range 8) (fun h => reached ER (agR c h) 0) ∗ bigSep (Finset.range 7) (fun h => reached ER (agR c (8 + h)) 0)
    ∗ bigSep (Finset.range 15) (fun s => reached ER (rsR c s) 0))
/-- The tokens of the copies and of the credits. -/
def toks (c : Dev nD) : sProp 𝕄 :=
  iprop(bigSep (Finset.range 8) (pR (F := F) c) ∗ bigSep (Finset.range 7) (pL (F := F) c) ∗ bigSep (Finset.range 15) (pS (F := F) c)
    ∗ bigSep (Finset.range 14) (tokC (F := F) c) ∗ atPos ER (crG c) 0 ∅ 0 ∗ reached ER (crG c) 0)
/-- Its own buffers, before anything is written. -/
def mine (c : Dev nD) : sProp 𝕄 :=
  iprop(bigSep (Finset.range 16) (xfAny (F := F) c) ∗ rsAny (F := F) c ∗ accTodo (F := F) c 16)

def Pre (c : Dev nD) : sProp 𝕄 := iprop(hiT (F := F) c ∗ opened (F := F) c ∗ toks (F := F) c ∗ mine (F := F) c)
/-- After the greeting. -/
def Met (c : Dev nD) : sProp 𝕄 := iprop(semVal (barG c) 0 ∗ SZ (F := F) c)

/-! ## Handing over and taking in -/

theorem slots_split (c : Dev nD) :
    bigSep (Finset.range 16) (xfAny (F := F) c) ⊢ iprop(xfAny (F := F) c 0 ∗ bigSep (Finset.range 8) (fun h => xfAny (F := F) c (15 - h))
      ∗ bigSep (Finset.range 7) (fun h => xfAny (F := F) c (h + 1))) := by
  simp only [bigSep_range_succ, Finset.range_zero, bigSep_empty, Nat.reduceSub, Nat.reduceAdd, Nat.sub_zero, Nat.zero_add]
  iintro ⟨S15, S14, S13, S12, S11, S10, S9, S8, S7, S6, S5, S4, S3, S2, S1, S0, -⟩
  isplitl [S0]; · iexact S0
  isplitl [S15 S14 S13 S12 S11 S10 S9 S8]
  · isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iempintro
  isplitl [S7]; · iexact S7
  isplitl [S6]; · iexact S6
  isplitl [S5]; · iexact S5
  isplitl [S4]; · iexact S4
  isplitl [S3]; · iexact S3
  isplitl [S2]; · iexact S2
  isplitl [S1]; · iexact S1
  iempintro

theorem give_left (c : Dev nD) :
    iprop(bigSep (Finset.range 8) (fun h => xfAny (F := F) c (15 - h)) ∗ rsAny (F := F) c ∗ opened (F := F) c)
      ⊢ (Rd I).payload (barG (prv c)) 0 false := by
  show _ ⊢ barR (F := F) (prv c)
  unfold barR opened; rw [nxt_prv]
  iintro ⟨H1, H2, H3, -, H4⟩
  isplitl [H1]; · iexact H1
  isplitl [H2]; · iexact H2
  isplitl [H3]; · iexact H3
  iexact H4
theorem give_right (c : Dev nD) :
    iprop(bigSep (Finset.range 7) (fun h => xfAny (F := F) c (h + 1)) ∗ opened (F := F) c)
      ⊢ (Rd I).payload (barG (nxt c)) 0 true := by
  show _ ⊢ barL (F := F) (nxt c)
  unfold barL opened; rw [prv_nxt]
  iintro ⟨H1, -, H2, -⟩
  isplitl [H1]; · iexact H1
  iexact H2

theorem tok_R (c : Dev nD) (i : ℕ) :
    iprop(pR (F := F) c i ∗ xfAny (F := F) (nxt c) (15 - i) ∗ reached ER (agR (nxt c) i) 0) ⊢ tokR (F := F) c i := by
  unfold pR tokR
  iintro ⟨⟨H1, H2, H3, H4, H5, H6⟩, H7, H8⟩
  isplitl [H1]; · iexact H1
  isplitl [H8]; · iexact H8
  isplitl [H2]; · iexact H2
  isplitl [H3]; · iexact H3
  isplitl [H4]; · iexact H4
  isplitl [H5]; · iexact H5
  isplitl [H6]; · iexact H6
  iexact H7
theorem take_R (c : Dev nD) :
    iprop(bigSep (Finset.range 8) (pR (F := F) c) ∗ bigSep (Finset.range 8) (fun h => xfAny (F := F) (nxt c) (15 - h))
      ∗ bigSep (Finset.range 8) (fun h => reached ER (agR (nxt c) h) 0)) ⊢ todoR (F := F) c 0 := by
  unfold todoR
  rw [← bigSep_sep', ← bigSep_sep', ← Finset.range_eq_Ico]
  exact bigSep_mono fun i _ => tok_R c i

theorem tok_L (c : Dev nD) (i : ℕ) :
    iprop(pL (F := F) c i ∗ xfAny (F := F) (prv c) (i + 1) ∗ reached ER (agR (prv c) (8 + i)) 0) ⊢ tokL (F := F) c i := by
  unfold pL tokL
  iintro ⟨⟨H1, H2, H3, H4, H5, H6⟩, H7, H8⟩
  isplitl [H1]; · iexact H1
  isplitl [H8]; · iexact H8
  isplitl [H2]; · iexact H2
  isplitl [H3]; · iexact H3
  isplitl [H4]; · iexact H4
  isplitl [H5]; · iexact H5
  isplitl [H6]; · iexact H6
  iexact H7
theorem take_L (c : Dev nD) :
    iprop(bigSep (Finset.range 7) (pL (F := F) c) ∗ barL (F := F) c) ⊢ todoL (F := F) c 0 := by
  unfold todoL barL
  rw [← bigSep_sep', ← bigSep_sep', ← Finset.range_eq_Ico]
  exact bigSep_mono fun i _ => tok_L c i

theorem tok_S (c : Dev nD) (i : ℕ) :
    iprop(pS (F := F) c i ∗ reached ER (rsR (nxt c) i) 0) ⊢ tokS (F := F) c i := by
  unfold pS tokS
  iintro ⟨⟨H1, H2, H3, H4, H5, H6⟩, H7⟩
  isplitl [H1]; · iexact H1
  isplitl [H7]; · iexact H7
  isplitl [H2]; · iexact H2
  isplitl [H3]; · iexact H3
  isplitl [H4]; · iexact H4
  isplitl [H5]; · iexact H5
  iexact H6

theorem take_S (c : Dev nD) :
    iprop(bigSep (Finset.range 15) (pS (F := F) c) ∗ bigSep (Finset.range 15) (fun s => reached ER (rsR (nxt c) s) 0)) ⊢ todoS (F := F) c 0 := by
  unfold todoS
  rw [← bigSep_sep', ← Finset.range_eq_Ico]
  exact bigSep_mono fun i _ => tok_S c i

theorem take_all (c : Dev nD) :
    iprop(toks (F := F) c ∗ xfAny (F := F) c 0 ∗ accTodo (F := F) c 16 ∗ barR (F := F) c ∗ barL (F := F) c)
      ⊢ iprop(G0 (F := F) c ∗ SZ (F := F) c) := by
  unfold toks barR G0 SZ todoC
  rw [← Finset.range_eq_Ico]
  iintro ⟨⟨TR, TL, TS, TC, Hc, Hr⟩, H0, HA, ⟨BX, BR, BG, BS⟩, BL⟩
  isplitl [TR TL BX BG BL H0]
  · isplitl [H0]; · iexact H0
    isplitl [TR BX BG]
    · iapply (take_R c)
      isplitl [TR]; · iexact TR
      isplitl [BX]; · iexact BX
      iexact BG
    · iapply (take_L c)
      isplitl [TL]; · iexact TL
      iexact BL
  isplitl [HA]; · iexact HA
  isplitl [BR]; · iexact BR
  isplitl [Hc]; · iexact Hc
  isplitl [Hr]; · iexact Hr
  isplitl [TS BS]
  · iapply (take_S c)
    isplitl [TS]; · iexact TS
    iexact BS
  iexact TC

instance opened_persistent (c : Dev nD) : BI.Persistent (opened (F := F) c) := by unfold opened; infer_instance

def Pre1 (c : Dev nD) : sProp 𝕄 :=
  iprop((dutyTok ER (barG (nxt c)) 0 true ∗ reached ER (barG (nxt c)) 0 ∗ bigSep (Finset.range 7) (fun h => xfAny (F := F) c (h + 1)) ∗ opened (F := F) c)
    ∗ atPos ER (barG c) 0 ∅ 0 ∗ cred (tallyAt (barG c) 0 2) ∗ toks (F := F) c ∗ xfAny (F := F) c 0 ∗ accTodo (F := F) c 16)
def Pre2 (c : Dev nD) : sProp 𝕄 :=
  iprop(atPos ER (barG c) 0 ∅ 0 ∗ cred (tallyAt (barG c) 0 2) ∗ toks (F := F) c ∗ xfAny (F := F) c 0 ∗ accTodo (F := F) c 16)

theorem op_hiL {X : sProp 𝕄} {α : Type} {Q : α → sProp 𝕄} (c : Dev nD)
    {c' : Thread nD τ} {sm : Sem sig} {a : ℤ} {k : PUnit → Prog (TpuEff nD τ sig (Elt F) Λ₀ .tc) α}
    (ec : c' = (prv c : Thread nD τ)) (es : sm = 1) (ea : a = ((1 : ℕ) : ℤ))
    (H : iprop(X ∗ Pre1 (F := F) c ∗ ow (F := F) c 1 ∗ ctx I K) ⊢ WP c (k ⟨⟩) Q) :
    iprop(X ∗ Pre (F := F) c ∗ ow (F := F) c 0 ∗ ctx I K) ⊢ WP c (.op (.semSignal c' sm a) k) Q := by
  subst ec es ea
  unfold Pre hiT ow mine
  iintro ⟨HX, ⟨⟨T1, T2, #R1, R2, Hat, Hcr⟩, #Hop, Htk, ⟨Hxf, Hrs, Hac⟩⟩, ⟨%W, HO⟩, #Hctx⟩
  ihave Hxf := (slots_split c) $$ Hxf
  icases Hxf with ⟨H0, Ha, Hb⟩
  iapply (Rounds.wp_signal 𝒱₀ ER (Rd I) (c : Thread nD τ) none (dst := (prv c : Thread nD τ)) (sem := 1) (r := 0) (d := false) (κ := K (barG (prv c)))
      (by rw [duties_bar]; decide) (k' := 1) rfl 0 (O₀ := owed c 0) (owed c 1)
      (by rw [owed_step c 0 (by omega), dueT_bar0 c]) (W := W)) $$ [HO T1 Ha Hrs]
  · isplitr; · iapply (ctx_bar I K (prv c)); iexact Hctx
    isplitl [HO]; · iexact HO
    isplitl [T1]; · iexact T1
    isplitl [Ha Hrs]
    · iapply (give_left I c)
      isplitl [Ha]; · iexact Ha
      isplitl [Hrs]; · iexact Hrs
      iexact Hop
    iexact R1
  iintro HO
  iapply H
  isplitl [HX]; · iexact HX
  isplitr [HO]
  · unfold Pre1
    isplitl [T2 R2 Hb]
    · isplitl [T2]; · iexact T2
      isplitl [R2]; · iexact R2
      isplitl [Hb]; · iexact Hb
      iexact Hop
    isplitl [Hat]; · iexact Hat
    isplitl [Hcr]; · iexact Hcr
    isplitl [Htk]; · iexact Htk
    isplitl [H0]; · iexact H0
    iexact Hac
  isplitl [HO]; · unfold ow; iexists _; iexact HO
  iexact Hctx

theorem op_hiR {X : sProp 𝕄} {α : Type} {Q : α → sProp 𝕄} (c : Dev nD)
    {c' : Thread nD τ} {sm : Sem sig} {a : ℤ} {k : PUnit → Prog (TpuEff nD τ sig (Elt F) Λ₀ .tc) α}
    (ec : c' = (nxt c : Thread nD τ)) (es : sm = 1) (ea : a = ((1 : ℕ) : ℤ))
    (H : iprop(X ∗ Pre2 (F := F) c ∗ ow (F := F) c 2 ∗ ctx I K) ⊢ WP c (k ⟨⟩) Q) :
    iprop(X ∗ Pre1 (F := F) c ∗ ow (F := F) c 1 ∗ ctx I K) ⊢ WP c (.op (.semSignal c' sm a) k) Q := by
  subst ec es ea
  unfold Pre1 ow
  iintro ⟨HX, ⟨⟨T2, R2, HG⟩, HP⟩, ⟨%W, HO⟩, #Hctx⟩
  iapply (Rounds.wp_signal 𝒱₀ ER (Rd I) (c : Thread nD τ) none (dst := (nxt c : Thread nD τ)) (sem := 1) (r := 0) (d := true) (κ := K (barG (nxt c)))
      (by rw [duties_bar]; decide) (k' := 1) rfl 0 (O₀ := owed c 1) (owed c 2)
      (by rw [owed_step c 1 (by omega), dueT_bar1 c]) (W := W)) $$ [HO T2 HG R2]
  · isplitr; · iapply (ctx_bar I K (nxt c)); iexact Hctx
    isplitl [HO]; · iexact HO
    isplitl [T2]; · iexact T2
    isplitl [HG]
    · iapply (give_right I c)
      iexact HG
    iexact R2
  iintro HO
  iapply H
  isplitl [HX]; · iexact HX
  isplitl [HP]; · unfold Pre2; iexact HP
  isplitl [HO]; · unfold ow; iexists _; iexact HO
  iexact Hctx

theorem op_hiW {X : sProp 𝕄} {α : Type} {Q : α → sProp 𝕄} (c : Dev nD)
    {sm : Sem sig} {a : ℕ} {k : PUnit → Prog (TpuEff nD τ sig (Elt F) Λ₀ .tc) α}
    (es : sm = 1) (ea : a = 2)
    (H : iprop((Met (F := F) c ∗ X) ∗ G0 (F := F) c ∗ ow (F := F) c 2 ∗ ctx I K) ⊢ WP c (k ⟨⟩) Q) :
    iprop(X ∗ Pre2 (F := F) c ∗ ow (F := F) c 2 ∗ ctx I K) ⊢ WP c (.op (.semWait sm a) k) Q := by
  subst es ea
  unfold Pre2 ow
  iintro ⟨HX, ⟨Hat, Hcr, Htk, H0, Hac⟩, ⟨%W, HO⟩, #Hctx⟩
  iapply (Rounds.wp_wait_rest_token 𝒱₀ ER (Rd I) (c : Thread nD τ) none (κ := K (barG c))
      (wpE_semWait_eq 𝒱₀ (c : Thread nD τ) none Set.univ) (Set.mem_univ _) 0 (O := owed c 2) (W := W) (R := 0) (m := 0) (T := ∅)
      (by rw [expect_bar])) $$ [Hcr HO Hat]
  · isplitr; · iapply (ctx_bar I K c); iexact Hctx
    isplitl [Hcr]; · iexact Hcr
    isplitl [HO]; · iexact HO
    isplitr
    · iapply ((ctx_lev I K).trans (mayWait c _ 0 2 (by decide) (by show 2 ≤ 2; exact le_rfl))); iexact Hctx
    iexact Hat
  iintro ⟨HO, Hat, -, Hpay⟩
  ihave Hpay := (Entails.of_eq (rest_bar I c)) $$ Hpay
  icases Hpay with ⟨HB, HL⟩
  imod (Rounds.cell_close ER (Rd I) (Set.mem_univ (K (barG c))) id (duties_bar_later I c)) $$ [Hat] with Hv
  · isplitr; · iapply (ctx_bar I K c); iexact Hctx
    iexact Hat
  ihave HG := (take_all c) $$ [Htk H0 Hac HB HL]
  · isplitl [Htk]; · iexact Htk
    isplitl [H0]; · iexact H0
    isplitl [Hac]; · iexact Hac
    isplitl [HB]; · iexact HB
    iexact HL
  icases HG with ⟨HG, HZ⟩
  iapply H
  unfold Met ow
  isplitl [HX Hv HZ]
  · isplitr [HX]
    · isplitl [Hv]; · iexact Hv
      iexact HZ
    iexact HX
  isplitl [HG]; · iexact HG
  isplitl [HO]; · iexists _; iexact HO
  iexact Hctx

theorem part1 (c : Dev nD) {X : sProp 𝕄} {Q : (Σ' (d0 : Dev nD) (v14 : BitVec 32), BitVec 32) → sProp 𝕄}
    (H : ∀ v14 v25 : BitVec 32, iprop((Met (F := F) c ∗ X) ∗ G0 (F := F) c ∗ ow (F := F) c 2 ∗ ctx I K) ⊢ Q ⟨c, v14, v25⟩) :
    iprop(X ∗ Pre (F := F) c ∗ ow (F := F) c 0 ∗ ctx I K)
      ⊢ WP c (k0_part1 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10) Q := by
  rw [k0_part1_eq_skeleton]; unfold k0_part1_skel
  simp only [semSignalWord, semWaitWord, Prog.lift, Prog.bind_op, Prog.bind_ret, Prog.pure_eq_ret, wp_deviceId]
  refine op_hiL I K c (congrArg Dev.tc (dev1 c)) rfl rfl ?_
  refine op_hiR I K c (congrArg Dev.tc (dev2 c)) rfl rfl ?_
  refine op_hiW I K c rfl rfl ?_
  exact wp_done (H _ _)

end Cert.KernelIdeal.Ring
-- ==== Proof.KernelIdeal.Body.lean ====
/-
The body, its parts put together.
-/
module

public import Idealize.SL.BI.BigOpNat
public import proofs.«01_k».proof.Proof.KernelIdeal.PartsA
public import proofs.«01_k».proof.Proof.KernelIdeal.PartsB
public import proofs.«01_k».proof.Proof.KernelIdeal.PartsC
public import proofs.«01_k».proof.Proof.KernelIdeal.Greet

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F) (K : GSem nD τ sig → ℕ)
variable (a0 : Memref sig .tc .vmem S2x128x512 .bf16) (h0 : a0.IsWhole) (a1 : Memref sig .tc .vmem S512x256 .bf16) (h1 : a1.IsWhole)
    (a2 : Memref sig .tc .vmem S512x256 .bf16) (h2 : a2.IsWhole) (a3 : Memref sig .tc .vmem S512x256 .bf16) (h3 : a3.IsWhole)
    (a4 : Memref sig .tc .vmem S256x512 .bf16) (h4 : a4.IsWhole) (a5 : Memref sig .tc .vmem S2048x64 .f32) (h5 : a5.IsWhole)
    (a6 : Memref sig .tc .vmem S2048x64 .f32) (h6 : a6.IsWhole) (a7 : Memref sig .tc .vmem S2x128x512 .f32) (h7 : a7.IsWhole)

theorem chunk_intro (c : Dev nD) (k : ℕ) (w : FVec F S2x1x128x512 .bf16) (h : w = shapeCast S2x1x128x512 (chunk I c k) shapeCasts_S2x128x512_S2x1x128x512) :
    shapeCast S2x128x512 w shapeCasts_S2x1x128x512_S2x128x512 = chunk I c k := by
  rw [h, shapeCast_shapeCast]

/-- The result's window. -/
def o7 (c : Dev nD) : sProp 𝕄 := iprop(∃ d, owns (c : Thread nD τ) a7 fullShare d)

theorem shuffle (c : Dev nD) {T : sProp 𝕄} {α : Type} {Q : α → sProp 𝕄} {p : Prog (TpuEff nD τ sig (Elt F) Λ₀ .tc) α}
    (H : iprop((ST I c a0 a1 a2 a3 a4 a5 a6 ∗ (Q0 (F := F) c ∗ (SZ (F := F) c ∗ (semVal (barG c) 0 ∗ o7 a7 c)))) ∗ T) ⊢ WP c p Q) :
    iprop((Met (F := F) c ∗ (ST I c a0 a1 a2 a3 a4 a5 a6 ∗ Q0 (F := F) c ∗ o7 a7 c)) ∗ T) ⊢ WP c p Q := by
  refine BIBase.Entails.trans ?_ H
  unfold Met
  iintro ⟨⟨⟨HB, HZ⟩, HS, HQ, HO⟩, HT⟩
  isplitr [HT]
  · isplitl [HS]; · iexact HS
    isplitl [HQ]; · iexact HQ
    isplitl [HZ]; · iexact HZ
    isplitl [HB]; · iexact HB
    iexact HO
  iexact HT

theorem op_dead7 {A B D C T : sProp 𝕄} {α : Type} {Q : α → sProp 𝕄} (c : Dev nD) {off : Fin S2x128x512.rank → ℕ} (h : off = fun _ => 0) (inb : ∀ a, off a + S2x128x512.size a ≤ S2x128x512.size a)
    {hl : a7.view.LoadsAt (Rect.unit (s := S2x128x512) off S2x128x512.size inb).toLoadRect} {k : (S2x128x512.Idx → Elt F .f32) → Prog (TpuEff nD τ sig (Elt F) Λ₀ .tc) α}
    (H : ∀ x, iprop((A ∗ (B ∗ D ∗ (C ∗ o7 a7 c))) ∗ T) ⊢ WP c (k x) Q) :
    iprop((A ∗ (B ∗ D ∗ (C ∗ o7 a7 c))) ∗ T) ⊢ WP c (.op (.load a7 (Rect.unit (s := S2x128x512) off S2x128x512.size inb).toLoadRect hl) k) Q := by
  iintro ⟨⟨HA, HB, HD, HC, HO⟩, HT⟩
  ihave HO := (Entails.of_eq (by unfold o7; rfl)) $$ HO
  icases HO with ⟨%d, HO⟩
  iapply (read_view a7 c (X := iprop(A ∗ B ∗ D ∗ C ∗ T)) h inb d (hl := hl) (k := k) (Q := Q) ?_)
  · refine BIBase.Entails.trans ?_ (H d)
    iintro ⟨HO, HA, HB, HD, HC, HT⟩
    isplitr [HT]
    · isplitl [HA]; · iexact HA
      isplitl [HB]; · iexact HB
      isplitl [HD]; · iexact HD
      isplitl [HC]; · iexact HC
      unfold o7; iexists d; iexact HO
    iexact HT
  isplitl [HO]; · iexact HO
  isplitl [HA]; · iexact HA
  isplitl [HB]; · iexact HB
  isplitl [HD]; · iexact HD
  isplitl [HC]; · iexact HC
  iexact HT

theorem op_store7 {A B D C T : sProp 𝕄} {α : Type} {Q : α → sProp 𝕄} (c : Dev nD) {off : Fin S2x128x512.rank → ℕ} (h : off = fun _ => 0) (inb : ∀ a, off a + S2x128x512.size a ≤ S2x128x512.size a)
    {w v : S2x128x512.Idx → Elt F .f32} {hx hy} {k : PUnit → Prog (TpuEff nD τ sig (Elt F) Λ₀ .tc) α} (hm : a7.IsWhole) (hw : w = v)
    (H : iprop((A ∗ (B ∗ D ∗ (C ∗ owns (c : Thread nD τ) a7 fullShare v))) ∗ T) ⊢ WP c (k ⟨⟩) Q) :
    iprop((A ∗ (B ∗ D ∗ (C ∗ o7 a7 c))) ∗ T) ⊢ WP c (.op (.store a7 (Rect.unit (s := S2x128x512) off S2x128x512.size inb) w Finset.univ hx hy) k) Q := by
  subst hw
  iintro ⟨⟨HA, HB, HD, HC, HO⟩, HT⟩
  ihave HO := (Entails.of_eq (by unfold o7; rfl)) $$ HO
  icases HO with ⟨%d, HO⟩
  iapply (store_view a7 hm c (X := iprop(A ∗ B ∗ D ∗ C ∗ T)) h inb d w (hx := hx) (hy := hy) (k := k) (Q := Q) ?_)
  · refine BIBase.Entails.trans ?_ H
    iintro ⟨HO, HA, HB, HD, HC, HT⟩
    isplitr [HT]
    · isplitl [HA]; · iexact HA
      isplitl [HB]; · iexact HB
      isplitl [HD]; · iexact HD
      isplitl [HC]; · iexact HC
      iexact HO
    iexact HT
  isplitl [HO]; · iexact HO
  isplitl [HA]; · iexact HA
  isplitl [HB]; · iexact HB
  isplitl [HD]; · iexact HD
  isplitl [HC]; · iexact HC
  iexact HT

set_option maxRecDepth 65536 in
/-- The body, from the greeting to the last store. -/
theorem part98 (c : Dev nD) {Q : PUnit → sProp 𝕄}
    (H : iprop((QKV I c ∗ (ST I c a0 a1 a2 a3 a4 a5 a6 ∗ XD I c ∗ (semVal (barG c) 0 ∗ owns (c : Thread nD τ) a7 fullShare (outv I c))))
      ∗ SE I c 14 (av I (14 + 1) c) ∗ ow (F := F) c 46 ∗ ctx I K) ⊢ Q ⟨⟩) :
    iprop((ST I c a0 a1 a2 a3 a4 a5 a6 ∗ Q0 (F := F) c ∗ o7 a7 c) ∗ Pre (F := F) c ∗ ow (F := F) c 0 ∗ ctx I K) ⊢ WP c (k0_part98 a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10) Q := by
  unfold k0_part98
  refine bindE ?_
  unfold k0_part97
  refine bindE (part1 I K a0 h0 a1 h1 a2 h2 a3 h3 a4 h4 a5 h5 a6 h6 a7 h7 c (fun v14 v25 => ?_))
  refine shuffle I a0 a1 a2 a3 a4 a5 a6 a7 c ?_
  refine bindE (part2 I K a0 h0 a1 h1 a2 h2 a3 h3 a4 h4 a5 h5 a6 h6 a7 h7 c _ _ ?_)
  refine bindE (part3 I K a0 h0 a1 h1 a2 h2 a3 h3 a4 h4 a5 h5 a6 h6 a7 h7 c _ ?_)
  refine bindE (part4 I K a0 h0 a1 h1 a2 h2 a3 h3 a4 h4 a5 h5 a6 h6 a7 h7 c _ _ ?_)
  refine bindE (part5 I K a0 h0 a1 h1 a2 h2 a3 h3 a4 h4 a5 h5 a6 h6 a7 h7 c _ ?_)
  refine bindE (part6 I K a0 h0 a1 h1 a2 h2 a3 h3 a4 h4 a5 h5 a6 h6 a7 h7 c _ _ ?_)
  refine bindE (part7 I K a0 h0 a1 h1 a2 h2 a3 h3 a4 h4 a5 h5 a6 h6 a7 h7 c _ ?_)
  refine bindE (part8 I K a0 h0 a1 h1 a2 h2 a3 h3 a4 h4 a5 h5 a6 h6 a7 h7 c _ _ ?_)
  refine bindE (part9 I K a0 h0 a1 h1 a2 h2 a3 h3 a4 h4 a5 h5 a6 h6 a7 h7 c _ ?_)
  refine bindE (part10 I K a0 h0 a1 h1 a2 h2 a3 h3 a4 h4 a5 h5 a6 h6 a7 h7 c _ _ ?_)
  refine bindE (part11 I K a0 h0 a1 h1 a2 h2 a3 h3 a4 h4 a5 h5 a6 h6 a7 h7 c _ ?_)
  refine bindE (part12 I K a0 h0 a1 h1 a2 h2 a3 h3 a4 h4 a5 h5 a6 h6 a7 h7 c _ _ ?_)
  refine bindE (part13 I K a0 h0 a1 h1 a2 h2 a3 h3 a4 h4 a5 h5 a6 h6 a7 h7 c _ _ ?_)
  refine bindE (part14 I K a0 h0 a1 h1 a2 h2 a3 h3 a4 h4 a5 h5 a6 h6 a7 h7 c _ _ ?_)
  refine bindE (part15 I K a0 h0 a1 h1 a2 h2 a3 h3 a4 h4 a5 h5 a6 h6 a7 h7 c _ _ ?_)
  refine bindE (part16 I K a0 h0 a1 h1 a2 h2 a3 h3 a4 h4 a5 h5 a6 h6 a7 h7 c _ _ ?_)
  refine bindE (part17 I K a0 h0 a1 h1 a2 h2 a3 h3 a4 h4 a5 h5 a6 h6 a7 h7 c _ ?_)
  refine bindE (part18 I K a0 h0 a1 h1 a2 h2 a3 h3 a4 h4 a5 h5 a6 h6 a7 h7 c _ _ _ ?_)
  refine bindE (part19 I K a0 h0 a1 h1 a2 h2 a3 h3 a4 h4 a5 h5 a6 h6 a7 h7 c _ _ _ _ _ _ _ rfl rfl rfl ?_)
  refine bindE (part20 I K a0 h0 a1 h1 a2 h2 a3 h3 a4 h4 a5 h5 a6 h6 a7 h7 c _ _ ?_)
  refine bindE (part21 I K a0 h0 a1 h1 a2 h2 a3 h3 a4 h4 a5 h5 a6 h6 a7 h7 c _ _ _ _ _ ?_)
  refine bindE (part22 I K a0 h0 a1 h1 a2 h2 a3 h3 a4 h4 a5 h5 a6 h6 a7 h7 c _ _ _ ?_)
  refine bindE (part23 I K a0 h0 a1 h1 a2 h2 a3 h3 a4 h4 a5 h5 a6 h6 a7 h7 c _ _ _ _ _ _ _ _ _ (chunk_intro I c _ _ rfl) ?_)
  refine bindE (part24 I K a0 h0 a1 h1 a2 h2 a3 h3 a4 h4 a5 h5 a6 h6 a7 h7 c _ _ _ _ ?_)
  refine bindE (part25 I K a0 h0 a1 h1 a2 h2 a3 h3 a4 h4 a5 h5 a6 h6 a7 h7 c _ _ _ _ ?_)
  refine bindE (part26 I K a0 h0 a1 h1 a2 h2 a3 h3 a4 h4 a5 h5 a6 h6 a7 h7 c _ _ _ ?_)
  refine bindE (part27 I K a0 h0 a1 h1 a2 h2 a3 h3 a4 h4 a5 h5 a6 h6 a7 h7 c _ _ _ _ _ _ _ _ _ _ (chunk_intro I c _ _ rfl) (fun v750 hv750 => ?_))
  refine bindE (part28 I K a0 h0 a1 h1 a2 h2 a3 h3 a4 h4 a5 h5 a6 h6 a7 h7 c _ _ _ (sum_eq I c 0 hv750 _ rfl) ?_)
  refine bindE (part29 I K a0 h0 a1 h1 a2 h2 a3 h3 a4 h4 a5 h5 a6 h6 a7 h7 c ?_)
  refine bindE (part30 I K a0 h0 a1 h1 a2 h2 a3 h3 a4 h4 a5 h5 a6 h6 a7 h7 c _ _ _ _ _ _ ?_)
  refine bindE (part31 I K a0 h0 a1 h1 a2 h2 a3 h3 a4 h4 a5 h5 a6 h6 a7 h7 c _ _ ?_)
  refine bindE (part32 I K a0 h0 a1 h1 a2 h2 a3 h3 a4 h4 a5 h5 a6 h6 a7 h7 c _ _ _ _ _ _ _ _ (chunk_intro I c _ _ rfl) (fun v907 hv907 v911 hv911 => ?_))
  refine bindE (part33 I K a0 h0 a1 h1 a2 h2 a3 h3 a4 h4 a5 h5 a6 h6 a7 h7 c _ _ _ _ (sum_eq I c 1 hv907 _ rfl) ?_)
  refine bindE (part34 I K a0 h0 a1 h1 a2 h2 a3 h3 a4 h4 a5 h5 a6 h6 a7 h7 c _ ?_)
  refine bindE (part35 I K a0 h0 a1 h1 a2 h2 a3 h3 a4 h4 a5 h5 a6 h6 a7 h7 c _ _ _ _ _ _ ?_)
  refine bindE (part36 I K a0 h0 a1 h1 a2 h2 a3 h3 a4 h4 a5 h5 a6 h6 a7 h7 c _ _ _ _ _ _ ?_)
  refine bindE (part37 I K a0 h0 a1 h1 a2 h2 a3 h3 a4 h4 a5 h5 a6 h6 a7 h7 c _ _ _ (chunk_intro I c _ _ rfl) ?_)
  refine bindE (part38 I K a0 h0 a1 h1 a2 h2 a3 h3 a4 h4 a5 h5 a6 h6 a7 h7 c _ _ ?_)
  refine bindE (part39 I K a0 h0 a1 h1 a2 h2 a3 h3 a4 h4 a5 h5 a6 h6 a7 h7 c _ _ _ ?_)
  refine bindE (part40 I K a0 h0 a1 h1 a2 h2 a3 h3 a4 h4 a5 h5 a6 h6 a7 h7 c _ _ _ _ _ _ ?_)
  refine bindE (part41 I K a0 h0 a1 h1 a2 h2 a3 h3 a4 h4 a5 h5 a6 h6 a7 h7 c _ _ _ _ _ ?_)
  refine bindE (part42 I K a0 h0 a1 h1 a2 h2 a3 h3 a4 h4 a5 h5 a6 h6 a7 h7 c _ _ _ (chunk_intro I c _ _ rfl) ?_)
  refine bindE (part43 I K a0 h0 a1 h1 a2 h2 a3 h3 a4 h4 a5 h5 a6 h6 a7 h7 c _ ?_)
  refine bindE (part44 I K a0 h0 a1 h1 a2 h2 a3 h3 a4 h4 a5 h5 a6 h6 a7 h7 c _ _ _ ?_)
  refine bindE (part45 I K a0 h0 a1 h1 a2 h2 a3 h3 a4 h4 a5 h5 a6 h6 a7 h7 c _ _ _ _ _ _ ?_)
  refine bindE (part46 I K a0 h0 a1 h1 a2 h2 a3 h3 a4 h4 a5 h5 a6 h6 a7 h7 c _ _ _ _ ?_)
  refine bindE (part47 I K a0 h0 a1 h1 a2 h2 a3 h3 a4 h4 a5 h5 a6 h6 a7 h7 c _ _ _ (chunk_intro I c _ _ rfl) ?_)
  refine bindE (part48 I K a0 h0 a1 h1 a2 h2 a3 h3 a4 h4 a5 h5 a6 h6 a7 h7 c _ ?_)
  refine bindE (part49 I K a0 h0 a1 h1 a2 h2 a3 h3 a4 h4 a5 h5 a6 h6 a7 h7 c _ _ _ ?_)
  refine bindE (part50 I K a0 h0 a1 h1 a2 h2 a3 h3 a4 h4 a5 h5 a6 h6 a7 h7 c _ _ _ _ _ ?_)
  refine bindE (part51 I K a0 h0 a1 h1 a2 h2 a3 h3 a4 h4 a5 h5 a6 h6 a7 h7 c _ _ _ _ _ _ ?_)
  refine bindE (part52 I K a0 h0 a1 h1 a2 h2 a3 h3 a4 h4 a5 h5 a6 h6 a7 h7 c _ _ _ (chunk_intro I c _ _ rfl) ?_)
  refine bindE (part53 I K a0 h0 a1 h1 a2 h2 a3 h3 a4 h4 a5 h5 a6 h6 a7 h7 c _ _ ?_)
  refine bindE (part54 I K a0 h0 a1 h1 a2 h2 a3 h3 a4 h4 a5 h5 a6 h6 a7 h7 c _ _ _ _ ?_)
  refine bindE (part55 I K a0 h0 a1 h1 a2 h2 a3 h3 a4 h4 a5 h5 a6 h6 a7 h7 c ?_)
  refine bindE (part56 I K a0 h0 a1 h1 a2 h2 a3 h3 a4 h4 a5 h5 a6 h6 a7 h7 c _ _ _ _ _ _ _ _ (chunk_intro I c _ _ rfl) ?_)
  refine bindE (part57 I K a0 h0 a1 h1 a2 h2 a3 h3 a4 h4 a5 h5 a6 h6 a7 h7 c _ _ ?_)
  refine bindE (part58 I K a0 h0 a1 h1 a2 h2 a3 h3 a4 h4 a5 h5 a6 h6 a7 h7 c ?_)
  refine bindE (part59 I K a0 h0 a1 h1 a2 h2 a3 h3 a4 h4 a5 h5 a6 h6 a7 h7 c _ _ _ ?_)
  refine bindE (part60 I K a0 h0 a1 h1 a2 h2 a3 h3 a4 h4 a5 h5 a6 h6 a7 h7 c _ _ ?_)
  refine wp_done ?_
  refine bindE (part61 I K a0 h0 a1 h1 a2 h2 a3 h3 a4 h4 a5 h5 a6 h6 a7 h7 c _ _ _ _ _ _ (chunk_intro I c _ _ rfl) ?_)
  refine bindE (part62 I K a0 h0 a1 h1 a2 h2 a3 h3 a4 h4 a5 h5 a6 h6 a7 h7 c _ _ ?_)
  refine bindE (part63 I K a0 h0 a1 h1 a2 h2 a3 h3 a4 h4 a5 h5 a6 h6 a7 h7 c ?_)
  refine bindE (part64 I K a0 h0 a1 h1 a2 h2 a3 h3 a4 h4 a5 h5 a6 h6 a7 h7 c _ _ _ ?_)
  refine bindE (part65 I K a0 h0 a1 h1 a2 h2 a3 h3 a4 h4 a5 h5 a6 h6 a7 h7 c _ _ _ _ ?_)
  refine bindE (part66 I K a0 h0 a1 h1 a2 h2 a3 h3 a4 h4 a5 h5 a6 h6 a7 h7 c _ _ _ _ _ _ _ (chunk_intro I c _ _ rfl) ?_)
  refine bindE (part67 I K a0 h0 a1 h1 a2 h2 a3 h3 a4 h4 a5 h5 a6 h6 a7 h7 c _ _ ?_)
  refine bindE (part68 I K a0 h0 a1 h1 a2 h2 a3 h3 a4 h4 a5 h5 a6 h6 a7 h7 c ?_)
  refine bindE (part69 I K a0 h0 a1 h1 a2 h2 a3 h3 a4 h4 a5 h5 a6 h6 a7 h7 c _ _ _ _ ?_)
  refine bindE (part70 I K a0 h0 a1 h1 a2 h2 a3 h3 a4 h4 a5 h5 a6 h6 a7 h7 c _ _ ?_)
  refine bindE (part71 I K a0 h0 a1 h1 a2 h2 a3 h3 a4 h4 a5 h5 a6 h6 a7 h7 c _ _ _ _ _ _ _ (chunk_intro I c _ _ rfl) ?_)
  refine bindE (part72 I K a0 h0 a1 h1 a2 h2 a3 h3 a4 h4 a5 h5 a6 h6 a7 h7 c _ _ ?_)
  refine bindE (part73 I K a0 h0 a1 h1 a2 h2 a3 h3 a4 h4 a5 h5 a6 h6 a7 h7 c _ ?_)
  refine bindE (part74 I K a0 h0 a1 h1 a2 h2 a3 h3 a4 h4 a5 h5 a6 h6 a7 h7 c _ _ _ _ ?_)
  refine bindE (part75 I K a0 h0 a1 h1 a2 h2 a3 h3 a4 h4 a5 h5 a6 h6 a7 h7 c _ _ _ ?_)
  refine bindE (part76 I K a0 h0 a1 h1 a2 h2 a3 h3 a4 h4 a5 h5 a6 h6 a7 h7 c _ _ _ _ _ _ (chunk_intro I c _ _ rfl) ?_)
  refine bindE (part77 I K a0 h0 a1 h1 a2 h2 a3 h3 a4 h4 a5 h5 a6 h6 a7 h7 c _ _ ?_)
  refine bindE (part78 I K a0 h0 a1 h1 a2 h2 a3 h3 a4 h4 a5 h5 a6 h6 a7 h7 c _ _ ?_)
  refine bindE (part79 I K a0 h0 a1 h1 a2 h2 a3 h3 a4 h4 a5 h5 a6 h6 a7 h7 c _ _ _ _ ?_)
  refine bindE (part80 I K a0 h0 a1 h1 a2 h2 a3 h3 a4 h4 a5 h5 a6 h6 a7 h7 c _ _ _ ?_)
  refine bindE (part81 I K a0 h0 a1 h1 a2 h2 a3 h3 a4 h4 a5 h5 a6 h6 a7 h7 c _ _ _ _ _ _ _ (chunk_intro I c _ _ rfl) ?_)
  refine bindE (part82 I K a0 h0 a1 h1 a2 h2 a3 h3 a4 h4 a5 h5 a6 h6 a7 h7 c _ _ ?_)
  refine bindE (part83 I K a0 h0 a1 h1 a2 h2 a3 h3 a4 h4 a5 h5 a6 h6 a7 h7 c _ _ ?_)
  refine bindE (part84 I K a0 h0 a1 h1 a2 h2 a3 h3 a4 h4 a5 h5 a6 h6 a7 h7 c _ _ _ _ _ _ ?_)
  refine bindE (part85 I K a0 h0 a1 h1 a2 h2 a3 h3 a4 h4 a5 h5 a6 h6 a7 h7 c ?_)
  refine bindE (part86 I K a0 h0 a1 h1 a2 h2 a3 h3 a4 h4 a5 h5 a6 h6 a7 h7 c _ _ _ _ _ _ _ _ (chunk_intro I c _ _ rfl) ?_)
  refine bindE (part87 I K a0 h0 a1 h1 a2 h2 a3 h3 a4 h4 a5 h5 a6 h6 a7 h7 c _ _ ?_)
  refine bindE (part88 I K a0 h0 a1 h1 a2 h2 a3 h3 a4 h4 a5 h5 a6 h6 a7 h7 c _ _ ?_)
  refine bindE (part89 I K a0 h0 a1 h1 a2 h2 a3 h3 a4 h4 a5 h5 a6 h6 a7 h7 c _ _ _ _ _ _ ?_)
  refine bindE (part90 I K a0 h0 a1 h1 a2 h2 a3 h3 a4 h4 a5 h5 a6 h6 a7 h7 c _ ?_)
  refine bindE (part91 I K a0 h0 a1 h1 a2 h2 a3 h3 a4 h4 a5 h5 a6 h6 a7 h7 c _ _ _ _ _ _ _ _ _ (chunk_intro I c _ _ rfl) ?_)
  refine bindE (part92 I K a0 h0 a1 h1 a2 h2 a3 h3 a4 h4 a5 h5 a6 h6 a7 h7 c _ _ ?_)
  refine bindE (part93 I K a0 h0 a1 h1 a2 h2 a3 h3 a4 h4 a5 h5 a6 h6 a7 h7 c _ _ _ _ ?_)
  refine bindE (part94 I K a0 h0 a1 h1 a2 h2 a3 h3 a4 h4 a5 h5 a6 h6 a7 h7 c _ _ _ ?_)
  refine bindE (part95 I K a0 h0 a1 h1 a2 h2 a3 h3 a4 h4 a5 h5 a6 h6 a7 h7 c _ _ ?_)
  refine bindE (part96 I K a0 h0 a1 h1 a2 h2 a3 h3 a4 h4 a5 h5 a6 h6 a7 h7 c _ _ _ _ _ _ _ _ (chunk_intro I c _ _ rfl) (fun v2948 hv2948 => ?_))
  simp only [Prog.lift, Prog.bind_op, Prog.bind_ret, Prog.pure_eq_ret]
  refine op_loadRs I K c 14 _ (by decide) ?_
  refine op_loadE I K c 14 (by decide) _ (by decide) (fun _ _ => ?_)
  refine op_storeE I K c 14 (by decide) _ (av I (14 + 1) c) (by decide) (sum_eq I c 14 hv2948 _ rfl) ?_
  refine op_loadE I K c 14 (by decide) _ (by decide) (fun v2955 hv2955 => ?_)
  refine op_dead7 a7 c (by decide) _ (fun _ => ?_)
  refine op_store7 a7 c (by decide) _ h7 (v := outv I c) (congrArg (fun x => extf .f32 x bitsLt_bf16_f32) hv2955) ?_
  exact wp_done H

set_option maxRecDepth 65536 in
theorem body_wp (c : Dev nD) {Q : PUnit → sProp 𝕄}
    (H : iprop((QKV I c ∗ (ST I c a0 a1 a2 a3 a4 a5 a6 ∗ XD I c ∗ (semVal (barG c) 0 ∗ owns (c : Thread nD τ) a7 fullShare (outv I c))))
      ∗ SE I c 14 (av I (14 + 1) c) ∗ ow (F := F) c 46 ∗ ctx I K) ⊢ Q ⟨⟩) :
    iprop((ST I c a0 a1 a2 a3 a4 a5 a6 ∗ Q0 (F := F) c ∗ o7 a7 c) ∗ Pre (F := F) c ∗ ow (F := F) c 0 ∗ ctx I K) ⊢ WP c (cc0__body a0 h0 a1 h1 a2 h2 a3 h3 a4 h4 a5 h5 a6 h6 a7 h7 xfM (Memref.isWhole_whole _) qM (Memref.isWhole_whole _) kM (Memref.isWhole_whole _) vM (Memref.isWhole_whole _) accM (Memref.isWhole_whole _) rsM (Memref.isWhole_whole _) cc0_scratch6 cc0_scratch7 cc0_scratch8 cc0_scratch9 cc0_scratch10) Q := by
  rw [cc0__body_eq_skeleton]; unfold cc0__body_skel
  refine bindE ?_
  refine part98 I K a0 h0 a1 h1 a2 h2 a3 h3 a4 h4 a5 h5 a6 h6 a7 h7 c ?_
  exact wp_done H

end Cert.KernelIdeal.Ring
-- ==== Proof.KernelIdeal.Own.lean ====
/-
The kernel's own semaphores: listed, opened when the kernel starts, and at rest when it ends.
-/
module

public import Idealize.SL.BI.BigOpNat
public import proofs.«01_k».proof.Proof.KernelIdeal.Greet

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

open Idealize.ShloMosaic.Pipeline (ownSems0)

variable (I : Dev nD → In F) (K : GSem nD τ sig → ℕ)

/-! ## The list -/

theorem fin_range {n : ℕ} (A : ℕ → sProp 𝕄) : bigSep Finset.univ (fun k : Fin n => A k.val) = bigSep (Finset.range n) A := by
  have e : Finset.range n = (Finset.univ : Finset (Fin n)).map Fin.valEmbedding := by
    ext k; simp only [Finset.mem_range, Finset.mem_map, Finset.mem_univ, true_and, Fin.valEmbedding_apply]
    exact ⟨fun h => ⟨⟨k, h⟩, rfl⟩, fun ⟨a, h⟩ => h ▸ a.isLt⟩
  rw [e, bigSep_map]; rfl

theorem sep_lc (A B C : sProp 𝕄) : iprop(A ∗ B ∗ C) = iprop(B ∗ A ∗ C) := by
  apply BI.equiv_iff.mp
  constructor
  · show iprop(A ∗ B ∗ C) ⊢ iprop(B ∗ A ∗ C)
    iintro ⟨H1, H2, H3⟩
    isplitl [H2]; · iexact H2
    isplitl [H1]; · iexact H1
    iexact H3
  · show iprop(B ∗ A ∗ C) ⊢ iprop(A ∗ B ∗ C)
    iintro ⟨H1, H2, H3⟩
    isplitl [H2]; · iexact H2
    isplitl [H1]; · iexact H1
    iexact H3
theorem sep_e (A : sProp 𝕄) : iprop(A ∗ emp) = A := BI.equiv_iff.mp sep_emp

theorem range_add (a b : ℕ) (A : ℕ → sProp 𝕄) :
    bigSep (Finset.range (a + b)) A = iprop(bigSep (Finset.range a) A ∗ bigSep (Finset.range b) (fun i => A (a + i))) := by
  induction b with
  | zero =>
    rw [Nat.add_zero, Finset.range_zero, bigSep_empty]
    exact (sep_e _).symm
  | succ b ih => rw [← Nat.add_assoc, bigSep_range_succ, bigSep_range_succ, ih, sep_lc]

/-- The kernel's own semaphores: the credit, and the copies'. -/
def osem (k : Fin 61) : SemLoc sig := cellAt ⟨k.val + 1, by omega⟩

def semN (n : ℕ) : SemLoc sig := if n = 0 then .reg 0 else .dma (dmaAt (7 + n))
theorem osem_eq (k : Fin 61) : osem k = semN k.val := by
  unfold osem cellAt semN
  dsimp only
  rw [if_neg (by omega)]
  by_cases h : k.val = 0
  · rw [if_pos (by omega), if_pos h]
  · rw [if_neg (by omega), if_neg h, show 6 + (k.val + 1) = 7 + k.val by omega]
theorem semN_succ (n : ℕ) : semN (1 + n) = .dma (dmaAt (8 + n)) := by
  unfold semN; rw [if_neg (by omega), show 7 + (1 + n) = 8 + n by omega]

/-- One fact for each of them, sorted. -/
theorem own5 (c : Dev nD) (A : GSem nD τ sig → sProp 𝕄) :
    bigSep Finset.univ (fun k : Fin 61 => A ((c : Thread nD τ), osem k))
      = iprop(A (crG c) ∗ bigSep (Finset.range 15) (fun i => A (agS c i)) ∗ bigSep (Finset.range 15) (fun i => A (agR c i))
          ∗ bigSep (Finset.range 15) (fun i => A (rsS c i)) ∗ bigSep (Finset.range 15) (fun i => A (rsR c i))) := by
  simp only [osem_eq]
  rw [fin_range (fun n => A ((c : Thread nD τ), semN n)), show (61 : ℕ) = 1 + (15 + (15 + (15 + 15))) from rfl, range_add, range_add, range_add, range_add]
  simp only [semN_succ]
  rw [show (1 : ℕ) = 0 + 1 from rfl, bigSep_range_succ, Finset.range_zero, bigSep_empty, show iprop(A ((c : Thread nD τ), semN 0) ∗ BI.emp) = _ from sep_e _]
  simp only [← Nat.add_assoc, Nat.reduceAdd]
  rfl

theorem ownFacts : Pipeline.OwnSemFacts spec0 osem := by decide

/-! ## Opened -/

theorem ctx_osem (c : Dev nD) (k : Fin 61) :
    ctx I K ⊢ cellInv ER (Rd I) (K ((c : Thread nD τ), osem k)) ((c : Thread nD τ), osem k) :=
  ctx_at I K (c, ⟨k.val + 1, by omega⟩)

theorem open_one (c : Dev nD) (k : Fin 61) :
    iprop(ctx I K ∗ (openTok ER ((c : Thread nD τ), osem k) ∗ semVal ((c : Thread nD τ), osem k) 0))
      ⊢ (|={Set.univ}=> (atPos ER ((c : Thread nD τ), osem k) 0 ∅ 0 ∗ reached ER ((c : Thread nD τ), osem k) 0) : sProp 𝕄) := by
  iintro ⟨#H, Ho, Hv⟩
  iapply (Rounds.cell_open ER (Rd I) (g := ((c : Thread nD τ), osem k)) (Set.mem_univ (K ((c : Thread nD τ), osem k))))
  isplitr; · iapply (ctx_osem I K c k); iexact H
  isplitl [Ho]; · iexact Ho
  iexact Hv

theorem open_all (c : Dev nD) :
    iprop(ctx I K ∗ bigSep Finset.univ (fun k : Fin 61 => openTok ER ((c : Thread nD τ), osem k)) ∗ ownSems0 osem c)
      ⊢ (|={Set.univ}=> bigSep Finset.univ (fun k : Fin 61 => iprop(atPos ER ((c : Thread nD τ), osem k) 0 ∅ 0 ∗ reached ER ((c : Thread nD τ), osem k) 0)) : sProp 𝕄) := by
  unfold ownSems0
  rw [← bigSep_sep']
  exact (bigSep_with_persistent (Ψ := fun k : Fin 61 => iprop(|={Set.univ}=> (atPos ER ((c : Thread nD τ), osem k) 0 ∅ 0 ∗ reached ER ((c : Thread nD τ), osem k) 0)))
    fun k _ => open_one I K c k).trans (bigSep_fupd _ _)

/-! ## What a device has from launch -/

/-- The tokens of what it pays, in the order of the cells. -/
def pays (c : Dev nD) : sProp 𝕄 :=
  iprop(dutyTok ER (barG (prv c)) 0 false ∗ dutyTok ER (barG (nxt c)) 0 true
    ∗ bigSep (Finset.range 14) (fun s => dutyTok ER (crG (prv c)) s false)
    ∗ bigSep (Finset.range 15) (fun i => dutyTok ER (agS c i) 0 false)
    ∗ bigSep (Finset.range 8) (fun i => dutyTok ER (agR (nxt c) i) 0 false) ∗ bigSep (Finset.range 7) (fun i => dutyTok ER (agR (prv c) (8 + i)) 0 false)
    ∗ bigSep (Finset.range 15) (fun s => dutyTok ER (rsS c s) 0 false) ∗ bigSep (Finset.range 15) (fun s => dutyTok ER (rsR (nxt c) s) 0 false))
/-- The credits of what the others pay it. -/
def creds (c : Dev nD) : sProp 𝕄 :=
  iprop(cred (tallyAt (barG c) 0 2) ∗ bigSep (Finset.range 14) (fun s => cred (tallyAt (crG c) s 1))
    ∗ bigSep (Finset.range 15) (fun i => cred (tallyAt (agR c i) 0 N)) ∗ bigSep (Finset.range 15) (fun s => cred (tallyAt (rsR c s) 0 N)))
/-- All of it. -/
def ghost (c : Dev nD) : sProp 𝕄 :=
  iprop(invAll I K ∗ (reached ER (barG (prv c)) 0 ∗ reached ER (barG (nxt c)) 0) ∗ atPos ER (barG c) 0 ∅ 0
    ∗ bigSep Finset.univ (fun k : Fin 61 => openTok ER ((c : Thread nD τ), osem k)) ∗ pays (F := F) c ∗ creds (F := F) c)

theorem mk_pR (c : Dev nD) :
    iprop(bigSep (Finset.range 8) (fun i => dutyTok ER (agR (nxt c) i) 0 false) ∗ bigSep (Finset.range 8) (fun i => dutyTok ER (agS c i) 0 false)
      ∗ bigSep (Finset.range 8) (fun i => reached ER (agS c i) 0) ∗ bigSep (Finset.range 8) (fun i => atPos ER (agS c i) 0 ∅ 0)
      ∗ bigSep (Finset.range 8) (fun i => atPos ER (agR c i) 0 ∅ 0) ∗ bigSep (Finset.range 8) (fun i => cred (tallyAt (agR c i) 0 N)))
      ⊢ bigSep (Finset.range 8) (pR (F := F) c) := by
  rw [← bigSep_sep', ← bigSep_sep', ← bigSep_sep', ← bigSep_sep', ← bigSep_sep']
  exact BI.Entails.refl _
theorem mk_pL (c : Dev nD) :
    iprop(bigSep (Finset.range 7) (fun i => dutyTok ER (agR (prv c) (8 + i)) 0 false) ∗ bigSep (Finset.range 7) (fun i => dutyTok ER (agS c (8 + i)) 0 false)
      ∗ bigSep (Finset.range 7) (fun i => reached ER (agS c (8 + i)) 0) ∗ bigSep (Finset.range 7) (fun i => atPos ER (agS c (8 + i)) 0 ∅ 0)
      ∗ bigSep (Finset.range 7) (fun i => atPos ER (agR c (8 + i)) 0 ∅ 0) ∗ bigSep (Finset.range 7) (fun i => cred (tallyAt (agR c (8 + i)) 0 N)))
      ⊢ bigSep (Finset.range 7) (pL (F := F) c) := by
  rw [← bigSep_sep', ← bigSep_sep', ← bigSep_sep', ← bigSep_sep', ← bigSep_sep']
  exact BI.Entails.refl _
theorem mk_pS (c : Dev nD) :
    iprop(bigSep (Finset.range 15) (fun s => dutyTok ER (rsR (nxt c) s) 0 false) ∗ bigSep (Finset.range 15) (fun s => dutyTok ER (rsS c s) 0 false)
      ∗ bigSep (Finset.range 15) (fun s => reached ER (rsS c s) 0) ∗ bigSep (Finset.range 15) (fun s => atPos ER (rsS c s) 0 ∅ 0)
      ∗ bigSep (Finset.range 15) (fun s => atPos ER (rsR c s) 0 ∅ 0) ∗ bigSep (Finset.range 15) (fun s => cred (tallyAt (rsR c s) 0 N)))
      ⊢ bigSep (Finset.range 15) (pS (F := F) c) := by
  rw [← bigSep_sep', ← bigSep_sep', ← bigSep_sep', ← bigSep_sep', ← bigSep_sep']
  exact BI.Entails.refl _
theorem mk_tC (c : Dev nD) :
    iprop(bigSep (Finset.range 14) (fun s => dutyTok ER (crG (prv c)) s false) ∗ bigSep (Finset.range 14) (fun s => cred (tallyAt (crG c) s 1)))
      ⊢ bigSep (Finset.range 14) (tokC (F := F) c) := by
  rw [← bigSep_sep']
  exact BI.Entails.refl _

theorem split87 (A : ℕ → sProp 𝕄) : bigSep (Finset.range 15) A ⊢ iprop(bigSep (Finset.range 8) A ∗ bigSep (Finset.range 7) (fun i => A (8 + i))) :=
  BIBase.Entails.of_eq (range_add 8 7 A)
theorem join87 (A : ℕ → sProp 𝕄) : iprop(bigSep (Finset.range 8) A ∗ bigSep (Finset.range 7) (fun i => A (8 + i))) ⊢ bigSep (Finset.range 15) A :=
  BIBase.Entails.of_eq (range_add 8 7 A).symm

/-- Dealt out, once the cells are open. -/
theorem deal (c : Dev nD) :
    iprop((reached ER (barG (prv c)) 0 ∗ reached ER (barG (nxt c)) 0) ∗ atPos ER (barG c) 0 ∅ 0 ∗ pays (F := F) c ∗ creds (F := F) c
      ∗ bigSep Finset.univ (fun k : Fin 61 => iprop(atPos ER ((c : Thread nD τ), osem k) 0 ∅ 0 ∗ reached ER ((c : Thread nD τ), osem k) 0)))
      ⊢ iprop(hiT (F := F) c ∗ opened (F := F) c ∗ toks (F := F) c) := by
  rw [own5 c (fun g => iprop(atPos ER g 0 ∅ 0 ∗ reached ER g 0))]
  simp only [bigSep_sep']
  unfold pays creds
  iintro ⟨⟨Rp, Rn⟩, HaB, ⟨T1, T2, TC, TaS, TaR, TaL, TrS, TrR⟩, ⟨CB, CC, CA, CR⟩, ⟨AC, RC⟩, ⟨AaS, RaS⟩, ⟨AaR, RaR⟩, ⟨ArS, RrS⟩, ⟨ArR, RrR⟩⟩
  ihave TaS := (split87 _) $$ TaS; icases TaS with ⟨TaS1, TaS2⟩
  ihave CA := (split87 _) $$ CA; icases CA with ⟨CA1, CA2⟩
  ihave AaS := (split87 _) $$ AaS; icases AaS with ⟨AaS1, AaS2⟩
  ihave RaS := (split87 _) $$ RaS; icases RaS with ⟨RaS1, RaS2⟩
  ihave AaR := (split87 _) $$ AaR; icases AaR with ⟨AaR1, AaR2⟩
  ihave RaR := (split87 _) $$ RaR; icases RaR with ⟨RaR1, RaR2⟩
  unfold hiT opened toks
  isplitl [Rp Rn HaB T1 T2 CB]
  · isplitl [T1]; · iexact T1
    isplitl [T2]; · iexact T2
    isplitl [Rp]; · iexact Rp
    isplitl [Rn]; · iexact Rn
    isplitl [HaB]; · iexact HaB
    iexact CB
  isplitl [RaR1 RaR2 RrR]
  · isplitl [RaR1]; · iexact RaR1
    isplitl [RaR2]; · iexact RaR2
    iexact RrR
  isplitl [TaR TaS1 RaS1 AaS1 AaR1 CA1]
  · iapply (mk_pR c)
    isplitl [TaR]; · iexact TaR
    isplitl [TaS1]; · iexact TaS1
    isplitl [RaS1]; · iexact RaS1
    isplitl [AaS1]; · iexact AaS1
    isplitl [AaR1]; · iexact AaR1
    iexact CA1
  isplitl [TaL TaS2 RaS2 AaS2 AaR2 CA2]
  · iapply (mk_pL c)
    isplitl [TaL]; · iexact TaL
    isplitl [TaS2]; · iexact TaS2
    isplitl [RaS2]; · iexact RaS2
    isplitl [AaS2]; · iexact AaS2
    isplitl [AaR2]; · iexact AaR2
    iexact CA2
  isplitl [TrR TrS RrS ArS ArR CR]
  · iapply (mk_pS c)
    isplitl [TrR]; · iexact TrR
    isplitl [TrS]; · iexact TrS
    isplitl [RrS]; · iexact RrS
    isplitl [ArS]; · iexact ArS
    isplitl [ArR]; · iexact ArR
    iexact CR
  isplitl [TC CC]
  · iapply (mk_tC c)
    isplitl [TC]; · iexact TC
    iexact CC
  isplitl [AC]; · iexact AC
  iexact RC

/-- Ready to start, but for the buffers. -/
def Xk (c : Dev nD) : sProp 𝕄 := iprop(∃ K, (hiT (F := F) c ∗ opened (F := F) c ∗ toks (F := F) c) ∗ ctx I K)
def Tk (c : Dev nD) : sProp 𝕄 := iprop(∃ K, ghost I K c)

theorem levs_of : levAts L lv ⊢ levs (F := F) := by unfold levs; exact BI.Entails.refl _

theorem hopen (c : Dev nD) : iprop(Tk I c ∗ ownSems0 osem c ∗ levAts L lv) ⊢ (|={Set.univ}=> Xk I c : sProp 𝕄) := by
  unfold Tk Xk ghost
  iintro ⟨⟨%K, #HI, HR, HaB, Ho, HP, HC⟩, Hs, Hl⟩
  ihave Hl := levs_of $$ Hl
  icases Hl with #Hl
  imod (open_all I K c) $$ [Ho Hs] with Hop
  · isplitr
    · unfold ctx; isplitr; · iexact HI
      iexact Hl
    isplitl [Ho]; · iexact Ho
    iexact Hs
  imodintro
  iexists K
  isplitl
  · iapply (deal c)
    isplitl [HR]; · iexact HR
    isplitl [HaB]; · iexact HaB
    isplitl [HP]; · iexact HP
    isplitl [HC]; · iexact HC
    iexact Hop
  · unfold ctx; isplitr; · iexact HI
    iexact Hl

end Cert.KernelIdeal.Ring
-- ==== Proof.KernelIdeal.Ends.lean ====
/-
The kernel's scratch buffers as the protocol holds them, and back; the body between the two.
-/
module

public import Idealize.SL.BI.BigOpNat
public import proofs.«01_k».proof.Proof.KernelIdeal.Own

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

open Idealize.ShloMosaic.Pipeline (ownSems0 scopedRest)

variable (I : Dev nD → In F) (K : GSem nD τ sig → ℕ)

/-! ## In -/

theorem xf_split (c : Dev nD) (f : FVec F S2x16x128x512 .bf16) :
    (xfM.view.loc (c : Thread nD τ) ↦{fullShare} f : sProp 𝕄) = bigSep (Finset.range 16) fun k => (xfM.view.loc (c : Thread nD τ) ↦[slotSet k]{fullShare} f : sProp 𝕄) := by
  have h := pointsTo_biUnion (Val := Elt F) (Ix := ℕ) (Name := ℕ) (U := UU) (Lvl := ℕ) (ℓ := xfM.view.loc (c : Thread nD τ)) (q := fullShare) (f := f) (Finset.range 16) slotSet fun t _ t' _ h => slotSet_disjoint t t' h
  rw [← h, biUnion_slots]
theorem acc_split (c : Dev nD) (f : FVec F S2x16x128x512 .bf16) :
    (accM.view.loc (c : Thread nD τ) ↦{fullShare} f : sProp 𝕄) = bigSep (Finset.range 16) fun k => (accM.view.loc (c : Thread nD τ) ↦[slotSet k]{fullShare} f : sProp 𝕄) := by
  have h := pointsTo_biUnion (Val := Elt F) (Ix := ℕ) (Name := ℕ) (U := UU) (Lvl := ℕ) (ℓ := accM.view.loc (c : Thread nD τ)) (q := fullShare) (f := f) (Finset.range 16) slotSet fun t _ t' _ h => slotSet_disjoint t t' h
  rw [← h, biUnion_slots]

theorem xf_any1 (c : Dev nD) (k : ℕ) (hk : k < 16) (f : FVec F S2x16x128x512 .bf16) :
    (xfM.view.loc (c : Thread nD τ) ↦[slotSet k]{fullShare} f : sProp 𝕄) ⊢ xfAny (F := F) c k := by
  rw [xfPt_of c k hk fullShare f]; unfold xfAny
  iintro H; iexists _; iexact H
theorem acc_any1 (c : Dev nD) (k : ℕ) (hk : k < 16) (f : FVec F S2x16x128x512 .bf16) :
    (accM.view.loc (c : Thread nD τ) ↦[slotSet k]{fullShare} f : sProp 𝕄) ⊢ accAny (F := F) c k := by
  rw [accPt_of c k hk fullShare f]; unfold accAny
  iintro H; iexists _; iexact H
theorem xf_in (c : Dev nD) (f : FVec F S2x16x128x512 .bf16) :
    (xfM.view.loc (c : Thread nD τ) ↦{fullShare} f : sProp 𝕄) ⊢ bigSep (Finset.range 16) (xfAny (F := F) c) := by
  rw [xf_split]; exact bigSep_mono fun k hk => xf_any1 c k (Finset.mem_range.mp hk) f
theorem acc_in (c : Dev nD) (f : FVec F S2x16x128x512 .bf16) :
    (accM.view.loc (c : Thread nD τ) ↦{fullShare} f : sProp 𝕄) ⊢ accTodo (F := F) c 16 := by
  rw [acc_split]; exact bigSep_mono fun k hk => acc_any1 c k (Finset.mem_range.mp hk) f

theorem rs_in (c : Dev nD) (f : FVec F S2x128x512 .bf16) : (rsM.view.loc (c : Thread nD τ) ↦{fullShare} f : sProp 𝕄) ⊢ rsAny (F := F) c := by
  unfold rsAny rsPt
  rw [View.set_whole]
  iintro H; iexists f; iexact H
theorem q_in (c : Dev nD) (f : FVec F S4096x256 .bf16) : (qM.view.loc (c : Thread nD τ) ↦{fullShare} f : sProp 𝕄) ⊢ qAny (F := F) c := by
  unfold qAny qPt owns
  rw [View.set_whole]
  iintro H; iexists _; iexists f; isplitr; · ipureintro; rfl
  iexact H
theorem k_in (c : Dev nD) (f : FVec F S4096x256 .bf16) : (kM.view.loc (c : Thread nD τ) ↦{fullShare} f : sProp 𝕄) ⊢ kAny (F := F) c := by
  unfold kAny kPt owns
  rw [View.set_whole]
  iintro H; iexists _; iexists f; isplitr; · ipureintro; rfl
  iexact H
theorem v_in (c : Dev nD) (f : FVec F S4096x256 .bf16) : (vM.view.loc (c : Thread nD τ) ↦{fullShare} f : sProp 𝕄) ⊢ vAny (F := F) c := by
  unfold vAny vPt owns
  rw [View.set_whole]
  iintro H; iexists _; iexists f; isplitr; · ipureintro; rfl
  iexact H

theorem bufs_in (c : Dev nD) : scopedRest spec0 c ⊢ iprop(mine (F := F) c ∗ Q0 (F := F) c) := by
  rw [scopedRest0_eq]
  unfold mine Q0
  iintro ⟨⟨%f0, H0⟩, ⟨%f1, H1⟩, ⟨%f2, H2⟩, ⟨%f3, H3⟩, ⟨%f4, H4⟩, ⟨%f5, H5⟩⟩
  isplitl [H0 H4 H5]
  · isplitl [H0]; · iapply (xf_in c f0); iexact H0
    isplitl [H5]; · iapply (rs_in c f5); iexact H5
    iapply (acc_in c f4); iexact H4
  isplitl [H1]; · iapply (q_in c f1); iexact H1
  isplitl [H2]; · iapply (k_in c f2); iexact H2
  iapply (v_in c f3); iexact H3

/-! ## Out -/

theorem acc_slot (c : Dev nD) (y : ℕ → FVec F S2x128x512 .bf16) (k : ℕ) :
    accPt c k fullShare (y k) = (accM.view.loc (c : Thread nD τ) ↦[slotSet k]{fullShare} (fun i : S2x16x128x512.Idx => y (i 1).val (inSlot i)) : sProp 𝕄) := by
  unfold accPt
  refine pointsTo_congr fun i hi => ?_
  have h := (mem_slotSet k i).mp hi
  subst h
  rfl

include I in
theorem acc_out (c : Dev nD) : accTodo (F := F) c 16 ⊢ (∃ f : Buf (Elt F) ((c : Thread nD τ).loc cc0_scratch4), ((c : Thread nD τ).loc cc0_scratch4) ↦{fullShare} f : sProp 𝕄) := by
  haveI : Nonempty (FVec F S2x128x512 .bf16) := ⟨(I c).x⟩
  unfold accTodo accAny
  refine (bigSep_exists_pi (Y := fun _ : ℕ => FVec F S2x128x512 .bf16) (Finset.range 16) (fun k g => accPt c k fullShare g)).trans ?_
  simp only [acc_slot]
  iintro ⟨%y, H⟩
  iexists (fun i : S2x16x128x512.Idx => y (i 1).val (inSlot i))
  iapply (Entails.of_eq (acc_split c (fun i : S2x16x128x512.Idx => y (i 1).val (inSlot i))).symm)
  iexact H

theorem acc_list (c : Dev nD) (g : FVec F S2x128x512 .bf16) :
    iprop(bigSep (Finset.range 15) (fun s => accAny (F := F) c (15 - s)) ∗ accPt c (14 - 14) fullShare g) ⊢ accTodo (F := F) c 16 := by
  unfold accTodo
  simp only [bigSep_range_succ, Finset.range_zero, bigSep_empty, Nat.reduceSub]
  iintro ⟨⟨R1, R2, R3, R4, R5, R6, R7, R8, R9, R10, R11, R12, R13, R14, R15, -⟩, H0⟩
  isplitl [R15]; · iexact R15
  isplitl [R14]; · iexact R14
  isplitl [R13]; · iexact R13
  isplitl [R12]; · iexact R12
  isplitl [R11]; · iexact R11
  isplitl [R10]; · iexact R10
  isplitl [R9]; · iexact R9
  isplitl [R8]; · iexact R8
  isplitl [R7]; · iexact R7
  isplitl [R6]; · iexact R6
  isplitl [R5]; · iexact R5
  isplitl [R4]; · iexact R4
  isplitl [R3]; · iexact R3
  isplitl [R2]; · iexact R2
  isplitl [R1]; · iexact R1
  isplitl [H0]; · unfold accAny; iexists g; iexact H0
  iempintro

theorem rs_out (c : Dev nD) (g : FVec F S2x128x512 .bf16) : rsPt c g ⊢ (∃ f : Buf (Elt F) ((c : Thread nD τ).loc cc0_scratch5), ((c : Thread nD τ).loc cc0_scratch5) ↦{fullShare} f : sProp 𝕄) := by
  unfold rsPt; rw [View.set_whole]
  iintro H; iexists g; iexact H
theorem q_out (c : Dev nD) (g : FVec F S4096x256 .bf16) : qPt c g ⊢ (∃ f : Buf (Elt F) ((c : Thread nD τ).loc cc0_scratch1), ((c : Thread nD τ).loc cc0_scratch1) ↦{fullShare} f : sProp 𝕄) := by
  unfold qPt owns; rw [View.set_whole]
  iintro ⟨%f, -, H⟩; iexists f; iexact H
theorem k_out (c : Dev nD) (g : FVec F S4096x256 .bf16) : kPt c g ⊢ (∃ f : Buf (Elt F) ((c : Thread nD τ).loc cc0_scratch2), ((c : Thread nD τ).loc cc0_scratch2) ↦{fullShare} f : sProp 𝕄) := by
  unfold kPt owns; rw [View.set_whole]
  iintro ⟨%f, -, H⟩; iexists f; iexact H
theorem v_out (c : Dev nD) (g : FVec F S4096x256 .bf16) : vPt c g ⊢ (∃ f : Buf (Elt F) ((c : Thread nD τ).loc cc0_scratch3), ((c : Thread nD τ).loc cc0_scratch3) ↦{fullShare} f : sProp 𝕄) := by
  unfold vPt owns; rw [View.set_whole]
  iintro ⟨%f, -, H⟩; iexists f; iexact H

/-- What a device ends with, beside its staging buffers. -/
def End (c : Dev nD) : sProp 𝕄 := iprop(scopedRest spec0 c ∗ ownSems0 osem c ∗ semVal (barG c) 0)

theorem sems_out (c : Dev nD) :
    iprop(semVal (crG c) 0 ∗ bigSep (Finset.range 8) (semsOf (F := F) c) ∗ bigSep (Finset.range 7) (fun i => semsOf (F := F) c (8 + i))
      ∗ bigSep (Finset.range 15) (fun s => semVal (rsS c s) 0) ∗ bigSep (Finset.range 15) (fun s => semVal (rsR c s) 0)) ⊢ (ownSems0 osem c : sProp 𝕄) := by
  unfold ownSems0
  rw [own5 c (fun g => semVal g 0)]
  unfold semsOf
  rw [bigSep_sep', bigSep_sep']
  iintro ⟨HC, ⟨S1, R1⟩, ⟨S2, R2⟩, HS, HR⟩
  isplitl [HC]; · iexact HC
  isplitl [S1 S2]
  · iapply (join87 (fun i => semVal (agS c i) 0))
    isplitl [S1]; · iexact S1
    iexact S2
  isplitl [R1 R2]
  · iapply (join87 (fun i => semVal (agR c i) 0))
    isplitl [R1]; · iexact R1
    iexact R2
  isplitl [HS]; · iexact HS
  iexact HR

/-- The credit semaphore closed, and everything given back. -/
theorem finish (c : Dev nD) (g : FVec F S2x128x512 .bf16) :
    iprop(ctx I K ∗ QKV I c ∗ XD I c ∗ semVal (barG c) 0 ∗ SE I c 14 g) ⊢ (|={Set.univ}=> End (F := F) c : sProp 𝕄) := by
  unfold QKV XD SE pastS doneS End
  rw [scopedRest0_eq]
  simp only [Nat.reduceAdd]
  rw [bigSep_sep', bigSep_sep']
  iintro ⟨#HX, ⟨Hq, Hk, Hv⟩, ⟨Hxf, G1, G2⟩, HB, ⟨⟨PS, PR, PA⟩, HA, -, Hrs, -, HC, -, -⟩⟩
  imod (Rounds.cell_close ER (Rd I) (g := crG c) (Set.mem_univ (K (crG c))) id (duties_cr_later I c)) $$ [HC] with HC
  · isplitr; · iapply (ctx_cr I K c); iexact HX
    iexact HC
  imodintro
  isplitl [Hq Hk Hv Hxf PA HA Hrs]
  · isplitl [Hxf]; · iexists (xAll I c); iexact Hxf
    isplitl [Hq]; · iapply (q_out c (qv I c)); iexact Hq
    isplitl [Hk]; · iapply (k_out c (kv I c)); iexact Hk
    isplitl [Hv]; · iapply (v_out c (vv I c)); iexact Hv
    isplitl [PA HA]
    · iapply (acc_out I c)
      iapply (acc_list c g)
      isplitl [PA]; · iexact PA
      iexact HA
    iapply (rs_out c (av I 14 (prv c))); iexact Hrs
  isplitr [HB]
  · iapply (sems_out c)
    isplitl [HC]; · iexact HC
    isplitl [G1]; · iexact G1
    isplitl [G2]; · iexact G2
    isplitl [PS]; · iexact PS
    iexact PR
  iexact HB

end Cert.KernelIdeal.Ring
-- ==== Proof.KernelIdeal.Region.lean ====
/-
The kernel region: what each device is given, the body's obligation, and the region's record.
-/
module

public import Idealize.SL.BI.BigOpNat
public import proofs.«01_k».proof.Proof.Gen.KernelIdeal.Regions
public import Idealize.ShloMosaic.Lib.Pipeline.ValueKit
public import Idealize.ShloMosaic.Lib.Pipeline.RegionTalk
public import proofs.«01_k».proof.Proof.KernelIdeal.Body
public import proofs.«01_k».proof.Proof.KernelIdeal.Ends

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

open Idealize.ShloMosaic.Pipeline (ownSems0 scopedRest RegionSeg)

variable (m : Dev nD → Valuation τ sig (Elt F))

/-- What device `c` is given: its blocks as launched, and the tables the host computed. -/
def inp (c : Dev nD) : In F where
  x := ((cfg0.win 0).blk t0_0).view.read (Elt F) (m c (Proc.devRef .tc main_arg0))
  wq := ((cfg0.win 1).blk t0_0).view.read (Elt F) (m c (Proc.devRef .tc main_arg1))
  wk := ((cfg0.win 2).blk t0_0).view.read (Elt F) (m c (Proc.devRef .tc main_arg2))
  wv := ((cfg0.win 3).blk t0_0).view.read (Elt F) (m c (Proc.devRef .tc main_arg3))
  wo := ((cfg0.win 4).blk t0_0).view.read (Elt F) (m c (Proc.devRef .tc main_arg4))
  cs := ((cfg0.win 5).blk t0_0).view.read (Elt F) (m c (Proc.devRef .tc main_v30))
  sn := ((cfg0.win 6).blk t0_0).view.read (Elt F) (m c (Proc.devRef .tc main_v33))

def dat0 (c : Dev nD) : Dat τ (Elt F) ℕ ℕ UU ℕ cfg0 c where
  A w := m c (Proc.devRef .tc (Pipeline.arrRef spec0 w))
  after w _ := match w with
    | 0 => (inp m c).x
    | 1 => (inp m c).wq
    | 2 => (inp m c).wk
    | 3 => (inp m c).wv
    | 4 => (inp m c).wo
    | 5 => (inp m c).cs
    | 6 => (inp m c).sn
    | 7 => outv (inp m) c
  Φ t := if t.val = 0 then iprop(Xk (inp m) c ∗ scopedRest spec0 c ∗ ∃ r, prngReg c r) else iprop(End (F := F) c ∗ ∃ r, prngReg c r)
  q _ := fullShare
  owed t := if t.val = 0 then owed c 0 else 0

def pdats : (p : Fin 1) → (c : Dev nD) → Dat τ (Elt F) ℕ ℕ UU ℕ (Pipeline.pin (pcfgs (F := F)) adm p) c
  | 0 => dat0 m

theorem owed_zero (c : Dev nD) : (pdats (F := F) m 0 c).owed 0 = owed c 0 := by
  show (if ((0 : Fin (cfg0.N + 1)).val = 0) then owed c 0 else 0) = owed c 0; exact if_pos rfl
theorem owed_first (c : Dev nD) : (dat0 (F := F) m c).owed t0_0.castSucc = owed c 0 := by
  show (if (t0_0.castSucc : Fin (cfg0.N + 1)).val = 0 then owed c 0 else 0) = owed c 0; exact if_pos rfl
theorem owed_last (c : Dev nD) : (pdats (F := F) m 0 c).owed (Fin.last _) = 0 := by
  show (if (Fin.last cfg0.N).val = 0 then owed c 0 else 0) = 0
  rw [Fin.val_last, if_neg (by rw [show cfg0.N = 1 from N_0]; decide)]

theorem owes_in (c : Dev nD) : (dat0 (F := F) m c).owesAt 0 t0_0.castSucc ⊢ (ow c 0 : sProp 𝕄) := by
  unfold Dat.owesAt Pipeline.owesWithin ow; rw [owed_first]
  iintro ⟨%W, -, HO⟩; iexists W; iexact HO
theorem owes_out (c : Dev nD) : ow (F := F) c 46 ⊢ ((dat0 (F := F) m c).owesAt 0 t0_0.succ : sProp 𝕄) := by
  unfold Dat.owesAt Pipeline.owesWithin Dat.bound ow
  rw [show (dat0 (F := F) m c).owed t0_0.succ = owed c 46 from (owed_last m c).trans (owed_end c).symm]
  iintro ⟨%W, HO⟩; iexists W; isplitr; · ipureintro; exact fun _ _ => Or.inl trivial
  iexact HO

/-- One window's buffer as the body finds it. -/
theorem before_in (c : Dev nD) (w : Fin 8) (h : (cfg0.win w).fetch t0_0 = true) (d) : (dat0 (F := F) m c).before w t0_0 d = (dat0 (F := F) m c).fetched w t0_0 d := by
  unfold Dat.before; rw [if_pos h]

theorem regroup7 (H0 H1 H2 H3 H4 H5 H6 H7 : sProp 𝕄) :
    iprop(H0 ∗ H1 ∗ H2 ∗ H3 ∗ H4 ∗ H5 ∗ H6 ∗ H7) ⊢ iprop((H0 ∗ H1 ∗ H2 ∗ H3 ∗ H4 ∗ H5 ∗ H6) ∗ H7) := by
  iintro ⟨H0, H1, H2, H3, H4, H5, H6, H7⟩
  isplitr [H7]
  · isplitl [H0]; · iexact H0
    isplitl [H1]; · iexact H1
    isplitl [H2]; · iexact H2
    isplitl [H3]; · iexact H3
    isplitl [H4]; · iexact H4
    isplitl [H5]; · iexact H5
    iexact H6
  iexact H7

theorem before_0 (c : Dev nD) (d) : (dat0 (F := F) m c).before 0 t0_0 d = (inp m c).x := before_in m c 0 (fetch0_0 _) d
theorem before_1 (c : Dev nD) (d) : (dat0 (F := F) m c).before 1 t0_0 d = (inp m c).wq := before_in m c 1 (fetch0_1 _) d
theorem before_2 (c : Dev nD) (d) : (dat0 (F := F) m c).before 2 t0_0 d = (inp m c).wk := before_in m c 2 (fetch0_2 _) d
theorem before_3 (c : Dev nD) (d) : (dat0 (F := F) m c).before 3 t0_0 d = (inp m c).wv := before_in m c 3 (fetch0_3 _) d
theorem before_4 (c : Dev nD) (d) : (dat0 (F := F) m c).before 4 t0_0 d = (inp m c).wo := before_in m c 4 (fetch0_4 _) d
theorem before_5 (c : Dev nD) (d) : (dat0 (F := F) m c).before 5 t0_0 d = (inp m c).cs := before_in m c 5 (fetch0_5 _) d
theorem before_6 (c : Dev nD) (d) : (dat0 (F := F) m c).before 6 t0_0 d = (inp m c).sn := before_in m c 6 (fetch0_6 _) d

theorem one_in {s : Shape} {e : EltTy} (c : Dev nD) (a : Memref sig .tc .vmem s e) (b : (s.Idx → Elt F e) → s.Idx → Elt F e) (X : s.Idx → Elt F e) (h : ∀ d, b d = X) :
    iprop(∃ d, owns (c : Thread nD τ) a fullShare (b d)) ⊢ (owns (c : Thread nD τ) a fullShare X : sProp 𝕄) := by
  iintro ⟨%d, H⟩; rw [h d]; iexact H
theorem any_in {s : Shape} {e : EltTy} (c : Dev nD) (a : Memref sig .tc .vmem s e) (b : (s.Idx → Elt F e) → s.Idx → Elt F e) :
    iprop(∃ d, owns (c : Thread nD τ) a fullShare (b d)) ⊢ (∃ d, owns (c : Thread nD τ) a fullShare d : sProp 𝕄) := by
  iintro ⟨%d, H⟩; iexists _; iexact H

theorem in_0 (c : Dev nD) : iprop(∃ d, owns (c : Thread nD τ) ((cfg0.win 0).stage (cfg0.slots t0_0 0)) fullShare ((dat0 (F := F) m c).before 0 t0_0 d)) ⊢ (owns (c : Thread nD τ) (st0_0 t0_0) fullShare (inp m c).x : sProp 𝕄) :=
  one_in c (st0_0 t0_0) _ _ (before_0 m c)
theorem out_0 (c : Dev nD) : (owns (c : Thread nD τ) (st0_0 t0_0) fullShare (inp m c).x : sProp 𝕄) ⊢ owns (c : Thread nD τ) ((cfg0.win 0).stage (cfg0.slots t0_0 0)) fullShare ((dat0 (F := F) m c).after 0 t0_0) :=
  BIBase.Entails.of_eq rfl
theorem in_1 (c : Dev nD) : iprop(∃ d, owns (c : Thread nD τ) ((cfg0.win 1).stage (cfg0.slots t0_0 1)) fullShare ((dat0 (F := F) m c).before 1 t0_0 d)) ⊢ (owns (c : Thread nD τ) (st0_1 t0_0) fullShare (inp m c).wq : sProp 𝕄) :=
  one_in c (st0_1 t0_0) _ _ (before_1 m c)
theorem out_1 (c : Dev nD) : (owns (c : Thread nD τ) (st0_1 t0_0) fullShare (inp m c).wq : sProp 𝕄) ⊢ owns (c : Thread nD τ) ((cfg0.win 1).stage (cfg0.slots t0_0 1)) fullShare ((dat0 (F := F) m c).after 1 t0_0) :=
  BIBase.Entails.of_eq rfl
theorem in_2 (c : Dev nD) : iprop(∃ d, owns (c : Thread nD τ) ((cfg0.win 2).stage (cfg0.slots t0_0 2)) fullShare ((dat0 (F := F) m c).before 2 t0_0 d)) ⊢ (owns (c : Thread nD τ) (st0_2 t0_0) fullShare (inp m c).wk : sProp 𝕄) :=
  one_in c (st0_2 t0_0) _ _ (before_2 m c)
theorem out_2 (c : Dev nD) : (owns (c : Thread nD τ) (st0_2 t0_0) fullShare (inp m c).wk : sProp 𝕄) ⊢ owns (c : Thread nD τ) ((cfg0.win 2).stage (cfg0.slots t0_0 2)) fullShare ((dat0 (F := F) m c).after 2 t0_0) :=
  BIBase.Entails.of_eq rfl
theorem in_3 (c : Dev nD) : iprop(∃ d, owns (c : Thread nD τ) ((cfg0.win 3).stage (cfg0.slots t0_0 3)) fullShare ((dat0 (F := F) m c).before 3 t0_0 d)) ⊢ (owns (c : Thread nD τ) (st0_3 t0_0) fullShare (inp m c).wv : sProp 𝕄) :=
  one_in c (st0_3 t0_0) _ _ (before_3 m c)
theorem out_3 (c : Dev nD) : (owns (c : Thread nD τ) (st0_3 t0_0) fullShare (inp m c).wv : sProp 𝕄) ⊢ owns (c : Thread nD τ) ((cfg0.win 3).stage (cfg0.slots t0_0 3)) fullShare ((dat0 (F := F) m c).after 3 t0_0) :=
  BIBase.Entails.of_eq rfl
theorem in_4 (c : Dev nD) : iprop(∃ d, owns (c : Thread nD τ) ((cfg0.win 4).stage (cfg0.slots t0_0 4)) fullShare ((dat0 (F := F) m c).before 4 t0_0 d)) ⊢ (owns (c : Thread nD τ) (st0_4 t0_0) fullShare (inp m c).wo : sProp 𝕄) :=
  one_in c (st0_4 t0_0) _ _ (before_4 m c)
theorem out_4 (c : Dev nD) : (owns (c : Thread nD τ) (st0_4 t0_0) fullShare (inp m c).wo : sProp 𝕄) ⊢ owns (c : Thread nD τ) ((cfg0.win 4).stage (cfg0.slots t0_0 4)) fullShare ((dat0 (F := F) m c).after 4 t0_0) :=
  BIBase.Entails.of_eq rfl
theorem in_5 (c : Dev nD) : iprop(∃ d, owns (c : Thread nD τ) ((cfg0.win 5).stage (cfg0.slots t0_0 5)) fullShare ((dat0 (F := F) m c).before 5 t0_0 d)) ⊢ (owns (c : Thread nD τ) (st0_5 t0_0) fullShare (inp m c).cs : sProp 𝕄) :=
  one_in c (st0_5 t0_0) _ _ (before_5 m c)
theorem out_5 (c : Dev nD) : (owns (c : Thread nD τ) (st0_5 t0_0) fullShare (inp m c).cs : sProp 𝕄) ⊢ owns (c : Thread nD τ) ((cfg0.win 5).stage (cfg0.slots t0_0 5)) fullShare ((dat0 (F := F) m c).after 5 t0_0) :=
  BIBase.Entails.of_eq rfl
theorem in_6 (c : Dev nD) : iprop(∃ d, owns (c : Thread nD τ) ((cfg0.win 6).stage (cfg0.slots t0_0 6)) fullShare ((dat0 (F := F) m c).before 6 t0_0 d)) ⊢ (owns (c : Thread nD τ) (st0_6 t0_0) fullShare (inp m c).sn : sProp 𝕄) :=
  one_in c (st0_6 t0_0) _ _ (before_6 m c)
theorem out_6 (c : Dev nD) : (owns (c : Thread nD τ) (st0_6 t0_0) fullShare (inp m c).sn : sProp 𝕄) ⊢ owns (c : Thread nD τ) ((cfg0.win 6).stage (cfg0.slots t0_0 6)) fullShare ((dat0 (F := F) m c).after 6 t0_0) :=
  BIBase.Entails.of_eq rfl
theorem in_7 (c : Dev nD) : iprop(∃ d, owns (c : Thread nD τ) ((cfg0.win 7).stage (cfg0.slots t0_0 7)) fullShare ((dat0 (F := F) m c).before 7 t0_0 d)) ⊢ o7 (F := F) (st0_7 t0_0) c :=
  any_in c (st0_7 t0_0) ((dat0 (F := F) m c).before 7 t0_0)
theorem out_7 (c : Dev nD) : (owns (c : Thread nD τ) (st0_7 t0_0) fullShare (outv (inp m) c) : sProp 𝕄) ⊢ owns (c : Thread nD τ) ((cfg0.win 7).stage (cfg0.slots t0_0 7)) fullShare ((dat0 (F := F) m c).after 7 t0_0) :=
  BIBase.Entails.of_eq rfl

theorem mono8 {A0 A1 A2 A3 A4 A5 A6 A7 B0 B1 B2 B3 B4 B5 B6 B7 : sProp 𝕄} (h0 : A0 ⊢ B0) (h1 : A1 ⊢ B1) (h2 : A2 ⊢ B2) (h3 : A3 ⊢ B3) (h4 : A4 ⊢ B4)
    (h5 : A5 ⊢ B5) (h6 : A6 ⊢ B6) (h7 : A7 ⊢ B7) : iprop(A0 ∗ A1 ∗ A2 ∗ A3 ∗ A4 ∗ A5 ∗ A6 ∗ A7) ⊢ iprop(B0 ∗ B1 ∗ B2 ∗ B3 ∗ B4 ∗ B5 ∗ B6 ∗ B7) :=
  BI.sep_mono h0 (BI.sep_mono h1 (BI.sep_mono h2 (BI.sep_mono h3 (BI.sep_mono h4 (BI.sep_mono h5 (BI.sep_mono h6 h7))))))
theorem ungroup7 (H0 H1 H2 H3 H4 H5 H6 H7 : sProp 𝕄) :
    iprop((H0 ∗ H1 ∗ H2 ∗ H3 ∗ H4 ∗ H5 ∗ H6) ∗ H7) ⊢ iprop(H0 ∗ H1 ∗ H2 ∗ H3 ∗ H4 ∗ H5 ∗ H6 ∗ H7) := by
  iintro ⟨⟨H0, H1, H2, H3, H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem stage_in (c : Dev nD) :
    (bigSep Finset.univ fun w : Fin 8 => iprop(∃ d, owns (c : Thread nD τ) ((cfg0.win w).stage (cfg0.slots t0_0 w)) fullShare ((dat0 (F := F) m c).before w t0_0 d)))
      ⊢ iprop(ST (inp m) c (st0_0 t0_0) (st0_1 t0_0) (st0_2 t0_0) (st0_3 t0_0) (st0_4 t0_0) (st0_5 t0_0) (st0_6 t0_0) ∗ o7 (st0_7 t0_0) c) := by
  rw [bigSep_W0]
  unfold ST
  refine BIBase.Entails.trans (mono8 (in_0 m c) (in_1 m c) (in_2 m c) (in_3 m c) (in_4 m c) (in_5 m c) (in_6 m c) (in_7 m c)) ?_
  exact regroup7 _ _ _ _ _ _ _ _

theorem stage_out (c : Dev nD) :
    iprop(ST (inp m) c (st0_0 t0_0) (st0_1 t0_0) (st0_2 t0_0) (st0_3 t0_0) (st0_4 t0_0) (st0_5 t0_0) (st0_6 t0_0) ∗ owns (c : Thread nD τ) (st0_7 t0_0) fullShare (outv (inp m) c))
      ⊢ (bigSep Finset.univ fun w : Fin 8 => owns (c : Thread nD τ) ((cfg0.win w).stage (cfg0.slots t0_0 w)) fullShare ((dat0 (F := F) m c).after w t0_0)) := by
  rw [bigSep_W0]
  unfold ST
  refine BIBase.Entails.trans (ungroup7 _ _ _ _ _ _ _ _) ?_
  exact mono8 (out_0 m c) (out_1 m c) (out_2 m c) (out_3 m c) (out_4 m c) (out_5 m c) (out_6 m c) (out_7 m c)

/-- What the body leaves. -/
def Left (c : Dev nD) : sProp 𝕄 :=
  iprop(End (F := F) c ∗ ow (F := F) c 46
    ∗ (ST (inp m) c (st0_0 t0_0) (st0_1 t0_0) (st0_2 t0_0) (st0_3 t0_0) (st0_4 t0_0) (st0_5 t0_0) (st0_6 t0_0) ∗ owns (c : Thread nD τ) (st0_7 t0_0) fullShare (outv (inp m) c)))

set_option maxRecDepth 65536 in
theorem body_left (K : GSem nD τ sig → ℕ) (c : Dev nD) :
    iprop((ST (inp m) c (st0_0 t0_0) (st0_1 t0_0) (st0_2 t0_0) (st0_3 t0_0) (st0_4 t0_0) (st0_5 t0_0) (st0_6 t0_0) ∗ Q0 (F := F) c ∗ o7 (st0_7 t0_0) c)
      ∗ Pre (F := F) c ∗ ow (F := F) c 0 ∗ ctx (inp m) K) ⊢ WP c (bodyAt0 t0_0) (fun _ => Left m c) := by
  refine BIBase.Entails.trans ?_ (wp_fupd frame (wpE (defs₀ (F := F)) 𝒱₀ (c : Thread nD τ) none) Set.univ (bodyAt0 t0_0) (fun _ => Left m c))
  refine body_wp (inp m) K (st0_0 t0_0) (hstage0_0 0) (st0_1 t0_0) (hstage0_1 0) (st0_2 t0_0) (hstage0_2 0) (st0_3 t0_0) (hstage0_3 0) (st0_4 t0_0) (hstage0_4 0)
    (st0_5 t0_0) (hstage0_5 0) (st0_6 t0_0) (hstage0_6 0) (st0_7 t0_0) (hstage0_7 0) c ?_
  unfold Left
  iintro ⟨⟨HQ, HST, HXD, HB, H7⟩, HSE, HO, #HX⟩
  imod (finish (inp m) K c (av (inp m) (14 + 1) c)) $$ [HQ HXD HB HSE] with HE
  · isplitr; · iexact HX
    isplitl [HQ]; · iexact HQ
    isplitl [HXD]; · iexact HXD
    isplitl [HB]; · iexact HB
    iexact HSE
  imodintro
  isplitl [HE]; · iexact HE
  isplitl [HO]; · iexact HO
  isplitl [HST]; · iexact HST
  iexact H7

set_option maxRecDepth 65536 in
theorem body0 (c : Dev nD) : BodyObligation (dat0 (F := F) m c) defs₀ 𝒱₀ 0 Set.univ := fun t => by
  obtain rfl := fin_N0 t
  rw [show (dat0 m c).Φ t0_0.castSucc = iprop(Xk (inp m) c ∗ scopedRest spec0 c ∗ ∃ r, prngReg c r) from rfl,
    show (dat0 m c).Φ t0_0.succ = iprop(End (F := F) c ∗ ∃ r, prngReg c r) from rfl]
  unfold Xk
  iintro ⟨⟨⟨%K, ⟨Hhi, Hop, Htk⟩, #HX⟩, Hrest, Hp⟩, HO, HST⟩
  ihave HO := (owes_in m c) $$ HO
  ihave HST := (stage_in m c) $$ HST
  icases HST with ⟨HST, H7⟩
  ihave Hrest := (bufs_in c) $$ Hrest
  icases Hrest with ⟨Hm, HQ⟩
  iapply (wp_wand_r frame (wpE (defs₀ (F := F)) 𝒱₀ (c : Thread nD τ) none) Set.univ (Q := fun _ => Left m c))
  isplitr [Hp]
  · iapply (body_left m K c)
    isplitl [HST HQ H7]
    · isplitl [HST]; · iexact HST
      isplitl [HQ]; · iexact HQ
      iexact H7
    isplitl [Hhi Hop Htk Hm]
    · unfold Pre
      isplitl [Hhi]; · iexact Hhi
      isplitl [Hop]; · iexact Hop
      isplitl [Htk]; · iexact Htk
      iexact Hm
    isplitl [HO]; · iexact HO
    iexact HX
  unfold Left
  iintro %a ⟨HE, HO, HST⟩
  isplitl [HE Hp]
  · isplitl [HE]; · iexact HE
    iexact Hp
  isplitl [HO]; · iapply (owes_out m c); iexact HO
  iapply (stage_out m c); iexact HST

end Cert.KernelIdeal.Ring
-- ==== Proof.KernelIdeal.Credit.lean ====
/-
What the launch hands a device: the credit for every payment meant for it.
-/
module

public import Idealize.SL.BI.BigOpNat
public import proofs.«01_k».proof.Proof.KernelIdeal.Own

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

/-- Whom the `k`-th payment goes to, which counter, which index, how much: the counter, index and amount are the same for every device. -/
def dueS (k : ℕ) : SemLoc sig := (due 0 k).1.2
def dueU (k : ℕ) : ℕ := (due 0 k).2.1
def dueN (k : ℕ) : ℕ := (due 0 k).2.2
def toR (k : ℕ) : Prop := ¬ k = 0 ∧ (k = 1 ∨ (k < 17 ∧ k % 2 = 0) ∨ (¬ k < 17 ∧ k % 2 = 1))
instance (k : ℕ) : Decidable (toR k) := by unfold toR; infer_instance

theorem due_form (d : Dev nD) (k : ℕ) :
    due d k = ((((if toR k then nxt d else prv d : Dev nD) : Thread nD τ), dueS k), dueU k, dueN k) := by
  unfold dueS dueU dueN due toR
  by_cases h0 : k = 0
  · simp [h0, barG]
  by_cases h1 : k = 1
  · simp [h1, barG]
  by_cases h2 : k < 17
  · by_cases h3 : k % 2 = 0 <;> simp [h0, h1, h2, h3, agR]
  · by_cases h3 : k % 2 = 1 <;> simp [h0, h1, h2, h3, rsR, crG]

/-- Over all the devices, the `k`-th payments reach every device once. -/
theorem due_sum (c : Dev nD) (sm : SemLoc sig) (u k : ℕ) :
    (∑ d : Dev nD, dueT d k ((c : Thread nD τ), sm) u) = if sm = dueS k ∧ u = dueU k then dueN k else 0 := by
  have h : ∀ d : Dev nD, dueT d k ((c : Thread nD τ), sm) u
      = if d = (if toR k then prv c else nxt c) then (if sm = dueS k ∧ u = dueU k then dueN k else 0) else 0 := by
    intro d
    unfold dueT
    rw [due_form d k, tallyAt_apply]
    have e : (c = if toR k then nxt d else prv d) ↔ (d = if toR k then prv c else nxt c) := by
      split_ifs <;> constructor <;> intro h <;> subst h <;> simp only [nxt_prv, prv_nxt]
    have e' : ((((c : Thread nD τ), sm) = (((if toR k then nxt d else prv d : Dev nD) : Thread nD τ), dueS k)) ∧ u = dueU k)
        ↔ (d = if toR k then prv c else nxt c) ∧ (sm = dueS k ∧ u = dueU k) := by
      rw [← e]
      constructor
      · rintro ⟨h, hu⟩
        exact ⟨congrArg (fun g : GSem nD τ sig => g.1.1) h, congrArg (fun g : GSem nD τ sig => g.2) h, hu⟩
      · rintro ⟨h, hs, hu⟩
        exact ⟨by rw [← h, ← hs], hu⟩
    dsimp only
    by_cases hd : d = if toR k then prv c else nxt c
    · rw [if_pos hd]
      by_cases hr : sm = dueS k ∧ u = dueU k
      · rw [if_pos hr, if_pos (e'.mpr ⟨hd, hr⟩)]
      · rw [if_neg hr, if_neg fun hh => hr (e'.mp hh).2]
    · rw [if_neg hd, if_neg fun hh => hd (e'.mp hh).1]
  rw [Finset.sum_congr rfl fun d _ => h d, Finset.sum_ite_eq' Finset.univ _ _, if_pos (Finset.mem_univ _)]

/-- The launch credit of one counter of one device: the payments meant for it. -/
theorem credit_at (c : Dev nD) (sm : SemLoc sig) (u : ℕ) :
    launchCredit (Pipeline.owing fun d => owed d 0) 0 ((c : Thread nD τ), sm) u
      = ∑ k ∈ Finset.range 46, if sm = dueS k ∧ u = dueU k then dueN k else 0 := by
  rw [Pipeline.launchCredit_owing, ← Finset.sum_congr rfl fun k _ => due_sum c sm u k, Finset.sum_comm]
  refine Finset.sum_congr rfl fun d _ => ?_
  unfold owed
  rw [Finset.sum_apply, Finsupp.finset_sum_apply, Finset.range_eq_Ico]

theorem dueS_bar (k : Fin 46) (h : SemLoc.reg 1 = dueS k.val) : k.val < 2 := by revert k; decide
theorem dueS_cr (k : Fin 46) (h : SemLoc.reg 0 = dueS k.val) : k.val = 18 + 2 * dueU k.val := by revert k; decide
def kAg (i : ℕ) : ℕ := if i < 8 then 2 + 2 * i else 3 + 2 * (i - 8)
set_option maxRecDepth 100000 in
theorem dueS_ag : ∀ (i : Fin 15) (k : Fin 46), SemLoc.dma (dmaAt (23 + i.val)) = dueS k.val → k.val = kAg i.val := by decide +kernel
set_option maxRecDepth 100000 in
theorem dueS_rs : ∀ (i : Fin 15) (k : Fin 46), SemLoc.dma (dmaAt (53 + i.val)) = dueS k.val → k.val = 17 + 2 * i.val := by decide +kernel
theorem ag_due : ∀ i : Fin 15, dueS (kAg i.val) = SemLoc.dma (dmaAt (23 + i.val)) ∧ dueU (kAg i.val) = 0 ∧ kAg i.val < 46 := by decide
theorem rs_due : ∀ i : Fin 15, dueS (17 + 2 * i.val) = SemLoc.dma (dmaAt (53 + i.val)) ∧ dueU (17 + 2 * i.val) = 0 := by decide
theorem cr_due : ∀ s : Fin 14, dueS (18 + 2 * s.val) = SemLoc.reg 0 ∧ dueU (18 + 2 * s.val) = s.val ∧ dueN (18 + 2 * s.val) = 1 := by decide
theorem ag_dueN (i : Fin 15) : dueN (kAg i.val) = N := by
  unfold dueN due kAg
  by_cases h : i.val < 8
  · rw [if_pos h, if_neg (by omega), if_neg (by omega), if_pos (by omega), if_pos (by omega)]
  · have := i.isLt
    rw [if_neg h, if_neg (by omega), if_neg (by omega), if_pos (by omega), if_neg (by omega)]
theorem rs_dueN (i : Fin 15) : dueN (17 + 2 * i.val) = N := by
  unfold dueN due
  rw [if_neg (by omega), if_neg (by omega), if_neg (by omega), if_pos (by omega)]

theorem tally_of (c : Dev nD) (sm : SemLoc sig) (f : ℕ →₀ ℕ) (u n : ℕ) (h : ∀ v, f v = if v = u then n else 0) :
    (tallyOn ((c : Thread nD τ), sm) f : CellTallies nD τ sig ℕ) = tallyAt ((c : Thread nD τ), sm) u n := by
  unfold tallyAt
  refine congrArg _ (Finsupp.ext fun v => ?_)
  rw [h v, Finsupp.single_apply]
  by_cases hv : v = u
  · rw [if_pos hv, if_pos hv.symm]
  · rw [if_neg hv, if_neg (Ne.symm hv)]

/-- A counter that one payment is meant for. -/
theorem credit_one (c : Dev nD) (sm : SemLoc sig) (k₀ : ℕ) (hk : k₀ < 46) (hs : dueS k₀ = sm) (hu : dueU k₀ = 0) (hn : dueN k₀ = N)
    (h : ∀ k : Fin 46, sm = dueS k.val → k.val = k₀) :
    (tallyOn ((c : Thread nD τ), sm) (launchCredit (Pipeline.owing fun d => owed d 0) 0 ((c : Thread nD τ), sm)) : CellTallies nD τ sig ℕ)
      = tallyAt ((c : Thread nD τ), sm) 0 N := by
  refine tally_of c sm _ 0 N fun v => ?_
  rw [credit_at, Finset.sum_eq_single k₀]
  · rw [hs, hu, hn]; by_cases hv : v = 0
    · rw [if_pos hv, if_pos ⟨rfl, hv⟩]
    · rw [if_neg hv, if_neg fun hh => hv hh.2]
  · intro k hk hne
    exact if_neg fun hh => hne (h ⟨k, Finset.mem_range.mp hk⟩ hh.1)
  · intro hh; exact absurd (Finset.mem_range.mpr hk) hh

theorem credit_bar (c : Dev nD) :
    (tallyOn ((c : Thread nD τ), .reg 1) (launchCredit (Pipeline.owing fun d => owed d 0) 0 ((c : Thread nD τ), .reg 1)) : CellTallies nD τ sig ℕ)
      = tallyAt (barG c) 0 2 := by
  refine tally_of c (.reg 1) _ 0 2 fun v => ?_
  rw [credit_at, ← Finset.sum_subset (Finset.range_mono (show 2 ≤ 46 by omega)), Finset.sum_range_succ, Finset.sum_range_one]
  · show (if SemLoc.reg 1 = SemLoc.reg 1 ∧ v = 0 then 1 else 0) + (if SemLoc.reg 1 = SemLoc.reg 1 ∧ v = 0 then 1 else 0) = _
    by_cases hv : v = 0 <;> simp [hv]
  · intro k hk hne
    exact if_neg fun hh => hne (Finset.mem_range.mpr (dueS_bar ⟨k, Finset.mem_range.mp hk⟩ hh.1))

theorem cred_sum (T : ℕ → CellTallies nD τ sig ℕ) : ∀ n : ℕ,
    (cred (∑ s ∈ Finset.range n, T s) : sProp 𝕄) = bigSep (Finset.range n) fun s => cred (T s)
  | 0 => by rw [Finset.sum_range_zero, Finset.range_zero, bigSep_empty]; exact cred_zero
  | n + 1 => by
    rw [Finset.sum_range_succ, bigSep_range_succ, ← cred_sum T n, add_comm]
    exact BI.equiv_iff.mp ⟨(cred_add _ _).1, (cred_add _ _).2⟩

theorem credit_cr (c : Dev nD) :
    (tallyOn ((c : Thread nD τ), .reg 0) (launchCredit (Pipeline.owing fun d => owed d 0) 0 ((c : Thread nD τ), .reg 0)) : CellTallies nD τ sig ℕ)
      = ∑ s ∈ Finset.range 14, tallyAt (crG c) s 1 := by
  funext g
  refine Finsupp.ext fun v => ?_
  rw [Finset.sum_apply, Finsupp.finset_sum_apply]
  by_cases hg : g = crG c
  · subst hg
    show (tallyOn (crG c) _ : CellTallies nD τ sig ℕ) (crG c) v = _
    rw [tallyOn_self]
    show launchCredit (Pipeline.owing fun d => owed d 0) 0 ((c : Thread nD τ), .reg 0) v = _
    rw [credit_at]
    by_cases hv : v < 14
    · rw [Finset.sum_eq_single (18 + 2 * v), Finset.sum_eq_single (M := ℕ) (s := Finset.range 14) v]
      · obtain ⟨h1, h2, h3⟩ := cr_due ⟨v, hv⟩
        dsimp only at h1 h2 h3
        rw [h1, h2, h3, if_pos ⟨rfl, rfl⟩, tallyAt_apply, if_pos ⟨rfl, rfl⟩]
      · intro s _ hne; rw [tallyAt_apply]; exact if_neg fun hh => hne hh.2.symm
      · intro hh; exact absurd (Finset.mem_range.mpr hv) hh
      · intro k hk hne
        refine if_neg fun hh => hne ?_
        have := dueS_cr ⟨k, Finset.mem_range.mp hk⟩ hh.1
        dsimp only at this
        rw [this, ← hh.2]
      · intro hh; exact absurd (Finset.mem_range.mpr (by omega)) hh
    · rw [Finset.sum_eq_zero, Finset.sum_eq_zero (s := Finset.range 14)]
      · intro s hs; rw [tallyAt_apply]; rw [if_neg]; rintro ⟨-, h⟩; exact hv (h ▸ Finset.mem_range.mp hs)
      · intro k hk
        rw [if_neg]
        intro hh
        refine hv ?_
        have h1 := dueS_cr ⟨k, Finset.mem_range.mp hk⟩ hh.1
        dsimp only at h1
        have h2 := Finset.mem_range.mp hk
        have h3 := hh.2
        omega
  · rw [tallyOn_ne (by exact hg), Finset.sum_eq_zero]
    · rfl
    · intro s _; rw [tallyAt_apply]; exact if_neg fun hh => hg hh.1

theorem osem_inj : Function.Injective osem := by decide
theorem osem_ne_bar : ∀ k : Fin 61, osem k ≠ .reg 1 := by decide

theorem drop2 (B C S A T R : sProp 𝕄) : iprop(B ∗ C ∗ S ∗ A ∗ T ∗ R) ⊢ iprop(B ∗ C ∗ A ∗ R) := by
  iintro ⟨Hb, Hc, -, Ha, -, Hr⟩
  isplitl [Hb]; · iexact Hb
  isplitl [Hc]; · iexact Hc
  isplitl [Ha]; · iexact Ha
  iexact Hr

/-- The launch credit of a device, as its code uses it. -/
theorem launch_creds (c : Dev nD) : (Pipeline.launchCred (fun d => owed d 0) c : sProp 𝕄) ⊢ creds c := by
  unfold Pipeline.launchCred
  rw [bigSep_univ_at _ (SemLoc.reg 1 : SemLoc sig)]
  have hsub : (Finset.univ.map ⟨osem, osem_inj⟩ : Finset (SemLoc sig)) ⊆ Finset.univ.erase (SemLoc.reg 1) := by
    intro sm hsm
    obtain ⟨k, -, rfl⟩ := Finset.mem_map.mp hsm
    exact Finset.mem_erase.mpr ⟨osem_ne_bar k, Finset.mem_univ _⟩
  refine (BI.sep_mono (BIBase.Entails.of_eq (congrArg (fun T : CellTallies nD τ sig ℕ => (cred T : sProp 𝕄)) (credit_bar c))) (bigSep_subset hsub)).trans ?_
  rw [bigSep_map]
  have h5 := own5 (F := F) c fun g => iprop(cred (tallyOn g (launchCredit (Pipeline.owing fun d => owed d 0) 0 g)))
  have h5' : (bigSep Finset.univ fun k : Fin 61 => (cred (tallyOn (((c.tc : Thread nD τ)), osem k)
      (launchCredit (Pipeline.owing fun d => owed d 0) 0 ((c.tc : Thread nD τ), osem k))) : sProp 𝕄)) = _ := h5
  refine (BI.sep_mono (BI.Entails.refl _) (BIBase.Entails.of_eq h5')).trans ?_
  unfold creds
  rw [show (cred (tallyOn (crG c) (launchCredit (Pipeline.owing fun d => owed d 0) 0 (crG c))) : sProp 𝕄)
      = bigSep (Finset.range 14) fun s => cred (tallyAt (crG c) s 1) from (congrArg _ (credit_cr c)).trans (cred_sum _ 14)]
  rw [bigSep_congr (s := Finset.range 15) (Φ := fun i => cred (tallyOn (agR c i) (launchCredit (Pipeline.owing fun d => owed d 0) 0 (agR c i))))
      (Ψ := fun i => (cred (tallyAt (agR c i) 0 N) : sProp 𝕄)) fun i hi => by
        have hi := Finset.mem_range.mp hi
        obtain ⟨h1, h2, h3⟩ := ag_due ⟨i, hi⟩
        exact congrArg _ (credit_one c _ (kAg i) h3 h1 h2 (ag_dueN ⟨i, hi⟩) (dueS_ag ⟨i, hi⟩)),
    bigSep_congr (s := Finset.range 15) (Φ := fun i => cred (tallyOn (rsR c i) (launchCredit (Pipeline.owing fun d => owed d 0) 0 (rsR c i))))
      (Ψ := fun i => (cred (tallyAt (rsR c i) 0 N) : sProp 𝕄)) fun i hi => by
        have hi := Finset.mem_range.mp hi
        obtain ⟨h1, h2⟩ := rs_due ⟨i, hi⟩
        exact congrArg _ (credit_one c _ (17 + 2 * i) (by omega) h1 h2 (rs_dueN ⟨i, hi⟩) (dueS_rs ⟨i, hi⟩))]
  exact drop2 _ _ _ _ _ _

end Cert.KernelIdeal.Ring
-- ==== Proof.KernelIdeal.Launch.lean ====
/-
The launch: the records of all the counters, and who holds which token at the start.
-/
module

public import Idealize.SL.BI.BigOpNat
public import proofs.«01_k».proof.Proof.Gen.KernelIdeal.Regions
public import Idealize.ShloMosaic.Lib.Pipeline.RegionTalk
public import proofs.«01_k».proof.Proof.KernelIdeal.Credit

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (I : Dev nD → In F)

/-! ## The tokens -/

/-- The `n`-th token of a device: the counter and the round; the duty is `true` for the right-hand greeting alone. -/
def tkS (n : ℕ) : SemLoc sig := if n < 2 then .reg 1 else if n < 16 then .reg 0 else .dma (dmaAt (8 + (n - 16)))
def tkR (n : ℕ) : ℕ := if n < 2 then 0 else if n < 16 then n - 2 else 0
def tkD (n : ℕ) : Bool := decide (n = 1)
set_option maxRecDepth 100000 in
theorem tk_inj : ∀ a b : Fin 76, tkS a.val = tkS b.val → tkR a.val = tkR b.val → tkD a.val = tkD b.val → a = b := by decide +kernel

def barEmb : Dev nD ↪ GSem nD τ sig := ⟨fun c => barG c, fun _ _ h => congrArg (fun g : GSem nD τ sig => g.1.1) h⟩
def scEmb : Dev nD × Fin 61 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb
def ringToks : Finset (GSem nD τ sig × ℕ × Bool) :=
  Finset.univ.map ⟨fun ck : Dev nD × Fin 76 => (((ck.1 : Thread nD τ), tkS ck.2.val), tkR ck.2.val, tkD ck.2.val), fun _ _ h =>
    Prod.ext (congrArg (fun t : GSem nD τ sig × ℕ × Bool => t.1.1.1) h)
      (tk_inj _ _ (congrArg (fun t : GSem nD τ sig × ℕ × Bool => t.1.2) h) (congrArg (fun t : GSem nD τ sig × ℕ × Bool => t.2.1) h)
        (congrArg (fun t : GSem nD τ sig × ℕ × Bool => t.2.2) h))⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem cellAt_inj : Function.Injective cellAt := by decide +kernel
def allEmb : Dev nD × Fin 62 ↪ GSem nD τ sig :=
  ⟨cellOf', fun _ _ h => Prod.ext (congrArg (fun g : GSem nD τ sig => g.1.1) h) (cellAt_inj (congrArg Prod.snd h))⟩

theorem all_sub : (Finset.univ.map allEmb : Finset (GSem nD τ sig)) ⊆ barCells ∪ scCells := by
  intro g hg
  obtain ⟨⟨c, j⟩, -, rfl⟩ := Finset.mem_map.mp hg
  by_cases hj : j.val = 0
  · obtain rfl : j = 0 := Fin.ext hj
    exact Finset.mem_union_left _ (Finset.mem_map_of_mem barEmb (Finset.mem_univ c))
  · have h := Finset.mem_map_of_mem scEmb (Finset.mem_univ (c, (⟨j.val - 1, by omega⟩ : Fin 61)))
    have e : scEmb (c, (⟨j.val - 1, by omega⟩ : Fin 61)) = allEmb (c, j) := by
      show ((c : Thread nD τ), cellAt ⟨j.val - 1 + 1, _⟩) = ((c : Thread nD τ), cellAt j)
      congr 2; exact Fin.ext (by show j.val - 1 + 1 = j.val; omega)
    exact Finset.mem_union_right _ (e ▸ h)

theorem inv_all (κ : GSem nD τ sig → ℕ) : (bigSep (barCells ∪ scCells) fun g => (cellInv ER (Rd I) (κ g) g : sProp 𝕄)) ⊢ invAll I κ := by
  refine BIBase.Entails.trans (bigSep_subset all_sub) ?_
  rw [bigSep_map]
  exact BI.Entails.refl _

/-- The records every device may consult. -/
def records (κ : GSem nD τ sig → ℕ) : sProp 𝕄 :=
  iprop((bigSep (barCells ∪ scCells) fun g => cellInv ER (Rd I) (κ g) g) ∗ bigSep barCells fun g => reached ER g 0)
instance records_persistent (κ : GSem nD τ sig → ℕ) : BI.Persistent (records I κ) := by unfold records; infer_instance

theorem reached_at (c : Dev nD) : (bigSep barCells fun g => (reached ER g 0 : sProp 𝕄)) ⊢ reached ER (barG c) 0 :=
  bigSep_elim (Finset.mem_map_of_mem barEmb (Finset.mem_univ c))

/-- The tokens of the duties on a device's own counters. -/
def toksOn (c : Dev nD) : sProp 𝕄 :=
  iprop(dutyTok ER (barG c) 0 false ∗ dutyTok ER (barG c) 0 true
    ∗ bigSep (Finset.range 14) (fun s => dutyTok ER (crG c) s false)
    ∗ bigSep (Finset.range 15) (fun i => dutyTok ER (agS c i) 0 false)
    ∗ bigSep (Finset.range 8) (fun i => dutyTok ER (agR c i) 0 false) ∗ bigSep (Finset.range 7) (fun i => dutyTok ER (agR c (8 + i)) 0 false)
    ∗ bigSep (Finset.range 15) (fun s => dutyTok ER (rsS c s) 0 false) ∗ bigSep (Finset.range 15) (fun s => dutyTok ER (rsR c s) 0 false))

/-- The `n`-th token of device `c`. -/
def tk (c : Dev nD) (n : ℕ) : sProp 𝕄 := dutyTok ER ((c : Thread nD τ), tkS n) (tkR n) (tkD n)

theorem tok_at (c : Dev nD) (n : ℕ) (sm : SemLoc sig) (r : ℕ) (d : Bool) (h1 : tkS n = sm) (h2 : tkR n = r) (h3 : tkD n = d) :
    (tk c n : sProp 𝕄) = dutyTok ER ((c : Thread nD τ), sm) r d := by unfold tk; rw [h1, h2, h3]

theorem tok_dma (c : Dev nD) (n j : ℕ) (h : 16 ≤ n) (hj : 8 + (n - 16) = j) :
    (tk c n : sProp 𝕄) = dutyTok ER ((c : Thread nD τ), .dma (dmaAt j)) 0 false := by
  subst hj
  refine tok_at c n _ _ _ ?_ ?_ ?_
  · unfold tkS; rw [if_neg (by omega), if_neg (by omega)]
  · unfold tkR; rw [if_neg (by omega), if_neg (by omega)]
  · unfold tkD; exact decide_eq_false (by omega)

theorem tk_cr (c : Dev nD) : (bigSep (Finset.range 14) fun s => (tk c (2 + s) : sProp 𝕄)) = bigSep (Finset.range 14) fun s => dutyTok ER (crG c) s false :=
  bigSep_congr fun s hs => tok_at c (2 + s) _ _ _
      (by have := Finset.mem_range.mp hs; unfold tkS; rw [if_neg (by omega), if_pos (by omega)])
      (by have := Finset.mem_range.mp hs; unfold tkR; rw [if_neg (by omega), if_pos (by omega)]; omega)
      (by unfold tkD; exact decide_eq_false (by omega))
theorem tk_agS (c : Dev nD) : (bigSep (Finset.range 15) fun i => (tk c (16 + i) : sProp 𝕄)) = bigSep (Finset.range 15) fun i => dutyTok ER (agS c i) 0 false :=
  bigSep_congr fun i _ => tok_dma c _ (8 + i) (by omega) (by omega)
theorem tk_agR (c : Dev nD) : (bigSep (Finset.range 8) fun i => (tk c (31 + i) : sProp 𝕄)) = bigSep (Finset.range 8) fun i => dutyTok ER (agR c i) 0 false :=
  bigSep_congr fun i _ => tok_dma c _ (23 + i) (by omega) (by omega)
theorem tk_agL (c : Dev nD) : (bigSep (Finset.range 7) fun i => (tk c (39 + i) : sProp 𝕄)) = bigSep (Finset.range 7) fun i => dutyTok ER (agR c (8 + i)) 0 false :=
  bigSep_congr fun i _ => tok_dma c _ (23 + (8 + i)) (by omega) (by omega)
theorem tk_rsS (c : Dev nD) : (bigSep (Finset.range 15) fun i => (tk c (46 + i) : sProp 𝕄)) = bigSep (Finset.range 15) fun i => dutyTok ER (rsS c i) 0 false :=
  bigSep_congr fun i _ => tok_dma c _ (38 + i) (by omega) (by omega)
theorem tk_rsR (c : Dev nD) : (bigSep (Finset.range 15) fun i => (tk c (61 + i) : sProp 𝕄)) = bigSep (Finset.range 15) fun i => dutyTok ER (rsR c i) 0 false :=
  bigSep_congr fun i _ => tok_dma c _ (53 + i) (by omega) (by omega)

theorem toks_fwd (T0 T1 T2 T3 T4 T5 T6 T7 : sProp 𝕄) : iprop(((((((T1 ∗ T0 ∗ emp) ∗ T2) ∗ T3) ∗ T4) ∗ T5) ∗ T6) ∗ T7) ⊢ iprop(T0 ∗ T1 ∗ T2 ∗ T3 ∗ T4 ∗ T5 ∗ T6 ∗ T7) := by
  iintro ⟨⟨⟨⟨⟨⟨⟨H1, H0, -⟩, H2⟩, H3⟩, H4⟩, H5⟩, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7
theorem toks_bwd (T0 T1 T2 T3 T4 T5 T6 T7 : sProp 𝕄) : iprop(T0 ∗ T1 ∗ T2 ∗ T3 ∗ T4 ∗ T5 ∗ T6 ∗ T7) ⊢ iprop(((((((T1 ∗ T0 ∗ emp) ∗ T2) ∗ T3) ∗ T4) ∗ T5) ∗ T6) ∗ T7) := by
  iintro ⟨H0, H1, H2, H3, H4, H5, H6, H7⟩
  isplitr [H7]; swap; · iexact H7
  isplitr [H6]; swap; · iexact H6
  isplitr [H5]; swap; · iexact H5
  isplitr [H4]; swap; · iexact H4
  isplitr [H3]; swap; · iexact H3
  isplitr [H2]; swap; · iexact H2
  isplitl [H1]; · iexact H1
  isplitl [H0]; · iexact H0
  iempintro

theorem range76 (A : ℕ → sProp 𝕄) : bigSep (Finset.range 76) A = iprop(A 0 ∗ A 1
    ∗ bigSep (Finset.range 14) (fun i => A (2 + i)) ∗ bigSep (Finset.range 15) (fun i => A (16 + i)) ∗ bigSep (Finset.range 8) (fun i => A (31 + i))
    ∗ bigSep (Finset.range 7) (fun i => A (39 + i)) ∗ bigSep (Finset.range 15) (fun i => A (46 + i)) ∗ bigSep (Finset.range 15) (fun i => A (61 + i))) := by
  rw [show (76 : ℕ) = 61 + 15 from rfl, range_add 61 15, show (61 : ℕ) = 46 + 15 from rfl, range_add 46 15, show (46 : ℕ) = 39 + 7 from rfl, range_add 39 7,
    show (39 : ℕ) = 31 + 8 from rfl, range_add 31 8, show (31 : ℕ) = 16 + 15 from rfl, range_add 16 15, show (16 : ℕ) = 2 + 14 from rfl, range_add 2 14,
    show (2 : ℕ) = 0 + 1 + 1 from rfl, bigSep_range_succ, bigSep_range_succ, Finset.range_zero, bigSep_empty]
  apply BI.equiv_iff.mp
  constructor
  · exact toks_fwd (F := F) _ _ _ _ _ _ _ _
  · exact toks_bwd (F := F) _ _ _ _ _ _ _ _

theorem toks_dev (c : Dev nD) : (bigSep Finset.univ fun k : Fin 76 => (tk c k.val : sProp 𝕄)) = toksOn c := by
  rw [fin_range (tk (F := F) c), range76, tk_cr, tk_agS, tk_agR, tk_agL, tk_rsS, tk_rsR]
  unfold toksOn
  rw [tok_at c 0 (.reg 1) 0 false rfl rfl rfl, tok_at c 1 (.reg 1) 0 true rfl rfl rfl]

theorem toks_eq : bigSep ringToks (fun x => (dutyTok ER x.1 x.2.1 x.2.2 : sProp 𝕄)) = bigSep Finset.univ fun c : Dev nD => toksOn c := by
  unfold ringToks; rw [bigSep_map, bigSep_univ_prod]
  exact bigSep_congr fun c _ => toks_dev c

def toPrv : Dev nD ≃ Dev nD := ⟨prv, nxt, nxt_prv, prv_nxt⟩
def toNxt : Dev nD ≃ Dev nD := ⟨nxt, prv, prv_nxt, nxt_prv⟩
theorem at_prv (A : Dev nD → sProp 𝕄) : bigSep Finset.univ A = bigSep Finset.univ fun c : Dev nD => A (prv c) := bigSep_univ_equiv toPrv A
theorem at_nxt (A : Dev nD → sProp 𝕄) : bigSep Finset.univ A = bigSep Finset.univ fun c : Dev nD => A (nxt c) := bigSep_univ_equiv toNxt A

/-- Every token to the device that pays its duty. -/
theorem toks_around : (bigSep Finset.univ fun c : Dev nD => (toksOn c : sProp 𝕄)) ⊢ bigSep Finset.univ fun c : Dev nD => pays c := by
  unfold toksOn pays
  simp only [bigSep_sep']
  rw [at_prv fun c => (dutyTok ER (barG c) 0 false : sProp 𝕄), at_nxt fun c => (dutyTok ER (barG c) 0 true : sProp 𝕄),
    at_prv fun c => (bigSep (Finset.range 14) fun s => dutyTok ER (crG c) s false : sProp 𝕄),
    at_nxt fun c => (bigSep (Finset.range 8) fun i => dutyTok ER (agR c i) 0 false : sProp 𝕄),
    at_prv fun c => (bigSep (Finset.range 7) fun i => dutyTok ER (agR c (8 + i)) 0 false : sProp 𝕄),
    at_nxt fun c => (bigSep (Finset.range 15) fun s => dutyTok ER (rsR c s) 0 false : sProp 𝕄)]

/-! ## The launch element and what it funds -/

def u₀ : UU :=
  (initOf (Pipeline.cells (Pipeline.pin (pcfgs (F := F)) adm) cellOf_inj) (Pipeline.launchToks (Pipeline.pin (pcfgs (F := F)) adm) cellOf_inj),
    launchOf barCells scCells ringToks)

/-- A resource held by one device, nothing by the others. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact sep_e X

def G : Dev nD → sProp 𝕄 := onDev 0 (BI.own (ER (launchOf barCells scCells ringToks)))

theorem G_own : bigSep Finset.univ (G (F := F)) ⊢ BI.own (ER (launchOf barCells scCells ringToks)) :=
  BIBase.Entails.of_eq (bigSep_onDev (F := F) 0 _)

/-- What stays with device `c`. -/
def linear (c : Dev nD) : sProp 𝕄 :=
  iprop(atPos ER (barG c) 0 ∅ 0 ∗ bigSep Finset.univ (fun k : Fin 61 => openTok ER ((c : Thread nD τ), osem k)) ∗ pays (F := F) c)

theorem ghost_intro (κ : GSem nD τ sig → ℕ) (c : Dev nD) : iprop(records I κ ∗ linear c ∗ creds c) ⊢ Tk I c := by
  unfold records linear Tk ghost
  iintro ⟨⟨#HI, #HR⟩, ⟨Ha, Ho, Hp⟩, Hc⟩
  iexists κ
  isplitr; · iapply (inv_all I κ); iexact HI
  isplitr
  · isplitr; · iapply (reached_at (F := F) (prv c)); iexact HR
    iapply (reached_at (F := F) (nxt c)); iexact HR
  isplitl [Ha]; · iexact Ha
  isplitl [Ho]; · iexact Ho
  isplitl [Hp]; · iexact Hp
  iexact Hc

/-- What every device has when its code starts: its buffers, its share of the protocol, its debts. -/
def T₀ (Hd : Dev nD → sProp 𝕄) (c : Dev nD) : sProp 𝕄 := iprop(Hd c ∗ Tk I c ∗ (∃ r, prngReg c r) ∗ ∃ W, owes (c : Thread nD τ) (owed c 0) W)
def bundle (Hd : Dev nD → sProp 𝕄) (c : Dev nD) : sProp 𝕄 := iprop(Hd c ∗ creds c ∗ owes (c : Thread nD τ) (owed c 0) ∅ ∗ ∃ r, prngReg c r)

theorem T₀_intro (Hd : Dev nD → sProp 𝕄) (κ : GSem nD τ sig → ℕ) (c : Dev nD) : iprop(records I κ ∗ (linear c ∗ bundle Hd c)) ⊢ T₀ I Hd c := by
  unfold bundle T₀
  iintro ⟨#HR, Hl, Hh, Hc, HO, Hp⟩
  isplitl [Hh]; · iexact Hh
  isplitl [Hl Hc]
  · iapply (ghost_intro I κ c)
    isplitr; · iexact HR
    isplitl [Hl] <;> iassumption
  isplitl [Hp]; · iexact Hp
  iexists ∅; iexact HO

theorem sems0_eq (c : Dev nD) : (unscopedSems0 c : sProp 𝕄) = semVal (barG c) 0 := by
  unfold unscopedSems0
  rw [show (Finset.univ.filter fun sm : SemLoc sig => ¬ sm.isScoped .tc) = {SemLoc.reg 1} from by decide, bigSep_singleton]

theorem un_pair (A B : Dev nD → sProp 𝕄) : (bigSep Finset.univ fun c : Dev nD => iprop(A c ∗ B c)) ⊢ iprop(bigSep Finset.univ A ∗ bigSep Finset.univ B) :=
  BIBase.Entails.of_eq (bigSep_sep' _ _ _)
theorem re_pair (A B : Dev nD → sProp 𝕄) : iprop(bigSep Finset.univ A ∗ bigSep Finset.univ B) ⊢ (bigSep Finset.univ fun c : Dev nD => iprop(A c ∗ B c)) :=
  BIBase.Entails.of_eq (bigSep_sep' _ _ _).symm

theorem hcore (Hd B : Dev nD → sProp 𝕄) (hB : ∀ c, B c = Hd c) (r : Dev nD → PrngReg) (c : Dev nD) :
    iprop(B c ∗ unscopedSems0 c ∗ owes (c : Thread nD τ) (owed c 0) ∅ ∗ Pipeline.launchCred (fun d => owed d 0) c ∗ prngReg c (r c) ∗ G c)
      ⊢ (iprop(bundle Hd c ∗ (semVal (barG c) 0 ∗ G c)) : sProp 𝕄) := by
  rw [hB, sems0_eq]
  unfold bundle
  iintro ⟨Hh, Hus, HO, Hcr, Hp, HG⟩
  isplitl [Hh HO Hcr Hp]
  · isplitl [Hh]; · iexact Hh
    isplitl [Hcr]; · iapply (launch_creds (F := F) c); iexact Hcr
    isplitl [HO]; · iexact HO
    iexists (r c); iexact Hp
  isplitl [Hus] <;> iassumption

/-- The launch: every counter's record made at once, and everything dealt. -/
theorem launch_all (Hd B : Dev nD → sProp 𝕄) (hB : ∀ c, B c = Hd c) (r : Dev nD → PrngReg) (X : sProp 𝕄) :
    iprop((bigSep Finset.univ fun c : Dev nD => iprop(B c ∗ unscopedSems0 c
          ∗ owes (c : Thread nD τ) (owed c 0) ∅ ∗ Pipeline.launchCred (fun d => owed d 0) c ∗ prngReg c (r c) ∗ G c)) ∗ X)
      ⊢ (|={Set.univ}=> bigSep Finset.univ (T₀ I Hd) : sProp 𝕄) := by
  have hv : bigSep Finset.univ (fun c : Dev nD => (semVal (barG c) 0 : sProp 𝕄)) ⊢ bigSep barCells (fun g => (semVal g 0 : sProp 𝕄)) :=
    BIBase.Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barG c) 0 ∅ 0 : sProp 𝕄)) :=
    BIBase.Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ (fun k : Fin 61 => (openTok ER ((c : Thread nD τ), osem k) : sProp 𝕄))) :=
    BIBase.Entails.of_eq (by rw [bigSep_map, bigSep_univ_prod]; rfl)
  iintro ⟨H, -⟩
  ihave H' := (show (bigSep Finset.univ fun c : Dev nD => iprop(B c ∗ unscopedSems0 c
          ∗ owes (c : Thread nD τ) (owed c 0) ∅ ∗ Pipeline.launchCred (fun d => owed d 0) c ∗ prngReg c (r c) ∗ G c))
      ⊢ (bigSep Finset.univ fun c : Dev nD => iprop(bundle Hd c ∗ (semVal (barG c) 0 ∗ G c)) : sProp 𝕄) from bigSep_mono fun c _ => hcore Hd B hB r c) $$ H
  ihave H2 := (un_pair _ _) $$ H'; icases H2 with ⟨HB, H3⟩
  ihave H4 := (un_pair _ _) $$ H3; icases H4 with ⟨Hv, HG⟩
  ihave Hu := (G_own (F := F)) $$ HG
  imod (Rounds.fund_launch ER (Rd I) disjoint_cells (fun g _ h => h) ringToks) $$ [Hv Hu] with ⟨%κ, -, #Hinv, #Hr, Hat, Hopen, Htok⟩
  · isplitl [Hv]
    · iapply hv $$ Hv
    · iexact Hu
  imodintro
  iapply (bigSep_with_persistent (R := records I κ) (Φ := fun c => iprop(linear c ∗ bundle Hd c)) fun c _ => T₀_intro I Hd κ c)
  isplitr
  · unfold records
    isplitr; · iexact Hinv
    iexact Hr
  iapply (re_pair _ _)
  isplitr [HB]
  · unfold linear
    iapply (re_pair _ _); isplitl [Hat]; · iapply hat $$ Hat
    iapply (re_pair _ _); isplitl [Hopen]; · iapply hop $$ Hopen
    iapply (toks_around (F := F))
    iapply (BIBase.Entails.of_eq (toks_eq (F := F))) $$ Htok
  · iexact HB

end Cert.KernelIdeal.Ring
-- ==== Proof.KernelIdeal.Talk.lean ====
/-
The region as one step of a device: what it is entered with, what it leaves.
-/
module

public import Idealize.SL.BI.BigOpNat
public import proofs.«01_k».proof.Proof.KernelIdeal.Region
public import proofs.«01_k».proof.Proof.KernelIdeal.Launch

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

open Idealize.ShloMosaic.Pipeline (ownSems0 scopedRest RegionSeg)

variable (m : Dev nD → Valuation τ sig (Elt F))

def kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers when the region is left: the result's alone has changed. -/
def Wp (c : Dev nD) : Valuation τ sig (Elt F) := Function.update (m c) (Proc.devRef .tc main_v34) (outv (inp m) c)
theorem Wp_out (c : Dev nD) : Wp m c main_v34 = outv (inp m) c := by unfold Wp; exact Function.update_self _ _ _
theorem Wp_ne (c : Dev nD) (r : DevRef τ sig) (h : r ≠ Proc.devRef .tc main_v34) : Wp m c r = m c r := by
  unfold Wp; exact Function.update_of_ne h _ _

abbrev arrs : Finset (DevRef τ sig) := Pipeline.arrRefs (τ := τ) spec0
abbrev rest : Finset (DevRef τ sig) := Pipeline.ucRefs τ sig \ arrs
theorem out_mem : (Proc.devRef .tc main_v34 : DevRef τ sig) ∈ arrs := by decide +kernel
theorem arrs_sub : arrs ⊆ Pipeline.ucRefs τ sig := by decide +kernel

theorem hrest (c : Dev nD) (b : DevRef τ sig) (hb : b ∈ rest \ ∅) : Wp m c b = m c b := by
  refine Wp_ne m c b fun h => ?_
  rw [Finset.sdiff_empty] at hb
  exact (Finset.mem_sdiff.mp hb).2 (h ▸ out_mem)

theorem held_none (c : Dev nD) (W : Valuation τ sig (Elt F)) : (StableHlo.held (c.tc : Thread nD τ) ∅ W : sProp 𝕄) = BI.emp := by
  unfold StableHlo.held; exact BI.bigSep_empty

theorem phi_first (c : Dev nD) : (pdats m 0 c).Φ 0 = iprop(Xk (inp m) c ∗ scopedRest spec0 c ∗ ∃ r, prngReg c r) := by
  show (dat0 m c).Φ (0 : Fin (cfg0.N + 1)) = _
  show (if (0 : Fin (cfg0.N + 1)).val = 0 then iprop(Xk (inp m) c ∗ scopedRest spec0 c ∗ ∃ r, prngReg c r) else iprop(End (F := F) c ∗ ∃ r, prngReg c r)) = _
  exact if_pos rfl

theorem hin (c : Dev nD) :
    iprop(scopedRest (Pipeline.pin (pcfgs (F := F)) adm 0).spec c ∗ (∃ r, prngReg c r) ∗ StableHlo.held (c.tc : Thread nD τ) ∅ (m c) ∗ Xk (inp m) c)
      ⊢ (pdats m 0 c).Φ 0 := by
  rw [phi_first]
  iintro ⟨Hs, Hp, -, HX⟩
  isplitl [HX]; · iexact HX
  isplitl [Hs]; · iexact Hs
  iexact Hp

/-- What is left of the protocol: the barrier's counter, at zero. -/
def Yk (c : Dev nD) : sProp 𝕄 := semVal (barG c) 0

theorem phi_last (c : Dev nD) : (pdats m 0 c).Φ (Fin.last (Pipeline.pin (pcfgs (F := F)) adm 0).N) = iprop(End (F := F) c ∗ ∃ r, prngReg c r) := by
  show (dat0 m c).Φ (Fin.last cfg0.N) = _
  show (if (Fin.last cfg0.N).val = 0 then iprop(Xk (inp m) c ∗ scopedRest spec0 c ∗ ∃ r, prngReg c r) else iprop(End (F := F) c ∗ ∃ r, prngReg c r)) = _
  exact if_neg (by rw [Fin.val_last, show cfg0.N = 1 from N_0]; decide)

theorem hout (c : Dev nD) : (pdats m 0 c).Φ (Fin.last (Pipeline.pin (pcfgs (F := F)) adm 0).N)
    ⊢ iprop(scopedRest (Pipeline.pin (pcfgs (F := F)) adm 0).spec c ∗ (∃ r, prngReg c r) ∗ StableHlo.held (c.tc : Thread nD τ) ∅ (Wp m c)
      ∗ ownSems0 osem c ∗ Yk (F := F) c) := by
  rw [phi_last, held_none]
  unfold End Yk
  iintro ⟨⟨Hs, Ho, Hb⟩, Hp⟩
  isplitl [Hs]; · iexact Hs
  isplitl [Hp]; · iexact Hp
  isplitr; · iempintro
  isplitl [Ho]; · iexact Ho
  iexact Hb

theorem share_full (c : Dev nD) (w : Fin 8) : (dat0 m c).share w = fullShare := by
  unfold Dat.share; split <;> rfl

/-! ## The levels -/

theorem stage_lt : ∀ (w : Fin 8) (s : Fin (spec0 w).nbuf), ((spec0 w).sem s).val < 23 := by decide
theorem stage_sem (w : Fin 8) (s : Fin (spec0 w).nbuf) : (spec0 w).sem s = dmaAt ((spec0 w).sem s).val :=
  Fin.ext (Nat.mod_eq_of_lt ((spec0 w).sem s).isLt).symm
theorem stage_lv (c : Dev nD) (w : Fin 8) (s : Fin (spec0 w).nbuf) : lv ((c : Thread nD τ), .dma ((spec0 w).sem s)) 0 ≤ 0 := by
  rw [stage_sem, lv_send c _ (Or.inl (stage_lt w s))]

theorem cutD (c : Dev nD) (t : Fin (cfg0.N + 1)) (g : GSem nD τ sig) (i : ℕ) (h : 0 < (pdats (F := F) m 0 c).owed t g i) : i ∈ L g ∧ 0 < lv g i := by
  have h' : 0 < (if t.val = 0 then owed c 0 else 0 : CellTallies nD τ sig ℕ) g i := h
  by_cases ht : t.val = 0
  · rw [if_pos ht] at h'
    obtain ⟨k, -, hk, h1, h2⟩ := owed_pos c 0 g i h'
    have := due_level c k hk
    rw [h1, h2] at this
    exact ⟨this.1, by omega⟩
  · rw [if_neg ht] at h'; exact absurd h' (by simp)

/-! ## The arrays -/

theorem arr_in (c : Dev nD) (w : Fin 8) (h : (cfg0.win w).isOut = false) (hn : (Proc.devRef .tc (Pipeline.arrRef spec0 w) : DevRef τ sig) ≠ Proc.devRef .tc main_v34) :
    (dat0 m c).arrAt w cfg0.N = Wp m c (Proc.devRef .tc (Pipeline.arrRef spec0 w)) :=
  ((dat0 m c).arrAt_in w h _).trans (Wp_ne m c _ hn).symm

theorem arr_out (c : Dev nD) : (dat0 m c).arrAt 7 cfg0.N = Wp m c (Proc.devRef .tc main_v34) := by
  rw [Wp_out]
  refine (dat0 m c).arrAt_eq_of_after_last 7 t0_0 (by decide +kernel) _ (fun j => ?_)
  blk_simp
  rfl

theorem hW' (c : Dev nD) (w : Fin 8) :
    (dat0 m c).arrAt w cfg0.N = Wp m c (Proc.devRef .tc (Pipeline.arrRef spec0 w)) := by
  fin_cases w
  · exact arr_in m c 0 rfl (by decide)
  · exact arr_in m c 1 rfl (by decide)
  · exact arr_in m c 2 rfl (by decide)
  · exact arr_in m c 3 rfl (by decide)
  · exact arr_in m c 4 rfl (by decide)
  · exact arr_in m c 5 rfl (by decide)
  · exact arr_in m c 6 rfl (by decide)
  · exact arr_out m c

/-! ## The region's record -/

set_option backward.isDefEq.respectTransparency.types false in
def reg0 : RegionSeg (pcfgs (F := F)) adm (pdats m) 0 defs₀ 𝒱₀ L lv 0 :=
  RegionSeg.ofTalk (pcfgs (F := F)) adm (pdats m) 0 defs₀ 𝒱₀ L lv 0 osem ownFacts
    ∅ rest (Finset.empty_subset _) kitP rfl (fun c => (body0 m c).loose)
    (fun _ => 0) (fun c => owed c 0) (fun c => (owed_zero m c).trans (zero_add _).symm) (owed_last m) (fun _ => rfl) (share_full m)
    m (Wp m) (hrest m)
    (Tk (inp m)) Yk (Xk (inp m)) Yk (hopen (inp m)) (hin m) (hout m)
    (fun c => by iintro H; imodintro; iexact H)
    (fun _ => 0)
    ⟨fun c w s => by rw [L_tc]; exact Finset.mem_range.mpr (by omega),
      fun c w s => stage_lv c w s,
      fun c t g i h => cutD m c t g i h⟩
    (fun _ => iprop(emp))
    (fun _ _ => rfl) (hW' m)

theorem reg0_pre (c : Dev nD) : T₀ (inp m) (fun c => StableHlo.held (c : Thread nD τ) (Pipeline.ucRefs τ sig) (m c)) c ⊢ (reg0 m).pre c := by
  show _ ⊢ iprop(StableHlo.held (c.tc : Thread nD τ) arrs (m c) ∗ (∃ r, prngReg c r)
    ∗ (StableHlo.held (c.tc : Thread nD τ) rest (m c) ∗ emp) ∗ Tk (inp m) c ∗ ∃ Wd, owes (c : Thread nD τ) (0 + owed c 0) Wd)
  unfold T₀
  dsimp only
  rw [StableHlo.held_sub_split (c.tc : Thread nD τ) arrs_sub (m c), zero_add]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c
    ⊢ iprop((StableHlo.held (c : Thread nD τ) (Pipeline.ucRefs τ sig) (Wp m c) ∗ semVal (barG c) 0) ∗ ∃ W, owes (c : Thread nD τ) (0 : CellTallies nD τ sig ℕ) W) := by
  show iprop(StableHlo.held (c.tc : Thread nD τ) arrs (Wp m c) ∗ (∃ r, prngReg c r)
    ∗ (StableHlo.held (c.tc : Thread nD τ) rest (Wp m c) ∗ emp) ∗ Yk c ∗ ∃ Wd, owes (c : Thread nD τ) (0 : CellTallies nD τ sig ℕ) Wd) ⊢ _
  rw [StableHlo.held_sub_split (c.tc : Thread nD τ) arrs_sub (Wp m c)]
  unfold Yk
  iintro ⟨Ha, -, ⟨Hr, -⟩, Hb, HO⟩
  isplitr [HO]
  · isplitr [Hb]
    · isplitl [Ha]; · iexact Ha
      iexact Hr
    iexact Hb
  iexact HO

end Cert.KernelIdeal.Ring
-- ==== Proof.KernelIdeal.Run.lean ====
/-
The run of the whole program on the sixteen devices.
-/
module

public import Idealize.SL.BI.BigOpNat
public import proofs.«01_k».proof.Proof.KernelIdeal.Talk

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The buffers when the region is entered: the launch's, after the host's operations. -/
abbrev Wm : Dev nD → Valuation τ sig (Elt F) := fun c => V4 m c
/-- What rides along with the buffers through the host's operations. -/
def E0 (c : Dev nD) : sProp 𝕄 := iprop(Tk (inp (Wm m)) c ∗ (∃ r, prngReg c r) ∗ ∃ W, owes (c : Thread nD τ) (owed c 0) W)
abbrev held0 (c : Dev nD) : sProp 𝕄 := StableHlo.held (c : Thread nD τ) (Pipeline.ucRefs τ sig) (V0 m c)

theorem entry (c : Dev nD) : iprop(StableHlo.held (c : Thread nD τ) (Pipeline.ucRefs τ sig) (V4 m c) ∗ E0 m c) ⊢ (reg0 (Wm m)).pre c :=
  reg0_pre (Wm m) c

theorem arg_of (c : Dev nD) (r : Ref sig .tc) (h0 : r ∉ ([main_v34] : List (Ref sig .tc))) (h4 : r ∉ hostOps0_3_W) (h3 : r ∉ hostOps0_2_W) (h2 : r ∉ hostOps0_1_W) (h1 : r ∉ hostOps0_W) :
    Wp (Wm m) c r = m ((c : Thread nD τ).loc r) :=
  (Wp_ne (Wm m) c _ (StableHlo.devRef_ne_of_ne (List.ne_of_not_mem_cons h0))).trans <|
    (V4_of m c r h4).trans <| (V3_of m c r h3).trans <| (V2_of m c r h2).trans <| (V1_of m c r h1).trans rfl

theorem unscoped_eq : ∀ sm : SemLoc sig, sm.isScoped .tc = false → sm = .reg 1 := by decide

/-- What the run leaves on device `c`. -/
def Done (c : Dev nD) (s : MemSt nD τ sig (Elt F)) : Prop :=
  (s.mem ((c.tc : Thread nD τ).loc main_v34) = outv (inp (Wm m)) c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.sem (barG c) = 0

theorem final_read (c : Dev nD) (s' : Phys nD τ sig (Elt F)) :
    iprop((StableHlo.held (c : Thread nD τ) (Pipeline.ucRefs τ sig) (Wp (Wm m) c) ∗ semVal (barG c) 0) ∗ SI s')
      ⊢ (|={Set.univ}=> iprop(⌜Done m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (Wp (Wm m) c) s') $$ [Hh HSI]
  · isplitl [Hh] <;> iassumption
  icases Hr with ⟨%h, HSI⟩
  imodintro
  isplitr
  · ipureintro
    refine ⟨⟨?_, ?_, ?_, ?_, ?_, ?_⟩, by simpa using hb⟩
    · exact (h (Proc.devRef .tc main_v34) (Finset.mem_filter.mpr ⟨StableHlo.devRef_mem_tcRefs main_v34, by decide⟩)).trans (Wp_out (Wm m) c)
    · exact (h (Proc.devRef .tc main_arg0) (Finset.mem_filter.mpr ⟨StableHlo.devRef_mem_tcRefs main_arg0, by decide⟩)).trans (arg_of m c main_arg0 (by decide) (by decide) (by decide) (by decide) (by decide))
    · exact (h (Proc.devRef .tc main_arg1) (Finset.mem_filter.mpr ⟨StableHlo.devRef_mem_tcRefs main_arg1, by decide⟩)).trans (arg_of m c main_arg1 (by decide) (by decide) (by decide) (by decide) (by decide))
    · exact (h (Proc.devRef .tc main_arg2) (Finset.mem_filter.mpr ⟨StableHlo.devRef_mem_tcRefs main_arg2, by decide⟩)).trans (arg_of m c main_arg2 (by decide) (by decide) (by decide) (by decide) (by decide))
    · exact (h (Proc.devRef .tc main_arg3) (Finset.mem_filter.mpr ⟨StableHlo.devRef_mem_tcRefs main_arg3, by decide⟩)).trans (arg_of m c main_arg3 (by decide) (by decide) (by decide) (by decide) (by decide))
    · exact (h (Proc.devRef .tc main_arg4) (Finset.mem_filter.mpr ⟨StableHlo.devRef_mem_tcRefs main_arg4, by decide⟩)).trans (arg_of m c main_arg4 (by decide) (by decide) (by decide) (by decide) (by decide))
  · iexact HSI

theorem fund : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (G (F := F))) := by
  unfold u₀ G
  iintro Hu
  ihave H := (ownU_pair _ _) $$ Hu
  icases H with ⟨HP, HX⟩
  imodintro
  isplitl [HP]; · iexact HP
  rw [bigSep_onDev]; iexact HX

theorem start : iprop((bigSep Finset.univ fun c : Dev nD => iprop(unscopedBufs c (fun b => m ((c.tc : Thread nD τ).loc b)) ∗ unscopedSems0 c
          ∗ owes (c.tc : Thread nD τ) (owed c 0) ∅ ∗ Pipeline.launchCred (fun d => owed d 0) c ∗ prngReg c (ρ c) ∗ G c)) ∗ levAts L lv)
      ⊢ (|={Set.univ}=> bigSep Finset.univ (T₀ (inp (Wm m)) (held0 m)) : sProp 𝕄) :=
  launch_all (inp (Wm m)) (held0 m) (fun c => unscopedBufs c (fun b => m ((c.tc : Thread nD τ).loc b)))
    (fun c => Pipeline.unscopedBufs_held (Ix := ℕ) (Name := ℕ) (U := UU) (Lvl := ℕ) c (V0 m c)) ρ _

set_option backward.isDefEq.respectTransparency.types false in
/-- THE RUN: the sixteen devices terminate; each result is the value of the ring's arithmetic, the arguments are unchanged,
    every counter is zero. -/
theorem run_main : θ_run defs (onTc (τ := τ) (main (F := F))) ⟨m, fun _ => 0, ρ⟩
    (fun r => (∀ c : Dev nD, Done m c r.2) ∧ r.2.sem = fun _ => 0) := by
  refine Pipeline.θ_run_regions_kit_dev_sems (pcfgs (F := F)) adm (pdats (Wm m)) 0 cellOf_inj EP defs₀ 𝒱₀ L lv m ρ main
    (segs m 𝒱₀ L lv (fun _ => E0 m) 0 (pdats (Wm m)) (reg0 (Wm m)))
    (fun c Q => by
      rewrite [main_chain c, Pipeline.Seg.run_eq_chain,
        show (segs m 𝒱₀ L lv (fun _ => E0 m) 0 (pdats (Wm m)) (reg0 (Wm m)) c).map Pipeline.Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun c => owed c 0) L_of_ne G u₀ fund
    (T₀ (inp (Wm m)) (held0 m))
    (fun c => iprop(StableHlo.held (c : Thread nD τ) (Pipeline.ucRefs τ sig) (Wp (Wm m) c) ∗ semVal (barG c) 0))
    (fun c => ⟨.rfl, .rfl, .rfl, .rfl, entry m c, reg0_post (Wm m) c⟩)
    (start m ρ) (Done m) (final_read m) (fun s h hs => ⟨h, sem_eq_zero hs fun c sm hsm => by
        obtain rfl := unscoped_eq sm hsm
        exact (h c).2⟩)

end Cert.KernelIdeal.Ring
-- ==== Proof.Value.Soft.lean ====
/-
  The soft-max of a row of finite scores, two ways.  Subtracting the row's maximum first multiplies every
  exponential and their sum by the same positive number, and dividing each weight by the sum before the weighted
  sum is taken gives what dividing afterwards gives.  The values weighted may be infinite.
-/
module

public import Idealize.ShloMosaic.PureOps
public import Idealize.ShloMosaic.Lib.Pointwise

@[expose] public section

noncomputable section

namespace Cert.Soft

open Idealize.ShloMosaic

/-- The sum of finite numbers is the finite sum. -/
theorem coe_sum {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- A finite factor that is not negative goes into a sum, whatever the terms are. -/
theorem sum_mul {ι : Type} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The largest of finitely many finite numbers is finite. -/
theorem fold_max {n : ℕ} (hn : 0 < n) (s : Fin n → ℝ) :
    ∃ M : ℝ, Finset.fold max (⊥ : EReal) (fun j => (s j : EReal)) Finset.univ = (M : EReal) := by
  have key : ∀ t : Finset (Fin n), t.Nonempty →
      ∃ M : ℝ, Finset.fold max (⊥ : EReal) (fun j => (s j : EReal)) t = (M : EReal) := by
    intro t
    induction t using Finset.induction_on with
    | empty => intro h; exact absurd h Finset.not_nonempty_empty
    | insert a t ha ih =>
      intro _
      rw [Finset.fold_insert ha]
      rcases t.eq_empty_or_nonempty with rfl | ht
      · exact ⟨s a, by simp⟩
      · obtain ⟨M, hM⟩ := ih ht
        exact ⟨max (s a) M, by rw [hM]; exact (EReal.coe_strictMono.monotone.map_max).symm⟩
  exact key _ ⟨⟨0, hn⟩, Finset.mem_univ _⟩

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The soft-max with and without the maximum. -/
theorem soft {n : ℕ} (hn : 0 < n) (s : Fin n → ℝ) (v : Fin n → EReal) :
    (∑ j, Ideal.exp (s j : EReal) * v j) * Ideal.div 1 (∑ j, Ideal.exp (s j : EReal))
      = ∑ j, v j * Ideal.div
          (Ideal.exp ((s j : EReal) - Finset.fold max (⊥ : EReal) (fun i => (s i : EReal)) Finset.univ))
          (∑ i, Ideal.exp ((s i : EReal) - Finset.fold max (⊥ : EReal) (fun i => (s i : EReal)) Finset.univ)) := by
  obtain ⟨M, hM⟩ := fold_max hn s
  rw [hM]
  have hne : (Finset.univ : Finset (Fin n)).Nonempty := ⟨⟨0, hn⟩, Finset.mem_univ _⟩
  have e1 : ∀ j, Ideal.exp (s j : EReal) = ((Real.exp (s j) : ℝ) : EReal) := fun j => rfl
  have e2 : ∀ j, Ideal.exp ((s j : EReal) - (M : EReal)) = ((Real.exp (s j) * Real.exp (-M) : ℝ) : EReal) := by
    intro j
    rw [← EReal.coe_sub, ← Real.exp_add, ← sub_eq_add_neg]; rfl
  simp only [e1, e2, coe_sum]
  have hZ : 0 < ∑ j, Real.exp (s j) := Finset.sum_pos (fun j _ => Real.exp_pos _) hne
  have hE : Real.exp (-M) ≠ 0 := (Real.exp_pos _).ne'
  rw [← Finset.sum_mul, ← EReal.coe_one, div_coe _ _ hZ.ne', sum_mul _ _ _ (by positivity)]
  refine Finset.sum_congr rfl fun j _ => ?_
  rw [div_coe _ _ (mul_ne_zero hZ.ne' hE), mul_div_mul_right _ _ hE, mul_comm (Real.exp (s j) : EReal) (v j), mul_assoc,
    ← EReal.coe_mul]
  congr 2
  ring

/-! ## Finite values -/

/-- Not an infinity. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, rfl⟩
theorem Fin'.mul {x y : EReal} (hx : Fin' x) (hy : Fin' y) : Fin' (x * y) := by
  obtain ⟨a, rfl⟩ := hx; obtain ⟨b, rfl⟩ := hy; exact ⟨a * b, rfl⟩
theorem Fin'.neg {x : EReal} (hx : Fin' x) : Fin' (-x) := by
  obtain ⟨a, rfl⟩ := hx; exact ⟨-a, rfl⟩
theorem Fin'.sum {ι : Type} (s : Finset ι) (f : ι → EReal) (h : ∀ j ∈ s, Fin' (f j)) : Fin' (∑ j ∈ s, f j) := by
  classical
  induction s using Finset.induction_on with
  | empty => exact ⟨0, by simp⟩
  | insert a s ha ih =>
    rw [Finset.sum_insert ha]
    exact (h a (Finset.mem_insert_self _ _)).add (ih fun j hj => h j (Finset.mem_insert_of_mem hj))
theorem Fin'.cos {x : EReal} (hx : Fin' x) : Fin' (Ideal.cos x) := by
  obtain ⟨a, rfl⟩ := hx; exact ⟨Real.cos a, rfl⟩
theorem Fin'.sin {x : EReal} (hx : Fin' x) : Fin' (Ideal.sin x) := by
  obtain ⟨a, rfl⟩ := hx; exact ⟨Real.sin a, rfl⟩
theorem Fin'.div {x y : EReal} (hx : Fin' x) (hy : ∃ r : ℝ, r ≠ 0 ∧ y = (r : EReal)) : Fin' (Ideal.div x y) := by
  obtain ⟨a, rfl⟩ := hx; obtain ⟨b, hb, rfl⟩ := hy; exact ⟨a / b, div_coe a b hb⟩

/-! ## The constants -/

theorem ofBits_min : Ideal.ofBits FTy.f32 4286578688#32 = ⊥ := by
  simp [Ideal.ofBits, Ideal.ieee]
theorem ofBits_eighth : Ideal.ofBits FTy.f32 1040187392#32 = (((1 : ℝ) / 8 : ℝ) : EReal) := by
  simp [Ideal.ofBits, Ideal.ieee]
  rw [← EReal.coe_mul]; norm_num
theorem ofBits_64 : Ideal.ofBits FTy.f32 1115684864#32 = ((64 : ℝ) : EReal) := by
  simp [Ideal.ofBits, Ideal.ieee]
  rw [← EReal.coe_mul]; norm_num
theorem ofBits_10000 : Ideal.ofBits FTy.f32 1176256512#32 = ((10000 : ℝ) : EReal) := by
  simp [Ideal.ofBits, Ideal.ieee]
  rw [← EReal.coe_mul]; norm_num
theorem ofBits_two : Ideal.ofBits FTy.f32 1073741824#32 = ((2 : ℝ) : EReal) := by
  simp [Ideal.ofBits, Ideal.ieee]
  rw [← EReal.coe_mul]; norm_num

end Cert.Soft

end
-- ==== Proof.Value.Tables.lean ====
/-
  The tables the host makes before the kernel starts: cosines and sines of the angles, moved round by 128 rows for
  each place of the device on the ring.
-/
module

public import proofs.«01_k».proof.Proof.KernelIdeal.Run
public import proofs.«01_k».proof.Proof.Value.Soft
public import Idealize.ShloMosaic.Lib.Pointwise
public import Idealize.ShloMosaic.Lib.Tactic.CleanTypes
public import Idealize.ShloMosaic.Lib.StableHlo.RunRead

@[expose] public section

noncomputable section

namespace Cert.KernelIdeal.Ring

open Cert.KernelIdeal Cert.KernelIdeal.Gen
open Idealize.ShloMosaic Idealize.ShloMosaic.TcCoe
open Facts

set_option maxRecDepth 16384

/-- A table of rows moved down by a number of rows, as the host writes it: two copies one under the other, and out of
    these the rows from the right place on. -/
def stepT : IVec S_ 32 :=
  let m : IVec S_ 32 := maxsi (constantI S_ 32 2048#32) (constantI S_ 32 1#32)
  select (cmpi .eq m (constantI S_ 32 0#32)) (constantI S_ 32 1#32) m
/-- The shift's remainder, towards zero. -/
def truncT (s : IVec S_ 32) : IVec S_ 32 :=
  Host.remsi (shapeCast S_ (extractStridedSlice S1 ![0] (broadcastInDim S1 ![] bcast_S_S1 s) slices_S1_S1_0) shapeCasts_S1_S_) stepT
/-- The shift's remainder, never negative. -/
def remT (s : IVec S_ 32) : IVec S_ 32 :=
  select (andi (cmpi .ne (cmpi .slt (truncT s) (constantI S_ 32 0#32)) (cmpi .slt stepT (constantI S_ 32 0#32)))
    (cmpi .ne (truncT s) (constantI S_ 32 0#32))) (addi (truncT s) stepT) (truncT s)
/-- The row of the two copies that comes first. -/
def startT (s : IVec S_ 32) : IVec S_ 32 :=
  let d : IVec S_ 32 := subi (constantI S_ 32 2048#32) (remT s)
  select (cmpi .slt d (constantI S_ 32 0#32)) (addi d (constantI S_ 32 4096#32)) d
/-- The table moved. -/
def rollT (t : FVec Ideal S2048x64 .f32) (s : IVec S_ 32) : FVec Ideal S2048x64 .f32 :=
  Host.dynamicSlice S2048x64 (concatenate S4096x64 0 [⟨S2048x64, t⟩, ⟨S2048x64, t⟩] concatenates_S2048x64_S2048x64_S4096x64_d0)
    (fun k => ((![startT s, constantI S_ 32 0#32] : Fin 2 → IVec S_ 32) k (Shape.Idx.first h_S_)).toInt) sliceFits_S4096x64_S2048x64

section

variable (V : Valuation τ sig (Elt Ideal))

theorem roll_cos_tbl : StableHlo.upto (hostOps0_1 (F := Ideal)) V 21 main_v24 = V main_v24 := by
  after_reads_simp
theorem roll_cos_zero : StableHlo.upto (hostOps0_1 (F := Ideal)) V 30 main_call0_c_4 = constantI S_ 32 0#32 := by
  after_reads_simp
  rfl
theorem roll_cos_start : StableHlo.upto (hostOps0_1 (F := Ideal)) V 30 main_call0_v9 = startT (V main_v29) := by
  after_reads_simp
  simp only [StableHlo.TRef.ofBuf_toBuf]
  have h0 : ∀ p q r x, (StableHlo.TRef.of (T := ⟨S_, .i32⟩) main_v29 p q r).ofBuf (Val := Elt Ideal) x = x := fun _ _ _ _ => rfl
  have h1 : ∀ p q r x, (StableHlo.TRef.of (T := ⟨S_, .i32⟩) main_call0_v2 p q r).ofBuf (Val := Elt Ideal) x = x := fun _ _ _ _ => rfl
  have h2 : ∀ p q r x, (StableHlo.TRef.of (T := ⟨S1, .i32⟩) main_call0_v1 p q r).toBuf (Val := Elt Ideal) x = x := fun _ _ _ _ => rfl
  have h3 : ∀ p q r x, (StableHlo.TRef.of (T := ⟨S_, .i32⟩) main_call0_v9 p q r).toBuf (Val := Elt Ideal) x = x := fun _ _ _ _ => rfl
  simp only [h0, h1, h2, h3]
  generalize V (Proc.tc.devRef main_v29) = s
  unfold startT remT truncT stepT
  rfl
theorem roll_cos : StableHlo.after (hostOps0_1 (F := Ideal)) V main_v30 = rollT (V main_v24) (V main_v29) := by
  after_reads_simp
  simp only [StableHlo.TRef.ofBuf_toBuf]
  have h0 : ∀ p q r x, (StableHlo.TRef.of (T := ⟨S2048x64, .f32⟩) main_v24 p q r).ofBuf (Val := Elt Ideal) x = x := fun _ _ _ _ => rfl
  have h1 : ∀ p q r x, (StableHlo.TRef.of (T := ⟨S2048x64, .f32⟩) main_v30 p q r).toBuf (Val := Elt Ideal) x = x := fun _ _ _ _ => rfl
  simp only [h0, h1, roll_cos_tbl]
  unfold rollT
  refine congrArg (fun k => Host.dynamicSlice S2048x64 _ k _) ?_
  have e0 := roll_cos_start V
  have e1 := roll_cos_zero V
  generalize StableHlo.upto (hostOps0_1 (F := Ideal)) V 30 = W at e0 e1 ⊢
  generalize startT (V main_v29) = s at e0 ⊢
  clear h0 h1
  funext k
  fin_cases k
  · exact congrArg (fun v : IVec S_ 32 => (v (Shape.Idx.first h_S_)).toInt) e0
  · exact congrArg (fun v : IVec S_ 32 => (v (Shape.Idx.first h_S_)).toInt) e1

theorem roll_sin_tbl : StableHlo.upto (hostOps0_3 (F := Ideal)) V 21 main_v27 = V main_v27 := by
  after_reads_simp
theorem roll_sin_zero : StableHlo.upto (hostOps0_3 (F := Ideal)) V 30 main_call1_c_4 = constantI S_ 32 0#32 := by
  after_reads_simp
  rfl
theorem roll_sin_start : StableHlo.upto (hostOps0_3 (F := Ideal)) V 30 main_call1_v9 = startT (V main_v32) := by
  after_reads_simp
  simp only [StableHlo.TRef.ofBuf_toBuf]
  have h0 : ∀ p q r x, (StableHlo.TRef.of (T := ⟨S_, .i32⟩) main_v32 p q r).ofBuf (Val := Elt Ideal) x = x := fun _ _ _ _ => rfl
  have h1 : ∀ p q r x, (StableHlo.TRef.of (T := ⟨S_, .i32⟩) main_call1_v2 p q r).ofBuf (Val := Elt Ideal) x = x := fun _ _ _ _ => rfl
  have h2 : ∀ p q r x, (StableHlo.TRef.of (T := ⟨S1, .i32⟩) main_call1_v1 p q r).toBuf (Val := Elt Ideal) x = x := fun _ _ _ _ => rfl
  have h3 : ∀ p q r x, (StableHlo.TRef.of (T := ⟨S_, .i32⟩) main_call1_v9 p q r).toBuf (Val := Elt Ideal) x = x := fun _ _ _ _ => rfl
  simp only [h0, h1, h2, h3]
  generalize V (Proc.tc.devRef main_v32) = s
  unfold startT remT truncT stepT
  rfl
theorem roll_sin : StableHlo.after (hostOps0_3 (F := Ideal)) V main_v33 = rollT (V main_v27) (V main_v32) := by
  after_reads_simp
  simp only [StableHlo.TRef.ofBuf_toBuf]
  have h0 : ∀ p q r x, (StableHlo.TRef.of (T := ⟨S2048x64, .f32⟩) main_v27 p q r).ofBuf (Val := Elt Ideal) x = x := fun _ _ _ _ => rfl
  have h1 : ∀ p q r x, (StableHlo.TRef.of (T := ⟨S2048x64, .f32⟩) main_v33 p q r).toBuf (Val := Elt Ideal) x = x := fun _ _ _ _ => rfl
  simp only [h0, h1, roll_sin_tbl]
  unfold rollT
  refine congrArg (fun k => Host.dynamicSlice S2048x64 _ k _) ?_
  have e0 := roll_sin_start V
  have e1 := roll_sin_zero V
  generalize StableHlo.upto (hostOps0_3 (F := Ideal)) V 30 = W at e0 e1 ⊢
  generalize startT (V main_v32) = s at e0 ⊢
  clear h0 h1
  funext k
  fin_cases k
  · exact congrArg (fun v : IVec S_ 32 => (v (Shape.Idx.first h_S_)).toInt) e0
  · exact congrArg (fun v : IVec S_ 32 => (v (Shape.Idx.first h_S_)).toInt) e1

end

/-- The angle of a row and a pair of lanes. -/
def angK : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))
/-- The angles' cosines, each for two lanes. -/
def cosK : FVec Ideal S2048x64 .f32 :=
  shapeCast S2048x64 (broadcastInDim S2048x32x2 ![0, 1] bcast_S2048x32_S2048x32x2_0_1 (Host.cos angK)) shapeCasts_S2048x32x2_S2048x64
/-- The angles' sines, each for two lanes. -/
def sinK : FVec Ideal S2048x64 .f32 :=
  shapeCast S2048x64 (broadcastInDim S2048x32x2 ![0, 1] bcast_S2048x32_S2048x32x2_0_1 (Host.sin angK)) shapeCasts_S2048x32x2_S2048x64
/-- The place of a device on the ring, as the host computes it. -/
def placeT (c : Dev nD) : IVec S_ 32 :=
  Host.remui (Host.divui (constantI S_ 32 (Dev.word c)) (constantI S_ 32 1#32)) (constantI S_ 32 16#32)
/-- How far the device's tables are moved: 128 rows up for each place. -/
def shiftT (c : Dev nD) : IVec S_ 32 := muli (negi (placeT c)) (constantI S_ 32 128#32)

variable (m : (ℓ : Loc nD τ sig) → Buf (Elt Ideal) ℓ) (c : Dev nD)

set_option maxHeartbeats 2000000 in
theorem v24_eq : V1 m c main_v24 = cosK := by
  unfold V1
  after_results
  try rfl
set_option maxHeartbeats 2000000 in
theorem v27_eq : V1 m c main_v27 = sinK := by
  unfold V1
  after_results
  try rfl
set_option maxHeartbeats 2000000 in
theorem v29_eq : V1 m c main_v29 = shiftT c := by
  unfold V1
  after_results
  try rfl

theorem v4_eq : V1 m c main_v4 = placeT c := by
  unfold V1
  after_results
  try rfl

theorem start_eq (c : Dev nD) :
    (startT (shiftT c) (Shape.Idx.first h_S_)).toInt = ((if c.val = 0 then 2048 else 128 * c.val : ℕ) : ℤ) := by
  revert c; decide

theorem twice (d : Fin 32) : Ideal.ofBits FTy.f32 1073741824#32 * FloatOps.sitofp (F := Ideal) FTy.f32 (BitVec.ofNat 32 ↑d)
    = FloatOps.sitofp (F := Ideal) FTy.f32 (IntOp.addi (0#32) (IntOp.muli (2#32) (BitVec.ofNat 32 ↑d))) := by
  have e : (IntOp.addi (0#32) (IntOp.muli (2#32) (BitVec.ofNat 32 ↑d))).toInt = 2 * (BitVec.ofNat 32 (d : ℕ)).toInt := by
    revert d; decide
  show _ * (((BitVec.ofNat 32 (d : ℕ)).toInt : ℝ) : EReal) = (((IntOp.addi (0#32) (IntOp.muli (2#32) (BitVec.ofNat 32 ↑d))).toInt : ℝ) : EReal)
  rw [e, Soft.ofBits_two, ← EReal.coe_mul]
  push_cast
  rfl
theorem angK_apply (i : Fin 2048) (d : Fin 32) :
    angK (ix2 i d) = FloatOps.sitofp (F := Ideal) FTy.f32 (BitVec.ofNat 32 ↑i)
      * Ideal.div 1 (Ideal.pow (Ideal.ofBits FTy.f32 1176256512#32)
          (Ideal.div (FloatOps.sitofp (F := Ideal) FTy.f32 (IntOp.addi (0#32) (IntOp.muli (2#32) (BitVec.ofNat 32 ↑d))))
            (Ideal.ofBits FTy.f32 1115684864#32))) := by
  rw [← twice]
  pointwise [angK]
theorem cosK_apply (i : Fin 2048) (d : Fin 64) : cosK (ix2 i d) = Ideal.cos (angK (ix2 i ⟨d / 2, by omega⟩)) := by
  pointwise [cosK]
theorem sinK_apply (i : Fin 2048) (d : Fin 64) : sinK (ix2 i d) = Ideal.sin (angK (ix2 i ⟨d / 2, by omega⟩)) := by
  pointwise [sinK]
theorem rollT_apply (t : FVec Ideal S2048x64 .f32) (c : Dev nD) (i : Fin 2048) (d : Fin 64) :
    rollT t (shiftT c) (ix2 i d) = t (ix2 ⟨(i + 128 * c) % 2048, by omega⟩ d) := by
  have hc : c.val < 16 := c.isLt
  have hi := i.isLt
  have hz := start_eq c
  unfold rollT
  generalize startT (shiftT c) = z at hz ⊢
  pointwise []
  have e0 := Host.clampedStart_of_le (s := S4096x64) (t := S2048x64) rfl
    (fun k => ((![z, constantI S_ 32 0#32] : Fin 2 → IVec S_ 32) k (Shape.Idx.first h_S_)).toInt) 0
    (if c.val = 0 then 2048 else 128 * c.val) hz (by show (if c.val = 0 then 2048 else 128 * c.val) + 2048 ≤ 4096; split_ifs <;> omega)
  have e1 := Host.clampedStart_of_le (s := S4096x64) (t := S2048x64) rfl
    (fun k => ((![z, constantI S_ 32 0#32] : Fin 2 → IVec S_ 32) k (Shape.Idx.first h_S_)).toInt) 1
    0 rfl (by decide)
  have key : ∀ (r r' : Fin 2048) (e e' : Fin 64), (r : ℕ) = r' → (e : ℕ) = e' → t (ix2 r e) = t (ix2 r' e') := by
    intro r r' e e' h h'; rw [Fin.ext h, Fin.ext h']
  have f : ∀ n : ℕ, n = (if c.val = 0 then 2048 else 128 * c.val) →
      (n + i.val < 2048 → n + i.val = (i + 128 * c) % 2048) ∧ (¬ n + i.val < 2048 → n + i.val - 2048 = (i + 128 * c) % 2048) := by
    intro n hn
    split_ifs at hn <;> constructor <;> intro h <;> omega
  by_cases h : Host.clampedStart S4096x64 S2048x64 rfl
      (fun k => ((![z, constantI S_ 32 0#32] : Fin 2 → IVec S_ 32) k (Shape.Idx.first h_S_)).toInt) 0 + i.val < 2048
  · rw [dif_pos h]
    exact key _ _ _ _ ((f _ e0).1 h) ((congrArg (· + d.val) e1).trans (Nat.zero_add _))
  · rw [dif_neg h]
    exact key _ _ _ _ ((f _ e0).2 h) ((congrArg (· + d.val) e1).trans (Nat.zero_add _))

/-! ## What the kernel is given -/

theorem sn_shift : V3 m c main_v32 = shiftT c := by
  unfold V3
  after_results
  have e : V2 m c main_v4 = placeT c := (V2_of m c main_v4 (by decide)).trans (v4_eq m c)
  show muli (negi (V2 m c main_v4)) _ = _
  rw [e]; rfl
theorem cs_eq : V4 m c main_v30 = rollT cosK (shiftT c) := by
  refine (V4_of m c main_v30 (by decide)).trans ((V3_of m c main_v30 (by decide)).trans ?_)
  refine (roll_cos (V1 m c)).trans ?_
  rw [v24_eq, v29_eq]
theorem sn_eq : V4 m c main_v33 = rollT sinK (shiftT c) := by
  refine (roll_sin (V3 m c)).trans ?_
  have e : V3 m c main_v27 = sinK := (V3_of m c main_v27 (by decide)).trans ((V2_of m c main_v27 (by decide)).trans (v27_eq m c))
  rw [e, sn_shift]

end Cert.KernelIdeal.Ring

end
-- ==== Proof.Value.Inputs.lean ====
/-
  What the kernel's windows hold when it starts: the arguments, and the two tables.
-/
module

public import proofs.«01_k».proof.Proof.Value.Tables
public import Idealize.ShloMosaic.Lib.Tactic.CleanTypes

@[expose] public section

noncomputable section

namespace Cert.KernelIdeal.Ring

open Cert.KernelIdeal Cert.KernelIdeal.Gen
open Idealize.ShloMosaic Idealize.ShloMosaic.TcCoe
open Facts

set_option maxRecDepth 16384

variable (m : (ℓ : Loc nD τ sig) → Buf (Elt Ideal) ℓ) (c : Dev nD)

/-! Each window is its whole array. -/

theorem win_x (v : FVec Ideal S2x128x512 .bf16) (i) : (cfg0.win 0 |>.blk t0_0).view.read (Elt Ideal) v i = v i := by
  refine congrArg v (funext fun k => Fin.ext ?_)
  fin_cases k <;> simp <;> rfl
theorem win_wq (v : FVec Ideal S512x256 .bf16) (i) : (cfg0.win 1 |>.blk t0_0).view.read (Elt Ideal) v i = v i := by
  refine congrArg v (funext fun k => Fin.ext ?_)
  fin_cases k <;> simp <;> rfl
theorem win_wk (v : FVec Ideal S512x256 .bf16) (i) : (cfg0.win 2 |>.blk t0_0).view.read (Elt Ideal) v i = v i := by
  refine congrArg v (funext fun k => Fin.ext ?_)
  fin_cases k <;> simp <;> rfl
theorem win_wv (v : FVec Ideal S512x256 .bf16) (i) : (cfg0.win 3 |>.blk t0_0).view.read (Elt Ideal) v i = v i := by
  refine congrArg v (funext fun k => Fin.ext ?_)
  fin_cases k <;> simp <;> rfl
theorem win_wo (v : FVec Ideal S256x512 .bf16) (i) : (cfg0.win 4 |>.blk t0_0).view.read (Elt Ideal) v i = v i := by
  refine congrArg v (funext fun k => Fin.ext ?_)
  fin_cases k <;> simp <;> rfl
theorem win_cs (v : FVec Ideal S2048x64 .f32) (i) : (cfg0.win 5 |>.blk t0_0).view.read (Elt Ideal) v i = v i := by
  refine congrArg v (funext fun k => Fin.ext ?_)
  fin_cases k <;> simp <;> rfl
theorem win_sn (v : FVec Ideal S2048x64 .f32) (i) : (cfg0.win 6 |>.blk t0_0).view.read (Elt Ideal) v i = v i := by
  refine congrArg v (funext fun k => Fin.ext ?_)
  fin_cases k <;> simp <;> rfl
theorem inp_x (i : S2x128x512.Idx) : (inp (Wm m) c).x i = (m ((c.tc : Thread nD τ).loc main_arg0) : FVec Ideal S2x128x512 .bf16) i := by
  refine (win_x _ i).trans (congrFun ?_ i)
  exact (V4_of m c main_arg0 (by decide)).trans ((V3_of m c main_arg0 (by decide)).trans
    ((V2_of m c main_arg0 (by decide)).trans (V1_of m c main_arg0 (by decide))))
theorem inp_wq (i : S512x256.Idx) : (inp (Wm m) c).wq i = (m ((c.tc : Thread nD τ).loc main_arg1) : FVec Ideal S512x256 .bf16) i := by
  refine (win_wq _ i).trans (congrFun ?_ i)
  exact (V4_of m c main_arg1 (by decide)).trans ((V3_of m c main_arg1 (by decide)).trans
    ((V2_of m c main_arg1 (by decide)).trans (V1_of m c main_arg1 (by decide))))
theorem inp_wk (i : S512x256.Idx) : (inp (Wm m) c).wk i = (m ((c.tc : Thread nD τ).loc main_arg2) : FVec Ideal S512x256 .bf16) i := by
  refine (win_wk _ i).trans (congrFun ?_ i)
  exact (V4_of m c main_arg2 (by decide)).trans ((V3_of m c main_arg2 (by decide)).trans
    ((V2_of m c main_arg2 (by decide)).trans (V1_of m c main_arg2 (by decide))))
theorem inp_wv (i : S512x256.Idx) : (inp (Wm m) c).wv i = (m ((c.tc : Thread nD τ).loc main_arg3) : FVec Ideal S512x256 .bf16) i := by
  refine (win_wv _ i).trans (congrFun ?_ i)
  exact (V4_of m c main_arg3 (by decide)).trans ((V3_of m c main_arg3 (by decide)).trans
    ((V2_of m c main_arg3 (by decide)).trans (V1_of m c main_arg3 (by decide))))
theorem inp_wo (i : S256x512.Idx) : (inp (Wm m) c).wo i = (m ((c.tc : Thread nD τ).loc main_arg4) : FVec Ideal S256x512 .bf16) i := by
  refine (win_wo _ i).trans (congrFun ?_ i)
  exact (V4_of m c main_arg4 (by decide)).trans ((V3_of m c main_arg4 (by decide)).trans
    ((V2_of m c main_arg4 (by decide)).trans (V1_of m c main_arg4 (by decide))))
theorem inp_cs (i : Fin 2048) (d : Fin 64) :
    (inp (Wm m) c).cs (ix2 i d) = Ideal.cos (angK (ix2 ⟨(i + 128 * c) % 2048, by omega⟩ ⟨d / 2, by omega⟩)) := by
  refine (win_cs (Wm m c main_v30) (ix2 i d)).trans ?_
  have e : Wm m c main_v30 = rollT cosK (shiftT c) := cs_eq m c
  rw [e, rollT_apply, cosK_apply]
theorem inp_sn (i : Fin 2048) (d : Fin 64) :
    (inp (Wm m) c).sn (ix2 i d) = Ideal.sin (angK (ix2 ⟨(i + 128 * c) % 2048, by omega⟩ ⟨d / 2, by omega⟩)) := by
  refine (win_sn (Wm m c main_v33) (ix2 i d)).trans ?_
  have e : Wm m c main_v33 = rollT sinK (shiftT c) := sn_eq m c
  rw [e, rollT_apply, sinK_apply]

end Cert.KernelIdeal.Ring

end
-- ==== Proof.Value.KerRead.lean ====
/-
  The kernel's own terms, read at an index: the projections with and without the rotation of the pairs of lanes,
  one head of attention, the heads side by side, and a chunk through the output weights.
-/
module

public import proofs.«01_k».proof.Proof.KernelIdeal.Proto
public import Idealize.ShloMosaic.Lib.Pointwise
public import Idealize.ShloMosaic.Lib.Tactic.CleanTypes

@[expose] public section

noncomputable section

namespace Cert.KernelIdeal.Ring

open Cert.KernelIdeal Cert.KernelIdeal.Gen
open Idealize.ShloMosaic Idealize.ShloMosaic.TcCoe
open Facts

set_option maxRecDepth 16384

/-- The mask of the even lanes, as the kernel computes it of a lane's number. -/
theorem even_mask (r : Fin 4096) (n : Fin 256) : k0_pay6 (ix2 r n) = if (n : ℕ) % 2 = 0 then 1#1 else 0#1 := by
  pointwise [k0_pay6]
  revert n; decide

/-- The keys' term is the queries' term, of the other weight. -/
theorem pay10_eq (x : FVec Ideal S4096x512 .bf16) (sn : FVec Ideal S4096x64 .f32) (cs : FVec Ideal S4096x256 .f32)
    (w : FVec Ideal S512x256 .bf16) :
    k0_pay10 (F := Ideal) x cs (k0_pay5 sn) k0_pay6 (k0_pay7 w) = k0_pay9 x sn cs w := rfl

/-- The gathered input through a weight. -/
def projK (x : FVec Ideal S2x16x128x512 .bf16) (w : FVec Ideal S512x256 .bf16) (r : Fin 4096) (n : Fin 256) : EReal :=
  ∑ k, x (ix4 ⟨r / 2048, by omega⟩ ⟨r / 128 % 16, by omega⟩ ⟨r % 128, by omega⟩ k) * w (ix2 k n)

theorem pay4_apply (cs : FVec Ideal S2048x64 .f32) (r : Fin 4096) (n : Fin 256) :
    k0_pay4 cs (ix2 r n) = cs (ix2 ⟨r % 2048, by omega⟩ ⟨n % 64, by omega⟩) := by
  pointwise [k0_pay4]
  split_ifs <;> congr 2 <;> apply Fin.ext <;> simp only <;> omega
theorem pay5_apply (sn : FVec Ideal S2048x64 .f32) (r : Fin 4096) (n : Fin 256) :
    k0_pay5 (k0_pay3 sn) (ix2 r n) = sn (ix2 ⟨r % 2048, by omega⟩ ⟨n % 64, by omega⟩) := by
  pointwise [k0_pay5, k0_pay3]
  split_ifs <;> congr 2 <;> apply Fin.ext <;> simp only <;> omega

theorem pay9_apply (x : FVec Ideal S2x16x128x512 .bf16) (sn cs : FVec Ideal S2048x64 .f32) (w : FVec Ideal S512x256 .bf16)
    (r : Fin 4096) (n : Fin 256) :
    k0_pay9 (F := Ideal) (k0_pay2 x) (k0_pay3 sn) (k0_pay4 cs) w (ix2 r n)
      = projK x w r n * cs (ix2 ⟨r % 2048, by omega⟩ ⟨n % 64, by omega⟩)
        + (if (n : ℕ) % 2 = 0 then -projK x w r ⟨(n + 1) % 256, by omega⟩ else projK x w r ⟨n - 1, by omega⟩)
          * sn (ix2 ⟨r % 2048, by omega⟩ ⟨n % 64, by omega⟩) := by
  rw [← pay4_apply cs r n, ← pay5_apply sn r n]
  pointwise [k0_pay9, k0_pay2]
  rw [even_mask]
  congr 2
  by_cases h : (n : ℕ) % 2 = 0
  · rw [if_pos h, if_pos h, dif_pos (show (n : ℕ) < 255 by omega)]
    refine Eq.trans ?_ (zero_sub _)
    show (0 : EReal) - _ = 0 - projK x w r _
    congr 1
    have e : (⟨(n + 1) % 256, by omega⟩ : Fin 256) = ⟨1 + n, by omega⟩ := by apply Fin.ext; simp only; omega
    rw [e]; rfl
  · rw [if_neg h, if_neg h, dif_neg (show ¬ (n : ℕ) < 1 by omega)]
    rfl

theorem pay11_apply (x : FVec Ideal S2x16x128x512 .bf16) (w : FVec Ideal S512x256 .bf16) (r : Fin 4096) (n : Fin 256) :
    k0_pay11 (F := Ideal) (k0_pay2 x) (k0_pay8 w) (ix2 r n) = projK x w r n := by
  pointwise [k0_pay11, k0_pay2, k0_pay8, projK]

theorem pay12_eq (w : FVec Ideal S256x512 .bf16) : k0_pay12 (F := Ideal) w = w := by
  funext j; idx_vars j
  pointwise [k0_pay12]

theorem qp_apply (Q : FVec Ideal S4096x256 .bf16) (k : ℕ) (hk : k < 16) (b : ℕ) (hb : b < 2) (h : ℕ) (hh : h < 4)
    (r : Fin 128) (d : Fin 64) :
    qp Q k hk b hb h hh (ix2 r d) = Q (ix2 ⟨2048 * b + 128 * k + r, by omega⟩ ⟨64 * h + d, by omega⟩) := by
  show Q _ = Q _
  congr 1; funext a; apply Fin.ext; fin_cases a
  · show 2048 * b + 128 * k + 1 * (r : ℕ) = 2048 * b + 128 * k + r; omega
  · show 64 * h + 1 * (d : ℕ) = 64 * h + d; omega
theorem kp_apply (K : FVec Ideal S4096x256 .bf16) (b : ℕ) (hb : b < 2) (h : ℕ) (hh : h < 4) (r : Fin 2048) (d : Fin 64) :
    kp K b hb h hh (ix2 r d) = K (ix2 ⟨2048 * b + r, by omega⟩ ⟨64 * h + d, by omega⟩) := by
  show K _ = K _
  congr 1; funext a; apply Fin.ext; fin_cases a
  · show 2048 * b + 1 * (r : ℕ) = 2048 * b + r; omega
  · show 64 * h + 1 * (d : ℕ) = 64 * h + d; omega

theorem pay17_apply (q : FVec Ideal S128x64 .bf16) (k v : FVec Ideal S2048x64 .bf16) (r : Fin 128) (d : Fin 64) :
    k0_pay17 (F := Ideal) q k v (ix2 r d)
      = (∑ x, Ideal.exp ((∑ y, q (ix2 r y) * k (ix2 x y)) * Ideal.ofBits FTy.f32 1040187392#32) * v (ix2 x d))
        * Ideal.div 1 (∑ x, Ideal.exp ((∑ y, q (ix2 r y) * k (ix2 x y)) * Ideal.ofBits FTy.f32 1040187392#32)) := by
  pointwise [k0_pay17]

theorem heads_apply (Q K V : FVec Ideal S4096x256 .bf16) (k : ℕ) (hk : k < 16) (b : ℕ) (hb : b < 2) (r : Fin 128) (n : Fin 256) :
    heads Q K V k hk b hb (ix2 r n) = head Q K V k hk b hb (n / 64) (by omega) (ix2 r ⟨n % 64, by omega⟩) := by
  have key : ∀ (h h' : ℕ) (hh : h < 4) (hh' : h' < 4) (d d' : Fin 64), h = h' → d = d' →
      head Q K V k hk b hb h hh (ix2 r d) = head Q K V k hk b hb h' hh' (ix2 r d') := by
    rintro h _ _ _ d _ rfl rfl; rfl
  pointwise [heads]
  split_ifs <;> apply key <;> first | (apply Fin.ext; simp only; omega) | omega

theorem chunkOf_apply (Q K V : FVec Ideal S4096x256 .bf16) (W : FVec Ideal S256x512 .bf16) (k : ℕ) (hk : k < 16)
    (b : Fin 2) (r : Fin 128) (n : Fin 512) :
    chunkOf Q K V W k hk (ix3 b r n) = ∑ x, heads Q K V k hk b b.isLt (ix2 r x) * W (ix2 x n) := by
  pointwise [chunkOf]
  refine Finset.sum_congr rfl fun x _ => ?_
  congr 1
  have key : ∀ (c : ℕ) (hc : c < 2) (r' : Fin 128), (b : ℕ) = c → r' = r →
      heads Q K V k hk c hc (ix2 r' x) = heads Q K V k hk b b.isLt (ix2 r x) := by
    rintro c _ _ rfl rfl; rfl
  split_ifs <;> apply key <;> first | (apply Fin.ext; simp only; omega) | omega

end Cert.KernelIdeal.Ring

end
-- ==== Proof.Value.RefTerms.lean ====
/-
  The reference's result in named steps: projections, rotations, scores, soft-max over the row's maximum, and the
  product with the output weights.
-/
module

public import proofs.«01_k».proof.Proof.Gen.ReferenceIdeal.Run
public import Idealize.ShloMosaic.Lib.Pointwise
public import Idealize.ShloMosaic.Lib.Tactic.CleanTypes

@[expose] public section

noncomputable section

namespace Cert.ReferenceIdeal.Read

open Cert.ReferenceIdeal Cert.ReferenceIdeal.Gen
open Idealize.ShloMosaic Idealize.ShloMosaic.TcCoe Idealize.ShloMosaic.StableHlo
open Facts

set_option maxRecDepth 16384

/-- The input through one weight, split into heads. -/
def projT (x : FVec Ideal S2x2048x512 .bf16) (w : FVec Ideal S512x4096 .bf16) : FVec Ideal S2x2048x64x64 .bf16 :=
  shapeCast S2x2048x64x64 (truncf .bf16 (Host.dotGeneral dot_S2x2048x512_S512x4096_S2x2048x4096_2_0_01_1_n_n none x w) bitsLt_bf16_f32) shapeCasts_S2x2048x4096_S2x2048x64x64
/-- The angle of a row and a pair of lanes. -/
def angT : FVec Ideal S2048x32 .f32 := (mulf (broadcastInDim S2048x32 ![0, 1] bcast_S2048x1_S2048x32_0_1 (sitofp .f32 (broadcastInDim S2048x1 ![0] bcast_S2048_S2048x1_0 (iotaInDim S2048 32 0)))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (sitofp .f32 (addi (broadcastInDim S32 ![] bcast_S_S32 (constantI S_ 32 0#32)) (muli (broadcastInDim S32 ![] bcast_S_S32 (constantI S_ 32 2#32)) (iotaInDim S32 32 0)))) (broadcastInDim S32 ![] bcast_S_S32 (constant S_ .f32 0x42800000#32))))))))
/-- The cosines, over the whole of the heads. -/
def cosT : FVec Ideal S2x2048x64x64 .f32 := (broadcastInDim S2x2048x64x64 ![0, 1, 2, 3] bcast_S1x2048x1x64_S2x2048x64x64_0_1_2_3 (broadcastInDim S1x2048x1x64 ![1, 3] bcast_S2048x64_S1x2048x1x64_1_3 (shapeCast S2048x64 (broadcastInDim S2048x32x2 ![0, 1] bcast_S2048x32_S2048x32x2_0_1 (Host.cos angT)) shapeCasts_S2048x32x2_S2048x64)))
/-- The sines. -/
def sinT : FVec Ideal S2x2048x64x64 .f32 := (broadcastInDim S2x2048x64x64 ![0, 1, 2, 3] bcast_S1x2048x1x64_S2x2048x64x64_0_1_2_3 (broadcastInDim S1x2048x1x64 ![1, 3] bcast_S2048x64_S1x2048x1x64_1_3 (shapeCast S2048x64 (broadcastInDim S2048x32x2 ![0, 1] bcast_S2048x32_S2048x32x2_0_1 (Host.sin angT)) shapeCasts_S2048x32x2_S2048x64)))
/-- The lanes in pairs. -/
def pairT (t : FVec Ideal S2x2048x64x64 .bf16) : FVec Ideal S2x2048x64x32x2 .bf16 :=
  shapeCast S2x2048x64x32x2 t shapeCasts_S2x2048x64x64_S2x2048x64x32x2
/-- The second lane of each pair. -/
def sndT (p : FVec Ideal S2x2048x64x32x2 .bf16) : FVec Ideal S2x2048x64x32 .bf16 :=
  shapeCast S2x2048x64x32 (extractStridedSlice S2x2048x64x32x1 ![0, 0, 0, 0, 1] p slices_S2x2048x64x32x2_S2x2048x64x32x1_0_0_0_0_1) shapeCasts_S2x2048x64x32x1_S2x2048x64x32
/-- The first lane of each pair. -/
def fstT (p : FVec Ideal S2x2048x64x32x2 .bf16) : FVec Ideal S2x2048x64x32 .bf16 :=
  shapeCast S2x2048x64x32 (extractStridedSlice S2x2048x64x32x1 ![0, 0, 0, 0, 0] p slices_S2x2048x64x32x2_S2x2048x64x32x1_0_0_0_0_0) shapeCasts_S2x2048x64x32x1_S2x2048x64x32
/-- Pairs of two tensors' lanes. -/
def zipT (a b : FVec Ideal S2x2048x64x32 .bf16) : FVec Ideal S2x2048x64x32x2 .bf16 :=
  concatenate S2x2048x64x32x2 4 [⟨S2x2048x64x32x1, broadcastInDim S2x2048x64x32x1 ![0, 1, 2, 3] bcast_S2x2048x64x32_S2x2048x64x32x1_0_1_2_3 a⟩, ⟨S2x2048x64x32x1, broadcastInDim S2x2048x64x32x1 ![0, 1, 2, 3] bcast_S2x2048x64x32_S2x2048x64x32x1_0_1_2_3 b⟩] concatenates_S2x2048x64x32x1_S2x2048x64x32x1_S2x2048x64x32x2_d4
/-- The pairs side by side again. -/
def flatT (p : FVec Ideal S2x2048x64x32x2 .bf16) : FVec Ideal S2x2048x64x64 .bf16 :=
  shapeCast S2x2048x64x64 p shapeCasts_S2x2048x64x32x2_S2x2048x64x64
/-- Each pair of lanes (a, b) as (-b, a). -/
def turnT (t : FVec Ideal S2x2048x64x64 .bf16) : FVec Ideal S2x2048x64x64 .f32 :=
  extf .f32 (flatT (zipT (Host.negf (sndT (pairT t))) (fstT (pairT t)))) bitsLt_bf16_f32
/-- The rotation of the pairs of lanes. -/
def rotT (t : FVec Ideal S2x2048x64x64 .bf16) : FVec Ideal S2x2048x64x64 .f32 := (addf (mulf (extf .f32 t bitsLt_bf16_f32) cosT) (mulf (turnT t) sinT))
/-- The scores. -/
def scT (q k : FVec Ideal S2x2048x64x64 .f32) : FVec Ideal S2x64x2048x2048 .f32 := (mulf (Host.dotGeneral dot_S2x2048x64x64_S2x2048x64x64_S2x64x2048x2048_3_3_1_1_02_02 none q k) (broadcastInDim S2x64x2048x2048 ![] bcast_S_S2x64x2048x2048 (constant S_ .f32 0x3E000000#32)))
/-- Their exponentials, below the row's maximum. -/
def expT (s : FVec Ideal S2x64x2048x2048 .f32) : FVec Ideal S2x64x2048x2048 .f32 := (Host.exp (subf s (broadcastInDim S2x64x2048x2048 ![0, 1, 2, 3] bcast_S2x64x2048x1_S2x64x2048x2048_0_1_2_3 (broadcastInDim S2x64x2048x1 ![0, 1, 2] bcast_S2x64x2048_S2x64x2048x1_0_1_2 (Host.reduce FloatOps.maximumf s (constant S_ .f32 0xFF800000#32) reducesTo_S2x64x2048x2048_S2x64x2048_d3 h_S_)))))
/-- The weighted values, the heads side by side. -/
def ctxT (v : FVec Ideal S2x2048x64x64 .bf16) (s : FVec Ideal S2x64x2048x2048 .f32) : FVec Ideal S2x2048x4096 .f32 := (shapeCast S2x2048x4096 (transpose S2x2048x64x64 [0, 3, 1, 2] (Host.dotGeneral dot_S2x2048x64x64_S2x64x2048x2048_S2x64x64x2048_1_3_3_2_02_01 none v (Host.divf (expT s) (broadcastInDim S2x64x2048x2048 ![0, 1, 2, 3] bcast_S2x64x2048x1_S2x64x2048x2048_0_1_2_3 (broadcastInDim S2x64x2048x1 ![0, 1, 2] bcast_S2x64x2048_S2x64x2048x1_0_1_2 (Host.reduceAdd (expT s) (constant S_ .f32 0x00000000#32) reducesTo_S2x64x2048x2048_S2x64x2048_d3 h_S_))))) transposes_S2x64x64x2048_S2x2048x64x64_0_3_1_2) shapeCasts_S2x2048x64x64_S2x2048x4096)
/-- The whole reference. -/
def outT (x : FVec Ideal S2x2048x512 .bf16) (wq wk wv : FVec Ideal S512x4096 .bf16) (wo : FVec Ideal S4096x512 .bf16) : FVec Ideal S2x2048x512 .f32 :=
  Host.dotGeneral dot_S2x2048x4096_S4096x512_S2x2048x512_2_0_01_1_n_n none (ctxT (projT x wv) (scT (rotT (projT x wq)) (rotT (projT x wk)))) wo

end Cert.ReferenceIdeal.Read

end
-- ==== Proof.Value.RefTurn.lean ====
/-
  The rotation of the pairs of lanes, and the tables of its cosines and sines, read at an index.
-/
module

public import proofs.«01_k».proof.Proof.Value.RefTerms
public import Idealize.ShloMosaic.Lib.Pointwise
public import Idealize.ShloMosaic.Lib.Tactic.CleanTypes

@[expose] public section

noncomputable section

namespace Cert.ReferenceIdeal.Read

open Cert.ReferenceIdeal Cert.ReferenceIdeal.Gen
open Idealize.ShloMosaic Idealize.ShloMosaic.TcCoe Idealize.ShloMosaic.StableHlo
open Facts

set_option maxRecDepth 16384

theorem angT_apply (i : Fin 2048) (d : Fin 32) :
    angT (ix2 i d) = FloatOps.sitofp (F := Ideal) FTy.f32 (BitVec.ofNat 32 ↑i)
      * Ideal.div 1 (Ideal.pow (Ideal.ofBits FTy.f32 1176256512#32)
          (Ideal.div (FloatOps.sitofp (F := Ideal) FTy.f32 (IntOp.addi (0#32) (IntOp.muli (2#32) (BitVec.ofNat 32 ↑d))))
            (Ideal.ofBits FTy.f32 1115684864#32))) := by
  pointwise [angT]

theorem cosT_apply (b : Fin 2) (i : Fin 2048) (h d : Fin 64) :
    cosT (ix4 b i h d) = Ideal.cos (angT (ix2 i ⟨d / 2, by omega⟩)) := by
  pointwise [cosT]

theorem sinT_apply (b : Fin 2) (i : Fin 2048) (h d : Fin 64) :
    sinT (ix4 b i h d) = Ideal.sin (angT (ix2 i ⟨d / 2, by omega⟩)) := by
  pointwise [sinT]

theorem pairT_apply (t : FVec Ideal S2x2048x64x64 .bf16) (b : Fin 2) (i : Fin 2048) (h : Fin 64) (e : Fin 32) (p : Fin 2) :
    pairT t (ix5 b i h e p) = t (ix4 b i h ⟨e * 2 + p, by omega⟩) := by
  pointwise [pairT]

theorem sndT_apply (p : FVec Ideal S2x2048x64x32x2 .bf16) (b : Fin 2) (i : Fin 2048) (h : Fin 64) (e : Fin 32) :
    sndT p (ix4 b i h e) = p (ix5 b i h e 1) := by
  pointwise [sndT]

theorem fstT_apply (p : FVec Ideal S2x2048x64x32x2 .bf16) (b : Fin 2) (i : Fin 2048) (h : Fin 64) (e : Fin 32) :
    fstT p (ix4 b i h e) = p (ix5 b i h e 0) := by
  pointwise [fstT]

theorem zipT_apply (x y : FVec Ideal S2x2048x64x32 .bf16) (b : Fin 2) (i : Fin 2048) (h : Fin 64) (e : Fin 32) (p : Fin 2) :
    zipT x y (ix5 b i h e p) = if (p : ℕ) < 1 then x (ix4 b i h e) else y (ix4 b i h e) := by
  pointwise [zipT]
  exact dite_eq_ite

theorem flatT_apply (p : FVec Ideal S2x2048x64x32x2 .bf16) (b : Fin 2) (i : Fin 2048) (h d : Fin 64) :
    flatT p (ix4 b i h d) = p (ix5 b i h ⟨d / 2, by omega⟩ ⟨d % 2, by omega⟩) := by
  pointwise [flatT]

theorem turnT_eq (t : FVec Ideal S2x2048x64x64 .bf16) (b : Fin 2) (i : Fin 2048) (h d : Fin 64) :
    turnT t (ix4 b i h d) = flatT (zipT (Host.negf (sndT (pairT t))) (fstT (pairT t))) (ix4 b i h d) := by
  unfold turnT; exact extf_apply ..

theorem neg_snd (p : FVec Ideal S2x2048x64x32x2 .bf16) (b : Fin 2) (i : Fin 2048) (h : Fin 64) (e : Fin 32) :
    Host.negf (sndT p) (ix4 b i h e) = -sndT p (ix4 b i h e) := by
  generalize sndT p = q
  pointwise

theorem turnT_apply (t : FVec Ideal S2x2048x64x64 .bf16) (b : Fin 2) (i : Fin 2048) (h d : Fin 64) :
    turnT t (ix4 b i h d)
      = if (d : ℕ) % 2 < 1 then -t (ix4 b i h ⟨d / 2 * 2 + 1, by omega⟩) else t (ix4 b i h ⟨d / 2 * 2, by omega⟩) := by
  have key : ∀ e e' : Fin 64, (e : ℕ) = e' → t (ix4 b i h e) = t (ix4 b i h e') := by
    intro e e' he; rw [Fin.ext he]
  rw [turnT_eq, flatT_apply, zipT_apply]
  by_cases hd : (d : ℕ) % 2 < 1
  · rw [if_pos hd, if_pos (show ((⟨d % 2, by omega⟩ : Fin 2) : ℕ) < 1 from hd), neg_snd, sndT_apply, pairT_apply]
    exact congrArg _ (key _ _ (by simp))
  · rw [if_neg hd, if_neg (show ¬ ((⟨d % 2, by omega⟩ : Fin 2) : ℕ) < 1 from hd), fstT_apply, pairT_apply]
    exact key _ _ (by simp)

theorem rotT_apply (t : FVec Ideal S2x2048x64x64 .bf16) (b : Fin 2) (i : Fin 2048) (h d : Fin 64) :
    rotT t (ix4 b i h d) = t (ix4 b i h d) * Ideal.cos (angT (ix2 i ⟨d / 2, by omega⟩))
      + (if (d : ℕ) % 2 < 1 then -t (ix4 b i h ⟨d / 2 * 2 + 1, by omega⟩) else t (ix4 b i h ⟨d / 2 * 2, by omega⟩))
        * Ideal.sin (angT (ix2 i ⟨d / 2, by omega⟩)) := by
  rw [← cosT_apply b i h d, ← sinT_apply b i h d, ← turnT_apply t b i h d]
  unfold rotT
  rw [addf_apply, mulf_apply, mulf_apply, extf_apply]
  generalize turnT t (ix4 b i h d) = u
  generalize cosT (ix4 b i h d) = c
  generalize sinT (ix4 b i h d) = s
  generalize t (ix4 b i h d) = v
  rfl

end Cert.ReferenceIdeal.Read

end
-- ==== Proof.Value.RefRead.lean ====
/-
  The reference's steps, read at an index.
-/
module

public import proofs.«01_k».proof.Proof.Value.RefTerms
public import Idealize.ShloMosaic.Lib.Pointwise
public import Idealize.ShloMosaic.Lib.Tactic.CleanTypes

@[expose] public section

noncomputable section

namespace Cert.ReferenceIdeal.Read

open Cert.ReferenceIdeal Cert.ReferenceIdeal.Gen
open Idealize.ShloMosaic Idealize.ShloMosaic.TcCoe Idealize.ShloMosaic.StableHlo
open Facts

set_option maxRecDepth 16384

theorem projT_apply (x : FVec Ideal S2x2048x512 .bf16) (w : FVec Ideal S512x4096 .bf16) (b : Fin 2) (i : Fin 2048) (h : Fin 64)
    (d : Fin 64) : projT x w (ix4 b i h d) = ∑ k, x (ix3 b i k) * w (ix2 k ⟨h * 64 + d, by omega⟩) := by
  pointwise [projT]

theorem scT_apply (q k : FVec Ideal S2x2048x64x64 .f32) (b : Fin 2) (h : Fin 64) (i j : Fin 2048) :
    scT q k (ix4 b h i j) = (∑ x, q (ix4 b i h x) * k (ix4 b j h x)) * Ideal.ofBits FTy.f32 1040187392#32 := by
  pointwise [scT]

theorem expT_apply (s : FVec Ideal S2x64x2048x2048 .f32) (b : Fin 2) (h : Fin 64) (i j : Fin 2048) :
    expT s (ix4 b h i j) = Ideal.exp (s (ix4 b h i j)
      - Finset.fold max (Ideal.ofBits FTy.f32 4286578688#32) (fun x => s (ix4 b h i x)) Finset.univ) := by
  pointwise [expT]

theorem ctxT_apply (v : FVec Ideal S2x2048x64x64 .bf16) (s : FVec Ideal S2x64x2048x2048 .f32) (b : Fin 2) (i : Fin 2048)
    (n : Fin 4096) : ctxT v s (ix3 b i n)
      = ∑ x, v (ix4 b x ⟨n / 64, by omega⟩ ⟨n % 64, by omega⟩)
          * Ideal.div (expT s (ix4 b ⟨n / 64, by omega⟩ i x)) (∑ y, expT s (ix4 b ⟨n / 64, by omega⟩ i y)) := by
  pointwise [ctxT]

theorem outT_apply (x : FVec Ideal S2x2048x512 .bf16) (wq wk wv : FVec Ideal S512x4096 .bf16) (wo : FVec Ideal S4096x512 .bf16)
    (b : Fin 2) (i : Fin 2048) (n : Fin 512) : outT x wq wk wv wo (ix3 b i n)
      = ∑ m, ctxT (projT x wv) (scT (rotT (projT x wq)) (rotT (projT x wk))) (ix3 b i m) * wo (ix2 m n) := by
  pointwise [outT]

end Cert.ReferenceIdeal.Read

end
-- ==== Proof.Value.Finite.lean ====
/-
  The reference's scores are real numbers where the input and the weights of queries and keys are.
-/
module

public import proofs.«01_k».proof.Proof.Value.RefTurn
public import proofs.«01_k».proof.Proof.Value.RefRead
public import proofs.«01_k».proof.Proof.Value.Soft

@[expose] public section

noncomputable section

namespace Cert.ReferenceIdeal.Read

open Cert.ReferenceIdeal Cert.ReferenceIdeal.Gen
open Idealize.ShloMosaic Idealize.ShloMosaic.TcCoe Idealize.ShloMosaic.StableHlo
open Cert.Soft

theorem fin_sitofp (n : BitVec 32) : Fin' (FloatOps.sitofp (F := Ideal) FTy.f32 n) := ⟨(n.toInt : ℝ), rfl⟩

theorem fin_ang (i : Fin 2048) (d : Fin 32) : Fin' (angT (ix2 i d)) := by
  rw [angT_apply, ofBits_10000, ofBits_64]
  refine (fin_sitofp _).mul (Fin'.div ⟨1, rfl⟩ ?_)
  obtain ⟨r, hr⟩ := Fin'.div (fin_sitofp (IntOp.addi (0#32) (IntOp.muli (2#32) (BitVec.ofNat 32 ↑d)))) ⟨64, by norm_num, rfl⟩
  rw [hr]
  exact ⟨Real.rpow 10000 r, (Real.rpow_pos_of_pos (by norm_num) r).ne', rfl⟩

theorem fin_proj (x : FVec Ideal S2x2048x512 .bf16) (w : FVec Ideal S512x4096 .bf16) (hx : ∀ i, Fin' (x i)) (hw : ∀ i, Fin' (w i))
    (b : Fin 2) (i : Fin 2048) (h d : Fin 64) : Fin' (projT x w (ix4 b i h d)) := by
  rw [projT_apply]
  exact Fin'.sum _ _ fun k _ => (hx _).mul (hw _)

theorem fin_rot (t : FVec Ideal S2x2048x64x64 .bf16) (b : Fin 2) (i : Fin 2048) (h d : Fin 64)
    (ht : ∀ e, Fin' (t (ix4 b i h e))) : Fin' (rotT t (ix4 b i h d)) := by
  rw [rotT_apply]
  refine ((ht d).mul (fin_ang _ _).cos).add (Fin'.mul ?_ (fin_ang _ _).sin)
  split_ifs
  · exact (ht _).neg
  · exact ht _

theorem fin_sc (q k : FVec Ideal S2x2048x64x64 .f32) (b : Fin 2) (h : Fin 64) (i j : Fin 2048)
    (hq : ∀ e, Fin' (q (ix4 b i h e))) (hk : ∀ e, Fin' (k (ix4 b j h e))) : Fin' (scT q k (ix4 b h i j)) := by
  rw [scT_apply, ofBits_eighth]
  exact (Fin'.sum _ _ fun e _ => (hq e).mul (hk e)).mul ⟨_, rfl⟩

end Cert.ReferenceIdeal.Read

end
-- ==== Proof.Value.Rows.lean ====
/-
  The kernel's queries, keys and values are the reference's, of the device's own heads, with the rows moved round by
  128 for each place of the device on the ring.
-/
module

public import proofs.«01_k».proof.Proof.KernelIdeal.Proto
public import proofs.«01_k».proof.Proof.Value.KerRead
public import proofs.«01_k».proof.Proof.Value.Finite

@[expose] public section

noncomputable section

namespace Cert.KernelIdeal.Ring

open Cert.KernelIdeal Cert.KernelIdeal.Gen
open Idealize.ShloMosaic Idealize.ShloMosaic.TcCoe
open Cert.ReferenceIdeal.Read (projT angT rotT scT expT ctxT outT projT_apply rotT_apply scT_apply expT_apply ctxT_apply outT_apply)

/-- The row of the whole array at row `r` of device `c`'s block. -/
def rowOf (c : Dev nD) (r : Fin 128) : Fin 2048 := ⟨128 * c.val + r, by have : c.val < 16 := c.isLt; omega⟩
/-- The column of a whole weight at column `n` of device `c`'s block. -/
def colOf (c : Dev nD) (n : Fin 256) : Fin 4096 := ⟨256 * c.val + n, by have : c.val < 16 := c.isLt; omega⟩
/-- The head that column belongs to. -/
def headOf (c : Dev nD) (n : Fin 256) : Fin 64 := ⟨4 * c.val + n / 64, by have : c.val < 16 := c.isLt; omega⟩
/-- The place of a column in its head. -/
def colIn (n : Fin 256) : Fin 64 := ⟨n % 64, by omega⟩
/-- The row of the whole array that device `c` keeps at row `i`. -/
def turned (c : Dev nD) (i : Fin 2048) : Fin 2048 := ⟨(i + 128 * c.val) % 2048, by omega⟩

theorem turned_bij (c : Dev nD) : Function.Bijective (turned c) := by
  refine Finite.injective_iff_bijective.mp fun i j h => Fin.ext ?_
  have e : (i + 128 * c.val) % 2048 = (j + 128 * c.val) % 2048 := congrArg Fin.val h
  omega

/-- What the sixteen devices are given, in terms of the whole arrays. -/
structure Given (I : Dev nD → In Ideal) (X : FVec Ideal ⟨3, ![2, 2048, 512]⟩ .bf16) (WQ WK WV : FVec Ideal ⟨2, ![512, 4096]⟩ .bf16)
    (WO : FVec Ideal ⟨2, ![4096, 512]⟩ .bf16) : Prop where
  x : ∀ c b r k, (I c).x (ix3 b r k) = X (ix3 b (rowOf c r) k)
  wq : ∀ c k n, (I c).wq (ix2 k n) = WQ (ix2 k (colOf c n))
  wk : ∀ c k n, (I c).wk (ix2 k n) = WK (ix2 k (colOf c n))
  wv : ∀ c k n, (I c).wv (ix2 k n) = WV (ix2 k (colOf c n))
  wo : ∀ c n k, (I c).wo (ix2 n k) = WO (ix2 (colOf c n) k)
  cs : ∀ c (i : Fin 2048) (d : Fin 64), (I c).cs (ix2 i d) = Ideal.cos (angT (ix2 (turned c i) ⟨d / 2, by omega⟩))
  sn : ∀ c (i : Fin 2048) (d : Fin 64), (I c).sn (ix2 i d) = Ideal.sin (angT (ix2 (turned c i) ⟨d / 2, by omega⟩))

variable {I : Dev nD → In Ideal} {X : FVec Ideal ⟨3, ![2, 2048, 512]⟩ .bf16} {WQ WK WV : FVec Ideal ⟨2, ![512, 4096]⟩ .bf16}
  {WO : FVec Ideal ⟨2, ![4096, 512]⟩ .bf16} (G : Given I X WQ WK WV WO) (c : Dev nD)

theorem xAll_apply (b : Fin 2) (j : Fin 16) (r : Fin 128) (k : Fin 512) :
    xAll I c (ix4 b j r k) = (I (rot c j)).x (ix3 b r k) := by
  refine congrArg (I (rot c j)).x (funext fun a => ?_)
  fin_cases a <;> rfl

include G in
theorem projK_eq (w : FVec Ideal S512x256 .bf16) (W : FVec Ideal ⟨2, ![512, 4096]⟩ .bf16)
    (hw : ∀ k n, w (ix2 k n) = W (ix2 k (colOf c n))) (R : Fin 4096) (n : Fin 256) :
    projK (xAll I c) w R n
      = projT X W (ix4 ⟨R / 2048, by omega⟩ (turned c ⟨R % 2048, by omega⟩) (headOf c n) (colIn n)) := by
  rw [projT_apply]
  unfold projK
  refine Finset.sum_congr rfl fun k _ => ?_
  rw [xAll_apply, G.x, hw]
  have hc : c.val < 16 := c.isLt
  have e1 : rowOf (rot c (⟨R / 128 % 16, by omega⟩ : Fin 16)) ⟨R % 128, by omega⟩ = turned c ⟨R % 2048, by omega⟩ := by
    apply Fin.ext
    show 128 * ((c.val + R / 128 % 16) % 16) + R % 128 = (R % 2048 + 128 * c.val) % 2048
    omega
  have e2 : colOf c n = ⟨(headOf c n).val * 64 + (colIn n).val, by
      show (4 * c.val + n / 64) * 64 + n % 64 < 4096; omega⟩ := by
    apply Fin.ext
    show 256 * c.val + n = (4 * c.val + n / 64) * 64 + n % 64
    omega
  rw [e1, e2]

include G in
/-- The queries' term of any weight. -/
theorem turn_eq (w : FVec Ideal S512x256 .bf16) (W : FVec Ideal ⟨2, ![512, 4096]⟩ .bf16)
    (hw : ∀ k n, w (ix2 k n) = W (ix2 k (colOf c n))) (R : Fin 4096) (n : Fin 256) :
    k0_pay9 (F := Ideal) (k0_pay2 (xAll I c)) (k0_pay3 (I c).sn) (k0_pay4 (I c).cs) w (ix2 R n)
      = rotT (projT X W) (ix4 ⟨R / 2048, by omega⟩ (turned c ⟨R % 2048, by omega⟩) (headOf c n) (colIn n)) := by
  rw [pay9_apply, rotT_apply, G.cs, G.sn]
  simp only [projK_eq G c w W hw]
  generalize projT X W = t
  have hc : c.val < 16 := c.isLt
  have key : ∀ (h h' d d' : Fin 64), (h : ℕ) = h' → (d : ℕ) = d' →
      t (ix4 ⟨R / 2048, by omega⟩ (turned c ⟨R % 2048, by omega⟩) h d)
        = t (ix4 ⟨R / 2048, by omega⟩ (turned c ⟨R % 2048, by omega⟩) h' d') := by
    intro h h' d d' e e'; rw [Fin.ext e, Fin.ext e']
  have hn : ((colIn n : Fin 64) : ℕ) = n % 64 := rfl
  refine congrArg₂ (· + ·) rfl (congrArg₂ (· * ·) ?_ rfl)
  by_cases he : (n : ℕ) % 2 = 0
  · rw [if_pos he, if_pos (by omega)]
    refine congrArg Neg.neg (key _ _ _ _ ?_ ?_)
    · show 4 * c.val + (n + 1) % 256 / 64 = 4 * c.val + n / 64; omega
    · show (n.val + 1) % 256 % 64 = n.val % 64 / 2 * 2 + 1; omega
  · rw [if_neg he, if_neg (by omega)]
    refine key _ _ _ _ ?_ ?_
    · show 4 * c.val + (n - 1) / 64 = 4 * c.val + n / 64; omega
    · show (n.val - 1) % 64 = n.val % 64 / 2 * 2; omega

include G in
theorem qv_apply (R : Fin 4096) (n : Fin 256) : qv I c (ix2 R n)
    = rotT (projT X WQ) (ix4 ⟨R / 2048, by omega⟩ (turned c ⟨R % 2048, by omega⟩) (headOf c n) (colIn n)) :=
  turn_eq G c _ _ (G.wq c) R n
include G in
theorem kv_apply (R : Fin 4096) (n : Fin 256) : kv I c (ix2 R n)
    = rotT (projT X WK) (ix4 ⟨R / 2048, by omega⟩ (turned c ⟨R % 2048, by omega⟩) (headOf c n) (colIn n)) := by
  unfold kv
  rw [pay10_eq]
  exact turn_eq G c _ _ (G.wk c) R n
include G in
theorem vv_apply (R : Fin 4096) (n : Fin 256) : vv I c (ix2 R n)
    = projT X WV (ix4 ⟨R / 2048, by omega⟩ (turned c ⟨R % 2048, by omega⟩) (headOf c n) (colIn n)) := by
  unfold vv
  rw [pay11_apply]
  exact projK_eq G c _ _ (G.wv c) R n

end Cert.KernelIdeal.Ring

end
-- ==== Proof.Value.Parts.lean ====
/-
  What one device adds to the result: its own heads' part of the reference's last product.
-/
module

public import proofs.«01_k».proof.Proof.Value.Rows

@[expose] public section

noncomputable section

namespace Cert.KernelIdeal.Ring

open Cert.KernelIdeal Cert.KernelIdeal.Gen
open Idealize.ShloMosaic Idealize.ShloMosaic.TcCoe
open Cert.ReferenceIdeal.Read (projT angT rotT scT expT ctxT outT projT_apply rotT_apply scT_apply expT_apply ctxT_apply outT_apply)

variable {I : Dev nD → In Ideal} {X : FVec Ideal ⟨3, ![2, 2048, 512]⟩ .bf16} {WQ WK WV : FVec Ideal ⟨2, ![512, 4096]⟩ .bf16}
  {WO : FVec Ideal ⟨2, ![4096, 512]⟩ .bf16} (G : Given I X WQ WK WV WO) (c : Dev nD)

include G in
theorem qp_row (k : ℕ) (hk : k < 16) (b : Fin 2) (h : ℕ) (hh : h < 4) (r : Fin 128) (d : Fin 64) :
    qp (qv I c) k hk b b.isLt h hh (ix2 r d)
      = rotT (projT X WQ) (ix4 b (turned c ⟨128 * k + r, by omega⟩) (headOf c ⟨64 * h + d, by omega⟩) d) := by
  rw [qp_apply, qv_apply G]
  have e0 : (⟨(2048 * b.val + 128 * k + r) / 2048, by omega⟩ : Fin 2) = b := Fin.ext (by show (2048 * b.val + 128 * k + r) / 2048 = b; omega)
  have e1 : (⟨(2048 * b.val + 128 * k + r) % 2048, by omega⟩ : Fin 2048) = ⟨128 * k + r, by omega⟩ :=
    Fin.ext (by show (2048 * b.val + 128 * k + r) % 2048 = 128 * k + r; omega)
  have e2 : colIn ⟨64 * h + d, by omega⟩ = d := Fin.ext (by show (64 * h + d.val) % 64 = d; omega)
  rw [e0, e1, e2]
theorem kp_row (t : FVec Ideal ⟨4, ![2, 2048, 64, 64]⟩ .f32) (K : FVec Ideal S4096x256 .bf16)
    (hK : ∀ R n, K (ix2 R n) = t (ix4 ⟨R / 2048, by omega⟩ (turned c ⟨R % 2048, by omega⟩) (headOf c n) (colIn n)))
    (b : Fin 2) (h : ℕ) (hh : h < 4) (r : Fin 2048) (d : Fin 64) :
    kp K b b.isLt h hh (ix2 r d) = t (ix4 b (turned c r) (headOf c ⟨64 * h + d, by omega⟩) d) := by
  rw [kp_apply, hK]
  have e0 : (⟨(2048 * b.val + r) / 2048, by omega⟩ : Fin 2) = b := Fin.ext (by show (2048 * b.val + r) / 2048 = b; omega)
  have e1 : (⟨(2048 * b.val + r) % 2048, by omega⟩ : Fin 2048) = r :=
    Fin.ext (by show (2048 * b.val + r) % 2048 = r; omega)
  have e2 : colIn ⟨64 * h + d, by omega⟩ = d := Fin.ext (by show (64 * h + d.val) % 64 = d; omega)
  rw [e0, e1, e2]

/-- The reference's scores. -/
abbrev scores (X : FVec Ideal ⟨3, ![2, 2048, 512]⟩ .bf16) (WQ WK : FVec Ideal ⟨2, ![512, 4096]⟩ .bf16) :
    FVec Ideal ⟨4, ![2, 64, 2048, 2048]⟩ .f32 := scT (rotT (projT X WQ)) (rotT (projT X WK))

/-- The reference's heads at an index, with no maximum taken off, where the scores are real. -/
theorem ctx_soft (v : FVec Ideal ⟨4, ![2, 2048, 64, 64]⟩ .bf16) (s : FVec Ideal ⟨4, ![2, 64, 2048, 2048]⟩ .f32)
    (b : Fin 2) (i : Fin 2048) (n : Fin 4096) (hs : ∀ j, Cert.Soft.Fin' (s (ix4 b ⟨n / 64, by omega⟩ i j))) :
    ctxT v s (ix3 b i n)
      = (∑ j, Ideal.exp (s (ix4 b ⟨n / 64, by omega⟩ i j)) * v (ix4 b j ⟨n / 64, by omega⟩ ⟨n % 64, by omega⟩))
        * Ideal.div 1 (∑ j, Ideal.exp (s (ix4 b ⟨n / 64, by omega⟩ i j))) := by
  rw [ctxT_apply]
  simp only [expT_apply, Cert.Soft.ofBits_min]
  choose f hf using hs
  simp only [hf]
  exact (Cert.Soft.soft (by decide) f _).symm

include G in
theorem head_eq (hs : ∀ b h i j, Cert.Soft.Fin' (scores X WQ WK (ix4 b h i j))) (k : ℕ) (hk : k < 16) (b : Fin 2) (h : ℕ)
    (hh : h < 4) (r : Fin 128) (d : Fin 64) :
    head (qv I c) (kv I c) (vv I c) k hk b b.isLt h hh (ix2 r d)
      = ctxT (projT X WV) (scores X WQ WK) (ix3 b (turned c ⟨128 * k + r, by omega⟩) (colOf c ⟨64 * h + d, by omega⟩)) := by
  have hc : c.val < 16 := c.isLt
  rw [ctx_soft _ _ _ _ _ fun j => hs _ _ _ _]
  have eh : ∀ y : Fin 64, headOf c ⟨64 * h + y, by omega⟩
      = ⟨(colOf c ⟨64 * h + d, by omega⟩).val / 64, by show (256 * c.val + (64 * h + d)) / 64 < 64; omega⟩ := by
    intro y; apply Fin.ext
    show 4 * c.val + (64 * h + y) / 64 = (256 * c.val + (64 * h + d)) / 64
    omega
  have ed : (⟨(colOf c ⟨64 * h + d, by omega⟩).val % 64, by omega⟩ : Fin 64) = d := by
    apply Fin.ext
    show (256 * c.val + (64 * h + d)) % 64 = d
    omega
  unfold head
  rw [pay17_apply]
  simp only [qp_row G, kp_row c _ _ (kv_apply G c), kp_row c _ _ (vv_apply G c), eh, ed]
  simp only [← scT_apply]
  generalize (⟨(colOf c ⟨64 * h + d, by omega⟩).val / 64, by show (256 * c.val + (64 * h + d)) / 64 < 64; omega⟩ : Fin 64) = H
  generalize turned c ⟨128 * k + r, by omega⟩ = i
  have s1 := (turned_bij c).sum_comp fun j => Ideal.exp (scores X WQ WK (ix4 b H i j)) * projT X WV (ix4 b j H d)
  have s2 := (turned_bij c).sum_comp fun j => Ideal.exp (scores X WQ WK (ix4 b H i j))
  rw [← s1, ← s2]

/-- What device `c`'s heads give at row `i` of the result. -/
def part (X : FVec Ideal ⟨3, ![2, 2048, 512]⟩ .bf16) (WQ WK WV : FVec Ideal ⟨2, ![512, 4096]⟩ .bf16)
    (WO : FVec Ideal ⟨2, ![4096, 512]⟩ .bf16) (c : Dev nD) (b : Fin 2) (i : Fin 2048) (n : Fin 512) : EReal :=
  ∑ x : Fin 256, ctxT (projT X WV) (scores X WQ WK) (ix3 b i (colOf c x)) * WO (ix2 (colOf c x) n)

include G in
theorem chunk_eq (hs : ∀ b h i j, Cert.Soft.Fin' (scores X WQ WK (ix4 b h i j))) (k : ℕ) (b : Fin 2) (r : Fin 128) (n : Fin 512) :
    chunk I c k (ix3 b r n) = part X WQ WK WV WO c b (rowOf (rot c k) r) n := by
  unfold chunk part
  rw [chunkOf_apply]
  refine Finset.sum_congr rfl fun x _ => ?_
  unfold wov
  rw [heads_apply, head_eq G c hs, pay12_eq, G.wo]
  have hc : c.val < 16 := c.isLt
  have e1 : turned c ⟨128 * (k % 16) + r, by omega⟩ = rowOf (rot c k) r := by
    apply Fin.ext
    show (128 * (k % 16) + r + 128 * c.val) % 2048 = 128 * ((c.val + k) % 16) + r
    omega
  have e2 : (⟨64 * (x.val / 64) + x.val % 64, by omega⟩ : Fin 256) = x := Fin.ext (by show 64 * (x.val / 64) + x.val % 64 = x; omega)
  rw [e1, e2]

end Cert.KernelIdeal.Ring

end
-- ==== Proof.Value.Total.lean ====
/-
  The sum that goes round the ring is the reference's result.
-/
module

public import proofs.«01_k».proof.Proof.Value.Parts

@[expose] public section

noncomputable section

namespace Cert.KernelIdeal.Ring

open Cert.KernelIdeal Cert.KernelIdeal.Gen
open Idealize.ShloMosaic Idealize.ShloMosaic.TcCoe
open Cert.ReferenceIdeal.Read (projT angT rotT scT expT ctxT outT projT_apply rotT_apply scT_apply expT_apply ctxT_apply outT_apply)

variable {I : Dev nD → In Ideal} {X : FVec Ideal ⟨3, ![2, 2048, 512]⟩ .bf16} {WQ WK WV : FVec Ideal ⟨2, ![512, 4096]⟩ .bf16}
  {WO : FVec Ideal ⟨2, ![4096, 512]⟩ .bf16} (G : Given I X WQ WK WV WO) (c : Dev nD)

include G in
/-- The running sum: in step `s` it holds what the last `s + 1` devices add to the block that arrives `s` places on. -/
theorem av_eq (hs : ∀ b h i j, Cert.Soft.Fin' (scores X WQ WK (ix4 b h i j))) (b : Fin 2) (r : Fin 128) (n : Fin 512) (s : ℕ)
    (h : s ≤ 15) (c : Dev nD) :
    av I s c (ix3 b r n) = ∑ t ∈ Finset.range (s + 1), part X WQ WK WV WO (rot c (15 * t)) b (rowOf (rot c (15 - s)) r) n := by
  induction s generalizing c with
  | zero =>
    rw [Finset.sum_range_one, Nat.mul_zero, rot_zero]
    exact chunk_eq G c hs 15 b r n
  | succ s ih =>
    show chunk I c (14 - s) (ix3 b r n) + av I s (prv c) (ix3 b r n) = _
    rw [chunk_eq G c hs, ih (by omega) (prv c), Finset.sum_range_succ' _ (s + 1), Nat.mul_zero, rot_zero, add_comm]
    unfold prv
    rw [rot_rot, rot_mod c (15 + (15 - s)) (15 - (s + 1)) (by omega), show 14 - s = 15 - (s + 1) by omega]
    refine congrArg₂ (· + ·) (Finset.sum_congr rfl fun t _ => ?_) rfl
    rw [rot_rot, show 15 + 15 * t = 15 * (t + 1) by omega]

/-- Going round the ring to the left meets every device once. -/
theorem left_bij (c : Dev nD) : Function.Bijective fun t : Fin 16 => rot c (15 * t) := by
  refine (Fintype.bijective_iff_injective_and_card _).mpr ⟨fun i j h => Fin.ext ?_, by decide⟩
  have e : (c.val + 15 * i) % 16 = (c.val + 15 * j) % 16 := congrArg Fin.val h
  omega

/-- Every column of the weights is one device's. -/
theorem col_bij : Function.Bijective fun p : Dev nD × Fin 256 => colOf p.1 p.2 := by
  refine (Fintype.bijective_iff_injective_and_card _).mpr ⟨fun p q h => ?_, by simp; decide⟩
  have e : 256 * p.1.val + p.2.val = 256 * q.1.val + q.2.val := congrArg Fin.val h
  exact Prod.ext (Fin.ext (by omega)) (Fin.ext (by omega))

include G in
/-- The result of every device. -/
theorem outv_eq (hs : ∀ b h i j, Cert.Soft.Fin' (scores X WQ WK (ix4 b h i j))) (b : Fin 2) (r : Fin 128) (n : Fin 512) :
    outv I c (ix3 b r n) = outT X WQ WK WV WO (ix3 b (rowOf c r) n) := by
  have e : outv I c (ix3 b r n) = av I 15 c (ix3 b r n) := rfl
  rw [e, av_eq G hs b r n 15 le_rfl c, outT_apply, Nat.sub_self, rot_zero,
    Finset.sum_range fun t => part X WQ WK WV WO (rot c (15 * t)) b (rowOf c r) n,
    (left_bij c).sum_comp fun d => part X WQ WK WV WO d b (rowOf c r) n,
    ← col_bij.sum_comp fun m => ctxT (projT X WV) (scores X WQ WK) (ix3 b (rowOf c r) m) * WO (ix2 m n),
    Fintype.sum_prod_type]
  rfl

end Cert.KernelIdeal.Ring

end
-- ==== Proof.Value.Equal.lean ====
/-
  From the launch to the result: what the blocks of the launch give the devices, and the result of every device as its
  block of the reference's.
-/
module

public import proofs.«01_k».proof.Proof.Value.Inputs
public import proofs.«01_k».proof.Proof.Value.Total
public import proofs.«01_k».proof.Proof.Value.RefTurn
public import Idealize.ShloMosaic.Lib.Layout
public import Idealize.ShloMosaic.Lib.Pointwise

@[expose] public section

noncomputable section

namespace Cert.KernelIdeal.Ring

open Cert.KernelIdeal Cert.KernelIdeal.Gen
open Idealize.ShloMosaic Idealize.ShloMosaic.TcCoe
open Cert.ReferenceIdeal.Read (projT angT rotT scT outT angT_apply)
open Cert.Soft

/-! ## The blocks -/

theorem block_rows (c : Dev nD) (v : Shape.Idx ⟨3, ![2, 2048, 512]⟩ → EReal) (b : Fin 2) (r : Fin 128) (k : Fin 512) :
    (Layout.block ⟨3, ![2, 128, 512]⟩ ⟨3, ![2, 2048, 512]⟩ 1 16 c v) (ix3 b r k) = v (ix3 b (rowOf c r) k) := by
  refine congrArg v (funext fun a => Fin.ext ?_)
  fin_cases a
  · rfl
  · show c.val * 128 + r.val = 128 * c.val + r; omega
  · rfl
theorem block_cols (c : Dev nD) (v : Shape.Idx ⟨2, ![512, 4096]⟩ → EReal) (k : Fin 512) (n : Fin 256) :
    (Layout.block ⟨2, ![512, 256]⟩ ⟨2, ![512, 4096]⟩ 1 16 c v) (ix2 k n) = v (ix2 k (colOf c n)) := by
  refine congrArg v (funext fun a => Fin.ext ?_)
  fin_cases a
  · rfl
  · show c.val * 256 + n.val = 256 * c.val + n; omega
theorem block_out (c : Dev nD) (v : Shape.Idx ⟨2, ![4096, 512]⟩ → EReal) (n : Fin 256) (k : Fin 512) :
    (Layout.block ⟨2, ![256, 512]⟩ ⟨2, ![4096, 512]⟩ 0 16 c v) (ix2 n k) = v (ix2 (colOf c n) k) := by
  refine congrArg v (funext fun a => Fin.ext ?_)
  fin_cases a
  · show c.val * 256 + n.val = 256 * c.val + n; omega
  · rfl

/-- Every element of the whole array is in some block. -/
theorem rows_all (v : Shape.Idx ⟨3, ![2, 2048, 512]⟩ → EReal)
    (h : ∀ (c : Dev nD) i, Fin' ((Layout.block ⟨3, ![2, 128, 512]⟩ ⟨3, ![2, 2048, 512]⟩ 1 16 c v) i)) (i) : Fin' (v i) := by
  idx_vars i
  rename' i0 => b
  rename' i1 => R
  rename' i2 => k
  have e := h ⟨R / 128, by show R.val / 128 < 16; omega⟩ (ix3 b ⟨R % 128, by omega⟩ k)
  rw [block_rows] at e
  have er : rowOf ⟨R / 128, by show R.val / 128 < 16; omega⟩ ⟨R % 128, by omega⟩ = R :=
    Fin.ext (by show 128 * (R.val / 128) + R % 128 = R; omega)
  rwa [er] at e
theorem cols_all (v : Shape.Idx ⟨2, ![512, 4096]⟩ → EReal)
    (h : ∀ (c : Dev nD) i, Fin' ((Layout.block ⟨2, ![512, 256]⟩ ⟨2, ![512, 4096]⟩ 1 16 c v) i)) (i) : Fin' (v i) := by
  idx_vars i
  rename' i0 => k
  rename' i1 => R
  have e := h ⟨R / 256, by show R.val / 256 < 16; omega⟩ (ix2 k ⟨R % 256, by omega⟩)
  rw [block_cols] at e
  have er : colOf ⟨R / 256, by show R.val / 256 < 16; omega⟩ ⟨R % 256, by omega⟩ = R :=
    Fin.ext (by show 256 * (R.val / 256) + R % 256 = R; omega)
  rwa [er] at e

/-! ## The result -/

theorem ang_eq (i : Fin 2048) (d : Fin 32) : angK (ix2 i d) = angT (ix2 i d) := by
  rw [angK_apply, angT_apply]

variable (m : (ℓ : Loc nD τ sig) → Buf (Elt Ideal) ℓ) (X : FVec Ideal ⟨3, ![2, 2048, 512]⟩ .bf16)
  (WQ WK WV : FVec Ideal ⟨2, ![512, 4096]⟩ .bf16) (WO : FVec Ideal ⟨2, ![4096, 512]⟩ .bf16)

theorem given
    (h : ∀ c : Dev nD,
      m ((c.tc : Thread nD τ).loc main_arg0) = Layout.block ⟨3, ![2, 128, 512]⟩ ⟨3, ![2, 2048, 512]⟩ 1 16 c X
      ∧ m ((c.tc : Thread nD τ).loc main_arg1) = Layout.block ⟨2, ![512, 256]⟩ ⟨2, ![512, 4096]⟩ 1 16 c WQ
      ∧ m ((c.tc : Thread nD τ).loc main_arg2) = Layout.block ⟨2, ![512, 256]⟩ ⟨2, ![512, 4096]⟩ 1 16 c WK
      ∧ m ((c.tc : Thread nD τ).loc main_arg3) = Layout.block ⟨2, ![512, 256]⟩ ⟨2, ![512, 4096]⟩ 1 16 c WV
      ∧ m ((c.tc : Thread nD τ).loc main_arg4) = Layout.block ⟨2, ![256, 512]⟩ ⟨2, ![4096, 512]⟩ 0 16 c WO) :
    Given (inp (Wm m)) X WQ WK WV WO where
  x c b r k := (inp_x m c _).trans ((congrFun (h c).1 _).trans (block_rows c X b r k))
  wq c k n := (inp_wq m c _).trans ((congrFun (h c).2.1 _).trans (block_cols c WQ k n))
  wk c k n := (inp_wk m c _).trans ((congrFun (h c).2.2.1 _).trans (block_cols c WK k n))
  wv c k n := (inp_wv m c _).trans ((congrFun (h c).2.2.2.1 _).trans (block_cols c WV k n))
  wo c n k := (inp_wo m c _).trans ((congrFun (h c).2.2.2.2 _).trans (block_out c WO n k))
  cs c i d := (inp_cs m c i d).trans (congrArg Ideal.cos (ang_eq _ _))
  sn c i d := (inp_sn m c i d).trans (congrArg Ideal.sin (ang_eq _ _))

/-- Each device's result is its block of the reference's. -/
theorem result (G : Given (inp (Wm m)) X WQ WK WV WO) (hx : ∀ i, Fin' (X i)) (hq : ∀ i, Fin' (WQ i)) (hk : ∀ i, Fin' (WK i))
    (c : Dev nD) : outv (inp (Wm m)) c
      = Layout.block ⟨3, ![2, 128, 512]⟩ ⟨3, ![2, 2048, 512]⟩ 1 16 c (outT X WQ WK WV WO : Shape.Idx ⟨3, ![2, 2048, 512]⟩ → EReal) := by
  funext i
  idx_vars i
  rename' i0 => b
  rename' i1 => r
  rename' i2 => n
  refine Eq.trans (outv_eq G c (fun b h i j => ?_) b r n) (Eq.symm (block_rows c (outT X WQ WK WV WO) b r n))
  exact Cert.ReferenceIdeal.Read.fin_sc _ _ _ _ _ _
    (fun e => Cert.ReferenceIdeal.Read.fin_rot _ _ _ _ _ fun e => Cert.ReferenceIdeal.Read.fin_proj _ _ hx hq _ _ _ _)
    (fun e => Cert.ReferenceIdeal.Read.fin_rot _ _ _ _ _ fun e => Cert.ReferenceIdeal.Read.fin_proj _ _ hx hk _ _ _ _)

end Cert.KernelIdeal.Ring

end
-- ==== Proof.Value.Before.lean ====
/-
  What the precondition says: the input and the weights of queries and keys are real numbers.
-/
module

public import proofs.«01_k».proof.Pre_finite_KernelIdeal
public import proofs.«01_k».proof.Pre_finite_ReferenceIdeal
public import proofs.«01_k».proof.Proof.Value.Soft
public import Idealize.ShloMosaic.Lib.Pointwise
public import Idealize.ShloMosaic.Lib.ReduceAll

@[expose] public section

noncomputable section

namespace Cert.Pre_finite_KernelIdeal

open Idealize.ShloMosaic
open Cert.Soft

theorem facts : Facts where
  bitsLt_bf16_f32 := by decide
  bcast_S_S2x128x512 := by decide
  reducesTo_S2x128x512_S_d0_1_2 := by decide
  h_S_ := by decide
  bcast_S_S512x256 := by decide
  reducesTo_S512x256_S_d0_1 := by decide

theorem ofBits_top : Ideal.ofBits FTy.f32 2139095040#32 = ⊤ := by
  simp [Ideal.ofBits, Ideal.ieee]

/-- Below infinity in size: a real number. -/
theorem below (x : EReal) (h : BitVec.ofBool (decide (FloatOps.absf (F := Ideal) (φ := .f32) x < Ideal.ofBits FTy.f32 2139095040#32)) = 1#1) :
    Fin' x := by
  rw [ofBits_top] at h
  have h' : FloatOps.absf (F := Ideal) (φ := .f32) x < (⊤ : EReal) := by
    by_contra hn
    rw [decide_eq_false hn] at h
    exact absurd h (by decide)
  induction x with
  | bot => exact absurd h' (lt_irrefl _)
  | coe r => exact ⟨r, rfl⟩
  | top => exact absurd h' (lt_irrefl _)

variable [Facts]

/-- One array's test. -/
theorem test (s : Shape) (x : FVec Ideal s .bf16) (hb : S_.BroadcastsInDim s ![]) (l : List (Fin s.rank)) (hr : s.ReducesTo l S_)
    (h : Host.reduce IntOp.andi (cmpf .olt (Host.absf (extf .f32 x Facts.bitsLt_bf16_f32))
      (broadcastInDim s ![] hb (constant S_ .f32 0x7F800000#32))) (constantI S_ 1 1#1) hr Facts.h_S_ (Shape.Idx.first Facts.h_S_) = 1#1)
    (i : s.Idx) : Fin' (x i) :=
  below _ (Host.reduce_andi_all _ _ _ _ _ h i)

theorem fin_of (x : FVec Ideal S2x128x512 .bf16) (wq wk wv : FVec Ideal S512x256 .bf16) (wo : FVec Ideal S256x512 .bf16)
    (h : fn x wq wk wv wo = fun _ => 1#1) : (∀ i, Fin' (x i)) ∧ (∀ i, Fin' (wq i)) ∧ (∀ i, Fin' (wk i)) := by
  have h0 := congrFun h (Shape.Idx.first Facts.h_S_)
  obtain ⟨h1, hk⟩ := IntOp.andi_eq_one.1 h0
  obtain ⟨hx, hq⟩ := IntOp.andi_eq_one.1 h1
  exact ⟨test _ _ _ _ _ hx, test _ _ _ _ _ hq, test _ _ _ _ _ hk⟩

end Cert.Pre_finite_KernelIdeal

namespace Cert.Pre_finite_ReferenceIdeal

theorem facts : Facts where
  bitsLt_bf16_f32 := by decide
  bcast_S_S2x2048x512 := by decide
  reducesTo_S2x2048x512_S_d0_1_2 := by decide
  h_S_ := by decide
  bcast_S_S512x4096 := by decide
  reducesTo_S512x4096_S_d0_1 := by decide

end Cert.Pre_finite_ReferenceIdeal

end
-- ==== Proof.Value.RefRun.lean ====
/-
  What the reference's run leaves is the named steps' result.
-/
module

public import proofs.«01_k».proof.Proof.Value.RefTerms
public import Idealize.ShloMosaic.Lib.Pointwise
public import Idealize.ShloMosaic.Lib.Tactic.CleanTypes

@[expose] public section

noncomputable section

namespace Cert.ReferenceIdeal.Read

open Cert.ReferenceIdeal Cert.ReferenceIdeal.Gen
open Idealize.ShloMosaic Idealize.ShloMosaic.TcCoe Idealize.ShloMosaic.StableHlo
open Facts

set_option maxRecDepth 16384

set_option maxHeartbeats 4000000 in
/-- The generated result is the terms above. -/
theorem res_eq (m : (ℓ : Loc nD τ sig) → Buf (Elt Ideal) ℓ) (c : Dev nD) :
    Value.res_main_v87 m c = outT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Same
public import proofs.«01_k».proof.Proof.KernelIdeal.Run
public import proofs.«01_k».proof.Proof.Value.Equal
public import proofs.«01_k».proof.Proof.Value.Before
public import proofs.«01_k».proof.Proof.Value.RefRun
public import Idealize.ShloMosaic.Adequacy
public import Idealize.ShloMosaic.Init

@[expose] public section

noncomputable section

namespace Cert.Proof

open Idealize.ShloMosaic Idealize.SL.Sem

/-- The kernel, bit for bit: the run of its text at the bit-exact values. -/
theorem frame_kernel : Cert.quiescent_Kernel := by
  intro m g _
  exact Cert.Same.same m g _ ((θ_run Cert.KernelIdeal.defs _ _).mono (fun _ h => ⟨fun c => (h.1 c).1.2, h.2⟩)
    (Cert.KernelIdeal.Ring.run_main (F := Bits) m g))

/-- The kernel over the reals. -/
theorem frame_kernelIdeal : Cert.quiescent_KernelIdeal := by
  intro m g _
  exact (θ_run Cert.KernelIdeal.defs _ _).mono (fun _ h => ⟨fun c => (h.1 c).1.2, h.2⟩)
    (Cert.KernelIdeal.Ring.run_main (F := Ideal) m g)

/-- The reference over the reals: it has no semaphore but the launch's, and none is touched. -/
theorem frame_reference : Cert.quiescent_ReferenceIdeal := by
  intro m g _
  exact (θ_run Cert.ReferenceIdeal.defs _ _).mono (fun _ h => ⟨fun c => (h c).2, funext fun k => nomatch k⟩)
    (Cert.ReferenceIdeal.Value.run (F := Ideal) m g)

/-- The kernel's devices leave their blocks of what the reference leaves. -/
theorem value : Cert.algebraic_KernelIdeal_ReferenceIdeal_pre_finite_KernelIdeal (hPre_finite_KernelIdeal := Cert.Pre_finite_KernelIdeal.facts) := by
  intro m g m' g' hpre h
  haveI := Cert.Pre_finite_KernelIdeal.facts
  have hf := fun c => Cert.Pre_finite_KernelIdeal.fin_of _ _ _ _ _ (hpre c)
  have hx := Cert.KernelIdeal.Ring.rows_all (m' (((0 : Dev Cert.ReferenceIdeal.nD).tc : Thread Cert.ReferenceIdeal.nD Cert.ReferenceIdeal.τ).loc Cert.ReferenceIdeal.main_arg0))
    fun c i => (h c).1 ▸ (hf c).1 i
  have hq := Cert.KernelIdeal.Ring.cols_all (m' (((0 : Dev Cert.ReferenceIdeal.nD).tc : Thread Cert.ReferenceIdeal.nD Cert.ReferenceIdeal.τ).loc Cert.ReferenceIdeal.main_arg1))
    fun c i => (h c).2.1 ▸ (hf c).2.1 i
  have hk := Cert.KernelIdeal.Ring.cols_all (m' (((0 : Dev Cert.ReferenceIdeal.nD).tc : Thread Cert.ReferenceIdeal.nD Cert.ReferenceIdeal.τ).loc Cert.ReferenceIdeal.main_arg2))
    fun c i => (h c).2.2.1 ▸ (hf c).2.2 i
  have G := Cert.KernelIdeal.Ring.given m _ _ _ _ _ h
  refine ⟨Cert.ReferenceIdeal.Value.res_main_v87 m' 0, ?_, ?_⟩
  · refine (θ_run Cert.KernelIdeal.defs _ _).mono (fun r hr c => ⟨?_, (hr.1 c).1.2⟩) (Cert.KernelIdeal.Ring.run_main (F := Ideal) m g)
    rw [Cert.ReferenceIdeal.Read.res_eq]
    exact (hr.1 c).1.1.trans (Cert.KernelIdeal.Ring.result m _ _ _ _ _ G hx hq hk c)
  · exact (θ_run Cert.ReferenceIdeal.defs _ _).mono (fun r hr => ⟨(hr 0).1, (hr 0).2⟩)
      (Cert.ReferenceIdeal.Value.run (F := Ideal) m' g')

theorem claim : Cert.Claim := ⟨Cert.Kernel.Gen.facts, Cert.KernelIdeal.Gen.facts, Cert.ReferenceIdeal.Gen.facts,
  Cert.Pre_finite_KernelIdeal.facts, Cert.Pre_finite_ReferenceIdeal.facts,
  frame_kernel, frame_kernelIdeal, fun m g _ => frame_kernelIdeal m g trivial, frame_reference,
  fun m g _ => frame_reference m g trivial, trivial, value⟩

end Cert.Proof

end
